-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v132_0)) (v1 : (c : Dev Cert.KernelIdeal.nD) → Buf (Elt Ideal) ((c.tc : Thread Cert.KernelIdeal.nD Cert.KernelIdeal.τ).loc Cert.KernelIdeal.main_v132_1)) (v2 : (c : Dev Cert.KernelIdeal.nD) → Buf (Elt Ideal) ((c.tc : Thread Cert.KernelIdeal.nD Cert.KernelIdeal.τ).loc Cert.KernelIdeal.main_v132_2)) (v3 : (c : Dev Cert.KernelIdeal.nD) → Buf (Elt Ideal) ((c.tc : Thread Cert.KernelIdeal.nD Cert.KernelIdeal.τ).loc Cert.KernelIdeal.main_v132_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v132_0) = v0 c
          ∧ r.2.mem ((c.tc : Thread Cert.KernelIdeal.nD Cert.KernelIdeal.τ).loc Cert.KernelIdeal.main_v132_1) = v1 c
          ∧ r.2.mem ((c.tc : Thread Cert.KernelIdeal.nD Cert.KernelIdeal.τ).loc Cert.KernelIdeal.main_v132_2) = v2 c
          ∧ r.2.mem ((c.tc : Thread Cert.KernelIdeal.nD Cert.KernelIdeal.τ).loc Cert.KernelIdeal.main_v132_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v92) = v2 c
          ∧ r.2.mem ((c.tc : Thread Cert.ReferenceIdeal.nD Cert.ReferenceIdeal.τ).loc Cert.ReferenceIdeal.main_v95) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v83) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v46) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v28_0)) (v1 : (c : Dev Cert.Kernel4Ideal.nD) → Buf (Elt Ideal) ((c.tc : Thread Cert.Kernel4Ideal.nD Cert.Kernel4Ideal.τ).loc Cert.Kernel4Ideal.main_v28_1)) (v2 : (c : Dev Cert.Kernel4Ideal.nD) → Buf (Elt Ideal) ((c.tc : Thread Cert.Kernel4Ideal.nD Cert.Kernel4Ideal.τ).loc Cert.Kernel4Ideal.main_v28_2)) (v3 : (c : Dev Cert.Kernel4Ideal.nD) → Buf (Elt Ideal) ((c.tc : Thread Cert.Kernel4Ideal.nD Cert.Kernel4Ideal.τ).loc Cert.Kernel4Ideal.main_v28_3)) (v4 : (c : Dev Cert.Kernel4Ideal.nD) → Buf (Elt Ideal) ((c.tc : Thread Cert.Kernel4Ideal.nD Cert.Kernel4Ideal.τ).loc Cert.Kernel4Ideal.main_v28_4)) (v5 : (c : Dev Cert.Kernel4Ideal.nD) → Buf (Elt Ideal) ((c.tc : Thread Cert.Kernel4Ideal.nD Cert.Kernel4Ideal.τ).loc Cert.Kernel4Ideal.main_v28_5)) (v6 : (c : Dev Cert.Kernel4Ideal.nD) → Buf (Elt Ideal) ((c.tc : Thread Cert.Kernel4Ideal.nD Cert.Kernel4Ideal.τ).loc Cert.Kernel4Ideal.main_v28_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v28_0) = v0 c
          ∧ r.2.mem ((c.tc : Thread Cert.Kernel4Ideal.nD Cert.Kernel4Ideal.τ).loc Cert.Kernel4Ideal.main_v28_1) = v1 c
          ∧ r.2.mem ((c.tc : Thread Cert.Kernel4Ideal.nD Cert.Kernel4Ideal.τ).loc Cert.Kernel4Ideal.main_v28_2) = v2 c
          ∧ r.2.mem ((c.tc : Thread Cert.Kernel4Ideal.nD Cert.Kernel4Ideal.τ).loc Cert.Kernel4Ideal.main_v28_3) = v3 c
          ∧ r.2.mem ((c.tc : Thread Cert.Kernel4Ideal.nD Cert.Kernel4Ideal.τ).loc Cert.Kernel4Ideal.main_v28_4) = v4 c
          ∧ r.2.mem ((c.tc : Thread Cert.Kernel4Ideal.nD Cert.Kernel4Ideal.τ).loc Cert.Kernel4Ideal.main_v28_5) = v5 c
          ∧ r.2.mem ((c.tc : Thread Cert.Kernel4Ideal.nD Cert.Kernel4Ideal.τ).loc Cert.Kernel4Ideal.main_v28_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v42) = v0 c
          ∧ r.2.mem ((c.tc : Thread Cert.Reference4Ideal.nD Cert.Reference4Ideal.τ).loc Cert.Reference4Ideal.main_v78) = v1 c
          ∧ r.2.mem ((c.tc : Thread Cert.Reference4Ideal.nD Cert.Reference4Ideal.τ).loc Cert.Reference4Ideal.main_v112) = v2 c
          ∧ r.2.mem ((c.tc : Thread Cert.Reference4Ideal.nD Cert.Reference4Ideal.τ).loc Cert.Reference4Ideal.main_v114) = v3 c
          ∧ r.2.mem ((c.tc : Thread Cert.Reference4Ideal.nD Cert.Reference4Ideal.τ).loc Cert.Reference4Ideal.main_v115) = v4 c
          ∧ r.2.mem ((c.tc : Thread Cert.Reference4Ideal.nD Cert.Reference4Ideal.τ).loc Cert.Reference4Ideal.main_v129) = v5 c
          ∧ r.2.mem ((c.tc : Thread Cert.Reference4Ideal.nD Cert.Reference4Ideal.τ).loc Cert.Reference4Ideal.main_v131) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8192x1024 : Shape := ⟨2, ![8192, 1024]⟩
abbrev S512x1024 : Shape := ⟨2, ![512, 1024]⟩
abbrev S2x8x15x31 : Shape := ⟨4, ![2, 8, 15, 31]⟩
abbrev S2x2048x2048 : Shape := ⟨3, ![2, 2048, 2048]⟩
abbrev S2x2048x8192 : Shape := ⟨3, ![2, 2048, 8192]⟩
abbrev S2x8192x2048 : Shape := ⟨3, ![2, 8192, 2048]⟩
abbrev S_ : Shape := ⟨0, ![]⟩

class Facts : Prop where
  bcast_S_S8192x1024 : S_.BroadcastsInDim S8192x1024 (![] : Fin 0 → Fin S8192x1024.rank)
  bcast_S_S512x1024 : S_.BroadcastsInDim S512x1024 (![] : Fin 0 → Fin S512x1024.rank)
  bcast_S_S2x8x15x31 : S_.BroadcastsInDim S2x8x15x31 (![] : Fin 0 → Fin S2x8x15x31.rank)

variable [Facts]

def fn_part1 {F : FTy → Type} [FloatOps F] (main_arg4 : FVec F S512x1024 .bf16) (main_arg6 : FVec F S2x8x15x31 .f32) (main_v4 : IVec S8192x1024 1) (main_v9 : IVec S8192x1024 1) (main_v14 : IVec S8192x1024 1) (main_v16 : IVec S512x1024 1) : IVec S8192x1024 1 × IVec S8192x1024 1 × IVec S8192x1024 1 × IVec S512x1024 1 × IVec S2x8x15x31 1 :=
  let main_cst_6 : FVec F S_ .bf16 := constant S_ .bf16 0x7F80#16
  let main_v17 : FVec F S512x1024 .bf16 := broadcastInDim S512x1024 ![] bcast_S_S512x1024 main_cst_6
  let main_v18 : IVec S512x1024 1 := cmpf .olt main_arg4 main_v17
  let main_v19 : IVec S512x1024 1 := andi main_v16 main_v18
  let main_cst_7 : FVec F S_ .f32 := constant S_ .f32 0xFF800000#32
  let main_v20 : FVec F S2x8x15x31 .f32 := broadcastInDim S2x8x15x31 ![] bcast_S_S2x8x15x31 main_cst_7
  let main_v21 : IVec S2x8x15x31 1 := cmpf .ogt main_arg6 main_v20
  let main_cst_8 : FVec F S_ .f32 := constant S_ .f32 0x7F800000#32
  let main_v22 : FVec F S2x8x15x31 .f32 := broadcastInDim S2x8x15x31 ![] bcast_S_S2x8x15x31 main_cst_8
  let main_v23 : IVec S2x8x15x31 1 := cmpf .olt main_arg6 main_v22
  let main_v24 : IVec S2x8x15x31 1 := andi main_v21 main_v23
  (main_v4, main_v9, main_v14, main_v19, main_v24)

def fn {F : FTy → Type} [FloatOps F] (main_arg0 : FVec F S8192x1024 .bf16) (main_arg1 : FVec F S8192x1024 .bf16) (main_arg2 : FVec F S8192x1024 .bf16) (main_arg3 : FVec F S8192x1024 .bf16) (main_arg4 : FVec F S512x1024 .bf16) (main_arg5 : FVec F S512x1024 .bf16) (main_arg6 : FVec F S2x8x15x31 .f32) (main_arg7 : FVec F S2x2048x2048 .f32) (main_arg8 : FVec F S2x2048x8192 .f32) (main_arg9 : FVec F S2x8192x2048 .f32) : IVec S8192x1024 1 × IVec S8192x1024 1 × IVec S8192x1024 1 × IVec S512x1024 1 × IVec S2x8x15x31 1 :=
  let main_cst : FVec F S_ .bf16 := constant S_ .bf16 0xFF80#16
  let main_v0 : FVec F S8192x1024 .bf16 := broadcastInDim S8192x1024 ![] bcast_S_S8192x1024 main_cst
  let main_v1 : IVec S8192x1024 1 := cmpf .ogt main_arg0 main_v0
  let main_cst_0 : FVec F S_ .bf16 := constant S_ .bf16 0x7F80#16
  let main_v2 : FVec F S8192x1024 .bf16 := broadcastInDim S8192x1024 ![] bcast_S_S8192x1024 main_cst_0
  let main_v3 : IVec S8192x1024 1 := cmpf .olt main_arg0 main_v2
  let main_v4 : IVec S8192x1024 1 := andi main_v1 main_v3
  let main_cst_1 : FVec F S_ .bf16 := constant S_ .bf16 0xFF80#16
  let main_v5 : FVec F S8192x1024 .bf16 := broadcastInDim S8192x1024 ![] bcast_S_S8192x1024 main_cst_1
  let main_v6 : IVec S8192x1024 1 := cmpf .ogt main_arg1 main_v5
  let main_cst_2 : FVec F S_ .bf16 := constant S_ .bf16 0x7F80#16
  let main_v7 : FVec F S8192x1024 .bf16 := broadcastInDim S8192x1024 ![] bcast_S_S8192x1024 main_cst_2
  let main_v8 : IVec S8192x1024 1 := cmpf .olt main_arg1 main_v7
  let main_v9 : IVec S8192x1024 1 := andi main_v6 main_v8
  let main_cst_3 : FVec F S_ .bf16 := constant S_ .bf16 0xFF80#16
  let main_v10 : FVec F S8192x1024 .bf16 := broadcastInDim S8192x1024 ![] bcast_S_S8192x1024 main_cst_3
  let main_v11 : IVec S8192x1024 1 := cmpf .ogt main_arg2 main_v10
  let main_cst_4 : FVec F S_ .bf16 := constant S_ .bf16 0x7F80#16
  let main_v12 : FVec F S8192x1024 .bf16 := broadcastInDim S8192x1024 ![] bcast_S_S8192x1024 main_cst_4
  let main_v13 : IVec S8192x1024 1 := cmpf .olt main_arg2 main_v12
  let main_v14 : IVec S8192x1024 1 := andi main_v11 main_v13
  let main_cst_5 : FVec F S_ .bf16 := constant S_ .bf16 0xFF80#16
  let main_v15 : FVec F S512x1024 .bf16 := broadcastInDim S512x1024 ![] bcast_S_S512x1024 main_cst_5
  let main_v16 : IVec S512x1024 1 := cmpf .ogt main_arg4 main_v15
  fn_part1 (F := F) main_arg4 main_arg6 main_v4 main_v9 main_v14 main_v16
-- ==== Kernel.lean ====
abbrev S8192x1024 : Shape := ⟨2, ![8192, 1024]⟩
abbrev S512x1024 : Shape := ⟨2, ![512, 1024]⟩
abbrev S2x8x15x31 : Shape := ⟨4, ![2, 8, 15, 31]⟩
abbrev S2x2048x2048 : Shape := ⟨3, ![2, 2048, 2048]⟩
abbrev S2x2048x8192 : Shape := ⟨3, ![2, 2048, 8192]⟩
abbrev S2x8192x2048 : Shape := ⟨3, ![2, 8192, 2048]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S1x64x64 : Shape := ⟨3, ![1, 64, 64]⟩
abbrev S31 : Shape := ⟨1, ![31]⟩
abbrev S31x1x1 : Shape := ⟨3, ![31, 1, 1]⟩
abbrev S31x64x64 : Shape := ⟨3, ![31, 64, 64]⟩
abbrev S2x8x15x64x64 : Shape := ⟨5, ![2, 8, 15, 64, 64]⟩
abbrev S1x1x1x64x64 : Shape := ⟨5, ![1, 1, 1, 64, 64]⟩
abbrev S2x8x64x64 : Shape := ⟨4, ![2, 8, 64, 64]⟩
abbrev S2x8x1x64x64 : Shape := ⟨5, ![2, 8, 1, 64, 64]⟩
abbrev S2x8x64x128 : Shape := ⟨4, ![2, 8, 64, 128]⟩
abbrev S2x8x1x64x128 : Shape := ⟨5, ![2, 8, 1, 64, 128]⟩
abbrev S2x8x16x64x128 : Shape := ⟨5, ![2, 8, 16, 64, 128]⟩
abbrev S2048x2048 : Shape := ⟨2, ![2048, 2048]⟩
abbrev S2048x8192 : Shape := ⟨2, ![2048, 8192]⟩
abbrev S8192x2048 : Shape := ⟨2, ![8192, 2048]⟩
abbrev S4096x128 : Shape := ⟨2, ![4096, 128]⟩
abbrev S256x128 : Shape := ⟨2, ![256, 128]⟩
abbrev S1x1x16x64x128 : Shape := ⟨5, ![1, 1, 16, 64, 128]⟩
abbrev S1x128x2048 : Shape := ⟨3, ![1, 128, 2048]⟩
abbrev S1x2048x512 : Shape := ⟨3, ![1, 2048, 512]⟩
abbrev S1x512x2048 : Shape := ⟨3, ![1, 512, 2048]⟩
abbrev S128x2048 : Shape := ⟨2, ![128, 2048]⟩
abbrev S2048x512 : Shape := ⟨2, ![2048, 512]⟩
abbrev S512x2048 : Shape := ⟨2, ![512, 2048]⟩
abbrev S128x4096 : Shape := ⟨2, ![128, 4096]⟩
abbrev S64x128 : Shape := ⟨2, ![64, 128]⟩
abbrev S128x256 : Shape := ⟨2, ![128, 256]⟩
abbrev S768x128 : Shape := ⟨2, ![768, 128]⟩
abbrev S256x768 : Shape := ⟨2, ![256, 768]⟩
abbrev S256x256 : Shape := ⟨2, ![256, 256]⟩
abbrev S1x1x1x64x128 : Shape := ⟨5, ![1, 1, 1, 64, 128]⟩
abbrev S64x768 : Shape := ⟨2, ![64, 768]⟩
abbrev S64x256 : Shape := ⟨2, ![64, 256]⟩
abbrev S128x768 : Shape := ⟨2, ![128, 768]⟩
abbrev S128x1024 : Shape := ⟨2, ![128, 1024]⟩
abbrev S256x1024 : Shape := ⟨2, ![256, 1024]⟩
abbrev S256x1 : Shape := ⟨2, ![256, 1]⟩

abbrev nBuf : Space → Nat
  | .hbm => 168
  | .vmem => 29
  | .smem => 0
  | _ => 0

abbrev hbmTy0_0 (i : Nat) : BufTy := match i % 128 with
  | 0 => ⟨S8192x1024, .bf16⟩
  | 1 => ⟨S8192x1024, .bf16⟩
  | 2 => ⟨S8192x1024, .bf16⟩
  | 3 => ⟨S8192x1024, .bf16⟩
  | 4 => ⟨S512x1024, .bf16⟩
  | 5 => ⟨S512x1024, .bf16⟩
  | 6 => ⟨S2x8x15x31, .f32⟩
  | 7 => ⟨S2x2048x2048, .f32⟩
  | 8 => ⟨S2x2048x8192, .f32⟩
  | 9 => ⟨S2x8192x2048, .f32⟩
  | 10 => ⟨S64, .i32⟩
  | 11 => ⟨S_, .i32⟩
  | 12 => ⟨S64, .i32⟩
  | 13 => ⟨S64, .i32⟩
  | 14 => ⟨S_, .i32⟩
  | 15 => ⟨S_, .i32⟩
  | 16 => ⟨S_, .i32⟩
  | 17 => ⟨S64, .i32⟩
  | 18 => ⟨S64, .i32⟩
  | 19 => ⟨S_, .i32⟩
  | 20 => ⟨S64, .i32⟩
  | 21 => ⟨S64, .i32⟩
  | 22 => ⟨S1x64, .i32⟩
  | 23 => ⟨S64x1, .i32⟩
  | 24 => ⟨S64x64, .i32⟩
  | 25 => ⟨S64x64, .i32⟩
  | 26 => ⟨S64x64, .i1⟩
  | 27 => ⟨S1x64, .i32⟩
  | 28 => ⟨S64x1, .i32⟩
  | 29 => ⟨S_, .i32⟩
  | 30 => ⟨S64x1, .i32⟩
  | 31 => ⟨S64x1, .i32⟩
  | 32 => ⟨S64x64, .i32⟩
  | 33 => ⟨S64x64, .i32⟩
  | 34 => ⟨S64x64, .i1⟩
  | 35 => ⟨S64x64, .i1⟩
  | 36 => ⟨S1x64, .i32⟩
  | 37 => ⟨S64x1, .i32⟩
  | 38 => ⟨S64x64, .i32⟩
  | 39 => ⟨S64x64, .i32⟩
  | 40 => ⟨S64x64, .i32⟩
  | 41 => ⟨S_, .i32⟩
  | 42 => ⟨S64x64, .i32⟩
  | 43 => ⟨S64x64, .i32⟩
  | 44 => ⟨S_, .i32⟩
  | 45 => ⟨S_, .i32⟩
  | 46 => ⟨S_, .i32⟩
  | 47 => ⟨S64x64, .i32⟩
  | 48 => ⟨S64x64, .i32⟩
  | 49 => ⟨S_, .i32⟩
  | 50 => ⟨S64x64, .i32⟩
  | 51 => ⟨S64x64, .i32⟩
  | 52 => ⟨S1x64x64, .i1⟩
  | 53 => ⟨S1x64x64, .i32⟩
  | 54 => ⟨S31, .i32⟩
  | 55 => ⟨S31x1x1, .i32⟩
  | 56 => ⟨S31x64x64, .i32⟩
  | 57 => ⟨S31x64x64, .i32⟩
  | 58 => ⟨S31x64x64, .i1⟩
  | 59 => ⟨S31x64x64, .i1⟩
  | 60 => ⟨S31x64x64, .i1⟩
  | 61 => ⟨S31x64x64, .f32⟩
  | 62 => ⟨S2x8x15x64x64, .f32⟩
  | 63 => ⟨S1x1x1x64x64, .i1⟩
  | 64 => ⟨S_, .f32⟩
  | 65 => ⟨S_, .f32⟩
  | 66 => ⟨S2x8x15x64x64, .i1⟩
  | 67 => ⟨S2x8x15x64x64, .f32⟩
  | 68 => ⟨S2x8x15x64x64, .f32⟩
  | 69 => ⟨S_, .f32⟩
  | 70 => ⟨S2x8x64x64, .f32⟩
  | 71 => ⟨S2x8x1x64x64, .f32⟩
  | 72 => ⟨S2x8x64x64, .f32⟩
  | 73 => ⟨S2x8x1x64x64, .f32⟩
  | 74 => ⟨S2x8x64x64, .f32⟩
  | 75 => ⟨S2x8x64x128, .f32⟩
  | 76 => ⟨S2x8x1x64x64, .f32⟩
  | 77 => ⟨S2x8x64x64, .f32⟩
  | 78 => ⟨S2x8x1x64x64, .f32⟩
  | 79 => ⟨S2x8x64x64, .f32⟩
  | 80 => ⟨S2x8x64x128, .f32⟩
  | 81 => ⟨S2x8x1x64x64, .f32⟩
  | 82 => ⟨S2x8x64x64, .f32⟩
  | 83 => ⟨S2x8x1x64x64, .f32⟩
  | 84 => ⟨S2x8x64x64, .f32⟩
  | 85 => ⟨S2x8x64x128, .f32⟩
  | 86 => ⟨S2x8x1x64x64, .f32⟩
  | 87 => ⟨S2x8x64x64, .f32⟩
  | 88 => ⟨S2x8x1x64x64, .f32⟩
  | 89 => ⟨S2x8x64x64, .f32⟩
  | 90 => ⟨S2x8x64x128, .f32⟩
  | 91 => ⟨S2x8x1x64x64, .f32⟩
  | 92 => ⟨S2x8x64x64, .f32⟩
  | 93 => ⟨S2x8x1x64x64, .f32⟩
  | 94 => ⟨S2x8x64x64, .f32⟩
  | 95 => ⟨S2x8x64x128, .f32⟩
  | 96 => ⟨S2x8x1x64x64, .f32⟩
  | 97 => ⟨S2x8x64x64, .f32⟩
  | 98 => ⟨S2x8x1x64x64, .f32⟩
  | 99 => ⟨S2x8x64x64, .f32⟩
  | 100 => ⟨S2x8x64x128, .f32⟩
  | 101 => ⟨S2x8x1x64x64, .f32⟩
  | 102 => ⟨S2x8x64x64, .f32⟩
  | 103 => ⟨S2x8x1x64x64, .f32⟩
  | 104 => ⟨S2x8x64x64, .f32⟩
  | 105 => ⟨S2x8x64x128, .f32⟩
  | 106 => ⟨S2x8x1x64x64, .f32⟩
  | 107 => ⟨S2x8x64x64, .f32⟩
  | 108 => ⟨S2x8x1x64x64, .f32⟩
  | 109 => ⟨S2x8x64x64, .f32⟩
  | 110 => ⟨S2x8x64x128, .f32⟩
  | 111 => ⟨S2x8x1x64x64, .f32⟩
  | 112 => ⟨S2x8x64x64, .f32⟩
  | 113 => ⟨S2x8x1x64x64, .f32⟩
  | 114 => ⟨S2x8x64x64, .f32⟩
  | 115 => ⟨S2x8x64x128, .f32⟩
  | 116 => ⟨S2x8x1x64x64, .f32⟩
  | 117 => ⟨S2x8x64x64, .f32⟩
  | 118 => ⟨S2x8x1x64x64, .f32⟩
  | 119 => ⟨S2x8x64x64, .f32⟩
  | 120 => ⟨S2x8x64x128, .f32⟩
  | 121 => ⟨S2x8x1x64x64, .f32⟩
  | 122 => ⟨S2x8x64x64, .f32⟩
  | 123 => ⟨S2x8x1x64x64, .f32⟩
  | 124 => ⟨S2x8x64x64, .f32⟩
  | 125 => ⟨S2x8x64x128, .f32⟩
  | 126 => ⟨S2x8x1x64x64, .f32⟩
  | 127 => ⟨S2x8x64x64, .f32⟩
  | _ => ⟨S8192x1024, .bf16⟩

abbrev hbmTy0_1 (i : Nat) : BufTy := match i % 128 with
  | 0 => ⟨S2x8x1x64x64, .f32⟩
  | 1 => ⟨S2x8x64x64, .f32⟩
  | 2 => ⟨S2x8x64x128, .f32⟩
  | 3 => ⟨S2x8x1x64x64, .f32⟩
  | 4 => ⟨S2x8x64x64, .f32⟩
  | 5 => ⟨S2x8x1x64x64, .f32⟩
  | 6 => ⟨S2x8x64x64, .f32⟩
  | 7 => ⟨S2x8x64x128, .f32⟩
  | 8 => ⟨S2x8x1x64x64, .f32⟩
  | 9 => ⟨S2x8x64x64, .f32⟩
  | 10 => ⟨S2x8x1x64x64, .f32⟩
  | 11 => ⟨S2x8x64x64, .f32⟩
  | 12 => ⟨S2x8x64x128, .f32⟩
  | 13 => ⟨S2x8x1x64x64, .f32⟩
  | 14 => ⟨S2x8x64x64, .f32⟩
  | 15 => ⟨S2x8x64x128, .f32⟩
  | 16 => ⟨S2x8x1x64x64, .f32⟩
  | 17 => ⟨S2x8x64x64, .f32⟩
  | 18 => ⟨S2x8x64x128, .f32⟩
  | 19 => ⟨S2x8x1x64x128, .f32⟩
  | 20 => ⟨S2x8x1x64x128, .f32⟩
  | 21 => ⟨S2x8x1x64x128, .f32⟩
  | 22 => ⟨S2x8x1x64x128, .f32⟩
  | 23 => ⟨S2x8x1x64x128, .f32⟩
  | 24 => ⟨S2x8x1x64x128, .f32⟩
  | 25 => ⟨S2x8x1x64x128, .f32⟩
  | 26 => ⟨S2x8x1x64x128, .f32⟩
  | 27 => ⟨S2x8x1x64x128, .f32⟩
  | 28 => ⟨S2x8x1x64x128, .f32⟩
  | 29 => ⟨S2x8x1x64x128, .f32⟩
  | 30 => ⟨S2x8x1x64x128, .f32⟩
  | 31 => ⟨S2x8x1x64x128, .f32⟩
  | 32 => ⟨S2x8x1x64x128, .f32⟩
  | 33 => ⟨S2x8x1x64x128, .f32⟩
  | 34 => ⟨S2x8x1x64x128, .f32⟩
  | 35 => ⟨S2x8x16x64x128, .f32⟩
  | 36 => ⟨S8192x1024, .bf16⟩
  | 37 => ⟨S2048x2048, .bf16⟩
  | 38 => ⟨S2048x8192, .bf16⟩
  | 39 => ⟨S8192x2048, .bf16⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S1x1x16x64x128, .f32⟩
  | .local _ .vmem, ⟨13, _⟩ => ⟨S1x1x16x64x128, .f32⟩
  | .local _ .vmem, ⟨14, _⟩ => ⟨S1x128x2048, .f32⟩
  | .local _ .vmem, ⟨15, _⟩ => ⟨S1x128x2048, .f32⟩
  | .local _ .vmem, ⟨16, _⟩ => ⟨S1x2048x512, .f32⟩
  | .local _ .vmem, ⟨17, _⟩ => ⟨S1x2048x512, .f32⟩
  | .local _ .vmem, ⟨18, _⟩ => ⟨S1x512x2048, .f32⟩
  | .local _ .vmem, ⟨19, _⟩ => ⟨S1x512x2048, .f32⟩
  | .local _ .vmem, ⟨20, _⟩ => ⟨S4096x128, .bf16⟩
  | .local _ .vmem, ⟨21, _⟩ => ⟨S4096x128, .bf16⟩
  | .local _ .vmem, ⟨22, _⟩ => ⟨S128x2048, .bf16⟩
  | .local _ .vmem, ⟨23, _⟩ => ⟨S128x2048, .bf16⟩
  | .local _ .vmem, ⟨24, _⟩ => ⟨S2048x512, .bf16⟩
  | .local _ .vmem, ⟨25, _⟩ => ⟨S2048x512, .bf16⟩
  | .local _ .vmem, ⟨26, _⟩ => ⟨S512x2048, .bf16⟩
  | .local _ .vmem, ⟨27, _⟩ => ⟨S512x2048, .bf16⟩
  | .local _ .vmem, ⟨28, _⟩ => ⟨S128x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_3 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_c_5 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v37 : Ref sig .tc := ⟨.hbm, 68, rfl⟩
abbrev main_cst_6 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132_0 : Ref sig .tc := ⟨.hbm, 164, rfl⟩
abbrev main_v132_1 : Ref sig .tc := ⟨.hbm, 165, rfl⟩
abbrev main_v132_2 : Ref sig .tc := ⟨.hbm, 166, rfl⟩
abbrev main_v132_3 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg1.toNat, c0_i32_0.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x16x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4096x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2048x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S8192x1024 : Shape := ⟨2, ![8192, 1024]⟩
abbrev S512x1024 : Shape := ⟨2, ![512, 1024]⟩
abbrev S2x8x15x31 : Shape := ⟨4, ![2, 8, 15, 31]⟩
abbrev S2x2048x2048 : Shape := ⟨3, ![2, 2048, 2048]⟩
abbrev S2x2048x8192 : Shape := ⟨3, ![2, 2048, 8192]⟩
abbrev S2x8192x2048 : Shape := ⟨3, ![2, 8192, 2048]⟩
abbrev S2x64x64x8x128 : Shape := ⟨5, ![2, 64, 64, 8, 128]⟩
abbrev S2x256x8x128 : Shape := ⟨4, ![2, 256, 8, 128]⟩
abbrev S64x8 : Shape := ⟨2, ![64, 8]⟩
abbrev S_ : Shape := ⟨0, ![]⟩
abbrev S64x8x1 : Shape := ⟨3, ![64, 8, 1]⟩
abbrev S2x64x8x64x8x128 : Shape := ⟨6, ![2, 64, 8, 64, 8, 128]⟩
abbrev S2x8x64x64x8x64 : Shape := ⟨6, ![2, 8, 64, 64, 8, 64]⟩
abbrev S64x64 : Shape := ⟨2, ![64, 64]⟩
abbrev S1x8x15x31 : Shape := ⟨4, ![1, 8, 15, 31]⟩
abbrev S8x15x31 : Shape := ⟨3, ![8, 15, 31]⟩
abbrev S64x1x8x1 : Shape := ⟨4, ![64, 1, 8, 1]⟩
abbrev S1x64x1x64 : Shape := ⟨4, ![1, 64, 1, 64]⟩
abbrev S64x64x8x64 : Shape := ⟨4, ![64, 64, 8, 64]⟩
abbrev S64x64x8x64x1 : Shape := ⟨5, ![64, 64, 8, 64, 1]⟩
abbrev S64x64x8x64x2 : Shape := ⟨5, ![64, 64, 8, 64, 2]⟩
abbrev S8x64x64x8x64 : Shape := ⟨5, ![8, 64, 64, 8, 64]⟩
abbrev S64x1x64 : Shape := ⟨3, ![64, 1, 64]⟩
abbrev S1x8x64x64x8x64 : Shape := ⟨6, ![1, 8, 64, 64, 8, 64]⟩
abbrev S2x8x64x64x256 : Shape := ⟨5, ![2, 8, 64, 64, 256]⟩
abbrev S2x8x64x64x512 : Shape := ⟨5, ![2, 8, 64, 64, 512]⟩
abbrev S2x8x64x64x768 : Shape := ⟨5, ![2, 8, 64, 64, 768]⟩
abbrev S2x8x64x64 : Shape := ⟨4, ![2, 8, 64, 64]⟩
abbrev S2x8x64x64x1 : Shape := ⟨5, ![2, 8, 64, 64, 1]⟩
abbrev S2x64x8x128x64 : Shape := ⟨5, ![2, 64, 8, 128, 64]⟩
abbrev S2x8x128x64x64 : Shape := ⟨5, ![2, 8, 128, 64, 64]⟩
abbrev S1x2048x2048 : Shape := ⟨3, ![1, 2048, 2048]⟩
abbrev S2048x2048 : Shape := ⟨2, ![2048, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩

abbrev nBuf : Space → Nat
  | .hbm => 124
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S512x1024, .bf16⟩
  | .hbm, ⟨5, _⟩ => ⟨S512x1024, .bf16⟩
  | .hbm, ⟨6, _⟩ => ⟨S2x8x15x31, .f32⟩
  | .hbm, ⟨7, _⟩ => ⟨S2x2048x2048, .f32⟩
  | .hbm, ⟨8, _⟩ => ⟨S2x2048x8192, .f32⟩
  | .hbm, ⟨9, _⟩ => ⟨S2x8192x2048, .f32⟩
  | .hbm, ⟨10, _⟩ => ⟨S8192x1024, .f32⟩
  | .hbm, ⟨11, _⟩ => ⟨S2x64x64x8x128, .f32⟩
  | .hbm, ⟨12, _⟩ => ⟨S8192x1024, .f32⟩
  | .hbm, ⟨13, _⟩ => ⟨S2x64x64x8x128, .f32⟩
  | .hbm, ⟨14, _⟩ => ⟨S8192x1024, .f32⟩
  | .hbm, ⟨15, _⟩ => ⟨S2x64x64x8x128, .f32⟩
  | .hbm, ⟨16, _⟩ => ⟨S8192x1024, .f32⟩
  | .hbm, ⟨17, _⟩ => ⟨S2x64x64x8x128, .f32⟩
  | .hbm, ⟨18, _⟩ => ⟨S512x1024, .f32⟩
  | .hbm, ⟨19, _⟩ => ⟨S2x256x8x128, .f32⟩
  | .hbm, ⟨20, _⟩ => ⟨S512x1024, .f32⟩
  | .hbm, ⟨21, _⟩ => ⟨S2x256x8x128, .f32⟩
  | .hbm, ⟨22, _⟩ => ⟨S64x8, .i32⟩
  | .hbm, ⟨23, _⟩ => ⟨S64x8, .i32⟩
  | .hbm, ⟨24, _⟩ => ⟨S_, .i32⟩
  | .hbm, ⟨25, _⟩ => ⟨S64x8, .i32⟩
  | .hbm, ⟨26, _⟩ => ⟨S64x8, .i32⟩
  | .hbm, ⟨27, _⟩ => ⟨S_, .i32⟩
  | .hbm, ⟨28, _⟩ => ⟨S_, .i32⟩
  | .hbm, ⟨29, _⟩ => ⟨S64x8, .i32⟩
  | .hbm, ⟨30, _⟩ => ⟨S64x8, .i32⟩
  | .hbm, ⟨31, _⟩ => ⟨S64x8, .i32⟩
  | .hbm, ⟨32, _⟩ => ⟨S64x8, .i32⟩
  | .hbm, ⟨33, _⟩ => ⟨S64x8x1, .i32⟩
  | .hbm, ⟨34, _⟩ => ⟨S2x64x8x64x8x128, .f32⟩
  | .hbm, ⟨35, _⟩ => ⟨S64x8x1, .i32⟩
  | .hbm, ⟨36, _⟩ => ⟨S2x64x8x64x8x128, .f32⟩
  | .hbm, ⟨37, _⟩ => ⟨S2x8x64x64x8x64, .f32⟩
  | .hbm, ⟨38, _⟩ => ⟨S64x64, .i32⟩
  | .hbm, ⟨39, _⟩ => ⟨S64x64, .i32⟩
  | .hbm, ⟨40, _⟩ => ⟨S_, .i32⟩
  | .hbm, ⟨41, _⟩ => ⟨S64x64, .i32⟩
  | .hbm, ⟨42, _⟩ => ⟨S64x64, .i32⟩
  | .hbm, ⟨43, _⟩ => ⟨S_, .i32⟩
  | .hbm, ⟨44, _⟩ => ⟨S_, .i32⟩
  | .hbm, ⟨45, _⟩ => ⟨S64x64, .i32⟩
  | .hbm, ⟨46, _⟩ => ⟨S64x64, .i32⟩
  | .hbm, ⟨47, _⟩ => ⟨S64x64, .i32⟩
  | .hbm, ⟨48, _⟩ => ⟨S64x64, .i1⟩
  | .hbm, ⟨49, _⟩ => ⟨S_, .i32⟩
  | .hbm, ⟨50, _⟩ => ⟨S64x64, .i32⟩
  | .hbm, ⟨51, _⟩ => ⟨S64x64, .i32⟩
  | .hbm, ⟨52, _⟩ => ⟨S64x64, .i1⟩
  | .hbm, ⟨53, _⟩ => ⟨S64x64, .i1⟩
  | .hbm, ⟨54, _⟩ => ⟨S64x8, .i32⟩
  | .hbm, ⟨55, _⟩ => ⟨S_, .i32⟩
  | .hbm, ⟨56, _⟩ => ⟨S64x8, .i32⟩
  | .hbm, ⟨57, _⟩ => ⟨S64x8, .i32⟩
  | .hbm, ⟨58, _⟩ => ⟨S64x64, .i32⟩
  | .hbm, ⟨59, _⟩ => ⟨S_, .i32⟩
  | .hbm, ⟨60, _⟩ => ⟨S64x64, .i32⟩
  | .hbm, ⟨61, _⟩ => ⟨S64x64, .i32⟩
  | .hbm, ⟨62, _⟩ => ⟨S_, .i32⟩
  | .hbm, ⟨63, _⟩ => ⟨S_, .i32⟩
  | .hbm, ⟨64, _⟩ => ⟨S64x64, .i32⟩
  | .hbm, ⟨65, _⟩ => ⟨S64x64, .i32⟩
  | .hbm, ⟨66, _⟩ => ⟨S64x64, .i32⟩
  | .hbm, ⟨67, _⟩ => ⟨S1x8x15x31, .f32⟩
  | .hbm, ⟨68, _⟩ => ⟨S8x15x31, .f32⟩
  | .hbm, ⟨69, _⟩ => ⟨S64x1x8x1, .i32⟩
  | .hbm, ⟨70, _⟩ => ⟨S1x64x1x64, .i32⟩
  | .hbm, ⟨71, _⟩ => ⟨S64x64x8x64, .i32⟩
  | .hbm, ⟨72, _⟩ => ⟨S64x64x8x64, .i32⟩
  | .hbm, ⟨73, _⟩ => ⟨S64x64x8x64x1, .i32⟩
  | .hbm, ⟨74, _⟩ => ⟨S64x64x8x64x1, .i32⟩
  | .hbm, ⟨75, _⟩ => ⟨S64x64x8x64x2, .i32⟩
  | .hbm, ⟨76, _⟩ => ⟨S8x64x64x8x64, .f32⟩
  | .hbm, ⟨77, _⟩ => ⟨S64x1x64, .i1⟩
  | .hbm, ⟨78, _⟩ => ⟨S1x8x64x64x8x64, .f32⟩
  | .hbm, ⟨79, _⟩ => ⟨S2x8x64x64x8x64, .f32⟩
  | .hbm, ⟨80, _⟩ => ⟨S2x8x64x64x8x64, .f32⟩
  | .hbm, ⟨81, _⟩ => ⟨S_, .f32⟩
  | .hbm, ⟨82, _⟩ => ⟨S_, .f32⟩
  | .hbm, ⟨83, _⟩ => ⟨S2x8x64x64x8x64, .i1⟩
  | .hbm, ⟨84, _⟩ => ⟨S2x8x64x64x8x64, .f32⟩
  | .hbm, ⟨85, _⟩ => ⟨S2x8x64x64x8x64, .f32⟩
  | .hbm, ⟨86, _⟩ => ⟨S2x8x64x64x256, .f32⟩
  | .hbm, ⟨87, _⟩ => ⟨S2x8x64x64x512, .f32⟩
  | .hbm, ⟨88, _⟩ => ⟨S2x8x64x64x768, .f32⟩
  | .hbm, ⟨89, _⟩ => ⟨S_, .f32⟩
  | .hbm, ⟨90, _⟩ => ⟨S2x8x64x64, .f32⟩
  | .hbm, ⟨91, _⟩ => ⟨S_, .f32⟩
  | .hbm, ⟨92, _⟩ => ⟨S2x8x64x64, .f32⟩
  | .hbm, ⟨93, _⟩ => ⟨S2x8x64x64, .f32⟩
  | .hbm, ⟨94, _⟩ => ⟨S2x8x64x64x1, .f32⟩
  | .hbm, ⟨95, _⟩ => ⟨S2x8x64x64x768, .f32⟩
  | .hbm, ⟨96, _⟩ => ⟨S2x8x64x64x768, .f32⟩
  | .hbm, ⟨97, _⟩ => ⟨S2x8x64x64x768, .f32⟩
  | .hbm, ⟨98, _⟩ => ⟨S_, .f32⟩
  | .hbm, ⟨99, _⟩ => ⟨S2x8x64x64, .f32⟩
  | .hbm, ⟨100, _⟩ => ⟨S2x8x64x64x1, .f32⟩
  | .hbm, ⟨101, _⟩ => ⟨S2x8x64x64x768, .f32⟩
  | .hbm, ⟨102, _⟩ => ⟨S2x8x64x64x768, .f32⟩
  | .hbm, ⟨103, _⟩ => ⟨S2x8x64x64x768, .bf16⟩
  | .hbm, ⟨104, _⟩ => ⟨S2x8x64x64x768, .f32⟩
  | .hbm, ⟨105, _⟩ => ⟨S2x8x64x64x512, .f32⟩
  | .hbm, ⟨106, _⟩ => ⟨S2x8x64x64x8x64, .f32⟩
  | .hbm, ⟨107, _⟩ => ⟨S2x8x64x64x256, .f32⟩
  | .hbm, ⟨108, _⟩ => ⟨S2x64x8x128x64, .f32⟩
  | .hbm, ⟨109, _⟩ => ⟨S2x64x64x8x128, .f32⟩
  | .hbm, ⟨110, _⟩ => ⟨S2x8x128x64x64, .f32⟩
  | .hbm, ⟨111, _⟩ => ⟨S2x64x64x8x128, .f32⟩
  | .hbm, ⟨112, _⟩ => ⟨S2x64x64x8x128, .f32⟩
  | .hbm, ⟨113, _⟩ => ⟨S8192x1024, .f32⟩
  | .hbm, ⟨114, _⟩ => ⟨S8192x1024, .bf16⟩
  | .hbm, ⟨115, _⟩ => ⟨S1x2048x2048, .f32⟩
  | .hbm, ⟨116, _⟩ => ⟨S2048x2048, .f32⟩
  | .hbm, ⟨117, _⟩ => ⟨S2048x2048, .bf16⟩
  | .hbm, ⟨118, _⟩ => ⟨S1x2048x8192, .f32⟩
  | .hbm, ⟨119, _⟩ => ⟨S2048x8192, .f32⟩
  | .hbm, ⟨120, _⟩ => ⟨S2048x8192, .bf16⟩
  | .hbm, ⟨121, _⟩ => ⟨S1x8192x2048, .f32⟩
  | .hbm, ⟨122, _⟩ => ⟨S8192x2048, .f32⟩
  | .hbm, ⟨123, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_0 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_2 : Ref sig .tc := ⟨.hbm, 40, rfl⟩
abbrev main_v27 : Ref sig .tc := ⟨.hbm, 41, rfl⟩
abbrev main_v28 : Ref sig .tc := ⟨.hbm, 42, rfl⟩
abbrev main_c_3 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_7 : Ref sig .tc := ⟨.hbm, 59, rfl⟩
abbrev main_v41 : Ref sig .tc := ⟨.hbm, 60, rfl⟩
abbrev main_v42 : Ref sig .tc := ⟨.hbm, 61, rfl⟩
abbrev main_c_8 : Ref sig .tc := ⟨.hbm, 62, rfl⟩
abbrev main_c_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst : Ref sig .tc := ⟨.hbm, 81, rfl⟩
abbrev main_call0_v0 : Ref sig .tc := ⟨.hbm, 82, rfl⟩
abbrev main_call0_v1 : Ref sig .tc := ⟨.hbm, 83, rfl⟩
abbrev main_call0_v2 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_10 : Ref sig .tc := ⟨.hbm, 89, rfl⟩
abbrev main_v64 : Ref sig .tc := ⟨.hbm, 90, rfl⟩
abbrev main_cst_11 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_12 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩

abbrev nD : Nat := 1
abbrev τ : Topo := Topo.v7x

variable {F : FTy → Type} [FloatOps F]
-- ==== Kernel2.lean ====
abbrev S8192x2048 : Shape := ⟨2, ![8192, 2048]⟩
abbrev S1x8x6x2048 : Shape := ⟨4, ![1, 8, 6, 2048]⟩
abbrev S2048x8192 : Shape := ⟨2, ![2048, 8192]⟩
abbrev S2x1x8192 : Shape := ⟨3, ![2, 1, 8192]⟩
abbrev S2x1x2048 : Shape := ⟨3, ![2, 1, 2048]⟩
abbrev S1024x2048 : Shape := ⟨2, ![1024, 2048]⟩
abbrev S1x1x6x2048 : Shape := ⟨4, ![1, 1, 6, 2048]⟩
abbrev S2048x512 : Shape := ⟨2, ![2048, 512]⟩
abbrev S1x1x512 : Shape := ⟨3, ![1, 1, 512]⟩
abbrev S512x2048 : Shape := ⟨2, ![512, 2048]⟩
abbrev S1x1x2048 : Shape := ⟨3, ![1, 1, 2048]⟩
abbrev S1024x512 : Shape := ⟨2, ![1024, 512]⟩
abbrev S1x1x1x2048 : Shape := ⟨4, ![1, 1, 1, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S256x2048 : Shape := ⟨2, ![256, 2048]⟩
abbrev S256x512 : Shape := ⟨2, ![256, 512]⟩
abbrev S1x512 : Shape := ⟨2, ![1, 512]⟩
abbrev S512x512 : Shape := ⟨2, ![512, 512]⟩

abbrev nBuf : Space → Nat
  | .hbm => 9
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S1x8x6x2048, .f32⟩
  | .hbm, ⟨2, _⟩ => ⟨S2048x8192, .bf16⟩
  | .hbm, ⟨3, _⟩ => ⟨S2x1x8192, .f32⟩
  | .hbm, ⟨4, _⟩ => ⟨S8192x2048, .bf16⟩
  | .hbm, ⟨5, _⟩ => ⟨S2x1x2048, .f32⟩
  | .hbm, ⟨6, _⟩ => ⟨S2x1x2048, .f32⟩
  | .hbm, ⟨7, _⟩ => ⟨S2x1x2048, .f32⟩
  | .hbm, ⟨8, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x6x2048, .f32⟩
  | .local _ .vmem, ⟨3, _⟩ => ⟨S1x1x6x2048, .f32⟩
  | .local _ .vmem, ⟨4, _⟩ => ⟨S2048x512, .bf16⟩
  | .local _ .vmem, ⟨5, _⟩ => ⟨S2048x512, .bf16⟩
  | .local _ .vmem, ⟨6, _⟩ => ⟨S1x1x512, .f32⟩
  | .local _ .vmem, ⟨7, _⟩ => ⟨S1x1x512, .f32⟩
  | .local _ .vmem, ⟨8, _⟩ => ⟨S512x2048, .bf16⟩
  | .local _ .vmem, ⟨9, _⟩ => ⟨S512x2048, .bf16⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1024x2048, .f32⟩
  | .local _ .vmem, ⟨14, _⟩ => ⟨S1024x2048, .f32⟩
  | .local _ .vmem, ⟨15, _⟩ => ⟨S1024x2048, .bf16⟩
  | .local _ .vmem, ⟨16, _⟩ => ⟨S1024x512, .bf16⟩
  | .local _ .vmem, ⟨17, _⟩ => ⟨S1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 17], ![false, false]⟩

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c1_i32_2 : BitVec 32 := 1#32
  let v6 : BitVec 1 := Scalar.cmpi .sgt arg1 c1_i32_2
  let c16_i32 : BitVec 32 := 16#32
  let v7 : BitVec 1 := Scalar.cmpi .slt arg1 c16_i32
  let v8 : BitVec 1 := Scalar.andi v6 v7
  let c2_i32 : BitVec 32 := 2#32
  let c0_i32_3 : BitVec 32 := 0#32
  let v9 : BitVec 1 := Scalar.cmpi .eq c2_i32 c0_i32_3
  let c1_i32_4 : BitVec 32 := 1#32
  let v10 : BitVec 32 := Scalar.select v9 c1_i32_4 c2_i32
  let v11 : BitVec 32 := Scalar.remsi arg1 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let c0_i32_8 : BitVec 32 := 0#32
  let v19 : BitVec 1 := Scalar.cmpi .eq v18 c0_i32_8
  let v20 : BitVec 1 := Scalar.andi v8 v19
  let v21 : BitVec 32 := Scalar.extui v20
  let c0_i32_9 : BitVec 32 := 0#32
  let v22 : BitVec 1 := Scalar.cmpi .ne v21 c0_i32_9
  v22

def k0_cond4 (i : grid0.Coords) : BitVec 1 :=
  let arg1 : BitVec 32 := BitVec.ofNat 32 (i 1).val
  let c1_i32_10 : BitVec 32 := 1#32
  let v23 : BitVec 1 := Scalar.cmpi .sgt arg1 c1_i32_10
  let c16_i32_11 : BitVec 32 := 16#32
  let v24 : BitVec 1 := Scalar.cmpi .slt arg1 c16_i32_11
  let v25 : BitVec 1 := Scalar.andi v23 v24
  let c2_i32_12 : BitVec 32 := 2#32
  let c0_i32_13 : BitVec 32 := 0#32
  let v26 : BitVec 1 := Scalar.cmpi .eq c2_i32_12 c0_i32_13
  let c1_i32_14 : BitVec 32 := 1#32
  let v27 : BitVec 32 := Scalar.select v26 c1_i32_14 c2_i32_12
  let v28 : BitVec 32 := Scalar.remsi arg1 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_18 : BitVec 32 := 1#32
  let v36 : BitVec 1 := Scalar.cmpi .eq v35 c1_i32_18
  let v37 : BitVec 1 := Scalar.andi v25 v36
  let v38 : BitVec 32 := Scalar.extui v37
  let c0_i32_19 : BitVec 32 := 0#32
  let v39 : BitVec 1 := Scalar.cmpi .ne v38 c0_i32_19
  v39

def k0_cond5 (i : grid0.Coords) : BitVec 1 :=
  let arg1 : BitVec 32 := BitVec.ofNat 32 (i 1).val
  let c16_i32_20 : BitVec 32 := 16#32
  let v40 : BitVec 1 := Scalar.cmpi .eq arg1 c16_i32_20
  let v41 : BitVec 32 := Scalar.extui v40
  let c0_i32_21 : BitVec 32 := 0#32
  let v42 : BitVec 1 := Scalar.cmpi .ne v41 c0_i32_21
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  let c0_i32_7 : BitVec 32 := 0#32
  ![c0_i32_4.toNat, v17.toNat, c0_i32_5.toNat, c0_i32_6.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c1_i32 : BitVec 32 := 1#32
  let c0_i32 : BitVec 32 := 0#32
  let c0_i32_0 : BitVec 32 := 0#32
  ![c1_i32.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S8192x2048 : Shape := ⟨2, ![8192, 2048]⟩
abbrev S1x8x6x2048 : Shape := ⟨4, ![1, 8, 6, 2048]⟩
abbrev S2048x8192 : Shape := ⟨2, ![2048, 8192]⟩
abbrev S2x1x8192 : Shape := ⟨3, ![2, 1, 8192]⟩
abbrev S2x1x2048 : Shape := ⟨3, ![2, 1, 2048]⟩
abbrev S2x4096x2048 : Shape := ⟨3, ![2, 4096, 2048]⟩
abbrev S1x2x1x2048 : Shape := ⟨4, ![1, 2, 1, 2048]⟩
abbrev S2x2048 : Shape := ⟨2, ![2, 2048]⟩
abbrev S_ : Shape := ⟨0, ![]⟩
abbrev S2x4096 : Shape := ⟨2, ![2, 4096]⟩
abbrev S2x4096x1 : Shape := ⟨3, ![2, 4096, 1]⟩
abbrev S2x4096x8192 : Shape := ⟨3, ![2, 4096, 8192]⟩
abbrev S1x1x8192 : Shape := ⟨3, ![1, 1, 8192]⟩
abbrev S1x8192 : Shape := ⟨2, ![1, 8192]⟩
abbrev S1x1x2048 : Shape := ⟨3, ![1, 1, 2048]⟩
abbrev S1x2048 : Shape := ⟨2, ![1, 2048]⟩

abbrev nBuf : Space → Nat
  | .hbm => 106
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x8x6x2048, .f32⟩
  | .hbm, ⟨2, _⟩ => ⟨S2048x8192, .bf16⟩
  | .hbm, ⟨3, _⟩ => ⟨S2x1x8192, .f32⟩
  | .hbm, ⟨4, _⟩ => ⟨S8192x2048, .bf16⟩
  | .hbm, ⟨5, _⟩ => ⟨S2x1x2048, .f32⟩
  | .hbm, ⟨6, _⟩ => ⟨S2x1x2048, .f32⟩
  | .hbm, ⟨7, _⟩ => ⟨S2x1x2048, .f32⟩
  | .hbm, ⟨8, _⟩ => ⟨S2x4096x2048, .f32⟩
  | .hbm, ⟨9, _⟩ => ⟨S1x2x1x2048, .f32⟩
  | .hbm, ⟨10, _⟩ => ⟨S2x2048, .f32⟩
  | .hbm, ⟨11, _⟩ => ⟨S2x1x2048, .f32⟩
  | .hbm, ⟨12, _⟩ => ⟨S1x2x1x2048, .f32⟩
  | .hbm, ⟨13, _⟩ => ⟨S2x2048, .f32⟩
  | .hbm, ⟨14, _⟩ => ⟨S2x1x2048, .f32⟩
  | .hbm, ⟨15, _⟩ => ⟨S1x2x1x2048, .f32⟩
  | .hbm, ⟨16, _⟩ => ⟨S2x2048, .f32⟩
  | .hbm, ⟨17, _⟩ => ⟨S2x1x2048, .f32⟩
  | .hbm, ⟨18, _⟩ => ⟨S_, .f32⟩
  | .hbm, ⟨19, _⟩ => ⟨S2x4096, .f32⟩
  | .hbm, ⟨20, _⟩ => ⟨S2x4096x1, .f32⟩
  | .hbm, ⟨21, _⟩ => ⟨S_, .f32⟩
  | .hbm, ⟨22, _⟩ => ⟨S2x4096x1, .f32⟩
  | .hbm, ⟨23, _⟩ => ⟨S2x4096x1, .f32⟩
  | .hbm, ⟨24, _⟩ => ⟨S2x4096x2048, .f32⟩
  | .hbm, ⟨25, _⟩ => ⟨S2x4096x2048, .f32⟩
  | .hbm, ⟨26, _⟩ => ⟨S2x4096x2048, .f32⟩
  | .hbm, ⟨27, _⟩ => ⟨S_, .f32⟩
  | .hbm, ⟨28, _⟩ => ⟨S2x4096, .f32⟩
  | .hbm, ⟨29, _⟩ => ⟨S2x4096x1, .f32⟩
  | .hbm, ⟨30, _⟩ => ⟨S_, .f32⟩
  | .hbm, ⟨31, _⟩ => ⟨S2x4096x1, .f32⟩
  | .hbm, ⟨32, _⟩ => ⟨S2x4096x1, .f32⟩
  | .hbm, ⟨33, _⟩ => ⟨S2x4096x2048, .f32⟩
  | .hbm, ⟨34, _⟩ => ⟨S2x4096x2048, .f32⟩
  | .hbm, ⟨35, _⟩ => ⟨S_, .f32⟩
  | .hbm, ⟨36, _⟩ => ⟨S2x4096x1, .f32⟩
  | .hbm, ⟨37, _⟩ => ⟨S2x4096x1, .f32⟩
  | .hbm, ⟨38, _⟩ => ⟨S2x4096x1, .f32⟩
  | .hbm, ⟨39, _⟩ => ⟨S2x4096x2048, .f32⟩
  | .hbm, ⟨40, _⟩ => ⟨S2x4096x2048, .f32⟩
  | .hbm, ⟨41, _⟩ => ⟨S_, .f32⟩
  | .hbm, ⟨42, _⟩ => ⟨S2x1x2048, .f32⟩
  | .hbm, ⟨43, _⟩ => ⟨S2x1x2048, .f32⟩
  | .hbm, ⟨44, _⟩ => ⟨S2x4096x2048, .f32⟩
  | .hbm, ⟨45, _⟩ => ⟨S2x4096x2048, .f32⟩
  | .hbm, ⟨46, _⟩ => ⟨S2x4096x2048, .f32⟩
  | .hbm, ⟨47, _⟩ => ⟨S2x4096x2048, .f32⟩
  | .hbm, ⟨48, _⟩ => ⟨S2048x8192, .f32⟩
  | .hbm, ⟨49, _⟩ => ⟨S2x4096x8192, .f32⟩
  | .hbm, ⟨50, _⟩ => ⟨S1x1x8192, .f32⟩
  | .hbm, ⟨51, _⟩ => ⟨S1x8192, .f32⟩
  | .hbm, ⟨52, _⟩ => ⟨S1x1x8192, .f32⟩
  | .hbm, ⟨53, _⟩ => ⟨S2x4096x8192, .f32⟩
  | .hbm, ⟨54, _⟩ => ⟨S2x4096x8192, .f32⟩
  | .hbm, ⟨55, _⟩ => ⟨S_, .f32⟩
  | .hbm, ⟨56, _⟩ => ⟨S2x4096x8192, .f32⟩
  | .hbm, ⟨57, _⟩ => ⟨S2x4096x8192, .f32⟩
  | .hbm, ⟨58, _⟩ => ⟨S2x4096x8192, .f32⟩
  | .hbm, ⟨59, _⟩ => ⟨S8192x2048, .f32⟩
  | .hbm, ⟨60, _⟩ => ⟨S2x4096x2048, .f32⟩
  | .hbm, ⟨61, _⟩ => ⟨S1x1x2048, .f32⟩
  | .hbm, ⟨62, _⟩ => ⟨S1x2048, .f32⟩
  | .hbm, ⟨63, _⟩ => ⟨S1x1x2048, .f32⟩
  | .hbm, ⟨64, _⟩ => ⟨S2x4096x2048, .f32⟩
  | .hbm, ⟨65, _⟩ => ⟨S2x4096x2048, .f32⟩
  | .hbm, ⟨66, _⟩ => ⟨S_, .f32⟩
  | .hbm, ⟨67, _⟩ => ⟨S2x4096x2048, .f32⟩
  | .hbm, ⟨68, _⟩ => ⟨S2x4096x2048, .f32⟩
  | .hbm, ⟨69, _⟩ => ⟨S2x4096x2048, .f32⟩
  | .hbm, ⟨70, _⟩ => ⟨S2x4096x2048, .f32⟩
  | .hbm, ⟨71, _⟩ => ⟨S2x4096x2048, .f32⟩
  | .hbm, ⟨72, _⟩ => ⟨S_, .f32⟩
  | .hbm, ⟨73, _⟩ => ⟨S2x4096, .f32⟩
  | .hbm, ⟨74, _⟩ => ⟨S2x4096x1, .f32⟩
  | .hbm, ⟨75, _⟩ => ⟨S_, .f32⟩
  | .hbm, ⟨76, _⟩ => ⟨S2x4096x1, .f32⟩
  | .hbm, ⟨77, _⟩ => ⟨S2x4096x1, .f32⟩
  | .hbm, ⟨78, _⟩ => ⟨S2x4096x2048, .f32⟩
  | .hbm, ⟨79, _⟩ => ⟨S2x4096x2048, .f32⟩
  | .hbm, ⟨80, _⟩ => ⟨S2x4096x2048, .f32⟩
  | .hbm, ⟨81, _⟩ => ⟨S_, .f32⟩
  | .hbm, ⟨82, _⟩ => ⟨S2x4096, .f32⟩
  | .hbm, ⟨83, _⟩ => ⟨S2x4096x1, .f32⟩
  | .hbm, ⟨84, _⟩ => ⟨S_, .f32⟩
  | .hbm, ⟨85, _⟩ => ⟨S2x4096x1, .f32⟩
  | .hbm, ⟨86, _⟩ => ⟨S2x4096x1, .f32⟩
  | .hbm, ⟨87, _⟩ => ⟨S2x4096x2048, .f32⟩
  | .hbm, ⟨88, _⟩ => ⟨S2x4096x2048, .f32⟩
  | .hbm, ⟨89, _⟩ => ⟨S_, .f32⟩
  | .hbm, ⟨90, _⟩ => ⟨S2x4096x1, .f32⟩
  | .hbm, ⟨91, _⟩ => ⟨S2x4096x1, .f32⟩
  | .hbm, ⟨92, _⟩ => ⟨S2x4096x1, .f32⟩
  | .hbm, ⟨93, _⟩ => ⟨S2x4096x2048, .f32⟩
  | .hbm, ⟨94, _⟩ => ⟨S2x4096x2048, .f32⟩
  | .hbm, ⟨95, _⟩ => ⟨S1x1x2048, .f32⟩
  | .hbm, ⟨96, _⟩ => ⟨S1x2048, .f32⟩
  | .hbm, ⟨97, _⟩ => ⟨S1x1x2048, .f32⟩
  | .hbm, ⟨98, _⟩ => ⟨S2x4096x2048, .f32⟩
  | .hbm, ⟨99, _⟩ => ⟨S2x4096x2048, .f32⟩
  | .hbm, ⟨100, _⟩ => ⟨S1x1x2048, .f32⟩
  | .hbm, ⟨101, _⟩ => ⟨S1x2048, .f32⟩
  | .hbm, ⟨102, _⟩ => ⟨S1x1x2048, .f32⟩
  | .hbm, ⟨103, _⟩ => ⟨S2x4096x2048, .f32⟩
  | .hbm, ⟨104, _⟩ => ⟨S2x4096x2048, .f32⟩
  | .hbm, ⟨105, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_call0_cst : Ref sig .tc := ⟨.hbm, 55, rfl⟩
abbrev main_call0_v0 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_5 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_6 : Ref sig .tc := ⟨.hbm, 72, rfl⟩
abbrev main_v55 : Ref sig .tc := ⟨.hbm, 73, rfl⟩
abbrev main_v56 : Ref sig .tc := ⟨.hbm, 74, rfl⟩
abbrev main_cst_7 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_8 : Ref sig .tc := ⟨.hbm, 81, rfl⟩
abbrev main_v62 : Ref sig .tc := ⟨.hbm, 82, rfl⟩
abbrev main_v63 : Ref sig .tc := ⟨.hbm, 83, rfl⟩
abbrev main_cst_9 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_10 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩

abbrev nD : Nat := 1
abbrev τ : Topo := Topo.v7x

variable {F : FTy → Type} [FloatOps F]
-- ==== Kernel3.lean ====
abbrev S8192x1024 : Shape := ⟨2, ![8192, 1024]⟩
abbrev S8192x512 : Shape := ⟨2, ![8192, 512]⟩
abbrev S8192x2048 : Shape := ⟨2, ![8192, 2048]⟩
abbrev S1x8x6x2048 : Shape := ⟨4, ![1, 8, 6, 2048]⟩
abbrev S2048x2048 : Shape := ⟨2, ![2048, 2048]⟩
abbrev S2x1x2048 : Shape := ⟨3, ![2, 1, 2048]⟩
abbrev S512x1024 : Shape := ⟨2, ![512, 1024]⟩
abbrev S512x512 : Shape := ⟨2, ![512, 512]⟩
abbrev S512x2048 : Shape := ⟨2, ![512, 2048]⟩
abbrev S1x1x6x2048 : Shape := ⟨4, ![1, 1, 6, 2048]⟩
abbrev S1x1x2048 : Shape := ⟨3, ![1, 1, 2048]⟩
abbrev S1x1x1x2048 : Shape := ⟨4, ![1, 1, 1, 2048]⟩
abbrev S1x2048 : Shape := ⟨2, ![1, 2048]⟩
abbrev S256x1024 : Shape := ⟨2, ![256, 1024]⟩
abbrev S1024x2048 : Shape := ⟨2, ![1024, 2048]⟩
abbrev S256x2048 : Shape := ⟨2, ![256, 2048]⟩
abbrev S256x512 : Shape := ⟨2, ![256, 512]⟩
abbrev S128x2048 : Shape := ⟨2, ![128, 2048]⟩
abbrev S128 : Shape := ⟨1, ![128]⟩
abbrev S128x1 : Shape := ⟨2, ![128, 1]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x2048, .f32⟩
  | .hbm, ⟨4, _⟩ => ⟨S1x8x6x2048, .f32⟩
  | .hbm, ⟨5, _⟩ => ⟨S2048x2048, .bf16⟩
  | .hbm, ⟨6, _⟩ => ⟨S2x1x2048, .f32⟩
  | .hbm, ⟨7, _⟩ => ⟨S2x1x2048, .f32⟩
  | .hbm, ⟨8, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .f32⟩
  | .local _ .vmem, ⟨7, _⟩ => ⟨S512x2048, .f32⟩
  | .local _ .vmem, ⟨8, _⟩ => ⟨S1x1x6x2048, .f32⟩
  | .local _ .vmem, ⟨9, _⟩ => ⟨S1x1x6x2048, .f32⟩
  | .local _ .vmem, ⟨10, _⟩ => ⟨S2048x2048, .bf16⟩
  | .local _ .vmem, ⟨11, _⟩ => ⟨S1x1x2048, .f32⟩
  | .local _ .vmem, ⟨12, _⟩ => ⟨S1x1x2048, .f32⟩
  | .local _ .vmem, ⟨13, _⟩ => ⟨S512x2048, .f32⟩
  | .local _ .vmem, ⟨14, _⟩ => ⟨S512x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  let c0_i32_7 : BitVec 32 := 0#32
  ![c0_i32_4.toNat, v17.toNat, c0_i32_5.toNat, c0_i32_6.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x6x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S8192x1024 : Shape := ⟨2, ![8192, 1024]⟩
abbrev S8192x512 : Shape := ⟨2, ![8192, 512]⟩
abbrev S8192x2048 : Shape := ⟨2, ![8192, 2048]⟩
abbrev S1x8x6x2048 : Shape := ⟨4, ![1, 8, 6, 2048]⟩
abbrev S2048x2048 : Shape := ⟨2, ![2048, 2048]⟩
abbrev S2x1x2048 : Shape := ⟨3, ![2, 1, 2048]⟩
abbrev S1x2x1x2048 : Shape := ⟨4, ![1, 2, 1, 2048]⟩
abbrev S2x2048 : Shape := ⟨2, ![2, 2048]⟩
abbrev S2x4096x1024 : Shape := ⟨3, ![2, 4096, 1024]⟩
abbrev S2x4096x512 : Shape := ⟨3, ![2, 4096, 512]⟩
abbrev S2x4096x2048 : Shape := ⟨3, ![2, 4096, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S1x2048 : Shape := ⟨2, ![1, 2048]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x2048, .f32⟩
  | .hbm, ⟨4, _⟩ => ⟨S1x8x6x2048, .f32⟩
  | .hbm, ⟨5, _⟩ => ⟨S2048x2048, .bf16⟩
  | .hbm, ⟨6, _⟩ => ⟨S2x1x2048, .f32⟩
  | .hbm, ⟨7, _⟩ => ⟨S2x1x2048, .f32⟩
  | .hbm, ⟨8, _⟩ => ⟨S1x2x1x2048, .f32⟩
  | .hbm, ⟨9, _⟩ => ⟨S2x2048, .f32⟩
  | .hbm, ⟨10, _⟩ => ⟨S2x1x2048, .f32⟩
  | .hbm, ⟨11, _⟩ => ⟨S8192x1024, .f32⟩
  | .hbm, ⟨12, _⟩ => ⟨S2x4096x1024, .f32⟩
  | .hbm, ⟨13, _⟩ => ⟨S8192x512, .f32⟩
  | .hbm, ⟨14, _⟩ => ⟨S2x4096x512, .f32⟩
  | .hbm, ⟨15, _⟩ => ⟨S8192x512, .f32⟩
  | .hbm, ⟨16, _⟩ => ⟨S2x4096x512, .f32⟩
  | .hbm, ⟨17, _⟩ => ⟨S2x4096x2048, .f32⟩
  | .hbm, ⟨18, _⟩ => ⟨S2048x2048, .f32⟩
  | .hbm, ⟨19, _⟩ => ⟨S2x4096x2048, .f32⟩
  | .hbm, ⟨20, _⟩ => ⟨S2x4096x2048, .f32⟩
  | .hbm, ⟨21, _⟩ => ⟨S_, .f32⟩
  | .hbm, ⟨22, _⟩ => ⟨S2x4096x2048, .f32⟩
  | .hbm, ⟨23, _⟩ => ⟨S2x4096x2048, .f32⟩
  | .hbm, ⟨24, _⟩ => ⟨S2x4096x2048, .f32⟩
  | .hbm, ⟨25, _⟩ => ⟨S2x4096x2048, .f32⟩
  | .hbm, ⟨26, _⟩ => ⟨S2x4096x2048, .f32⟩
  | .hbm, ⟨27, _⟩ => ⟨S_, .f32⟩
  | .hbm, ⟨28, _⟩ => ⟨S2x4096, .f32⟩
  | .hbm, ⟨29, _⟩ => ⟨S2x4096x1, .f32⟩
  | .hbm, ⟨30, _⟩ => ⟨S_, .f32⟩
  | .hbm, ⟨31, _⟩ => ⟨S2x4096x1, .f32⟩
  | .hbm, ⟨32, _⟩ => ⟨S2x4096x1, .f32⟩
  | .hbm, ⟨33, _⟩ => ⟨S2x4096x2048, .f32⟩
  | .hbm, ⟨34, _⟩ => ⟨S2x4096x2048, .f32⟩
  | .hbm, ⟨35, _⟩ => ⟨S2x4096x2048, .f32⟩
  | .hbm, ⟨36, _⟩ => ⟨S_, .f32⟩
  | .hbm, ⟨37, _⟩ => ⟨S2x4096, .f32⟩
  | .hbm, ⟨38, _⟩ => ⟨S2x4096x1, .f32⟩
  | .hbm, ⟨39, _⟩ => ⟨S_, .f32⟩
  | .hbm, ⟨40, _⟩ => ⟨S2x4096x1, .f32⟩
  | .hbm, ⟨41, _⟩ => ⟨S2x4096x1, .f32⟩
  | .hbm, ⟨42, _⟩ => ⟨S2x4096x2048, .f32⟩
  | .hbm, ⟨43, _⟩ => ⟨S2x4096x2048, .f32⟩
  | .hbm, ⟨44, _⟩ => ⟨S_, .f32⟩
  | .hbm, ⟨45, _⟩ => ⟨S2x4096x1, .f32⟩
  | .hbm, ⟨46, _⟩ => ⟨S2x4096x1, .f32⟩
  | .hbm, ⟨47, _⟩ => ⟨S2x4096x1, .f32⟩
  | .hbm, ⟨48, _⟩ => ⟨S2x4096x2048, .f32⟩
  | .hbm, ⟨49, _⟩ => ⟨S2x4096x2048, .f32⟩
  | .hbm, ⟨50, _⟩ => ⟨S1x1x2048, .f32⟩
  | .hbm, ⟨51, _⟩ => ⟨S1x2048, .f32⟩
  | .hbm, ⟨52, _⟩ => ⟨S1x1x2048, .f32⟩
  | .hbm, ⟨53, _⟩ => ⟨S2x4096x2048, .f32⟩
  | .hbm, ⟨54, _⟩ => ⟨S2x4096x2048, .f32⟩
  | .hbm, ⟨55, _⟩ => ⟨S1x1x2048, .f32⟩
  | .hbm, ⟨56, _⟩ => ⟨S1x2048, .f32⟩
  | .hbm, ⟨57, _⟩ => ⟨S1x1x2048, .f32⟩
  | .hbm, ⟨58, _⟩ => ⟨S2x4096x2048, .f32⟩
  | .hbm, ⟨59, _⟩ => ⟨S2x4096x2048, .f32⟩
  | .hbm, ⟨60, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Kernel4.lean ====
abbrev S8192x2048 : Shape := ⟨2, ![8192, 2048]⟩
abbrev S1x8x6x2048 : Shape := ⟨4, ![1, 8, 6, 2048]⟩
abbrev S2048x4608 : Shape := ⟨2, ![2048, 4608]⟩
abbrev S64x32 : Shape := ⟨2, ![64, 32]⟩
abbrev S64x1x32 : Shape := ⟨3, ![64, 1, 32]⟩
abbrev S64x64x32 : Shape := ⟨3, ![64, 64, 32]⟩
abbrev S4096x32 : Shape := ⟨2, ![4096, 32]⟩
abbrev S1x64x32 : Shape := ⟨3, ![1, 64, 32]⟩
abbrev S4096x128 : Shape := ⟨2, ![4096, 128]⟩
abbrev S8192x1024 : Shape := ⟨2, ![8192, 1024]⟩
abbrev S8192x512 : Shape := ⟨2, ![8192, 512]⟩
abbrev S512x2048 : Shape := ⟨2, ![512, 2048]⟩
abbrev S1x1x6x2048 : Shape := ⟨4, ![1, 1, 6, 2048]⟩
abbrev S512x128 : Shape := ⟨2, ![512, 128]⟩
abbrev S512x1024 : Shape := ⟨2, ![512, 1024]⟩
abbrev S512x512 : Shape := ⟨2, ![512, 512]⟩
abbrev S1x1x1x2048 : Shape := ⟨4, ![1, 1, 1, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S256x2048 : Shape := ⟨2, ![256, 2048]⟩
abbrev S2048x512 : Shape := ⟨2, ![2048, 512]⟩
abbrev S256x512 : Shape := ⟨2, ![256, 512]⟩
abbrev S256x128 : Shape := ⟨2, ![256, 128]⟩

abbrev nBuf : Space → Nat
  | .hbm => 40
  | .vmem => 24
  | .smem => 0
  | _ => 0

abbrev bufTy : (tb : Table) → Fin (tcTables nBuf tb) → BufTy
  | .hbm, ⟨0, _⟩ => ⟨S8192x2048, .f32⟩
  | .hbm, ⟨1, _⟩ => ⟨S1x8x6x2048, .f32⟩
  | .hbm, ⟨2, _⟩ => ⟨S2048x4608, .bf16⟩
  | .hbm, ⟨3, _⟩ => ⟨S64x32, .f32⟩
  | .hbm, ⟨4, _⟩ => ⟨S64x32, .f32⟩
  | .hbm, ⟨5, _⟩ => ⟨S64x1x32, .f32⟩
  | .hbm, ⟨6, _⟩ => ⟨S64x64x32, .f32⟩
  | .hbm, ⟨7, _⟩ => ⟨S4096x32, .f32⟩
  | .hbm, ⟨8, _⟩ => ⟨S64x1x32, .f32⟩
  | .hbm, ⟨9, _⟩ => ⟨S64x64x32, .f32⟩
  | .hbm, ⟨10, _⟩ => ⟨S4096x32, .f32⟩
  | .hbm, ⟨11, _⟩ => ⟨S1x64x32, .f32⟩
  | .hbm, ⟨12, _⟩ => ⟨S64x64x32, .f32⟩
  | .hbm, ⟨13, _⟩ => ⟨S4096x32, .f32⟩
  | .hbm, ⟨14, _⟩ => ⟨S1x64x32, .f32⟩
  | .hbm, ⟨15, _⟩ => ⟨S64x64x32, .f32⟩
  | .hbm, ⟨16, _⟩ => ⟨S4096x32, .f32⟩
  | .hbm, ⟨17, _⟩ => ⟨S4096x128, .f32⟩
  | .hbm, ⟨18, _⟩ => ⟨S64x1x32, .f32⟩
  | .hbm, ⟨19, _⟩ => ⟨S64x64x32, .f32⟩
  | .hbm, ⟨20, _⟩ => ⟨S4096x32, .f32⟩
  | .hbm, ⟨21, _⟩ => ⟨S4096x32, .f32⟩
  | .hbm, ⟨22, _⟩ => ⟨S64x1x32, .f32⟩
  | .hbm, ⟨23, _⟩ => ⟨S64x64x32, .f32⟩
  | .hbm, ⟨24, _⟩ => ⟨S4096x32, .f32⟩
  | .hbm, ⟨25, _⟩ => ⟨S1x64x32, .f32⟩
  | .hbm, ⟨26, _⟩ => ⟨S64x64x32, .f32⟩
  | .hbm, ⟨27, _⟩ => ⟨S4096x32, .f32⟩
  | .hbm, ⟨28, _⟩ => ⟨S4096x32, .f32⟩
  | .hbm, ⟨29, _⟩ => ⟨S1x64x32, .f32⟩
  | .hbm, ⟨30, _⟩ => ⟨S64x64x32, .f32⟩
  | .hbm, ⟨31, _⟩ => ⟨S4096x32, .f32⟩
  | .hbm, ⟨32, _⟩ => ⟨S4096x128, .f32⟩
  | .hbm, ⟨33, _⟩ => ⟨S8192x1024, .bf16⟩
  | .hbm, ⟨34, _⟩ => ⟨S8192x1024, .bf16⟩
  | .hbm, ⟨35, _⟩ => ⟨S8192x1024, .bf16⟩
  | .hbm, ⟨36, _⟩ => ⟨S8192x1024, .bf16⟩
  | .hbm, ⟨37, _⟩ => ⟨S8192x512, .f32⟩
  | .hbm, ⟨38, _⟩ => ⟨S8192x512, .f32⟩
  | .hbm, ⟨39, _⟩ => ⟨S8192x512, .bf16⟩
  | .local _ .vmem, ⟨0, _⟩ => ⟨S512x2048, .f32⟩
  | .local _ .vmem, ⟨1, _⟩ => ⟨S512x2048, .f32⟩
  | .local _ .vmem, ⟨2, _⟩ => ⟨S1x1x6x2048, .f32⟩
  | .local _ .vmem, ⟨3, _⟩ => ⟨S1x1x6x2048, .f32⟩
  | .local _ .vmem, ⟨4, _⟩ => ⟨S2048x4608, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .bf16⟩
  | .local _ .vmem, ⟨22, _⟩ => ⟨S512x512, .bf16⟩
  | .local _ .vmem, ⟨23, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28_0 : Ref sig .tc := ⟨.hbm, 33, rfl⟩
abbrev main_v28_1 : Ref sig .tc := ⟨.hbm, 34, rfl⟩
abbrev main_v28_2 : Ref sig .tc := ⟨.hbm, 35, rfl⟩
abbrev main_v28_3 : Ref sig .tc := ⟨.hbm, 36, rfl⟩
abbrev main_v28_4 : Ref sig .tc := ⟨.hbm, 37, rfl⟩
abbrev main_v28_5 : Ref sig .tc := ⟨.hbm, 38, rfl⟩
abbrev main_v28_6 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S8192x2048 : Shape := ⟨2, ![8192, 2048]⟩
abbrev S1x8x6x2048 : Shape := ⟨4, ![1, 8, 6, 2048]⟩
abbrev S2048x4608 : Shape := ⟨2, ![2048, 4608]⟩
abbrev S64x32 : Shape := ⟨2, ![64, 32]⟩
abbrev S2x4096x2048 : Shape := ⟨3, ![2, 4096, 2048]⟩
abbrev S1x2x1x2048 : Shape := ⟨4, ![1, 2, 1, 2048]⟩
abbrev S2x2048 : Shape := ⟨2, ![2, 2048]⟩
abbrev S2x1x2048 : Shape := ⟨3, ![2, 1, 2048]⟩
abbrev S_ : Shape := ⟨0, ![]⟩
abbrev S2x4096 : Shape := ⟨2, ![2, 4096]⟩
abbrev S2x4096x1 : Shape := ⟨3, ![2, 4096, 1]⟩
abbrev S2x4096x4608 : Shape := ⟨3, ![2, 4096, 4608]⟩
abbrev S2x4096x1024 : Shape := ⟨3, ![2, 4096, 1024]⟩
abbrev S2x4096x512 : Shape := ⟨3, ![2, 4096, 512]⟩
abbrev S8192x1024 : Shape := ⟨2, ![8192, 1024]⟩
abbrev S2x64x64x8x128 : Shape := ⟨5, ![2, 64, 64, 8, 128]⟩
abbrev S2x64x64x8x32 : Shape := ⟨5, ![2, 64, 64, 8, 32]⟩
abbrev S1x64x1x1x32 : Shape := ⟨5, ![1, 64, 1, 1, 32]⟩
abbrev S2x64x64x8x64 : Shape := ⟨5, ![2, 64, 64, 8, 64]⟩
abbrev S1x1x64x1x32 : Shape := ⟨5, ![1, 1, 64, 1, 32]⟩
abbrev S8192x512 : Shape := ⟨2, ![8192, 512]⟩

abbrev nBuf : Space → Nat
  | .hbm => 149
  | .vmem => 0
  | .smem => 0
  | _ => 0

abbrev hbmTy0_0 (i : Nat) : BufTy := match i % 128 with
  | 0 => ⟨S8192x2048, .f32⟩
  | 1 => ⟨S1x8x6x2048, .f32⟩
  | 2 => ⟨S2048x4608, .bf16⟩
  | 3 => ⟨S64x32, .f32⟩
  | 4 => ⟨S64x32, .f32⟩
  | 5 => ⟨S2x4096x2048, .f32⟩
  | 6 => ⟨S1x2x1x2048, .f32⟩
  | 7 => ⟨S2x2048, .f32⟩
  | 8 => ⟨S2x1x2048, .f32⟩
  | 9 => ⟨S1x2x1x2048, .f32⟩
  | 10 => ⟨S2x2048, .f32⟩
  | 11 => ⟨S2x1x2048, .f32⟩
  | 12 => ⟨S_, .f32⟩
  | 13 => ⟨S2x4096, .f32⟩
  | 14 => ⟨S2x4096x1, .f32⟩
  | 15 => ⟨S_, .f32⟩
  | 16 => ⟨S2x4096x1, .f32⟩
  | 17 => ⟨S2x4096x1, .f32⟩
  | 18 => ⟨S2x4096x2048, .f32⟩
  | 19 => ⟨S2x4096x2048, .f32⟩
  | 20 => ⟨S2x4096x2048, .f32⟩
  | 21 => ⟨S_, .f32⟩
  | 22 => ⟨S2x4096, .f32⟩
  | 23 => ⟨S2x4096x1, .f32⟩
  | 24 => ⟨S_, .f32⟩
  | 25 => ⟨S2x4096x1, .f32⟩
  | 26 => ⟨S2x4096x1, .f32⟩
  | 27 => ⟨S2x4096x2048, .f32⟩
  | 28 => ⟨S2x4096x2048, .f32⟩
  | 29 => ⟨S_, .f32⟩
  | 30 => ⟨S2x4096x1, .f32⟩
  | 31 => ⟨S2x4096x1, .f32⟩
  | 32 => ⟨S2x4096x1, .f32⟩
  | 33 => ⟨S2x4096x2048, .f32⟩
  | 34 => ⟨S2x4096x2048, .f32⟩
  | 35 => ⟨S_, .f32⟩
  | 36 => ⟨S2x1x2048, .f32⟩
  | 37 => ⟨S2x1x2048, .f32⟩
  | 38 => ⟨S2x4096x2048, .f32⟩
  | 39 => ⟨S2x4096x2048, .f32⟩
  | 40 => ⟨S2x4096x2048, .f32⟩
  | 41 => ⟨S2x4096x2048, .f32⟩
  | 42 => ⟨S2048x4608, .f32⟩
  | 43 => ⟨S2x4096x4608, .f32⟩
  | 44 => ⟨S2x4096x1024, .f32⟩
  | 45 => ⟨S2x4096x1024, .f32⟩
  | 46 => ⟨S2x4096x1024, .f32⟩
  | 47 => ⟨S2x4096x512, .f32⟩
  | 48 => ⟨S2x4096x512, .f32⟩
  | 49 => ⟨S2x4096x512, .f32⟩
  | 50 => ⟨S8192x1024, .f32⟩
  | 51 => ⟨S_, .f32⟩
  | 52 => ⟨S8192x1024, .f32⟩
  | 53 => ⟨S8192x1024, .f32⟩
  | 54 => ⟨S8192x1024, .bf16⟩
  | 55 => ⟨S2x64x64x8x128, .f32⟩
  | 56 => ⟨S2x64x64x8x32, .f32⟩
  | 57 => ⟨S2x64x64x8x32, .f32⟩
  | 58 => ⟨S1x64x1x1x32, .f32⟩
  | 59 => ⟨S1x64x1x1x32, .f32⟩
  | 60 => ⟨S2x64x64x8x32, .f32⟩
  | 61 => ⟨S2x64x64x8x32, .f32⟩
  | 62 => ⟨S2x64x64x8x32, .f32⟩
  | 63 => ⟨S2x64x64x8x32, .f32⟩
  | 64 => ⟨S2x64x64x8x32, .f32⟩
  | 65 => ⟨S2x64x64x8x32, .f32⟩
  | 66 => ⟨S2x64x64x8x32, .f32⟩
  | 67 => ⟨S2x64x64x8x32, .f32⟩
  | 68 => ⟨S2x64x64x8x32, .f32⟩
  | 69 => ⟨S2x64x64x8x32, .f32⟩
  | 70 => ⟨S2x64x64x8x64, .f32⟩
  | 71 => ⟨S2x64x64x8x32, .f32⟩
  | 72 => ⟨S2x64x64x8x32, .f32⟩
  | 73 => ⟨S1x1x64x1x32, .f32⟩
  | 74 => ⟨S1x1x64x1x32, .f32⟩
  | 75 => ⟨S2x64x64x8x32, .f32⟩
  | 76 => ⟨S2x64x64x8x32, .f32⟩
  | 77 => ⟨S2x64x64x8x32, .f32⟩
  | 78 => ⟨S2x64x64x8x32, .f32⟩
  | 79 => ⟨S2x64x64x8x32, .f32⟩
  | 80 => ⟨S2x64x64x8x32, .f32⟩
  | 81 => ⟨S2x64x64x8x32, .f32⟩
  | 82 => ⟨S2x64x64x8x32, .f32⟩
  | 83 => ⟨S2x64x64x8x32, .f32⟩
  | 84 => ⟨S2x64x64x8x32, .f32⟩
  | 85 => ⟨S2x64x64x8x64, .f32⟩
  | 86 => ⟨S2x64x64x8x128, .f32⟩
  | 87 => ⟨S8192x1024, .f32⟩
  | 88 => ⟨S_, .f32⟩
  | 89 => ⟨S8192x1024, .f32⟩
  | 90 => ⟨S8192x1024, .f32⟩
  | 91 => ⟨S8192x1024, .bf16⟩
  | 92 => ⟨S2x64x64x8x128, .f32⟩
  | 93 => ⟨S2x64x64x8x32, .f32⟩
  | 94 => ⟨S2x64x64x8x32, .f32⟩
  | 95 => ⟨S1x64x1x1x32, .f32⟩
  | 96 => ⟨S1x64x1x1x32, .f32⟩
  | 97 => ⟨S2x64x64x8x32, .f32⟩
  | 98 => ⟨S2x64x64x8x32, .f32⟩
  | 99 => ⟨S2x64x64x8x32, .f32⟩
  | 100 => ⟨S2x64x64x8x32, .f32⟩
  | 101 => ⟨S2x64x64x8x32, .f32⟩
  | 102 => ⟨S2x64x64x8x32, .f32⟩
  | 103 => ⟨S2x64x64x8x32, .f32⟩
  | 104 => ⟨S2x64x64x8x32, .f32⟩
  | 105 => ⟨S2x64x64x8x32, .f32⟩
  | 106 => ⟨S2x64x64x8x32, .f32⟩
  | 107 => ⟨S2x64x64x8x64, .f32⟩
  | 108 => ⟨S2x64x64x8x32, .f32⟩
  | 109 => ⟨S2x64x64x8x32, .f32⟩
  | 110 => ⟨S1x1x64x1x32, .f32⟩
  | 111 => ⟨S1x1x64x1x32, .f32⟩
  | 112 => ⟨S2x64x64x8x32, .f32⟩
  | 113 => ⟨S2x64x64x8x32, .f32⟩
  | 114 => ⟨S2x64x64x8x32, .f32⟩
  | 115 => ⟨S2x64x64x8x32, .f32⟩
  | 116 => ⟨S2x64x64x8x32, .f32⟩
  | 117 => ⟨S2x64x64x8x32, .f32⟩
  | 118 => ⟨S2x64x64x8x32, .f32⟩
  | 119 => ⟨S2x64x64x8x32, .f32⟩
  | 120 => ⟨S2x64x64x8x32, .f32⟩
  | 121 => ⟨S2x64x64x8x32, .f32⟩
  | 122 => ⟨S2x64x64x8x64, .f32⟩
  | 123 => ⟨S2x64x64x8x128, .f32⟩
  | 124 => ⟨S8192x1024, .f32⟩
  | 125 => ⟨S8192x1024, .bf16⟩
  | 126 => ⟨S8192x1024, .f32⟩
  | 127 => ⟨S8192x1024, .bf16⟩
  | _ => ⟨S8192x2048, .f32⟩

abbrev hbmTy0_1 (i : Nat) : BufTy := match i % 128 with
  | 0 => ⟨S8192x512, .f32⟩
  | 1 => ⟨S2x4096x512, .f32⟩
  | 2 => ⟨S2x4096x512, .f32⟩
  | 3 => ⟨S_, .f32⟩
  | 4 => ⟨S2x4096x512, .f32⟩
  | 5 => ⟨S2x4096x512, .f32⟩
  | 6 => ⟨S2x4096x512, .f32⟩
  | 7 => ⟨S_, .f32⟩
  | 8 => ⟨S2x4096x512, .f32⟩
  | 9 => ⟨S2x4096x512, .f32⟩
  | 10 => ⟨S2x4096x512, .f32⟩
  | 11 => ⟨S_, .f32⟩
  | 12 => ⟨S2x4096x512, .f32⟩
  | 13 => ⟨S2x4096x512, .f32⟩
  | 14 => ⟨S_, .f32⟩
  | 15 => ⟨S2x4096x512, .f32⟩
  | 16 => ⟨S2x4096x512, .f32⟩
  | 17 => ⟨S2x4096x512, .f32⟩
  | 18 => ⟨S8192x512, .f32⟩
  | 19 => ⟨S8192x512, .f32⟩
  | 20 => ⟨S8192x512, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_cst_6 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_cst_7 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_cst_8 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_cst_9 : Ref sig .tc := ⟨.hbm, 139, rfl⟩
abbrev main_v124 : Ref sig .tc := ⟨.hbm, 140, rfl⟩
abbrev main_v125 : Ref sig .tc := ⟨.hbm, 141, rfl⟩
abbrev main_cst_10 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩

abbrev nD : Nat := 1
abbrev τ : Topo := Topo.v7x

variable {F : FTy → Type} [FloatOps F]
-- ==== Proof.Softmax.lean ====
/-
  Weighted averages by a softmax, over the extended reals, with no program in sight: the average over a set of
  keys is unchanged when keys of score −∞ are added, and dividing each weight before the sum or the sum after it
  is the same when the scores are not +∞ and not all −∞.
-/
module

public import Idealize.ShloMosaic.PureOps.Ideal

@[expose] public section

noncomputable section

namespace Cert.NA

open Idealize.ShloMosaic

variable {ι κ : Type} [Fintype ι] [Fintype κ]

/-- The greatest score. -/
def top (S : ι → EReal) : EReal := Finset.univ.sup S

/-- A key's weight before normalisation. -/
def wgt (S : ι → EReal) (j : ι) : EReal := Ideal.exp (S j - top S)

/-- The weights' total. -/
def total (S : ι → EReal) : EReal := ∑ j, wgt S j

/-- The average of `V` by the softmax of `S`, divided after the sum. -/
def att (S V : ι → EReal) : EReal := Ideal.div (∑ j, wgt S j * V j) (total S)

theorem exp_nonneg (x : EReal) : 0 ≤ Ideal.exp x := by
  induction x using EReal.rec with
  | bot => simp
  | top => simp
  | coe r => rw [Ideal.exp_coe]; exact_mod_cast (Real.exp_pos r).le

theorem wgt_of_bot {S : ι → EReal} {j : ι} (h : S j = ⊥) : wgt S j = 0 := by
  rw [wgt, h, sub_eq_add_neg, EReal.bot_add, Ideal.exp_bot]

/-- A sum over the larger set of keys whose terms vanish off the smaller. -/
theorem sum_embed (e : ι → κ) (he : Function.Injective e) (f : κ → EReal) (h : ∀ k, (∀ j, e j ≠ k) → f k = 0) :
    ∑ k, f k = ∑ j, f (e j) := by
  classical
  rw [← Finset.sum_image (s := Finset.univ) (g := e) (f := f) (fun a _ b _ hab => he hab)]
  symm
  refine Finset.sum_subset (Finset.subset_univ _) fun k _ hk => h k fun j hj => hk ?_
  exact Finset.mem_image.2 ⟨j, Finset.mem_univ _, hj⟩

theorem top_embed (e : ι → κ) (S : κ → EReal) (h : ∀ k, (∀ j, e j ≠ k) → S k = ⊥) : top S = top (fun j => S (e j)) := by
  apply le_antisymm
  · refine Finset.sup_le fun k _ => ?_
    by_cases hk : ∃ j, e j = k
    · obtain ⟨j, rfl⟩ := hk
      exact Finset.le_sup (f := fun j => S (e j)) (Finset.mem_univ j)
    · rw [h k fun j hj => hk ⟨j, hj⟩]; exact bot_le
  · exact Finset.sup_le fun j _ => Finset.le_sup (f := S) (Finset.mem_univ (e j))

/-- Keys of score −∞ do not count. -/
theorem att_embed (e : ι → κ) (he : Function.Injective e) (S V : κ → EReal) (h : ∀ k, (∀ j, e j ≠ k) → S k = ⊥) :
    att S V = att (fun j => S (e j)) (fun j => V (e j)) := by
  have hw : ∀ j, wgt S (e j) = wgt (fun j => S (e j)) j := fun j => by rw [wgt, wgt, top_embed e S h]
  unfold att total
  rw [sum_embed e he (fun k => wgt S k * V k) (fun k hk => by rw [wgt_of_bot (h k hk), zero_mul]),
    sum_embed e he (fun k => wgt S k) (fun k hk => wgt_of_bot (h k hk))]
  simp only [hw]

theorem sum_mul_coe {r : ℝ} (hr : 0 ≤ r) (s : Finset ι) (f : ι → EReal) : (∑ j ∈ s, f j) * (r : EReal) = ∑ j ∈ s, f j * (r : EReal) := by
  classical
  induction s using Finset.induction_on with
  | empty => simp
  | insert a s ha ih => rw [Finset.sum_insert ha, Finset.sum_insert ha, EReal.right_distrib_of_nonneg_of_ne_top (by exact_mod_cast hr) (EReal.coe_ne_top r), ih]

theorem exists_top {S : ι → EReal} (j₀ : ι) : ∃ j, top S = S j := by
  obtain ⟨j, _, h⟩ := Finset.exists_mem_eq_sup Finset.univ ⟨j₀, Finset.mem_univ _⟩ S
  exact ⟨j, h⟩

/-- With no score +∞ and one above −∞, each weight is a real number, not negative, and the total is a positive one. -/
theorem weights_real {S : ι → EReal} (hT : ∀ j, S j ≠ ⊤) (hB : ∃ j, S j ≠ ⊥) :
    ∃ (w : ι → ℝ), (∀ j, wgt S j = (w j : EReal)) ∧ (∀ j, 0 ≤ w j) ∧ 0 < ∑ j, w j := by
  obtain ⟨j₀, hj₀⟩ := hB
  obtain ⟨j₁, h₁⟩ := exists_top (S := S) j₀
  have hm : top S ≠ ⊥ := fun h => hj₀ (le_bot_iff.1 (h ▸ Finset.le_sup (f := S) (Finset.mem_univ j₀)))
  have hm' : top S ≠ ⊤ := h₁ ▸ hT j₁
  obtain ⟨M, hM⟩ : ∃ M : ℝ, top S = (M : EReal) := ⟨_, (EReal.coe_toReal hm' hm).symm⟩
  have hw : ∀ j, ∃ w : ℝ, wgt S j = (w : EReal) ∧ 0 ≤ w ∧ (S j ≠ ⊥ → 0 < w) := fun j => by
    by_cases hb : S j = ⊥
    · exact ⟨0, wgt_of_bot hb, le_rfl, fun h => absurd hb h⟩
    · refine ⟨Real.exp ((S j).toReal - M), ?_, (Real.exp_pos _).le, fun _ => Real.exp_pos _⟩
      have : S j - top S = (((S j).toReal - M : ℝ) : EReal) := by
        rw [hM, EReal.coe_sub, EReal.coe_toReal (hT j) hb]
      rw [wgt, this, Ideal.exp_coe]
  choose w h₀ h₁ h₂ using hw
  exact ⟨w, h₀, h₁, Finset.sum_pos' (fun j _ => h₁ j) ⟨j₀, Finset.mem_univ _, h₂ j₀ hj₀⟩⟩

theorem coe_sum (w : ι → ℝ) : ∑ j, (w j : EReal) = ((∑ j, w j : ℝ) : EReal) := by
  classical
  induction (Finset.univ : Finset ι) using Finset.induction_on with
  | empty => simp
  | insert a s ha ih => rw [Finset.sum_insert ha, Finset.sum_insert ha, EReal.coe_add, ih]

/-- Dividing each weight by the total, or the weighted sum. -/
theorem sum_div_eq_att {S V : ι → EReal} (hT : ∀ j, S j ≠ ⊤) (hB : ∃ j, S j ≠ ⊥) :
    ∑ j, Ideal.div (wgt S j) (total S) * V j = att S V := by
  obtain ⟨w, hw, h0, hp⟩ := weights_real hT hB
  have ht : total S = ((∑ j, w j : ℝ) : EReal) := by
    unfold total; simp only [hw]; exact coe_sum w
  unfold att
  rw [ht, Ideal.div_coe hp.ne', sum_mul_coe (by positivity)]
  refine Finset.sum_congr rfl fun j _ => ?_
  rw [Ideal.div_coe hp.ne', mul_assoc, mul_assoc, mul_comm (V j)]

end Cert.NA

end
-- ==== Proof.Block.lean ====
module

public import proofs.«01_k».proof.Proof.Gen.KernelIdeal
public import proofs.«01_k».proof.Proof.Softmax
public import Idealize.ShloMosaic.Lib.Pointwise

/-!
One block of the kernel's attention: 256 queries (four latitude rows of 64), 768 latent keys (twelve rows) and
256 context keys. The block's arithmetic is written here once, with the tiles each row looks at as data (`Plan`),
for every float type; then it is read at the extended reals.
-/

set_option maxRecDepth 16384

@[expose] public section

namespace Cert.NA

open Idealize.ShloMosaic Cert.KernelIdeal Cert.KernelIdeal.Facts₀ Cert.KernelIdeal.Facts

section Vocabulary

variable {F : FTy → Type} [FloatOps F]

/-- A tile of scores: one query row of 64 positions against 128 keys. -/
local notation "Tile" => FVec F S64x128 FTy.f32

/-- The tiles one row of queries looks at: for each of the six pairs of latent rows, the bias tile to add. -/
abbrev Plan := Fin 4 → Fin 6 → Option (Fin 16)

theorem band_slices (u : Fin 4) (c : Fin 6) : S256x768.Slices ![64 * u.val, 128 * c.val] S64x128 := by
  revert u c; decide

theorem ctx_slices (u : Fin 4) (c : Fin 2) : S256x256.Slices ![64 * u.val, 128 * c.val] S64x128 := by
  revert u c; decide

/-- The six optional latent tiles of row `u`. -/
def bandT (s : FVec F S256x768 .f32) (bt : Fin 16 → Tile) (pl : Plan) (u : Fin 4) (c : Fin 6) : Option Tile :=
  match pl u c with
  | none => none
  | some z => some (addf (extractStridedSlice S64x128 ![64 * u.val, 128 * c.val] s (band_slices u c)) (bt z))

/-- The two context tiles of row `u`. -/
def ctxT (sc : FVec F S256x256 .f32) (u : Fin 4) (c : Fin 2) : Tile :=
  extractStridedSlice S64x128 ![64 * u.val, 128 * c.val] sc (ctx_slices u c)

/-- The tiles of a row in order: the latent ones it looks at, then the context ones. -/
def tilesOf (b : Fin 6 → Option Tile) (x : Fin 2 → Tile) : List Tile :=
  [0, 1, 2, 3, 4, 5].filterMap b ++ [x 0, x 1]

/-- A nonempty list folded from its head. -/
def fold1 (f : Tile → Tile → Tile) (d : Tile) : List Tile → Tile
  | [] => d
  | a :: l => l.foldl f a

/-- The row's maximum. -/
def rowMax (b : Fin 6 → Option Tile) (x : Fin 2 → Tile) : FVec F S64x1 .f32 :=
  shapeCast S64x1 (multiReduction .maximumf [1] S64 (fold1 maximumf (x 0) (tilesOf b x)) 0xFF800000#32
    reduces_S64x128_S64 (.inl rfl) rfl) shapeCasts_S64_S64x1

/-- A tile's weights, given the row's maximum. -/
def ex (m : FVec F S64x1 .f32) (t : Tile) : Tile :=
  exp (subf t (broadcastTo S64x128 m broadcasts_S64x1_S64x128))

/-- The row's denominator. -/
def rowSum (b : Fin 6 → Option Tile) (x : Fin 2 → Tile) : FVec F S64x1 .f32 :=
  shapeCast S64x1 (multiReduction .add [1] S64 (fold1 addf (x 0) ((tilesOf b x).map (ex (rowMax b x)))) 0x00000000#32
    reduces_S64x128_S64 (.inl rfl) rfl) shapeCasts_S64_S64x1

/-- What stands in the place of a tile the row does not look at. -/
def zeroT : FVec F S64x128 .bf16 := broadcast S64x128 (Scalar.ofBits .bf16 0x0000#16)

/-- The weights of the row's latent tile `c`. -/
def bandW (b : Fin 6 → Option Tile) (x : Fin 2 → Tile) (c : Fin 6) : FVec F S64x128 .bf16 :=
  match b c with
  | none => zeroT
  | some t => truncf .bf16 (ex (rowMax b x) t) bitsLt_bf16_f32

/-- The weights of the row's context tile `c`. -/
def ctxW (b : Fin 6 → Option Tile) (x : Fin 2 → Tile) (c : Fin 2) : FVec F S64x128 .bf16 :=
  truncf .bf16 (ex (rowMax b x) (x c)) bitsLt_bf16_f32

def cat6 (f : Fin 6 → FVec F S64x128 .bf16) : FVec F S64x768 .bf16 :=
  concatenate S64x768 1 [⟨S64x128, f 0⟩, ⟨S64x128, f 1⟩, ⟨S64x128, f 2⟩, ⟨S64x128, f 3⟩, ⟨S64x128, f 4⟩, ⟨S64x128, f 5⟩]
    concatenates_S64x128_S64x128_S64x128_S64x128_S64x128_S64x128_S64x768_d1

def cat2 (f : Fin 2 → FVec F S64x128 .bf16) : FVec F S64x256 .bf16 :=
  concatenate S64x256 1 [⟨S64x128, f 0⟩, ⟨S64x128, f 1⟩] concatenates_S64x128_S64x128_S64x256_d1

def catBand (f : Fin 4 → FVec F S64x768 .bf16) : FVec F S256x768 .bf16 :=
  concatenate S256x768 0 [⟨S64x768, f 0⟩, ⟨S64x768, f 1⟩, ⟨S64x768, f 2⟩, ⟨S64x768, f 3⟩]
    concatenates_S64x768_S64x768_S64x768_S64x768_S256x768_d0

def catCtx (f : Fin 4 → FVec F S64x256 .bf16) : FVec F S256x256 .bf16 :=
  concatenate S256x256 0 [⟨S64x256, f 0⟩, ⟨S64x256, f 1⟩, ⟨S64x256, f 2⟩, ⟨S64x256, f 3⟩]
    concatenates_S64x256_S64x256_S64x256_S64x256_S256x256_d0

def catSum (f : Fin 4 → FVec F S64x1 .f32) : FVec F S256x1 .f32 :=
  concatenate S256x1 0 [⟨S64x1, f 0⟩, ⟨S64x1, f 1⟩, ⟨S64x1, f 2⟩, ⟨S64x1, f 3⟩]
    concatenates_S64x1_S64x1_S64x1_S64x1_S256x1_d0

/-- The block's latent scores before the bias. -/
def scoreB (qr : FVec F S256x128 .bf16) (k : FVec F S768x128 .bf16) : FVec F S256x768 .f32 :=
  matmul dot_S256x128_S768x128_S256x768_1_1_0_0_n_n none qr k (constant S256x768 .f32 0x00000000#32)

/-- The block's context scores. -/
def scoreC (q : FVec F S256x128 .bf16) (kc : FVec F S256x128 .bf16) : FVec F S256x256 .f32 :=
  matmul dot_S256x128_S256x128_S256x256_1_1_0_0_n_n none q kc (constant S256x256 .f32 0x00000000#32)

/-- Weights times values, over the denominators. -/
def finish (wb : FVec F S256x768 .bf16) (wc : FVec F S256x256 .bf16) (dn : FVec F S256x1 .f32)
    (vt : FVec F S128x768 .bf16) (vct : FVec F S128x256 .bf16) : FVec F S256x128 .bf16 :=
  truncf .bf16 (divf (transpose S256x128 [1, 0]
    (matmul dot_S128x1024_S256x1024_S128x256_1_1_0_0_n_n none
      (concatenate S128x1024 1 [⟨S128x768, vt⟩, ⟨S128x256, vct⟩] concatenates_S128x768_S128x256_S128x1024_d1)
      (concatenate S256x1024 1 [⟨S256x768, wb⟩, ⟨S256x256, wc⟩] concatenates_S256x768_S256x256_S256x1024_d1)
      (constant S128x256 .f32 0x00000000#32)) transposes_S128x256_p1_0_S256x128)
    (broadcastTo S256x128 dn broadcasts_S256x1_S256x128)) bitsLt_bf16_f32

/-- The block: queries, keys, bias tiles, plan, values to output. -/
def blk (pl : Plan) (bt : Fin 16 → Tile) (q qr : FVec F S256x128 .bf16) (k : FVec F S768x128 .bf16)
    (kc : FVec F S256x128 .bf16) (vt : FVec F S128x768 .bf16) (vct : FVec F S128x256 .bf16) : FVec F S256x128 .bf16 :=
  finish
    (catBand fun u => cat6 (bandW (bandT (scoreB qr k) bt pl u) (ctxT (scoreC q kc) u)))
    (catCtx fun u => cat2 (ctxW (bandT (scoreB qr k) bt pl u) (ctxT (scoreC q kc) u)))
    (catSum fun u => rowSum (bandT (scoreB qr k) bt pl u) (ctxT (scoreC q kc) u))
    vt vct

end Vocabulary

end Cert.NA
-- ==== Proof.Pieces.lean ====
module

public import proofs.«01_k».proof.Proof.Gen.KernelIdeal.Value
public import proofs.«01_k».proof.Proof.Block

/-!
The kernel's run at a grid point writes sixteen blocks of output, each the block arithmetic of `Block` at its own
slices of the operands.
-/

@[expose] public section

set_option maxRecDepth 65536

namespace Cert.NA

open Idealize.ShloMosaic Cert.KernelIdeal Cert.KernelIdeal.Facts₀ Cert.KernelIdeal.Facts

def planFirst : Plan :=
  ![![some 7, some 9, some 11, some 13, none, none], ![some 6, some 8, some 10, some 12, none, none],
    ![some 5, some 7, some 9, some 11, none, none], ![some 4, some 6, some 8, some 10, none, none]]

def planMid : Plan :=
  ![![some 3, some 5, some 7, some 9, none, none], ![some 15, some 4, some 6, some 8, some 14, none],
    ![none, some 3, some 5, some 7, some 9, none], ![none, some 15, some 4, some 6, some 8, some 14]]

def planLast : Plan :=
  ![![none, none, some 3, some 5, some 7, some 9], ![none, none, some 2, some 4, some 6, some 8],
    ![none, none, some 1, some 3, some 5, some 7], ![none, none, some 0, some 2, some 4, some 6]]

/-- The plan of block `b`. -/
def planOf (b : Fin 16) : Plan :=
  match b.val with
  | 0 => planFirst
  | 15 => planLast
  | _ => planMid

/-- The first key of block `b`. -/
def keyStart (b : Fin 16) : ℕ :=
  match b.val with
  | 0 => 0
  | 15 => 3328
  | n + 1 => 256 * n

theorem inb_q (b : Fin 16) : ∀ a, ![256 * b.val, 0] a + S256x128.size a ≤ S4096x128.size a := by
  revert b; decide

theorem inb_k (b : Fin 16) : ∀ a, ![keyStart b, 0] a + S768x128.size a ≤ S4096x128.size a := by
  revert b; decide

theorem inb_vt (b : Fin 16) : ∀ a, ![0, keyStart b] a + S128x768.size a ≤ S128x4096.size a := by
  revert b; decide

theorem inb_bt (z : Fin 16) : ∀ a, ![0, 0, z.val, 0, 0] a + S1x1x1x64x128.size a ≤ S1x1x16x64x128.size a := by
  revert z; decide

theorem inb_c : ∀ a, ![0, 0] a + S256x128.size a ≤ S256x128.size a := by
  decide

variable {F : FTy → Type} [FloatOps F] (c : Dev nD) (i : grid0.Coords)
  (arg2 : Memref sig .tc .vmem S4096x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S4096x128 .bf16) (harg5 : arg5.IsWhole)
  (arg6 : Memref sig .tc .vmem S256x128 .bf16) (harg6 : arg6.IsWhole) (arg7 : Memref sig .tc .vmem S256x128 .bf16) (harg7 : arg7.IsWhole)
  (arg8 : Memref sig .tc .vmem S1x1x16x64x128 .f32) (harg8 : arg8.IsWhole) (arg9 : Memref sig .tc .vmem S1x128x2048 .f32) (harg9 : arg9.IsWhole)
  (arg10 : Memref sig .tc .vmem S1x2048x512 .f32) (harg10 : arg10.IsWhole) (arg11 : Memref sig .tc .vmem S1x512x2048 .f32) (harg11 : arg11.IsWhole)
  (arg12 : Memref sig .tc .vmem S4096x128 .bf16) (harg12 : arg12.IsWhole) (arg13 : Memref sig .tc .vmem S128x2048 .bf16) (harg13 : arg13.IsWhole)
  (arg14 : Memref sig .tc .vmem S2048x512 .bf16) (harg14 : arg14.IsWhole) (arg15 : Memref sig .tc .vmem S512x2048 .bf16) (harg15 : arg15.IsWhole)
  (arg16 : Memref sig .tc .vmem S128x4096 .bf16) (harg16 : arg16.IsWhole)
  (x0 x1 x2 x3 : Vec F S4096x128 .bf16) (x4 x5 : Vec F S256x128 .bf16) (x6 : Vec F S1x1x16x64x128 .f32)
  (x7 : Vec F S1x128x2048 .f32) (x8 : Vec F S1x2048x512 .f32) (x9 : Vec F S1x512x2048 .f32)

/-- What the run stores for block `b`. -/
noncomputable def piece (b : Fin 16) : FVec F S256x128 .bf16 :=
  blk (planOf b)
    (fun z => shapeCast S64x128 (View.readAt (Elt F) arg8.view (Rect.unit (s := S1x1x16x64x128) ![0, 0, z.val, 0, 0] S1x1x1x64x128.size (inb_bt z)).toLoadRect
      (harg8.unread x6)) shapeCasts_S1x1x1x64x128_S64x128)
    (View.readAt (Elt F) arg2.view (Rect.unit (s := S4096x128) ![256 * b.val, 0] S256x128.size (inb_q b)).toLoadRect (harg2.unread x0))
    (View.readAt (Elt F) arg3.view (Rect.unit (s := S4096x128) ![256 * b.val, 0] S256x128.size (inb_q b)).toLoadRect (harg3.unread x1))
    (View.readAt (Elt F) arg4.view (Rect.unit (s := S4096x128) ![keyStart b, 0] S768x128.size (inb_k b)).toLoadRect (harg4.unread x2))
    (View.readAt (Elt F) arg6.view (Rect.unit (s := S256x128) ![0, 0] S256x128.size inb_c).toLoadRect (harg6.unread x4))
    (arg16.view.readCov (Gen.kernelRun0_A.sl.HS0_16 c arg5 harg5 x3) (Rect.unit (s := S128x4096) ![0, keyStart b] S128x768.size (inb_vt b)).toLoadRect)
    (transpose S128x256 [1, 0] (View.readAt (Elt F) arg7.view (Rect.unit (s := S256x128) ![0, 0] S256x128.size inb_c).toLoadRect (harg7.unread x5))
      transposes_S256x128_p1_0_S128x256)

set_option maxHeartbeats 4000000 in
theorem pieces_eq : (Gen.kernelRun0_A c i arg2 harg2 arg3 harg3 arg4 harg4 arg5 harg5 arg6 harg6 arg7 harg7 arg8 harg8 arg9 harg9 arg10 harg10
      arg11 harg11 arg12 harg12 arg13 harg13 arg14 harg14 arg15 harg15 arg16 harg16 x0 x1 x2 x3 x4 x5 x6 x7 x8 x9).1
    = (List.ofFn fun b : Fin 16 => (⟨Rect.unit (s := S4096x128) ![256 * b.rev.val, 0] S256x128.size (inb_q b.rev),
        piece c arg2 harg2 arg3 harg3 arg4 harg4 arg5 harg5 arg6 harg6 arg7 harg7 arg8 harg8 arg16 x0 x1 x2 x3 x4 x5 x6 b.rev⟩ :
          View.Piece (Elt F) S4096x128 .bf16)) := by
  sl_kernel_rfl

end Cert.NA
-- ==== Proof.BlockValue.lean ====
module

public import proofs.«01_k».proof.Proof.Block

/-!
The block arithmetic of `Block` read over the extended reals: each output element is a softmax average over the
block's 768 latent keys and the 256 context keys, keys of tiles that the row skips having score −∞.
-/

@[expose] public section

set_option maxRecDepth 16384

noncomputable section

namespace Cert.NA

open Idealize.ShloMosaic Cert.KernelIdeal

/-- A tile of scores. -/
local notation "Tile" => FVec Ideal S64x128 FTy.f32

/-- The keys of a block: six latent tiles and two context tiles of 128. -/
abbrev Key := (Fin 6 × Fin 128) ⊕ (Fin 2 × Fin 128)

/-- The scores of one query of a row, from the row's tiles. -/
def rowS (b : Fin 6 → Option Tile) (x : Fin 2 → Tile) (w : Fin 64) : Key → EReal
  | .inl k => match b k.1 with
    | none => ⊥
    | some t => t (ix2 w k.2)
  | .inr k => x k.1 (ix2 w k.2)

theorem negInf : (Ideal.ofBits .f32 0xFF800000#32 : EReal) = ⊥ := by
  simp [Ideal.ofBits, Ideal.ieee]

theorem mem_tiles (b : Fin 6 → Option Tile) (x : Fin 2 → Tile) (t : Tile) :
    t ∈ tilesOf b x ↔ (∃ c, b c = some t) ∨ ∃ c, x c = t := by
  unfold tilesOf
  rw [List.mem_append, List.mem_filterMap]
  apply or_congr
  · constructor
    · rintro ⟨c, -, h⟩; exact ⟨c, h⟩
    · rintro ⟨c, h⟩; exact ⟨c, by fin_cases c <;> simp, h⟩
  · constructor
    · intro h
      rcases List.mem_cons.mp h with h | h
      · exact ⟨0, h.symm⟩
      · exact ⟨1, (List.mem_singleton.mp h).symm⟩
    · rintro ⟨c, rfl⟩; fin_cases c <;> simp

theorem tiles_ne (b : Fin 6 → Option Tile) (x : Fin 2 → Tile) : tilesOf b x ≠ [] := by
  simp [tilesOf]

theorem foldl_max_le (l : List Tile) (a : Tile) (i : S64x128.Idx) (y : EReal) :
    (l.foldl maximumf a) i ≤ y ↔ a i ≤ y ∧ ∀ t ∈ l, t i ≤ y := by
  induction l generalizing a with
  | nil => simp
  | cons b l ih =>
    rw [List.foldl_cons, ih, maximumf_apply, Ideal.maximumf_eq_max]
    simp [max_le_iff, and_assoc]

theorem fold1_max_le (d : Tile) (l : List Tile) (hl : l ≠ []) (i : S64x128.Idx) (y : EReal) :
    (fold1 maximumf d l) i ≤ y ↔ ∀ t ∈ l, t i ≤ y := by
  cases l with
  | nil => exact absurd rfl hl
  | cons a l => simp [fold1, foldl_max_le]

theorem foldl_add (l : List Tile) (a : Tile) (i : S64x128.Idx) :
    (l.foldl addf a) i = a i + (l.map (· i)).sum := by
  induction l generalizing a with
  | nil => simp
  | cons b l ih =>
    rw [List.foldl_cons, ih]
    simp only [List.map_cons, List.sum_cons, ← add_assoc]
    rfl

theorem fold1_add (d : Tile) (l : List Tile) (hl : l ≠ []) (i : S64x128.Idx) :
    (fold1 addf d l) i = (l.map (· i)).sum := by
  cases l with
  | nil => exact absurd rfl hl
  | cons a l => simp [fold1, foldl_add]

theorem sum_filterMap (L : List (Fin 6)) (b : Fin 6 → Option Tile) (f : Tile → EReal) :
    ((L.filterMap b).map f).sum = (L.map fun c => match b c with | none => 0 | some t => f t).sum := by
  induction L with
  | nil => rfl
  | cons c L ih =>
    rw [List.filterMap_cons, List.map_cons, List.sum_cons, ← ih]
    cases b c <;> simp

theorem sum_tiles (b : Fin 6 → Option Tile) (x : Fin 2 → Tile) (f : Tile → EReal) :
    ((tilesOf b x).map f).sum = (∑ c, match b c with | none => 0 | some t => f t) + ∑ c, f (x c) := by
  unfold tilesOf
  rw [List.map_append, List.sum_append, sum_filterMap, Fin.sum_univ_six, Fin.sum_univ_two]
  simp [add_assoc]

theorem rowMax_apply (b : Fin 6 → Option Tile) (x : Fin 2 → Tile) (w : Fin 64) :
    rowMax b x (ix2 w 0) = top (rowS b x w) := by
  apply eq_of_forall_ge_iff
  intro y
  have h : rowMax b x (ix2 w 0) = Finset.univ.fold max ⊥ fun l : Fin 128 => (fold1 maximumf (x 0) (tilesOf b x)) (ix2 w l) := by
    rw [← negInf]
    unfold rowMax
    pointwise
  rw [h, Finset.fold_max_le]
  simp only [bot_le, true_and, Finset.mem_univ, forall_const, fold1_max_le _ _ (tiles_ne b x), mem_tiles, top, Finset.sup_le_iff]
  constructor
  · rintro h (k | k)
    · simp only [rowS]
      cases hb : b k.1 with
      | none => exact bot_le
      | some t => exact h k.2 t (.inl ⟨k.1, hb⟩)
    · exact h k.2 _ (.inr ⟨k.1, rfl⟩)
  · rintro h l t (⟨c, hc⟩ | ⟨c, rfl⟩)
    · simpa [rowS, hc] using h (.inl (c, l))
    · exact h (.inr (c, l))

theorem ex_apply (m : FVec Ideal S64x1 .f32) (t : Tile) (w : Fin 64) (l : Fin 128) :
    ex m t (ix2 w l) = Ideal.exp (t (ix2 w l) - m (ix2 w 0)) := by
  unfold ex
  pointwise

theorem bandW_apply (b : Fin 6 → Option Tile) (x : Fin 2 → Tile) (c : Fin 6) (w : Fin 64) (l : Fin 128) :
    bandW b x c (ix2 w l) = wgt (rowS b x w) (.inl (c, l)) := by
  cases hb : b c with
  | none =>
    rw [wgt_of_bot (by simp [rowS, hb])]
    simp only [bandW, hb, zeroT]
    pointwise
  | some t =>
    simp only [bandW, hb, wgt, ← rowMax_apply, rowS]
    rw [← ex_apply]
    pointwise

theorem ctxW_apply (b : Fin 6 → Option Tile) (x : Fin 2 → Tile) (c : Fin 2) (w : Fin 64) (l : Fin 128) :
    ctxW b x c (ix2 w l) = wgt (rowS b x w) (.inr (c, l)) := by
  simp only [ctxW, wgt, ← rowMax_apply, rowS]
  rw [← ex_apply]
  pointwise

theorem rowSum_apply (b : Fin 6 → Option Tile) (x : Fin 2 → Tile) (w : Fin 64) :
    rowSum b x (ix2 w 0) = total (rowS b x w) := by
  have h : rowSum b x (ix2 w 0)
      = ∑ l : Fin 128, (fold1 addf (x 0) ((tilesOf b x).map (ex (rowMax b x)))) (ix2 w l) := by
    unfold rowSum
    pointwise
  rw [h]
  simp only [fold1_add _ _ (by simp [tiles_ne] : (tilesOf b x).map (ex (rowMax b x)) ≠ []), List.map_map]
  have hs : ∀ l : Fin 128, (List.map ((fun t : Tile => t (ix2 w l)) ∘ ex (rowMax b x)) (tilesOf b x)).sum
      = (∑ c : Fin 6, wgt (rowS b x w) (.inl (c, l))) + ∑ c : Fin 2, wgt (rowS b x w) (.inr (c, l)) := by
    intro l
    refine (sum_tiles b x fun t => ex (rowMax b x) t (ix2 w l)).trans (congrArg₂ (· + ·) ?_ ?_)
    · refine Finset.sum_congr rfl fun c _ => ?_
      cases hb : b c with
      | none => exact (wgt_of_bot (by simp [rowS, hb])).symm
      | some t => simp only [ex_apply, rowMax_apply, wgt, rowS, hb]
    · refine Finset.sum_congr rfl fun c _ => ?_
      simp only [ex_apply, rowMax_apply, wgt, rowS]
  rw [Finset.sum_congr rfl fun l _ => hs l, Finset.sum_add_distrib]
  unfold total
  rw [Fintype.sum_sum_type, Fintype.sum_prod_type, Fintype.sum_prod_type]
  exact congrArg₂ (· + ·) Finset.sum_comm Finset.sum_comm

/-! ### The concatenations -/

theorem cat6_apply (f : Fin 6 → FVec Ideal S64x128 .bf16) (w : Fin 64) (c : Fin 6) (l : Fin 128) (k : Fin 768)
    (hk : k.val = 128 * c.val + l.val) : cat6 f (ix2 w k) = f c (ix2 w l) := by
  refine concatenate_ofFn_apply (t := S64x768) (s₁ := S64x128) 1 f _ rfl 128 rfl (ix2 w k) c ?_ (ix2 w l) ?_ ?_
  · show k.val / 128 = c.val; omega
  · show l.val = k.val % 128; omega
  · intro b hb
    fin_cases b
    · rfl
    · exact absurd rfl hb

theorem cat2_apply (f : Fin 2 → FVec Ideal S64x128 .bf16) (w : Fin 64) (c : Fin 2) (l : Fin 128) (k : Fin 256)
    (hk : k.val = 128 * c.val + l.val) : cat2 f (ix2 w k) = f c (ix2 w l) := by
  refine concatenate_ofFn_apply (t := S64x256) (s₁ := S64x128) 1 f _ rfl 128 rfl (ix2 w k) c ?_ (ix2 w l) ?_ ?_
  · show k.val / 128 = c.val; omega
  · show l.val = k.val % 128; omega
  · intro b hb
    fin_cases b
    · rfl
    · exact absurd rfl hb

theorem catBand_apply (f : Fin 4 → FVec Ideal S64x768 .bf16) (u : Fin 4) (w : Fin 64) (p : Fin 256) (k : Fin 768)
    (hp : p.val = 64 * u.val + w.val) : catBand f (ix2 p k) = f u (ix2 w k) := by
  refine concatenate_ofFn_apply (t := S256x768) (s₁ := S64x768) 0 f _ rfl 64 rfl (ix2 p k) u ?_ (ix2 w k) ?_ ?_
  · show p.val / 64 = u.val; omega
  · show w.val = p.val % 64; omega
  · intro b hb
    fin_cases b
    · exact absurd rfl hb
    · rfl

theorem catCtx_apply (f : Fin 4 → FVec Ideal S64x256 .bf16) (u : Fin 4) (w : Fin 64) (p : Fin 256) (k : Fin 256)
    (hp : p.val = 64 * u.val + w.val) : catCtx f (ix2 p k) = f u (ix2 w k) := by
  refine concatenate_ofFn_apply (t := S256x256) (s₁ := S64x256) 0 f _ rfl 64 rfl (ix2 p k) u ?_ (ix2 w k) ?_ ?_
  · show p.val / 64 = u.val; omega
  · show w.val = p.val % 64; omega
  · intro b hb
    fin_cases b
    · exact absurd rfl hb
    · rfl

theorem catSum_apply (f : Fin 4 → FVec Ideal S64x1 .f32) (u : Fin 4) (w : Fin 64) (p : Fin 256)
    (hp : p.val = 64 * u.val + w.val) : catSum f (ix2 p 0) = f u (ix2 w 0) := by
  refine concatenate_ofFn_apply (t := S256x1) (s₁ := S64x1) 0 f _ rfl 64 rfl (ix2 p 0) u ?_ (ix2 w 0) ?_ ?_
  · show p.val / 64 = u.val; omega
  · show w.val = p.val % 64; omega
  · intro b hb
    fin_cases b
    · exact absurd rfl hb
    · rfl

/-! ### The block -/

/-- Where key `k` of the block's latent keys, tile by tile, lies among the 768. -/
def bandPos (k : Fin 6 × Fin 128) : Fin 768 := ⟨128 * k.1.val + k.2.val, by omega⟩

/-- Where context key `k` lies among the 256. -/
def ctxPos (k : Fin 2 × Fin 128) : Fin 256 := ⟨128 * k.1.val + k.2.val, by omega⟩

theorem sum_band (f : Fin 768 → EReal) : ∑ k, f k = ∑ k : Fin 6 × Fin 128, f (bandPos k) :=
  (Fintype.sum_equiv (finProdFinEquiv (m := 6) (n := 128)) (fun k => f (bandPos k)) f fun k =>
    congrArg f (Fin.ext (by simp [bandPos, finProdFinEquiv, Nat.add_comm]))).symm

theorem sum_ctx (f : Fin 256 → EReal) : ∑ k, f k = ∑ k : Fin 2 × Fin 128, f (ctxPos k) :=
  (Fintype.sum_equiv (finProdFinEquiv (m := 2) (n := 128)) (fun k => f (ctxPos k)) f fun k =>
    congrArg f (Fin.ext (by simp [ctxPos, finProdFinEquiv, Nat.add_comm]))).symm

theorem finish_apply (wb : FVec Ideal S256x768 .bf16) (wc : FVec Ideal S256x256 .bf16) (dn : FVec Ideal S256x1 .f32)
    (vt : FVec Ideal S128x768 .bf16) (vct : FVec Ideal S128x256 .bf16) (p : Fin 256) (d : Fin 128) :
    finish wb wc dn vt vct (ix2 p d)
      = Ideal.div ((∑ k : Fin 768, vt (ix2 d k) * wb (ix2 p k)) + ∑ k : Fin 256, vct (ix2 d k) * wc (ix2 p k)) (dn (ix2 p 0)) := by
  unfold finish
  pointwise

/-- The score of block query `64 u + w` against key `k`. -/
def blkS (pl : Plan) (bt : Fin 16 → Tile) (q qr : FVec Ideal S256x128 .bf16) (k : FVec Ideal S768x128 .bf16)
    (kc : FVec Ideal S256x128 .bf16) (u : Fin 4) (w : Fin 64) (p : Fin 256) : Key → EReal
  | .inl n => match pl u n.1 with
    | none => ⊥
    | some z => (∑ e : Fin 128, qr (ix2 p e) * k (ix2 (bandPos n) e)) + bt z (ix2 w n.2)
  | .inr n => ∑ e : Fin 128, q (ix2 p e) * kc (ix2 (ctxPos n) e)

/-- The value at dimension `d` of key `k`. -/
def blkV (vt : FVec Ideal S128x768 .bf16) (vct : FVec Ideal S128x256 .bf16) (d : Fin 128) : Key → EReal
  | .inl n => vt (ix2 d (bandPos n))
  | .inr n => vct (ix2 d (ctxPos n))

theorem scoreB_apply (qr : FVec Ideal S256x128 .bf16) (k : FVec Ideal S768x128 .bf16) (p : Fin 256) (n : Fin 768) :
    scoreB qr k (ix2 p n) = ∑ e : Fin 128, qr (ix2 p e) * k (ix2 n e) := by
  unfold scoreB
  pointwise

theorem scoreC_apply (q : FVec Ideal S256x128 .bf16) (kc : FVec Ideal S256x128 .bf16) (p n : Fin 256) :
    scoreC q kc (ix2 p n) = ∑ e : Fin 128, q (ix2 p e) * kc (ix2 n e) := by
  unfold scoreC
  pointwise

theorem rowS_eq (pl : Plan) (bt : Fin 16 → Tile) (q qr : FVec Ideal S256x128 .bf16) (k : FVec Ideal S768x128 .bf16)
    (kc : FVec Ideal S256x128 .bf16) (u : Fin 4) (w : Fin 64) (p : Fin 256) (hp : p.val = 64 * u.val + w.val) :
    rowS (bandT (scoreB qr k) bt pl u) (ctxT (scoreC q kc) u) w = blkS pl bt q qr k kc u w p := by
  funext n
  rcases n with ⟨c, l⟩ | ⟨c, l⟩
  · simp only [rowS, bandT, blkS]
    cases pl u c with
    | none => rfl
    | some z =>
      simp only
      rw [addf_apply, ← scoreB_apply]
      refine congrArg (· + bt z (ix2 w l)) ?_
      refine extractStridedSlice_apply _ _ _ _ _ ?_
      intro a
      fin_cases a
      · exact hp
      · rfl
  · simp only [rowS, ctxT, blkS]
    rw [← scoreC_apply]
    refine extractStridedSlice_apply _ _ _ _ _ ?_
    intro a
    fin_cases a
    · exact hp
    · rfl

theorem blk_apply (pl : Plan) (bt : Fin 16 → Tile) (q qr : FVec Ideal S256x128 .bf16) (k : FVec Ideal S768x128 .bf16)
    (kc : FVec Ideal S256x128 .bf16) (vt : FVec Ideal S128x768 .bf16) (vct : FVec Ideal S128x256 .bf16)
    (u : Fin 4) (w : Fin 64) (p : Fin 256) (hp : p.val = 64 * u.val + w.val) (d : Fin 128) :
    blk pl bt q qr k kc vt vct (ix2 p d) = att (blkS pl bt q qr k kc u w p) (blkV vt vct d) := by
  unfold blk
  rw [finish_apply, catSum_apply _ u w p hp, rowSum_apply, rowS_eq _ _ _ _ _ _ _ _ p hp, sum_band, sum_ctx]
  unfold att
  rw [Fintype.sum_sum_type]
  congr 2
  · refine Finset.sum_congr rfl fun n _ => ?_
    rw [catBand_apply _ u w p _ hp, cat6_apply _ w n.1 n.2 _ rfl, bandW_apply, rowS_eq _ _ _ _ _ _ _ _ p hp, mul_comm]
    rfl
  · refine Finset.sum_congr rfl fun n _ => ?_
    rw [catCtx_apply _ u w p _ hp, cat2_apply _ w n.1 n.2 _ rfl, ctxW_apply, rowS_eq _ _ _ _ _ _ _ _ p hp, mul_comm]
    rfl

end Cert.NA
-- ==== Proof.Point.lean ====
module

public import proofs.«01_k».proof.Proof.Pieces
public import proofs.«01_k».proof.Proof.BlockValue
public import Idealize.ShloMosaic.Lib.VecWindow

/-!
What one grid point writes: at position `n` and dimension `d`, the attention of query `n` over all positions and all
context keys, with score `⊥` outside the query's neighbourhood.
-/

@[expose] public section

set_option maxRecDepth 65536

namespace Cert.NA

open Idealize.ShloMosaic Cert.KernelIdeal Cert.KernelIdeal.Facts₀ Cert.KernelIdeal.Facts

/-! ### Loads -/

variable (c : Dev nD) (i : grid0.Coords)
  (arg2 : Memref sig .tc .vmem S4096x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S4096x128 .bf16) (harg5 : arg5.IsWhole)
  (arg6 : Memref sig .tc .vmem S256x128 .bf16) (harg6 : arg6.IsWhole) (arg7 : Memref sig .tc .vmem S256x128 .bf16) (harg7 : arg7.IsWhole)
  (arg8 : Memref sig .tc .vmem S1x1x16x64x128 .f32) (harg8 : arg8.IsWhole) (arg9 : Memref sig .tc .vmem S1x128x2048 .f32) (harg9 : arg9.IsWhole)
  (arg10 : Memref sig .tc .vmem S1x2048x512 .f32) (harg10 : arg10.IsWhole) (arg11 : Memref sig .tc .vmem S1x512x2048 .f32) (harg11 : arg11.IsWhole)
  (arg12 : Memref sig .tc .vmem S4096x128 .bf16) (harg12 : arg12.IsWhole) (arg13 : Memref sig .tc .vmem S128x2048 .bf16) (harg13 : arg13.IsWhole)
  (arg14 : Memref sig .tc .vmem S2048x512 .bf16) (harg14 : arg14.IsWhole) (arg15 : Memref sig .tc .vmem S512x2048 .bf16) (harg15 : arg15.IsWhole)
  (arg16 : Memref sig .tc .vmem S128x4096 .bf16) (harg16 : arg16.IsWhole)
  (x0 x1 x2 x3 : Vec Ideal S4096x128 .bf16) (x4 x5 : Vec Ideal S256x128 .bf16) (x6 : Vec Ideal S1x1x16x64x128 .f32)
  (x7 : Vec Ideal S1x128x2048 .f32) (x8 : Vec Ideal S1x2048x512 .f32) (x9 : Vec Ideal S1x512x2048 .f32)

theorem load_rows (arg : Memref sig .tc .vmem S4096x128 .bf16) (harg : arg.IsWhole) (x : Vec Ideal S4096x128 .bf16) (o r : ℕ)
    (h : ∀ a, ![o, 0] a + (⟨2, ![r, 128]⟩ : Shape).size a ≤ S4096x128.size a) (p : Fin r) (e : Fin 128) (n : Fin 4096) (hn : n.val = o + p.val) :
    View.readAt (Elt Ideal) arg.view (Rect.unit (s := S4096x128) ![o, 0] (⟨2, ![r, 128]⟩ : Shape).size h).toLoadRect (harg.unread x) (ix2 p e)
      = x (ix2 n e) := by
  rw [View.readAt_apply, harg.read_unread]
  refine congrArg x (funext fun a => Fin.ext ?_)
  fin_cases a
  · show o + 1 * p.val = n.val; omega
  · show 0 + 1 * e.val = e.val; omega

theorem load_ctx (arg : Memref sig .tc .vmem S256x128 .bf16) (harg : arg.IsWhole) (x : Vec Ideal S256x128 .bf16) :
    View.readAt (Elt Ideal) arg.view (Rect.unit (s := S256x128) ![0, 0] S256x128.size inb_c).toLoadRect (harg.unread x) = x := by
  rw [View.readAt_full, harg.read_unread]

theorem load_tile (arg : Memref sig .tc .vmem S1x1x16x64x128 .f32) (harg : arg.IsWhole) (x : Vec Ideal S1x1x16x64x128 .f32) (z : Fin 16)
    (w : Fin 64) (l : Fin 128) :
    shapeCast S64x128 (View.readAt (Elt Ideal) arg.view (Rect.unit (s := S1x1x16x64x128) ![0, 0, z.val, 0, 0] S1x1x1x64x128.size (inb_bt z)).toLoadRect
      (harg.unread x)) shapeCasts_S1x1x1x64x128_S64x128 (ix2 w l) = x (ix5 0 0 z w l) := by
  have h : ∀ f : FVec Ideal S1x1x1x64x128 .f32, shapeCast S64x128 f shapeCasts_S1x1x1x64x128_S64x128 (ix2 w l) = f (ix5 0 0 0 w l) := by
    intro f; pointwise
  rw [h, View.readAt_apply, harg.read_unread]
  refine congrArg x (funext fun a => Fin.ext ?_)
  fin_cases a
  · rfl
  · rfl
  · show z.val + 1 * 0 = z.val; omega
  · show 0 + 1 * w.val = w.val; omega
  · show 0 + 1 * l.val = l.val; omega

theorem inb_vs (b : Fin 16) : ∀ a, ![0, 256 * b.val] a + S128x256.size a ≤ S128x4096.size a := by
  revert b; decide

/-- The scratch array, as sixteen transposed blocks of the values. -/
theorem scratch_eq : Gen.kernelRun0_A.sl.HS0_16 (F := Ideal) c arg5 harg5 x3
    = List.ofFn fun b : Fin 16 => (⟨Rect.unit (s := S128x4096) ![0, 256 * b.rev.val] S128x256.size (inb_vs b.rev),
        shapeCast S128x256 (transpose S128x256 [1, 0] (View.readAt (Elt Ideal) arg5.view
          (Rect.unit (s := S4096x128) ![256 * b.rev.val, 0] S256x128.size (inb_q b.rev)).toLoadRect (harg5.unread x3))
          transposes_S256x128_p1_0_S128x256) shapeCasts_S128x256_S128x256⟩ : View.Piece (Elt Ideal) S128x4096 .bf16) := by
  sl_kernel_rfl

theorem scratch_cover (y : S128x4096.Idx) : ∃ p ∈ Gen.kernelRun0_A.sl.HS0_16 (F := Ideal) c arg5 harg5 x3, y ∈ p.1.set := by
  idx_vars y
  have hb : y1.val / 256 < 16 := by omega
  rw [scratch_eq]
  refine ⟨_, (List.mem_ofFn' _ _).2 ⟨(⟨y1.val / 256, hb⟩ : Fin 16).rev, rfl⟩, ?_⟩
  simp only [Fin.rev_rev]
  refine (Rect.mem_set_unit).2 fun a => ?_
  fin_cases a
  · exact ⟨Nat.zero_le _, by show y0.val < 0 + 128; omega⟩
  · exact ⟨by show 256 * (y1.val / 256) ≤ y1.val; omega, by show y1.val < 256 * (y1.val / 256) + 256; omega⟩

theorem scratch_apply (d : Fin 128) (n : Fin 4096) :
    View.canon (Gen.kernelRun0_A.sl.HS0_16 (F := Ideal) c arg5 harg5 x3) (ix2 d n) = x3 (ix2 n d) := by
  refine View.canon_apply_of_pieces (fun y => x3 (ix2 (y 1) (y 0))) _ ?_ (ix2 d n) (scratch_cover c arg5 harg5 x3 _)
  intro p hp x
  rw [scratch_eq, List.mem_ofFn'] at hp
  obtain ⟨b, rfl⟩ := hp
  have hx : ∃ (y0 : Fin 128) (y1 : Fin 256), x = ix2 y0 y1 := ⟨x 0, x 1, by funext a; fin_cases a <;> rfl⟩
  obtain ⟨y0, y1, rfl⟩ := hx
  have h : ∀ f : FVec Ideal S256x128 .bf16, shapeCast S128x256 (transpose S128x256 [1, 0] f transposes_S256x128_p1_0_S128x256)
      shapeCasts_S128x256_S128x256 (ix2 y0 y1) = f (ix2 y1 y0) := by
    intro f; pointwise
  refine (h (View.readAt (Elt Ideal) arg5.view (Rect.unit (s := S4096x128) ![256 * b.rev.val, 0] S256x128.size (inb_q b.rev)).toLoadRect
    (harg5.unread x3))).trans ?_
  rw [load_rows arg5 harg5 x3 (256 * b.rev.val) 256 (inb_q b.rev) y1 y0 ⟨256 * b.rev.val + y1.val, by omega⟩ rfl]
  refine congrArg x3 (funext fun a => Fin.ext ?_)
  fin_cases a
  · show 256 * b.rev.val + y1.val = 256 * b.rev.val + 1 * y1.val; omega
  · show y0.val = 0 + 1 * y0.val; omega

theorem load_vt (b : Fin 16) (d : Fin 128) (k : Fin 768) (n : Fin 4096) (hn : n.val = keyStart b + k.val) :
    arg16.view.readCov (Gen.kernelRun0_A.sl.HS0_16 (F := Ideal) c arg5 harg5 x3)
      (Rect.unit (s := S128x4096) ![0, keyStart b] S128x768.size (inb_vt b)).toLoadRect (ix2 d k) = x3 (ix2 n d) := by
  rw [View.readCov_eq_canon _ _ _ fun j => scratch_cover c arg5 harg5 x3 _, ← scratch_apply c arg5 harg5 x3 d n]
  refine congrArg (View.canon _) (funext fun a => Fin.ext ?_)
  fin_cases a
  · show 0 + 1 * d.val = d.val; omega
  · show keyStart b + 1 * k.val = n.val; omega

/-! ### Which keys a query sees -/

/-- The first row of the eight around row `r`. -/
def winRow (r : ℕ) : ℕ := min (r - 4) 56

/-- The row offset of key row `k` from query row `r`, counted from 0, when the query sees it. -/
def rowOff (r k : ℕ) : Option ℕ := if winRow r ≤ k ∧ k < winRow r + 8 then some (k + 7 - r) else none

/-- The row offset a bias tile holds in its left (`0`) or right (`1`) half. -/
def slot (h : ℕ) (z : Fin 16) : Option ℕ :=
  if z.val < 14 then some (z.val + h) else if z.val = 14 then (if h = 0 then some 10 else none) else (if h = 1 then some 3 else none)

theorem plan_off (b : Fin 16) (u : Fin 4) (c : Fin 6) (h : Fin 2) :
    (planOf b u c).bind (slot h) = rowOff (4 * b.val + u.val) (keyStart b / 64 + 2 * c.val + h.val) := by
  revert b u c h; decide

theorem plan_reach (b : Fin 16) (u : Fin 4) : keyStart b ≤ 64 * winRow (4 * b.val + u.val) ∧
    64 * (winRow (4 * b.val + u.val) + 8) ≤ keyStart b + 768 := by
  revert b u; decide

/-! ### The scores -/

/-- Position `m` of the sequence: key row `m / 64`, column `m % 64`. -/
def row (m : Fin 4096) : ℕ := m.val / 64

def col (m : Fin 4096) : Fin 64 := ⟨m.val % 64, Nat.mod_lt _ (by decide)⟩

abbrev Pos := Fin 4096 ⊕ Fin 256

/-- The score of query `n` against position or context key: `T dr w k` is the bias between columns `w` and `k` at row offset `dr`. -/
noncomputable def fullS (T : ℕ → Fin 64 → Fin 64 → EReal) (q qr k : Vec Ideal S4096x128 .bf16) (kc : Vec Ideal S256x128 .bf16) (n : Fin 4096) : Pos → EReal
  | .inl m => match rowOff (row n) (row m) with
    | none => ⊥
    | some dr => (∑ e : Fin 128, qr (ix2 n e) * k (ix2 m e)) + T dr (col n) (col m)
  | .inr m => ∑ e : Fin 128, q (ix2 n e) * kc (ix2 m e)

/-- The values, at dimension `d`. -/
def fullV (v : Vec Ideal S4096x128 .bf16) (vc : Vec Ideal S256x128 .bf16) (d : Fin 128) : Pos → EReal
  | .inl m => v (ix2 m d)
  | .inr m => vc (ix2 m d)

/-- Bias tile `z` at `(w, l)`, off the table `T`. -/
noncomputable def tileOf (T : ℕ → Fin 64 → Fin 64 → EReal) (z : Fin 16) (w : Fin 64) (l : Fin 128) : EReal :=
  match slot (l.val / 64) z with
  | none => ⊥
  | some dr => T dr w ⟨l.val % 64, Nat.mod_lt _ (by decide)⟩

theorem keyStart_mod (b : Fin 16) : keyStart b % 64 = 0 := by revert b; decide

theorem keyStart_le (b : Fin 16) : keyStart b ≤ 3328 := by revert b; decide

/-- Where the keys of block `b` lie in the sequence. -/
def place (b : Fin 16) : Key → Pos
  | .inl n => .inl ⟨keyStart b + 128 * n.1.val + n.2.val, by
      have := keyStart_le b
      omega⟩
  | .inr n => .inr (ctxPos n)

theorem place_injective (b : Fin 16) : Function.Injective (place b) := by
  rintro (⟨c, l⟩ | ⟨c, l⟩) (⟨c', l'⟩ | ⟨c', l'⟩) h
  · simp only [place, Sum.inl.injEq, Fin.mk.injEq] at h
    have h1 : c = c' := Fin.ext (by omega)
    have h2 : l = l' := Fin.ext (by omega)
    rw [h1, h2]
  · simp [place] at h
  · simp [place] at h
  · simp only [place, ctxPos, Sum.inr.injEq, Fin.mk.injEq] at h
    have h1 : c = c' := Fin.ext (by omega)
    have h2 : l = l' := Fin.ext (by omega)
    rw [h1, h2]

theorem place_reach (T) (q qr k : Vec Ideal S4096x128 .bf16) (kc : Vec Ideal S256x128 .bf16) (b : Fin 16) (u : Fin 4) (n : Fin 4096)
    (hn : row n = 4 * b.val + u.val) (m : Pos) (hm : ∀ j, place b j ≠ m) : fullS T q qr k kc n m = ⊥ := by
  rcases m with m | m
  · have hr := plan_reach b u
    have h : rowOff (row n) (row m) = none := by
      rw [hn]
      unfold rowOff
      rw [if_neg]
      rintro ⟨h1, h2⟩
      unfold row at h1 h2
      refine hm (.inl (⟨(m.val - keyStart b) / 128, by omega⟩, ⟨(m.val - keyStart b) % 128, by omega⟩)) ?_
      simp only [place, Sum.inl.injEq]
      exact Fin.ext (by show keyStart b + 128 * ((m.val - keyStart b) / 128) + (m.val - keyStart b) % 128 = m.val; omega)
    simp only [fullS, h]
  · refine absurd ?_ (hm (.inr (⟨m.val / 128, by omega⟩, ⟨m.val % 128, by omega⟩)))
    simp only [place, ctxPos, Sum.inr.injEq]
    exact Fin.ext (by show 128 * (m.val / 128) + m.val % 128 = m.val; omega)

theorem add_bot' (x : EReal) : x + ⊥ = ⊥ := EReal.add_bot x

/-- Block `b`'s own scores are the full scores at its keys. -/
theorem score_place (T : ℕ → Fin 64 → Fin 64 → EReal) (q qr k : Vec Ideal S4096x128 .bf16) (kc : Vec Ideal S256x128 .bf16)
    (b : Fin 16) (u : Fin 4) (w : Fin 64) (p : Fin 256) (hp : p.val = 64 * u.val + w.val) (n : Fin 4096) (hn : n.val = 256 * b.val + p.val)
    (bt : Fin 16 → FVec Ideal S64x128 .f32) (hbt : ∀ z w l, bt z (ix2 w l) = tileOf T z w l)
    (bq bqr : FVec Ideal S256x128 .bf16) (hq : ∀ e, bq (ix2 p e) = q (ix2 n e)) (hqr : ∀ e, bqr (ix2 p e) = qr (ix2 n e))
    (bk : FVec Ideal S768x128 .bf16) (hk : ∀ (j : Fin 768) (e : Fin 128) (m : Fin 4096), m.val = keyStart b + j.val → bk (ix2 j e) = k (ix2 m e)) :
    blkS (planOf b) bt bq bqr bk kc u w p = fullS T q qr k kc n ∘ place b := by
  have hrow : row n = 4 * b.val + u.val := by unfold row; omega
  have hcol : col n = w := Fin.ext (by show n.val % 64 = w.val; omega)
  have hks := keyStart_mod b
  have hkb := keyStart_le b
  funext j
  rcases j with ⟨c, l⟩ | ⟨c, l⟩
  · have ho := plan_off b u c ⟨l.val / 64, by omega⟩
    simp only [Function.comp, place, fullS, blkS, hrow, hcol]
    have hm : row ⟨keyStart b + 128 * c.val + l.val, by omega⟩ = keyStart b / 64 + 2 * c.val + l.val / 64 := by
      show (keyStart b + 128 * c.val + l.val) / 64 = _; omega
    have hc : col ⟨keyStart b + 128 * c.val + l.val, by omega⟩ = ⟨l.val % 64, Nat.mod_lt _ (by decide)⟩ :=
      Fin.ext (by show (keyStart b + 128 * c.val + l.val) % 64 = l.val % 64; omega)
    rw [hm, hc, ← ho]
    cases planOf b u c with
    | none => rfl
    | some z =>
      simp only [Option.bind_some, hbt, tileOf]
      cases slot (l.val / 64) z with
      | none => exact EReal.add_bot _
      | some dr =>
        refine congrArg (· + _) (Finset.sum_congr rfl fun e _ => ?_)
        rw [hqr, hk (bandPos (c, l)) e ⟨keyStart b + 128 * c.val + l.val, by omega⟩ (by simp only [bandPos]; omega)]
  · simp only [Function.comp, place, fullS, blkS, hq]

/-! ### The output block -/

theorem out_cover (f : Fin 16 → FVec Ideal S256x128 .bf16) (y : S4096x128.Idx) :
    ∃ p ∈ List.ofFn (fun b : Fin 16 => (⟨Rect.unit (s := S4096x128) ![256 * b.rev.val, 0] S256x128.size (inb_q b.rev), f b⟩ :
      View.Piece (Elt Ideal) S4096x128 .bf16)), y ∈ p.1.set := by
  idx_vars y
  have hb : y0.val / 256 < 16 := by omega
  refine ⟨_, (List.mem_ofFn' _ _).2 ⟨(⟨y0.val / 256, hb⟩ : Fin 16).rev, rfl⟩, ?_⟩
  simp only [Fin.rev_rev]
  refine (Rect.mem_set_unit).2 fun a => ?_
  fin_cases a
  · exact ⟨by show 256 * (y0.val / 256) ≤ y0.val; omega, by show y0.val < 256 * (y0.val / 256) + 256; omega⟩
  · exact ⟨Nat.zero_le _, by show y1.val < 0 + 128; omega⟩

theorem piece_apply (T : ℕ → Fin 64 → Fin 64 → EReal) (hT : ∀ z w l, x6 (ix5 0 0 z w l) = tileOf T z w l)
    (b : Fin 16) (p : Fin 256) (d : Fin 128) (n : Fin 4096) (hn : n.val = 256 * b.val + p.val) :
    piece (F := Ideal) c arg2 harg2 arg3 harg3 arg4 harg4 arg5 harg5 arg6 harg6 arg7 harg7 arg8 harg8 arg16 x0 x1 x2 x3 x4 x5 x6 b (ix2 p d)
      = att (fullS T x0 x1 x2 x4 n) (fullV x3 x5 d) := by
  have hp : p.val = 64 * (⟨p.val / 64, by omega⟩ : Fin 4).val + (⟨p.val % 64, Nat.mod_lt _ (by decide)⟩ : Fin 64).val := by
    show p.val = 64 * (p.val / 64) + p.val % 64; omega
  unfold piece
  rw [blk_apply _ _ _ _ _ _ _ _ ⟨p.val / 64, by omega⟩ ⟨p.val % 64, Nat.mod_lt _ (by decide)⟩ p hp d, load_ctx, load_ctx]
  rw [score_place T x0 x1 x2 x4 b _ _ p hp n hn _ (fun z w l => (load_tile arg8 harg8 x6 z w l).trans (hT z w l))
    _ _ (fun e => load_rows arg2 harg2 x0 _ 256 (inb_q b) p e n hn) (fun e => load_rows arg3 harg3 x1 _ 256 (inb_q b) p e n hn)
    _ (fun j e m hm => load_rows arg4 harg4 x2 _ 768 (inb_k b) j e m hm)]
  rw [att_embed (place b) (place_injective b) (fullS T x0 x1 x2 x4 n) (fullV x3 x5 d)
    (fun m hm => place_reach T x0 x1 x2 x4 b ⟨p.val / 64, by omega⟩ n (by unfold row; show n.val / 64 = 4 * b.val + p.val / 64; omega) m hm)]
  congr 1
  funext j
  rcases j with j | j
  · simp only [Function.comp, place, fullV, blkV]
    exact load_vt c arg5 harg5 arg16 x3 b d (bandPos j) _ (by show keyStart b + 128 * j.1.val + j.2.val = _; simp only [bandPos]; omega)
  · simp only [Function.comp, place, fullV, blkV]
    pointwise

theorem point_apply (T : ℕ → Fin 64 → Fin 64 → EReal) (hT : ∀ z w l, x6 (ix5 0 0 z w l) = tileOf T z w l) (n : Fin 4096) (d : Fin 128) :
    Gen.out0_A_10 (F := Ideal) c i arg2 harg2 arg3 harg3 arg4 harg4 arg5 harg5 arg6 harg6 arg7 harg7 arg8 harg8 arg9 harg9 arg10 harg10
      arg11 harg11 arg12 harg12 arg13 harg13 arg14 harg14 arg15 harg15 arg16 harg16 x0 x1 x2 x3 x4 x5 x6 x7 x8 x9 (ix2 n d)
      = att (fullS T x0 x1 x2 x4 n) (fullV x3 x5 d) := by
  unfold Gen.out0_A_10
  rw [pieces_eq, View.read_writes_eq_canon]
  · refine View.canon_apply_of_pieces (Val := Elt Ideal) (S := S4096x128) (e := .bf16) (fun y => att (fullS T x0 x1 x2 x4 (y 0)) (fullV x3 x5 (y 1))) _ ?_ (ix2 n d) ?_
    · intro pc hpc x
      rw [List.mem_ofFn'] at hpc
      obtain ⟨b, rfl⟩ := hpc
      have hx : ∃ (y0 : Fin 256) (y1 : Fin 128), x = ix2 y0 y1 := ⟨x 0, x 1, by funext a; fin_cases a <;> rfl⟩
      obtain ⟨y0, y1, rfl⟩ := hx
      refine (piece_apply c arg2 harg2 arg3 harg3 arg4 harg4 arg5 harg5 arg6 harg6 arg7 harg7 arg8 harg8 arg16 x0 x1 x2 x3 x4 x5 x6 T hT b.rev y0 y1
        ⟨256 * b.rev.val + y0.val, by omega⟩ rfl).trans ?_
      have e0 : (⟨256 * b.rev.val + y0.val, by omega⟩ : Fin 4096)
          = (Rect.unit (s := S4096x128) ![256 * b.rev.val, 0] S256x128.size (inb_q b.rev)).emb (ix2 y0 y1) 0 :=
        Fin.ext (by show 256 * b.rev.val + y0.val = 256 * b.rev.val + 1 * y0.val; omega)
      have e1 : y1 = (Rect.unit (s := S4096x128) ![256 * b.rev.val, 0] S256x128.size (inb_q b.rev)).emb (ix2 y0 y1) 1 :=
        Fin.ext (by show y1.val = 0 + 1 * y1.val; omega)
      exact congrArg₂ (fun a b => att (fullS T x0 x1 x2 x4 a) (fullV x3 x5 b)) e0 e1
    · exact out_cover _ _
  · exact out_cover _

end Cert.NA
-- ==== Proof.Bias.lean ====
module

public import proofs.«01_k».proof.Proof.Point
public import Idealize.ShloMosaic.Lib.StableHlo.RunRead

/-!
The table of bias tiles, as the program prepares it from the position bias before the grid starts.
-/

@[expose] public section

set_option maxRecDepth 65536

namespace Cert.NA

open Idealize.ShloMosaic Cert.KernelIdeal Cert.KernelIdeal.Facts₀ Cert.KernelIdeal.Facts Idealize.ShloMosaic.TcCoe

noncomputable section

variable {F : FTy → Type} [FloatOps F]

/-! ### Columns -/

/-- The first column of each query column's window. -/
def colStart : IVec S64 32 :=
  minsi (broadcastInDim S64 ![] bcast_S_S64 (constantI S_ 32 48#32))
    (maxsi (broadcastInDim S64 ![] bcast_S_S64 (constantI S_ 32 0#32))
      (subi (iotaInDim S64 32 0) (broadcastInDim S64 ![] bcast_S_S64 (constantI S_ 32 8#32))))

/-- Which key columns lie in which query column's window. -/
def colIn : IVec S64x64 1 :=
  andi (cmpi .sge (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (broadcastInDim S64x1 ![0] bcast_S64_S64x1_0 colStart)))
    (cmpi .slt (broadcastInDim S64x64 ![0, 1] bcast_S1x64_S64x64_0_1 (broadcastInDim S1x64 ![1] bcast_S64_S1x64_1 (iotaInDim S64 32 0)))
      (broadcastInDim S64x64 ![0, 1] bcast_S64x1_S64x64_0_1
        (addi (broadcastInDim S64x1 ![0] bcast_S64_S64x1_0 colStart) (broadcastInDim S64x1 ![] bcast_S_S64x1 (constantI S_ 32 16#32)))))

/-- The column offset of each pair of columns, kept between 0 and 30. -/
def colOff : IVec S64x64 32 :=
  minsi (broadcastInDim S64x64 ![] bcast_S_S64x64 (constantI S_ 32 30#32))
    (maxsi (broadcastInDim S64x64 ![] bcast_S_S64x64 (constantI S_ 32 0#32))
      (addi (subi (broadcastInDim S64x64 ![0, 1] bcast_S1x64_S64x64_0_1 (broadcastInDim S1x64 ![1] bcast_S64_S1x64_1 (iotaInDim S64 32 0)))
          (broadcastInDim S64x64 ![0, 1] bcast_S64x1_S64x64_0_1 (broadcastInDim S64x1 ![0] bcast_S64_S64x1_0 (iotaInDim S64 32 0))))
        (broadcastInDim S64x64 ![] bcast_S_S64x64 (constantI S_ 32 15#32))))

/-- One where the offset is the first coordinate and the columns lie in the window. -/
def pick : FVec F S31x64x64 .f32 :=
  uitofp .f32 (andi (broadcastInDim S31x64x64 ![0, 1, 2] bcast_S1x64x64_S31x64x64_0_1_2 (broadcastInDim S1x64x64 ![1, 2] bcast_S64x64_S1x64x64_1_2 colIn))
    (cmpi .eq (broadcastInDim S31x64x64 ![0, 1, 2] bcast_S1x64x64_S31x64x64_0_1_2 (broadcastInDim S1x64x64 ![1, 2] bcast_S64x64_S1x64x64_1_2 colOff))
      (broadcastInDim S31x64x64 ![0, 1, 2] bcast_S31x1x1_S31x64x64_0_1_2 (broadcastInDim S31x1x1 ![0] bcast_S31_S31x1x1_0 (iotaInDim S31 32 0)))))

/-- The bias of every pair of columns at every row offset. -/
def colBias (rpb : FVec F S2x8x15x31 .f32) : FVec F S2x8x15x64x64 .f32 :=
  select (broadcastInDim S2x8x15x64x64 ![0, 1, 2, 3, 4] bcast_S1x1x1x64x64_S2x8x15x64x64_0_1_2_3_4
      (broadcastInDim S1x1x1x64x64 ![3, 4] bcast_S64x64_S1x1x1x64x64_3_4 colIn))
    (Host.dotGeneral dot_S2x8x15x31_S31x64x64_S2x8x15x64x64_3_0_012_12_n_n (some .fp32) rpb pick)
    (broadcastInDim S2x8x15x64x64 ![] bcast_S_S2x8x15x64x64 (constant S_ .f32 0xFF800000#32))

/-! ### Tiles -/

theorem slices_row (n : Fin 15) : S2x8x15x64x64.Slices ![0, 0, n.val, 0, 0] S2x8x1x64x64 := by
  revert n; decide

def half (t : FVec F S2x8x15x64x64 .f32) (n : Fin 15) : FVec F S2x8x64x64 .f32 :=
  shapeCast S2x8x64x64 (extractStridedSlice S2x8x1x64x64 ![0, 0, n.val, 0, 0] t (slices_row n)) shapeCasts_S2x8x1x64x64_S2x8x64x64

def none64 : FVec F S2x8x64x64 .f32 := broadcastInDim S2x8x64x64 ![] bcast_S_S2x8x64x64 (constant S_ .f32 0xFF800000#32)

def two (a b : FVec F S2x8x64x64 .f32) : FVec F S2x8x64x128 .f32 :=
  concatenate S2x8x64x128 3 [⟨S2x8x64x64, a⟩, ⟨S2x8x64x64, b⟩] concatenates_S2x8x64x64_S2x8x64x64_S2x8x64x128_d3

def entry (t : FVec F S2x8x15x64x64 .f32) (z : Fin 16) : FVec F S2x8x64x128 .f32 :=
  if h : z.val < 14 then two (half t ⟨z.val, by omega⟩) (half t ⟨z.val + 1, by omega⟩)
  else if z.val = 14 then two (half t 10) none64 else two none64 (half t 3)

def table (t : FVec F S2x8x15x64x64 .f32) : FVec F S2x8x16x64x128 .f32 :=
  concatenate S2x8x16x64x128 2 (List.ofFn fun z : Fin 16 =>
      ⟨S2x8x1x64x128, broadcastInDim S2x8x1x64x128 ![0, 1, 3, 4] bcast_S2x8x64x128_S2x8x1x64x128_0_1_3_4 (entry t z)⟩)
    concatenates_S2x8x1x64x128_S2x8x1x64x128_S2x8x1x64x128_S2x8x1x64x128_S2x8x1x64x128_S2x8x1x64x128_S2x8x1x64x128_S2x8x1x64x128_S2x8x1x64x128_S2x8x1x64x128_S2x8x1x64x128_S2x8x1x64x128_S2x8x1x64x128_S2x8x1x64x128_S2x8x1x64x128_S2x8x1x64x128_S2x8x16x64x128_d2

/-! ### The program's steps -/

theorem after_tiles (W : Valuation τ sig (Elt F)) :
    StableHlo.after Gen.hostOps0_6 W (Proc.devRef .tc main_v131) = table (W (Proc.devRef .tc main_v37)) := by
  after_reads_simp
  generalize W (Proc.devRef .tc main_v37) = t
  sl_kernel_rfl

theorem after_cols (W : Valuation τ sig (Elt F)) :
    StableHlo.after (List.flatten [Gen.hostOps0, Gen.hostOps0_1, Gen.hostOps0_2, Gen.hostOps0_3, Gen.hostOps0_4, Gen.hostOps0_5]) W (Proc.devRef .tc main_v37)
      = colBias (W (Proc.devRef .tc main_arg6)) := by
  after_reads_simp
  rfl

theorem table_read (m : (ℓ : Loc nD τ sig) → Buf (Elt F) ℓ) (c : Dev nD) :
    Gen.V m c main_v131 = table (colBias (m ((c : Thread nD τ).loc main_arg6))) := by
  have h := after_tiles (F := F) (StableHlo.after (List.flatten [Gen.hostOps0, Gen.hostOps0_1, Gen.hostOps0_2, Gen.hostOps0_3, Gen.hostOps0_4, Gen.hostOps0_5])
    (fun b => m (c, b)))
  rw [after_cols, ← StableHlo.after_append] at h
  exact h

end

end Cert.NA
-- ==== Proof.BiasValue.lean ====
module

public import proofs.«01_k».proof.Proof.Bias

/-!
The bias tiles at an index.
-/

@[expose] public section

set_option maxRecDepth 65536

namespace Cert.NA

open Idealize.ShloMosaic Cert.KernelIdeal Cert.KernelIdeal.Facts₀ Cert.KernelIdeal.Facts Idealize.ShloMosaic.TcCoe

noncomputable section

/-- Key column `k` lies in the sixteen columns around query column `w`. -/
def inCol (w k : ℕ) : Prop := min (w - 8) 48 ≤ k ∧ k < min (w - 8) 48 + 16

instance (w k : ℕ) : Decidable (inCol w k) := by unfold inCol; infer_instance

/-- The column offset, counted from 0. -/
def offCol (w k : ℕ) : Fin 31 := ⟨min (k + 15 - w) 30, by omega⟩

theorem colIn_apply (w k : Fin 64) : colIn (ix2 w k) = if inCol w k then 1#1 else 0#1 := by
  revert w k; decide +kernel

theorem colOff_apply (w k : Fin 64) : colOff (ix2 w k) = BitVec.ofNat 32 (offCol w k).val := by
  revert w k; decide +kernel

theorem pick_apply (j : Fin 31) (w k : Fin 64) :
    pick (F := Ideal) (ix3 j w k) = if inCol w k ∧ offCol w k = j then (1 : EReal) else 0 := by
  unfold pick
  pointwise
  rw [colIn_apply, colOff_apply]
  have hj : (BitVec.ofNat 32 (offCol w k).val = BitVec.ofNat 32 j.val) ↔ offCol w k = j := by
    rw [← BitVec.toNat_inj, BitVec.toNat_ofNat, BitVec.toNat_ofNat, Fin.ext_iff]
    have := (offCol w k).isLt
    have := j.isLt
    omega
  by_cases h1 : inCol w k <;> by_cases h2 : offCol w k = j
  · rw [if_pos h1, if_pos ⟨h1, h2⟩, h2]
    simp [IntOp.cmpi, IntOp.andi, FloatOps.uitofp]
  · rw [if_pos h1, if_neg fun h => h2 h.2]
    have h3 : ¬(BitVec.ofNat 32 (offCol w k).val = BitVec.ofNat 32 j.val) := fun h => h2 (hj.1 h)
    simp [IntOp.cmpi, IntOp.andi, FloatOps.uitofp, beq_eq_false_iff_ne.2 h3]
  · rw [if_neg h1, if_neg fun h => h1 h.1]
    simp [IntOp.andi, FloatOps.uitofp]
  · rw [if_neg h1, if_neg fun h => h1 h.1]
    simp [IntOp.andi, FloatOps.uitofp]

/-- The bias between columns `w` and `k` at row offset `dr`, for head `h`. -/
def biasAt (rpb : FVec Ideal S2x8x15x31 .f32) (h : Fin 8) (dr : ℕ) (w k : Fin 64) : EReal :=
  if inCol w k then rpb (ix4 0 h ⟨min dr 14, by omega⟩ (offCol w k)) else ⊥

theorem colBias_apply (rpb : FVec Ideal S2x8x15x31 .f32) (h : Fin 8) (dr : Fin 15) (w k : Fin 64) :
    colBias rpb (ix5 0 h dr w k) = biasAt rpb h dr w k := by
  have hd : (⟨min dr.val 14, by omega⟩ : Fin 15) = dr := Fin.ext (by show min dr.val 14 = dr.val; omega)
  unfold colBias biasAt
  rw [hd]
  pointwise
  rw [colIn_apply, negInf]
  by_cases h1 : inCol w k
  · rw [if_pos h1, if_pos h1, Finset.sum_eq_single (offCol w k)]
    · rw [pick_apply, if_pos ⟨h1, rfl⟩, mul_one]
      rfl
    · intro j _ hj
      rw [pick_apply, if_neg fun h => hj h.2.symm, mul_zero]
    · intro h; exact absurd (Finset.mem_univ _) h
  · rw [if_neg h1, if_neg h1]
    rfl

theorem half_apply (t : FVec Ideal S2x8x15x64x64 .f32) (n : Fin 15) (l : Fin 2) (h : Fin 8) (w k : Fin 64) :
    half t n (ix4 l h w k) = t (ix5 l h n w k) := by
  unfold half
  pointwise

theorem none64_apply (l : Fin 2) (h : Fin 8) (w k : Fin 64) : none64 (F := Ideal) (ix4 l h w k) = ⊥ := by
  unfold none64
  pointwise
  exact negInf

theorem two_apply (a b : FVec Ideal S2x8x64x64 .f32) (l : Fin 2) (h : Fin 8) (w : Fin 64) (k : Fin 128) :
    two a b (ix4 l h w k) = if k.val / 64 = 0 then a (ix4 l h w ⟨k.val % 64, Nat.mod_lt _ (by decide)⟩)
      else b (ix4 l h w ⟨k.val % 64, Nat.mod_lt _ (by decide)⟩) := by
  unfold two
  pointwise
  by_cases hk : k.val < 64
  · have hq : k.val / 64 = 0 := by omega
    refine (dif_pos hk).trans (Eq.trans ?_ (if_pos hq).symm)
    exact congrArg (fun x => a (ix4 l h w x)) (Fin.ext (by show k.val = k.val % 64; omega))
  · have hq : ¬k.val / 64 = 0 := by omega
    refine (dif_neg hk).trans (Eq.trans ?_ (if_neg hq).symm)
    exact congrArg (fun x => b (ix4 l h w x)) (Fin.ext (by show k.val - 64 = k.val % 64; omega))

theorem table_apply (t : FVec Ideal S2x8x15x64x64 .f32) (h : Fin 8) (z : Fin 16) (w : Fin 64) (k : Fin 128) :
    table t (ix5 0 h z w k) = entry t z (ix4 0 h w k) := by
  unfold table
  refine (concatenate_ofFn_apply (t := S2x8x16x64x128) (s₁ := S2x8x1x64x128) 2 _ _ rfl 1 rfl (ix5 0 h z w k) z ?_ (ix5 0 h 0 w k) ?_ ?_).trans ?_
  · show z.val / 1 = z.val; omega
  · show 0 = z.val % 1; omega
  · intro b hb
    fin_cases b
    · rfl
    · rfl
    · exact absurd rfl hb
    · rfl
    · rfl
  · pointwise

theorem entry_apply (rpb : FVec Ideal S2x8x15x31 .f32) (h : Fin 8) (z : Fin 16) (w : Fin 64) (k : Fin 128) :
    entry (colBias rpb) z (ix4 0 h w k) = tileOf (biasAt rpb h) z w k := by
  have hk : k.val / 64 = 0 ∨ k.val / 64 = 1 := by omega
  unfold entry tileOf slot
  by_cases h1 : z.val < 14
  · rw [dif_pos h1, if_pos h1, two_apply, half_apply, half_apply, colBias_apply, colBias_apply]
    rcases hk with hk | hk <;> simp [hk]
  · rw [dif_neg h1, if_neg h1]
    by_cases h2 : z.val = 14
    · rw [if_pos h2, if_pos h2, two_apply, half_apply, none64_apply, colBias_apply]
      rcases hk with hk | hk <;> simp [hk]
    · rw [if_neg h2, if_neg h2, two_apply, half_apply, none64_apply, colBias_apply]
      rcases hk with hk | hk <;> simp [hk]

theorem tiles_apply (m : (ℓ : Loc nD τ sig) → Buf (Elt Ideal) ℓ) (c : Dev nD) (h : Fin 8) (z : Fin 16) (w : Fin 64) (k : Fin 128) :
    (Gen.V m c main_v131 : FVec Ideal S2x8x16x64x128 .f32) (ix5 0 h z w k)
      = tileOf (biasAt (m ((c : Thread nD τ).loc main_arg6)) h) z w k := by
  rw [table_read, table_apply, entry_apply]

end

end Cert.NA
-- ==== Proof.RefGather.lean ====
module

public import proofs.«01_k».proof.Proof.BiasValue
public import proofs.«01_k».proof.Proof.Gen.ReferenceIdeal.Read
public import Idealize.ShloMosaic.Lib.TwoAxisContraction

/-!
The reference's index arrays, its arguments in the shape of the grid, and its three gathers, each read at an index.
-/

@[expose] public section

set_option maxRecDepth 65536

namespace Cert.NA

open Idealize.ShloMosaic Cert.ReferenceIdeal Cert.ReferenceIdeal.Facts Cert.ReferenceIdeal.Read

/-! ### Index arrays -/

theorem rowIdx_apply (r : Fin 64) (j : Fin 8) : val_main_v19 (F := Ideal) (ix2 r j) = BitVec.ofNat 32 (winRow r.val + j.val) := by
  revert r j; decide +kernel

theorem rowDiff_apply (r : Fin 64) (j : Fin 8) : val_main_v39 (F := Ideal) (ix2 r j) = BitVec.ofNat 32 (winRow r.val + j.val + 7 - r.val) := by
  revert r j; decide +kernel

theorem colDiff_apply (w k : Fin 64) : val_main_v45 (F := Ideal) (ix2 w k) = BitVec.ofNat 32 (offCol w.val k.val).val := by
  revert w k; decide +kernel

theorem colMask_apply (w k : Fin 64) : val_main_v36 (F := Ideal) (ix2 w k) = if inCol w.val k.val then 1#1 else 0#1 := by
  revert w k; decide +kernel

theorem word_clamp (n s : ℕ) (hn : n ≤ s) (hs : s < 1000) : min (BitVec.ofNat 32 n).toInt.toNat s = n := by
  have h : (BitVec.ofNat 32 n).toInt = n := by
    rw [BitVec.toInt_eq_toNat_of_lt (by rw [BitVec.toNat_ofNat]; omega), BitVec.toNat_ofNat]; omega
  rw [h]; omega

/-! ### Arguments -/

theorem grid0_apply (x : Vec Ideal S8192x1024 .bf16) (b : Fin 2) (r w : Fin 64) (h : Fin 8) (e : Fin 128) (i : Fin 8192) (j : Fin 1024)
    (hi : i.val = 4096 * b.val + 64 * r.val + w.val) (hj : j.val = 128 * h.val + e.val) :
    val_main_v1 (F := Ideal) x (ix5 b r w h e) = x (ix2 i j) := by
  rw [val_main_v1_apply]
  refine congrArg x (funext fun a => Fin.ext ?_)
  match a with
  | ⟨0, _⟩ => show ((((b.val * 64 + r.val) * 64 + w.val) * 8 + h.val) * 128 + e.val) / 1024 = i.val; omega
  | ⟨1, _⟩ => show ((((b.val * 64 + r.val) * 64 + w.val) * 8 + h.val) * 128 + e.val) % 1024 = j.val; omega

theorem grid3_apply (x : Vec Ideal S8192x1024 .bf16) : val_main_v3 (F := Ideal) x = val_main_v1 (F := Ideal) x := rfl

theorem grid5_apply (x : Vec Ideal S8192x1024 .bf16) : val_main_v5 (F := Ideal) x = val_main_v1 (F := Ideal) x := rfl

theorem grid7_apply (x : Vec Ideal S8192x1024 .bf16) : val_main_v7 (F := Ideal) x = val_main_v1 (F := Ideal) x := rfl

theorem ctx0_apply (x : Vec Ideal S512x1024 .bf16) (b : Fin 2) (k : Fin 256) (h : Fin 8) (e : Fin 128) (i : Fin 512) (j : Fin 1024)
    (hi : i.val = 256 * b.val + k.val) (hj : j.val = 128 * h.val + e.val) :
    val_main_v9 (F := Ideal) x (ix4 b k h e) = x (ix2 i j) := by
  rw [val_main_v9_apply]
  refine congrArg x (funext fun a => Fin.ext ?_)
  match a with
  | ⟨0, _⟩ => show (((b.val * 256 + k.val) * 8 + h.val) * 128 + e.val) / 1024 = i.val; omega
  | ⟨1, _⟩ => show (((b.val * 256 + k.val) * 8 + h.val) * 128 + e.val) % 1024 = j.val; omega

theorem ctx11_apply (x : Vec Ideal S512x1024 .bf16) : val_main_v11 (F := Ideal) x = val_main_v9 (F := Ideal) x := rfl

/-! ### Gathers -/

theorem winRow_le (r : ℕ) : winRow r ≤ 56 := by unfold winRow; omega

/-- A gather of eight key rows for each query row: key row `winRow r + j`. -/
theorem band_apply (x : FVec Ideal S2x64x64x8x128 .f32) (idx : IVec S64x8x1 32)
    (hidx : ∀ (r : Fin 64) (j : Fin 8), idx (ix3 r j 0) = BitVec.ofNat 32 (winRow r.val + j.val))
    (b : Fin 2) (r : Fin 64) (j : Fin 8) (k : Fin 64) (h : Fin 8) (e : Fin 128) :
    Host.gather gather_S2x64x64x8x128_S64x8x1_S2x64x8x64x8x128_0345_1_n_n_1_2_21648128 x idx (ix6 b r j k h e)
      = x (ix5 b ⟨winRow r.val + j.val, by have := winRow_le r.val; omega⟩ k h e) := by
  unfold Host.gather
  refine congrArg x (funext fun a => Fin.ext ?_)
  match a with
  | ⟨0, _⟩ => show 0 + 0 + b.val = b.val; omega
  | ⟨1, _⟩ =>
    show min (idx (gather_S2x64x64x8x128_S64x8x1_S2x64x8x64x8x128_0345_1_n_n_1_2_21648128.siIdx (ix6 b r j k h e) ⟨0, by decide⟩)).toInt.toNat 63 + 0 + 0
      = winRow r.val + j.val
    have hs : gather_S2x64x64x8x128_S64x8x1_S2x64x8x64x8x128_0345_1_n_n_1_2_21648128.siIdx (ix6 b r j k h e) ⟨0, by decide⟩ = ix3 r j 0 := by
      funext a; refine Fin.ext ?_
      match a with
      | ⟨0, _⟩ => rfl
      | ⟨1, _⟩ => rfl
      | ⟨2, _⟩ => rfl
    rw [hs, hidx, word_clamp _ _ (by have := winRow_le r.val; omega) (by omega)]; rfl
  | ⟨2, _⟩ => show 0 + 0 + k.val = k.val; omega
  | ⟨3, _⟩ => show 0 + 0 + h.val = h.val; omega
  | ⟨4, _⟩ => show 0 + 0 + e.val = e.val; omega

/-- The gather of the bias table at a row offset and a column offset. -/
theorem biasGather_apply (x : FVec Ideal S8x15x31 .f32) (idx : IVec S64x64x8x64x2 32) (h : Fin 8) (r w : Fin 64) (j : Fin 8) (k : Fin 64)
    (p : Fin 15) (o : Fin 31) (hp : idx (ix5 r w j k 0) = BitVec.ofNat 32 p.val) (ho : idx (ix5 r w j k 1) = BitVec.ofNat 32 o.val) :
    Host.gather gather_S8x15x31_S64x64x8x64x2_S8x64x64x8x64_0_12_n_n_12_4_811 x idx (ix5 h r w j k) = x (ix3 h p o) := by
  unfold Host.gather
  refine congrArg x (funext fun a => Fin.ext ?_)
  match a with
  | ⟨0, _⟩ => show 0 + 0 + h.val = h.val; omega
  | ⟨1, _⟩ =>
    show min (idx (gather_S8x15x31_S64x64x8x64x2_S8x64x64x8x64_0_12_n_n_12_4_811.siIdx (ix5 h r w j k) ⟨0, by decide⟩)).toInt.toNat 14 + 0 + 0 = p.val
    have hs : gather_S8x15x31_S64x64x8x64x2_S8x64x64x8x64_0_12_n_n_12_4_811.siIdx (ix5 h r w j k) ⟨0, by decide⟩ = ix5 r w j k 0 := by
      funext a; refine Fin.ext ?_
      match a with
      | ⟨0, _⟩ => rfl
      | ⟨1, _⟩ => rfl
      | ⟨2, _⟩ => rfl
      | ⟨3, _⟩ => rfl
      | ⟨4, _⟩ => rfl
    rw [hs, hp, word_clamp _ _ (by omega) (by omega)]; rfl
  | ⟨2, _⟩ =>
    show min (idx (gather_S8x15x31_S64x64x8x64x2_S8x64x64x8x64_0_12_n_n_12_4_811.siIdx (ix5 h r w j k) ⟨1, by decide⟩)).toInt.toNat 30 + 0 + 0 = o.val
    have hs : gather_S8x15x31_S64x64x8x64x2_S8x64x64x8x64_0_12_n_n_12_4_811.siIdx (ix5 h r w j k) ⟨1, by decide⟩ = ix5 r w j k 1 := by
      funext a; refine Fin.ext ?_
      match a with
      | ⟨0, _⟩ => rfl
      | ⟨1, _⟩ => rfl
      | ⟨2, _⟩ => rfl
      | ⟨3, _⟩ => rfl
      | ⟨4, _⟩ => rfl
    rw [hs, ho, word_clamp _ _ (by omega) (by omega)]; rfl

theorem kBand_apply (x : Vec Ideal S8192x1024 .bf16) (b : Fin 2) (r : Fin 64) (j : Fin 8) (k : Fin 64) (h : Fin 8) (e : Fin 128) :
    val_main_v21 (F := Ideal) x (ix6 b r j k h e)
      = val_main_v1 (F := Ideal) x (ix5 b ⟨winRow r.val + j.val, by have := winRow_le r.val; omega⟩ k h e) := by
  unfold val_main_v21
  rw [grid5_apply]
  refine band_apply _ _ (fun r j => ?_) b r j k h e
  rw [val_main_v20_apply, ← rowIdx_apply]
  refine congrArg (val_main_v19 (F := Ideal)) (funext fun a => ?_)
  fin_cases a <;> rfl

theorem vBand_apply (x : Vec Ideal S8192x1024 .bf16) : val_main_v23 (F := Ideal) x = val_main_v21 (F := Ideal) x := rfl

theorem bias_apply (x : Vec Ideal S2x8x15x31 .f32) (h : Fin 8) (r w : Fin 64) (j : Fin 8) (k : Fin 64) :
    val_main_v55 (F := Ideal) x (ix5 h r w j k)
      = x (ix4 0 h ⟨min (winRow r.val + j.val + 7 - r.val) 14, by omega⟩ (offCol w.val k.val)) := by
  have h1 : ∀ (p : Fin 15) (o : Fin 31), val_main_v47 (F := Ideal) x (ix3 h p o) = x (ix4 0 h p o) := by
    intro p o
    rw [val_main_v47_apply, val_main_v46_apply]
    refine congrArg x (funext fun a => Fin.ext ?_)
    match a with
    | ⟨0, _⟩ => rfl
    | ⟨1, _⟩ => show ((h.val * 15 + p.val) * 31 + o.val) / 465 % 8 = h.val; omega
    | ⟨2, _⟩ => show ((h.val * 15 + p.val) * 31 + o.val) / 31 % 15 = p.val; omega
    | ⟨3, _⟩ => show ((h.val * 15 + p.val) * 31 + o.val) % 31 = o.val; omega
  have hm : winRow r.val + j.val + 7 - r.val ≤ 14 := by unfold winRow; omega
  rw [← h1]
  refine biasGather_apply _ _ h r w j k _ _ ?_ ?_
  · have e : val_main_v54 (F := Ideal) (ix5 r w j k 0) = val_main_v39 (F := Ideal) (ix2 r j) := by
      unfold val_main_v54
      pointwise
      rw [val_main_v52_apply, val_main_v50_apply, val_main_v48_apply]
      refine congrArg (val_main_v39 (F := Ideal)) (funext fun a => ?_)
      fin_cases a <;> rfl
    rw [e, rowDiff_apply]
    show _ = BitVec.ofNat 32 (min (winRow r.val + j.val + 7 - r.val) 14)
    rw [min_eq_left hm]
  · have e : val_main_v54 (F := Ideal) (ix5 r w j k 1) = val_main_v45 (F := Ideal) (ix2 w k) := by
      unfold val_main_v54
      pointwise
      rw [val_main_v53_apply, val_main_v51_apply, val_main_v49_apply]
      refine congrArg (val_main_v45 (F := Ideal)) (funext fun a => ?_)
      fin_cases a <;> rfl
    rw [e, colDiff_apply]

end Cert.NA
-- ==== Proof.Array.lean ====
module

public import proofs.«01_k».proof.Proof.BiasValue

/-!
The kernel's four results at an index.
-/

@[expose] public section

set_option maxRecDepth 65536

namespace Cert.NA

open Idealize.ShloMosaic Cert.KernelIdeal Cert.KernelIdeal.Facts₀ Cert.KernelIdeal.Facts Idealize.ShloMosaic.TcCoe Cert.KernelIdeal.Gen

noncomputable section

/-- Batch element `b`, head `h` of a whole array of positions. -/
def headOf (x : Vec Ideal S8192x1024 .bf16) (b : Fin 2) (h : Fin 8) : Vec Ideal S4096x128 .bf16 :=
  fun y => x (ix2 ⟨4096 * b.val + (y 0).val, by have : (y 0).val < 4096 := (y 0).isLt; omega⟩
    ⟨128 * h.val + (y 1).val, by have : (y 1).val < 128 := (y 1).isLt; omega⟩)

/-- The same of an array of context positions. -/
def ctxOf (x : Vec Ideal S512x1024 .bf16) (b : Fin 2) (h : Fin 8) : Vec Ideal S256x128 .bf16 :=
  fun y => x (ix2 ⟨256 * b.val + (y 0).val, by have : (y 0).val < 256 := (y 0).isLt; omega⟩
    ⟨128 * h.val + (y 1).val, by have : (y 1).val < 128 := (y 1).isLt; omega⟩)

/-- The attention's result for batch element `b`, head `h`, position `n`, dimension `d`. -/
def attAt (q qr k v : Vec Ideal S8192x1024 .bf16) (kc vc : Vec Ideal S512x1024 .bf16) (rpb : Vec Ideal S2x8x15x31 .f32)
    (b : Fin 2) (h : Fin 8) (n : Fin 4096) (d : Fin 128) : EReal :=
  att (fullS (biasAt rpb h) (headOf q b h) (headOf qr b h) (headOf k b h) (ctxOf kc b h) n) (fullV (headOf v b h) (ctxOf vc b h) d)

/-- The grid point of batch element `b`, head `h`. -/
def pt (b : Fin 2) (h : Fin 8) : Fin cfg0.N := ⟨8 * b.val + h.val, by have : cfg0.N = 16 := rfl; omega⟩

theorem pt_index (b : Fin 2) (h : Fin 8) :
    (win0_0.index (pt b h) (0 : Fin 2) = b.val ∧ win0_0.index (pt b h) (1 : Fin 2) = h.val)
    ∧ (win0_1.index (pt b h) (0 : Fin 2) = b.val ∧ win0_1.index (pt b h) (1 : Fin 2) = h.val)
    ∧ (win0_2.index (pt b h) (0 : Fin 2) = b.val ∧ win0_2.index (pt b h) (1 : Fin 2) = h.val)
    ∧ (win0_3.index (pt b h) (0 : Fin 2) = b.val ∧ win0_3.index (pt b h) (1 : Fin 2) = h.val)
    ∧ (win0_4.index (pt b h) (0 : Fin 2) = b.val ∧ win0_4.index (pt b h) (1 : Fin 2) = h.val)
    ∧ (win0_5.index (pt b h) (0 : Fin 2) = b.val ∧ win0_5.index (pt b h) (1 : Fin 2) = h.val)
    ∧ (win0_10.index (pt b h) (0 : Fin 2) = b.val ∧ win0_10.index (pt b h) (1 : Fin 2) = h.val)
    ∧ (win0_6.index (pt b h) (0 : Fin 5) = 0 ∧ win0_6.index (pt b h) (1 : Fin 5) = h.val ∧ win0_6.index (pt b h) (2 : Fin 5) = 0
      ∧ win0_6.index (pt b h) (3 : Fin 5) = 0 ∧ win0_6.index (pt b h) (4 : Fin 5) = 0) := by
  revert b h; decide +kernel

variable (m : (ℓ : Loc nD τ sig) → Buf (Elt Ideal) ℓ) (c : Dev nD)

theorem in0 (b : Fin 2) (h : Fin 8) : iblk m c 0 (pt b h) = headOf (m ((c : Thread nD τ).loc main_arg0)) b h := by
  obtain ⟨⟨e0, e1⟩, _⟩ := pt_index b h
  funext y
  show V m c main_arg0 (((cfg0.win 0).blk (pt b h)).view.emb y) = _
  rw [V_main_arg0]
  refine congrArg (m ((c : Thread nD τ).loc main_arg0)) (funext fun a => Fin.ext ?_)
  match a with
  | ⟨0, _⟩ => show win0_0.index (pt b h) (0 : Fin 2) * 4096 + 1 * (y 0).val = 4096 * b.val + (y 0).val; omega
  | ⟨1, _⟩ => show win0_0.index (pt b h) (1 : Fin 2) * 128 + 1 * (y 1).val = 128 * h.val + (y 1).val; omega

theorem in1 (b : Fin 2) (h : Fin 8) : iblk m c 1 (pt b h) = headOf (m ((c : Thread nD τ).loc main_arg1)) b h := by
  obtain ⟨_, ⟨e0, e1⟩, _⟩ := pt_index b h
  funext y
  show V m c main_arg1 (((cfg0.win 1).blk (pt b h)).view.emb y) = _
  rw [V_main_arg1]
  refine congrArg (m ((c : Thread nD τ).loc main_arg1)) (funext fun a => Fin.ext ?_)
  match a with
  | ⟨0, _⟩ => show win0_1.index (pt b h) (0 : Fin 2) * 4096 + 1 * (y 0).val = 4096 * b.val + (y 0).val; omega
  | ⟨1, _⟩ => show win0_1.index (pt b h) (1 : Fin 2) * 128 + 1 * (y 1).val = 128 * h.val + (y 1).val; omega

theorem in2 (b : Fin 2) (h : Fin 8) : iblk m c 2 (pt b h) = headOf (m ((c : Thread nD τ).loc main_arg2)) b h := by
  obtain ⟨_, _, ⟨e0, e1⟩, _⟩ := pt_index b h
  funext y
  show V m c main_arg2 (((cfg0.win 2).blk (pt b h)).view.emb y) = _
  rw [V_main_arg2]
  refine congrArg (m ((c : Thread nD τ).loc main_arg2)) (funext fun a => Fin.ext ?_)
  match a with
  | ⟨0, _⟩ => show win0_2.index (pt b h) (0 : Fin 2) * 4096 + 1 * (y 0).val = 4096 * b.val + (y 0).val; omega
  | ⟨1, _⟩ => show win0_2.index (pt b h) (1 : Fin 2) * 128 + 1 * (y 1).val = 128 * h.val + (y 1).val; omega

theorem in3 (b : Fin 2) (h : Fin 8) : iblk m c 3 (pt b h) = headOf (m ((c : Thread nD τ).loc main_arg3)) b h := by
  obtain ⟨_, _, _, ⟨e0, e1⟩, _⟩ := pt_index b h
  funext y
  show V m c main_arg3 (((cfg0.win 3).blk (pt b h)).view.emb y) = _
  rw [V_main_arg3]
  refine congrArg (m ((c : Thread nD τ).loc main_arg3)) (funext fun a => Fin.ext ?_)
  match a with
  | ⟨0, _⟩ => show win0_3.index (pt b h) (0 : Fin 2) * 4096 + 1 * (y 0).val = 4096 * b.val + (y 0).val; omega
  | ⟨1, _⟩ => show win0_3.index (pt b h) (1 : Fin 2) * 128 + 1 * (y 1).val = 128 * h.val + (y 1).val; omega

theorem in4 (b : Fin 2) (h : Fin 8) : iblk m c 4 (pt b h) = ctxOf (m ((c : Thread nD τ).loc main_arg4)) b h := by
  obtain ⟨_, _, _, _, ⟨e0, e1⟩, _⟩ := pt_index b h
  funext y
  show V m c main_arg4 (((cfg0.win 4).blk (pt b h)).view.emb y) = _
  rw [V_main_arg4]
  refine congrArg (m ((c : Thread nD τ).loc main_arg4)) (funext fun a => Fin.ext ?_)
  match a with
  | ⟨0, _⟩ => show win0_4.index (pt b h) (0 : Fin 2) * 256 + 1 * (y 0).val = 256 * b.val + (y 0).val; omega
  | ⟨1, _⟩ => show win0_4.index (pt b h) (1 : Fin 2) * 128 + 1 * (y 1).val = 128 * h.val + (y 1).val; omega

theorem in5 (b : Fin 2) (h : Fin 8) : iblk m c 5 (pt b h) = ctxOf (m ((c : Thread nD τ).loc main_arg5)) b h := by
  obtain ⟨_, _, _, _, _, ⟨e0, e1⟩, _⟩ := pt_index b h
  funext y
  show V m c main_arg5 (((cfg0.win 5).blk (pt b h)).view.emb y) = _
  rw [V_main_arg5]
  refine congrArg (m ((c : Thread nD τ).loc main_arg5)) (funext fun a => Fin.ext ?_)
  match a with
  | ⟨0, _⟩ => show win0_5.index (pt b h) (0 : Fin 2) * 256 + 1 * (y 0).val = 256 * b.val + (y 0).val; omega
  | ⟨1, _⟩ => show win0_5.index (pt b h) (1 : Fin 2) * 128 + 1 * (y 1).val = 128 * h.val + (y 1).val; omega

theorem in6 (b : Fin 2) (h : Fin 8) (z : Fin 16) (w : Fin 64) (l : Fin 128) :
    (iblk m c 6 (pt b h) : Vec Ideal S1x1x16x64x128 .f32) (ix5 0 0 z w l) = tileOf (biasAt (m ((c : Thread nD τ).loc main_arg6)) h) z w l := by
  obtain ⟨_, _, _, _, _, _, _, e0, e1, e2, e3, e4⟩ := pt_index b h
  rw [← tiles_apply m c h z w l]
  show V m c main_v131 (((cfg0.win 6).blk (pt b h)).view.emb _) = _
  refine congrArg (V m c main_v131) (funext fun a => Fin.ext ?_)
  match a with
  | ⟨0, _⟩ => show win0_6.index (pt b h) (0 : Fin 5) * 1 + 1 * 0 = 0; omega
  | ⟨1, _⟩ => show win0_6.index (pt b h) (1 : Fin 5) * 1 + 1 * 0 = h.val; omega
  | ⟨2, _⟩ => show win0_6.index (pt b h) (2 : Fin 5) * 16 + 1 * z.val = z.val; omega
  | ⟨3, _⟩ => show win0_6.index (pt b h) (3 : Fin 5) * 64 + 1 * w.val = w.val; omega
  | ⟨4, _⟩ => show win0_6.index (pt b h) (4 : Fin 5) * 128 + 1 * l.val = l.val; omega

theorem na_apply (b : Fin 2) (h : Fin 8) (n : Fin 4096) (d : Fin 128) (i : Fin 8192) (j : Fin 1024) (hi : i.val = 4096 * b.val + n.val)
    (hj : j.val = 128 * h.val + d.val) :
    ((dats m 0 c).arrAt 10 cfg0.N : Vec Ideal S8192x1024 .bf16) (ix2 i j)
      = attAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) b h n d := by
  obtain ⟨_, _, _, _, _, _, ⟨e0, e1⟩, _⟩ := pt_index b h
  have hb := congrFun (Value.blocks10 m c (pt b h) ((by decide +kernel : ∀ t : Fin cfg0.N, (cfg0.win 10).flush t = true) _)) (ix2 n d)
  rw [Value.flushed10_A, in0, in1, in2, in3, in4, in5] at hb
  refine Eq.trans ?_ (hb.trans ?_)
  · refine congrArg ((dats m 0 c).arrAt 10 cfg0.N) (funext fun a => Fin.ext ?_)
    match a with
    | ⟨0, _⟩ => show i.val = win0_10.index (pt b h) (0 : Fin 2) * 4096 + 1 * n.val; omega
    | ⟨1, _⟩ => show j.val = win0_10.index (pt b h) (1 : Fin 2) * 128 + 1 * d.val; omega
  · exact point_apply c _ _ _ _ _ _ _ _ _ _ _ _ _ _ _ _ _ _ _ _ _ _ _ _ _ _ _ _ _ _ _ _ _ _ _ _ _ _ _ _ _ _
      (in6 m c b h) n d

end

end Cert.NA
-- ==== Proof.RefValue.lean ====
module

public import proofs.«01_k».proof.Proof.RefGather
public import proofs.«01_k».proof.Proof.Array

/-!
The reference's scores, weights and weighted sums, each read at an index.
-/

@[expose] public section

set_option maxRecDepth 65536

namespace Cert.NA

open Idealize.ShloMosaic Cert.ReferenceIdeal Cert.ReferenceIdeal.Facts Cert.ReferenceIdeal.Read

noncomputable section

/-- The position of row `r`, column `w`. -/
def pos (r w : Fin 64) : Fin 4096 := ⟨64 * r.val + w.val, by omega⟩

theorem row_pos (r w : Fin 64) : row (pos r w) = r.val := by
  show (64 * r.val + w.val) / 64 = r.val; omega

theorem col_pos (r w : Fin 64) : col (pos r w) = w := by
  apply Fin.ext; show (64 * r.val + w.val) % 64 = w.val; omega

/-- The key row the `j`th row of row `r`'s band is. -/
def bandRow (r : Fin 64) (j : Fin 8) : Fin 64 := ⟨winRow r.val + j.val, by have := winRow_le r.val; omega⟩

/-- Row `r`'s keys: the band's 512 positions, then the context. -/
def bandKey (r : Fin 64) (j : Fin 768) : Pos :=
  if h : j.val < 512 then .inl ⟨64 * winRow r.val + j.val, by have := winRow_le r.val; omega⟩ else .inr ⟨j.val - 512, by omega⟩

theorem bandKey_injective (r : Fin 64) : Function.Injective (bandKey r) := by
  intro j j' h
  unfold bandKey at h
  split at h <;> split at h <;> simp only [Sum.inl.injEq, Sum.inr.injEq, Fin.mk.injEq, reduceCtorEq] at h
  · exact Fin.ext (by omega)
  · exact Fin.ext (by omega)

theorem bandKey_reach (T) (q qr k : Vec Ideal Cert.KernelIdeal.S4096x128 .bf16) (kc : Vec Ideal Cert.KernelIdeal.S256x128 .bf16) (r w : Fin 64) (m : Pos)
    (hm : ∀ j, bandKey r j ≠ m) : fullS T q qr k kc (pos r w) m = ⊥ := by
  rcases m with m | m
  · have h : rowOff (row (pos r w)) (row m) = none := by
      rw [row_pos]
      unfold rowOff
      refine if_neg fun hh => ?_
      have h1 : row m = m.val / 64 := rfl
      refine hm ⟨m.val - 64 * winRow r.val, by omega⟩ ?_
      unfold bandKey
      rw [dif_pos (show m.val - 64 * winRow r.val < 512 by omega)]
      congr 1
      apply Fin.ext
      show 64 * winRow r.val + (m.val - 64 * winRow r.val) = m.val
      omega
    simp only [fullS, h]
  · refine absurd ?_ (hm ⟨512 + m.val, by omega⟩)
    unfold bandKey
    rw [dif_neg (show ¬ 512 + m.val < 512 by omega)]
    congr 1
    apply Fin.ext
    show 512 + m.val - 512 = m.val
    omega

/-! ### The scores -/

theorem grid_head (x : Vec Ideal S8192x1024 .bf16) (b : Fin 2) (r w : Fin 64) (h : Fin 8) (e : Fin 128) :
    val_main_v1 (F := Ideal) x (ix5 b r w h e) = headOf x b h (ix2 (pos r w) e) :=
  grid0_apply x b r w h e _ _ (by show 4096 * b.val + (64 * r.val + w.val) = _; omega) rfl

theorem band_head (x : Vec Ideal S8192x1024 .bf16) (b : Fin 2) (r : Fin 64) (j : Fin 8) (k : Fin 64) (h : Fin 8) (e : Fin 128) :
    val_main_v21 (F := Ideal) x (ix6 b r j k h e) = headOf x b h (ix2 (pos (bandRow r j) k) e) :=
  (kBand_apply x b r j k h e).trans (grid_head x b _ k h e)

theorem ctx_head (x : Vec Ideal S512x1024 .bf16) (b : Fin 2) (k : Fin 256) (h : Fin 8) (e : Fin 128) :
    val_main_v9 (F := Ideal) x (ix4 b k h e) = ctxOf x b h (ix2 k e) :=
  ctx0_apply x b k h e _ _ rfl rfl

variable (x0 x1 x2 x3 : Vec Ideal S8192x1024 .bf16) (x4 x5 : Vec Ideal S512x1024 .bf16) (x6 : Vec Ideal S2x8x15x31 .f32)
  (b : Fin 2) (h : Fin 8) (r w : Fin 64)

theorem dots_apply (j : Fin 8) (k : Fin 64) : val_main_v24 (F := Ideal) x1 x2 (ix6 b h r w j k)
    = ∑ e : Fin 128, headOf x1 b h (ix2 (pos r w) e) * headOf x2 b h (ix2 (pos (bandRow r j) k) e) := by
  rw [val_main_v24_apply]
  refine Finset.sum_congr rfl fun e _ => congrArg₂ (· * ·) ?_ ?_
  · rw [← grid_head, grid3_apply]
    refine congrArg _ (funext fun a => ?_)
    fin_cases a <;> rfl
  · rw [← band_head]
    refine congrArg _ (funext fun a => ?_)
    fin_cases a <;> rfl

theorem ctxDots_apply (k : Fin 256) : val_main_v61 (F := Ideal) x0 x4 (ix5 b h r w k)
    = ∑ e : Fin 128, headOf x0 b h (ix2 (pos r w) e) * ctxOf x4 b h (ix2 k e) := by
  rw [val_main_v61_apply]
  refine Finset.sum_congr rfl fun e _ => congrArg₂ (· * ·) ?_ ?_
  · rw [← grid_head]
    refine congrArg _ (funext fun a => ?_)
    fin_cases a <;> rfl
  · rw [← ctx_head]
    refine congrArg _ (funext fun a => ?_)
    fin_cases a <;> rfl

theorem mask_apply (j : Fin 8) (k : Fin 64) : val_main_call0_v1 (F := Ideal) (ix6 b h r w j k) = if inCol w k then 1#1 else 0#1 := by
  rw [val_main_call0_v1_apply, val_main_v56_apply, ← colMask_apply]
  refine congrArg _ (funext fun a => ?_)
  fin_cases a <;> rfl

theorem biasRow_apply (j : Fin 8) (k : Fin 64) : val_main_v58 (F := Ideal) x6 (ix6 b h r w j k)
    = x6 (ix4 0 h ⟨min (winRow r.val + j.val + 7 - r.val) 14, by omega⟩ (offCol w.val k.val)) := by
  rw [val_main_v58_apply, val_main_v57_apply, ← bias_apply x6]
  refine congrArg _ (funext fun a => ?_)
  fin_cases a <;> rfl

theorem banned_apply (j : Fin 8) (k : Fin 64) : val_main_call0_v2 (F := Ideal) (ix6 b h r w j k) = (⊥ : EReal) := by
  rw [val_main_call0_v2_apply]
  exact negInf

theorem bandScore_apply (j : Fin 8) (k : Fin 64) : val_main_v60 (F := Ideal) x1 x2 x6 (ix6 b h r w j k)
    = (∑ e : Fin 128, headOf x1 b h (ix2 (pos r w) e) * headOf x2 b h (ix2 (pos (bandRow r j) k) e))
      + biasAt x6 h (winRow r.val + j.val + 7 - r.val) w k := by
  rw [val_main_v60_apply, val_main_v59_apply, mask_apply, banned_apply, dots_apply, biasRow_apply]
  unfold biasAt
  by_cases hc : inCol w k
  · rw [if_pos hc, if_pos hc]; rfl
  · rw [if_neg hc, if_neg hc, EReal.add_bot]; rfl

theorem flat_apply (j : Fin 512) : val_main_v62 (F := Ideal) x1 x2 x6 (ix5 b h r w j)
    = val_main_v60 (F := Ideal) x1 x2 x6 (ix6 b h r w ⟨j.val / 64, by omega⟩ ⟨j.val % 64, by omega⟩) := by
  unfold val_main_v62
  generalize val_main_v60 (F := Ideal) x1 x2 x6 = y
  pointwise

theorem score_apply (j : Fin 768) : val_main_v63 (F := Ideal) x0 x1 x2 x4 x6 (ix5 b h r w j)
    = fullS (biasAt x6 h) (headOf x0 b h) (headOf x1 b h) (headOf x2 b h) (ctxOf x4 b h) (pos r w) (bandKey r j) := by
  have hl : val_main_v63 (F := Ideal) x0 x1 x2 x4 x6 (ix5 b h r w j)
      = if hj : j.val < 512 then val_main_v62 (F := Ideal) x1 x2 x6 (ix5 b h r w ⟨j.val, hj⟩)
        else val_main_v61 (F := Ideal) x0 x4 (ix5 b h r w ⟨j.val - 512, by omega⟩) := by
    unfold val_main_v63
    generalize val_main_v62 (F := Ideal) x1 x2 x6 = y
    generalize val_main_v61 (F := Ideal) x0 x4 = z
    pointwise
  rw [hl]
  unfold bandKey
  by_cases hj : j.val < 512
  · rw [dif_pos hj, dif_pos hj, flat_apply, bandScore_apply]
    have hw := winRow_le r.val
    have h1 : row ⟨64 * winRow r.val + j.val, by omega⟩ = winRow r.val + j.val / 64 := by
      show (64 * winRow r.val + j.val) / 64 = _; omega
    have h2 : rowOff (row (pos r w)) (row ⟨64 * winRow r.val + j.val, by omega⟩) = some (winRow r.val + j.val / 64 + 7 - r.val) := by
      rw [h1, row_pos]; exact if_pos (by omega)
    have h3 : pos (bandRow r ⟨j.val / 64, by omega⟩) ⟨j.val % 64, by omega⟩ = ⟨64 * winRow r.val + j.val, by omega⟩ := by
      apply Fin.ext; show 64 * (winRow r.val + j.val / 64) + j.val % 64 = 64 * winRow r.val + j.val; omega
    have h4 : col ⟨64 * winRow r.val + j.val, by omega⟩ = ⟨j.val % 64, by omega⟩ := by
      apply Fin.ext; show (64 * winRow r.val + j.val) % 64 = j.val % 64; omega
    simp only [fullS, h2, h3, h4, col_pos]
  · rw [dif_neg hj, dif_neg hj, ctxDots_apply]
    rfl

/-! ### The weights -/

/-- The scores of the query at row `r`, column `w`. -/
def scores : Fin 768 → EReal := fun j =>
  fullS (biasAt x6 h) (headOf x0 b h) (headOf x1 b h) (headOf x2 b h) (ctxOf x4 b h) (pos r w) (bandKey r j)

theorem max_apply : val_main_v66 (F := Ideal) x0 x1 x2 x4 x6 (ix4 b h r w) = top (scores x0 x1 x2 x4 x6 b h r w) := by
  have hf : val_main_v64 (F := Ideal) x0 x1 x2 x4 x6 (ix4 b h r w)
      = Finset.univ.fold max (⊥ : EReal) fun j : Fin 768 => val_main_v63 (F := Ideal) x0 x1 x2 x4 x6 (ix5 b h r w j) := by
    rw [← negInf]
    unfold val_main_v64 val_main_cst_10
    generalize val_main_v63 (F := Ideal) x0 x1 x2 x4 x6 = y
    pointwise
  have hb : val_main_v65 (F := Ideal) (ix4 b h r w) = (⊥ : EReal) := by
    rw [val_main_v65_apply]; exact negInf
  rw [val_main_v66_apply, hb, hf]
  refine (max_eq_right bot_le).trans ?_
  apply eq_of_forall_ge_iff
  intro y
  rw [Finset.fold_max_le]
  simp only [bot_le, true_and, Finset.mem_univ, forall_const, top, Finset.sup_le_iff, score_apply, scores]

theorem weight_apply (j : Fin 768) : val_main_v70 (F := Ideal) x0 x1 x2 x4 x6 (ix5 b h r w j) = wgt (scores x0 x1 x2 x4 x6 b h r w) j := by
  rw [val_main_v70_apply, val_main_v69_apply, score_apply, val_main_v68_apply, val_main_v67_apply]
  have e : idx_main_v67 (idx_main_v68 (ix5 b h r w j)) = ix4 b h r w := by funext a; fin_cases a <;> rfl
  rw [e, max_apply]
  rfl

theorem sum_apply : val_main_v71 (F := Ideal) x0 x1 x2 x4 x6 (ix4 b h r w) = total (scores x0 x1 x2 x4 x6 b h r w) := by
  rw [val_main_v71_apply]
  have h0 : val_main_cst_12 (F := Ideal) (Shape.Idx.first Gen.h_S_) = (0 : EReal) := by
    rw [val_main_cst_12_apply]; exact Ideal.ofBits_zero .f32
  rw [h0, zero_add]
  refine Finset.sum_congr rfl fun j _ => ?_
  rw [← weight_apply]
  refine congrArg _ (funext fun a => ?_)
  fin_cases a <;> rfl

theorem prob_apply (j : Fin 768) : val_main_v76 (F := Ideal) x0 x1 x2 x4 x6 (ix5 b h r w j)
    = Ideal.div (wgt (scores x0 x1 x2 x4 x6 b h r w) j) (total (scores x0 x1 x2 x4 x6 b h r w)) := by
  rw [val_main_v76_apply, val_main_v75_apply, val_main_v74_apply, weight_apply, val_main_v73_apply, val_main_v72_apply]
  have e : idx_main_v72 (idx_main_v73 (ix5 b h r w j)) = ix4 b h r w := by funext a; fin_cases a <;> rfl
  rw [e, sum_apply]
  rfl

/-! ### The weighted sums -/

theorem flatProb_apply (j : Fin 8) (k : Fin 64) : val_main_v78 (F := Ideal) x0 x1 x2 x4 x6 (ix6 b h r w j k)
    = val_main_v76 (F := Ideal) x0 x1 x2 x4 x6 (ix5 b h r w ⟨64 * j.val + k.val, by omega⟩) := by
  have e : val_main_v78 (F := Ideal) x0 x1 x2 x4 x6 (ix6 b h r w j k)
      = val_main_v77 (F := Ideal) x0 x1 x2 x4 x6 (ix5 b h r w ⟨64 * j.val + k.val, by omega⟩) := by
    unfold val_main_v78
    generalize val_main_v77 (F := Ideal) x0 x1 x2 x4 x6 = y
    pointwise
    exact congrArg (fun i => y (ix5 b h r w i)) (Fin.ext (by show j.val * 64 + k.val = 64 * j.val + k.val; omega))
  rw [e, val_main_v77_apply]
  refine congrArg _ (funext fun a => ?_)
  fin_cases a <;> rfl

theorem dot2_apply (L : FVec Ideal S2x64x8x64x8x128 .f32) (R : FVec Ideal S2x8x64x64x8x64 .f32) (d : Fin 128) :
    Host.dotGeneral dot_S2x64x8x64x8x128_S2x8x64x64x8x64_S2x64x8x128x64_32_54_5_3_014_021 none L R (ix5 b r h d w)
      = ∑ k : Fin 64, ∑ j : Fin 8, L (ix6 b r j k h d) * R (ix6 b h r w j k) := by
  simp only [Host.dotGeneral]
  rw [Ideal.dotGeneral_apply, ValueIdx.sum_contr2 dot_S2x64x8x64x8x128_S2x8x64x64x8x64_S2x64x8x128x64_32_54_5_3_014_021 64 8 rfl rfl rfl]
  refine Finset.sum_congr rfl fun k _ => Finset.sum_congr rfl fun j _ => ?_
  have h0 := ValueIdx.contrEquiv2_symm_val0 dot_S2x64x8x64x8x128_S2x8x64x64x8x64_S2x64x8x128x64_32_54_5_3_014_021 64 8 rfl rfl rfl (k, j)
  have h1 := ValueIdx.contrEquiv2_symm_val1 dot_S2x64x8x64x8x128_S2x8x64x64x8x64_S2x64x8x128x64_32_54_5_3_014_021 64 8 rfl rfl rfl (k, j)
  refine congrArg₂ (· * ·) (congrArg L (funext fun a => Fin.ext ?_)) (congrArg R (funext fun a => Fin.ext ?_))
  · match a with
    | ⟨0, _⟩ => rfl
    | ⟨1, _⟩ => rfl
    | ⟨2, _⟩ => exact h1
    | ⟨3, _⟩ => exact h0
    | ⟨4, _⟩ => rfl
    | ⟨5, _⟩ => rfl
  · match a with
    | ⟨0, _⟩ => rfl
    | ⟨1, _⟩ => rfl
    | ⟨2, _⟩ => rfl
    | ⟨3, _⟩ => rfl
    | ⟨4, _⟩ => exact h1
    | ⟨5, _⟩ => exact h0

/-- A key's share of the result. -/
def share (d : Fin 128) (j : Fin 768) : EReal :=
  Ideal.div (wgt (scores x0 x1 x2 x4 x6 b h r w) j) (total (scores x0 x1 x2 x4 x6 b h r w))
    * fullV (headOf x3 b h) (ctxOf x5 b h) d (bandKey r j)

theorem bandSum_apply (d : Fin 128) : val_main_v81 (F := Ideal) x0 x1 x2 x3 x4 x6 (ix5 b r w h d)
    = ∑ j : Fin 512, share x0 x1 x2 x3 x4 x5 x6 b h r w d ⟨j.val, by omega⟩ := by
  have e : val_main_v81 (F := Ideal) x0 x1 x2 x3 x4 x6 (ix5 b r w h d) = val_main_v80 (F := Ideal) x0 x1 x2 x3 x4 x6 (ix5 b r h d w) := by
    rw [val_main_v81_apply]
    refine congrArg _ (funext fun a => ?_)
    fin_cases a <;> rfl
  rw [e]
  unfold val_main_v80
  rw [dot2_apply, Finset.sum_comm, ← Equiv.sum_comp (finProdFinEquiv (m := 8) (n := 64)), Fintype.sum_prod_type]
  refine Finset.sum_congr rfl fun j _ => Finset.sum_congr rfl fun k _ => ?_
  have hk : (finProdFinEquiv (j, k)).val = 64 * j.val + k.val := by
    show k.val + 64 * j.val = _; omega
  rw [flatProb_apply, prob_apply, vBand_apply, band_head, mul_comm]
  unfold share
  have hw := winRow_le r.val
  refine congrArg₂ (· * ·) (congrArg (fun j => Ideal.div (wgt _ j) _) (Fin.ext hk.symm)) ?_
  unfold bandKey
  rw [dif_pos (show (finProdFinEquiv (j, k)).val < 512 by omega)]
  refine congrArg (fun n => headOf x3 b h (ix2 n d)) (Fin.ext ?_)
  show 64 * (winRow r.val + j.val) + k.val = 64 * winRow r.val + (finProdFinEquiv (j, k)).val
  omega

theorem ctxSum_apply (d : Fin 128) : val_main_v83 (F := Ideal) x0 x1 x2 x4 x5 x6 (ix5 b r w h d)
    = ∑ j : Fin 256, share x0 x1 x2 x3 x4 x5 x6 b h r w d ⟨512 + j.val, by omega⟩ := by
  have e : val_main_v83 (F := Ideal) x0 x1 x2 x4 x5 x6 (ix5 b r w h d) = val_main_v82 (F := Ideal) x0 x1 x2 x4 x5 x6 (ix5 b h d r w) := by
    rw [val_main_v83_apply]
    refine congrArg _ (funext fun a => ?_)
    fin_cases a <;> rfl
  rw [e, val_main_v82_apply]
  refine Finset.sum_congr rfl fun j _ => ?_
  have e1 : lidx_main_v82 (ix5 b h d r w) j = ix4 b j h d := by funext a; fin_cases a <;> rfl
  have e2 : ridx_main_v82 (ix5 b h d r w) j = ix5 b h r w j := by funext a; fin_cases a <;> rfl
  have e3 : idx_main_v79 (ix5 b h r w j) = ix5 b h r w ⟨512 + j.val, by omega⟩ := by funext a; fin_cases a <;> rfl
  rw [e1, e2, val_main_v79_apply, e3, prob_apply, ctx11_apply, ctx_head, mul_comm]
  unfold share
  refine congrArg₂ (· * ·) rfl ?_
  unfold bandKey
  rw [dif_neg (show ¬ 512 + j.val < 512 by omega)]
  refine congrArg (fun n => ctxOf x5 b h (ix2 n d)) (Fin.ext ?_)
  show j.val = 512 + j.val - 512
  omega

theorem out_apply (d : Fin 128) : val_main_v84 (F := Ideal) x0 x1 x2 x3 x4 x5 x6 (ix5 b r w h d)
    = ∑ j : Fin 768, share x0 x1 x2 x3 x4 x5 x6 b h r w d j := by
  rw [val_main_v84_apply, bandSum_apply x0 x1 x2 x3 x4 x5 x6, ctxSum_apply x0 x1 x2 x3 x4 x5 x6]
  exact (Fin.sum_univ_add (a := 512) (b := 256) fun j : Fin (512 + 256) => share x0 x1 x2 x3 x4 x5 x6 b h r w d j).symm

/-- The reference's result, when no score is +∞ and one is above −∞. -/
theorem ref_apply (d : Fin 128) (i : Fin 8192) (j : Fin 1024) (hi : i.val = 4096 * b.val + (pos r w).val) (hj : j.val = 128 * h.val + d.val)
    (hT : ∀ p, fullS (biasAt x6 h) (headOf x0 b h) (headOf x1 b h) (headOf x2 b h) (ctxOf x4 b h) (pos r w) p ≠ ⊤)
    (hB : ∀ p, fullS (biasAt x6 h) (headOf x0 b h) (headOf x1 b h) (headOf x2 b h) (ctxOf x4 b h) (pos r w) (.inr p) ≠ ⊥) :
    val_main_v86 (F := Ideal) x0 x1 x2 x3 x4 x5 x6 (ix2 i j) = attAt x0 x1 x2 x3 x4 x5 x6 b h (pos r w) d := by
  have hp : (pos r w).val = 64 * r.val + w.val := rfl
  have e : idx_main_v85 (ix2 i j) = ix5 b r w h d := by
    funext a
    apply Fin.ext
    match a with
    | ⟨0, _⟩ => show (i.val * 1024 + j.val) / 4194304 = b.val; omega
    | ⟨1, _⟩ => show (i.val * 1024 + j.val) / 65536 % 64 = r.val; omega
    | ⟨2, _⟩ => show (i.val * 1024 + j.val) / 1024 % 64 = w.val; omega
    | ⟨3, _⟩ => show (i.val * 1024 + j.val) / 128 % 8 = h.val; omega
    | ⟨4, _⟩ => show (i.val * 1024 + j.val) % 128 = d.val; omega
  rw [val_main_v86_apply, val_main_v85_apply, e, out_apply]
  show ∑ j : Fin 768, share x0 x1 x2 x3 x4 x5 x6 b h r w d j = _
  unfold attAt
  rw [att_embed (bandKey r) (bandKey_injective r) _ _ (fun m hm => bandKey_reach _ _ _ _ _ r w m hm)]
  refine sum_div_eq_att (S := scores x0 x1 x2 x4 x6 b h r w) (V := fun j => fullV (headOf x3 b h) (ctxOf x5 b h) d (bandKey r j))
    (fun j => hT _) ⟨⟨512, by omega⟩, ?_⟩
  exact hB ⟨0, by omega⟩

end

end Cert.NA
-- ==== Proof.Riders.lean ====
module

public import proofs.«01_k».proof.Proof.Array

/-!
The kernel's other three results: layer 0 of each weight array, copied block by block.
-/

@[expose] public section

set_option maxRecDepth 65536

namespace Cert.NA

open Idealize.ShloMosaic Cert.KernelIdeal Cert.KernelIdeal.Facts₀ Cert.KernelIdeal.Facts Idealize.ShloMosaic.TcCoe

variable (m : (ℓ : Loc nD τ sig) → Buf (Elt Ideal) ℓ) (c : Dev nD)

section Point

variable (i : grid0.Coords)
  (arg2 : Memref sig .tc .vmem S4096x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S4096x128 .bf16) (harg5 : arg5.IsWhole)
  (arg6 : Memref sig .tc .vmem S256x128 .bf16) (harg6 : arg6.IsWhole) (arg7 : Memref sig .tc .vmem S256x128 .bf16) (harg7 : arg7.IsWhole)
  (arg8 : Memref sig .tc .vmem S1x1x16x64x128 .f32) (harg8 : arg8.IsWhole) (arg9 : Memref sig .tc .vmem S1x128x2048 .f32) (harg9 : arg9.IsWhole)
  (arg10 : Memref sig .tc .vmem S1x2048x512 .f32) (harg10 : arg10.IsWhole) (arg11 : Memref sig .tc .vmem S1x512x2048 .f32) (harg11 : arg11.IsWhole)
  (arg12 : Memref sig .tc .vmem S4096x128 .bf16) (harg12 : arg12.IsWhole) (arg13 : Memref sig .tc .vmem S128x2048 .bf16) (harg13 : arg13.IsWhole)
  (arg14 : Memref sig .tc .vmem S2048x512 .bf16) (harg14 : arg14.IsWhole) (arg15 : Memref sig .tc .vmem S512x2048 .bf16) (harg15 : arg15.IsWhole)
  (arg16 : Memref sig .tc .vmem S128x4096 .bf16) (harg16 : arg16.IsWhole)
  (x0 x1 x2 x3 : Vec Ideal S4096x128 .bf16) (x4 x5 : Vec Ideal S256x128 .bf16) (x6 : Vec Ideal S1x1x16x64x128 .f32)
  (x7 : Vec Ideal S1x128x2048 .f32) (x8 : Vec Ideal S1x2048x512 .f32) (x9 : Vec Ideal S1x512x2048 .f32)

theorem copy11 : Gen.out0_A_11 (F := Ideal) c i arg2 harg2 arg3 harg3 arg4 harg4 arg5 harg5 arg6 harg6 arg7 harg7 arg8 harg8 arg9 harg9 arg10 harg10
      arg11 harg11 arg12 harg12 arg13 harg13 arg14 harg14 arg15 harg15 arg16 harg16 x0 x1 x2 x3 x4 x5 x6 x7 x8 x9
    = fun y => x7 (ix3 0 (y 0) (y 1)) := by
  have h : (Gen.kernelRun0_A (F := Ideal) c i arg2 harg2 arg3 harg3 arg4 harg4 arg5 harg5 arg6 harg6 arg7 harg7 arg8 harg8 arg9 harg9 arg10 harg10
      arg11 harg11 arg12 harg12 arg13 harg13 arg14 harg14 arg15 harg15 arg16 harg16 x0 x1 x2 x3 x4 x5 x6 x7 x8 x9).2.1
      = [(⟨Rect.unit (s := S128x2048) ![0, 0] S128x2048.size inb_S128x2048_S128x2048_0_0,
          truncf (F := Ideal) .bf16 (shapeCast S128x2048 (View.readAt (Elt Ideal) arg9.view
            (Rect.unit (s := S1x128x2048) ![0, 0, 0] S1x128x2048.size inb_S1x128x2048_S1x128x2048_0_0_0).toLoadRect (harg9.unread x7))
            shapeCasts_S1x128x2048_S128x2048) bitsLt_bf16_f32⟩ : View.Piece (Elt Ideal) S128x2048 .bf16)] := by sl_kernel_rfl
  unfold Gen.out0_A_11
  rw [h, View.read_writes_full, View.readAt_full, harg9.read_unread]
  funext y
  idx_vars y
  pointwise

theorem copy12 : Gen.out0_A_12 (F := Ideal) c i arg2 harg2 arg3 harg3 arg4 harg4 arg5 harg5 arg6 harg6 arg7 harg7 arg8 harg8 arg9 harg9 arg10 harg10
      arg11 harg11 arg12 harg12 arg13 harg13 arg14 harg14 arg15 harg15 arg16 harg16 x0 x1 x2 x3 x4 x5 x6 x7 x8 x9
    = fun y => x8 (ix3 0 (y 0) (y 1)) := by
  have h : (Gen.kernelRun0_A (F := Ideal) c i arg2 harg2 arg3 harg3 arg4 harg4 arg5 harg5 arg6 harg6 arg7 harg7 arg8 harg8 arg9 harg9 arg10 harg10
      arg11 harg11 arg12 harg12 arg13 harg13 arg14 harg14 arg15 harg15 arg16 harg16 x0 x1 x2 x3 x4 x5 x6 x7 x8 x9).2.2.1
      = [(⟨Rect.unit (s := S2048x512) ![0, 0] S2048x512.size inb_S2048x512_S2048x512_0_0,
          truncf (F := Ideal) .bf16 (shapeCast S2048x512 (View.readAt (Elt Ideal) arg10.view
            (Rect.unit (s := S1x2048x512) ![0, 0, 0] S1x2048x512.size inb_S1x2048x512_S1x2048x512_0_0_0).toLoadRect (harg10.unread x8))
            shapeCasts_S1x2048x512_S2048x512) bitsLt_bf16_f32⟩ : View.Piece (Elt Ideal) S2048x512 .bf16)] := by sl_kernel_rfl
  unfold Gen.out0_A_12
  rw [h, View.read_writes_full, View.readAt_full, harg10.read_unread]
  funext y
  idx_vars y
  pointwise

theorem copy13 : Gen.out0_A_13 (F := Ideal) c i arg2 harg2 arg3 harg3 arg4 harg4 arg5 harg5 arg6 harg6 arg7 harg7 arg8 harg8 arg9 harg9 arg10 harg10
      arg11 harg11 arg12 harg12 arg13 harg13 arg14 harg14 arg15 harg15 arg16 harg16 x0 x1 x2 x3 x4 x5 x6 x7 x8 x9
    = fun y => x9 (ix3 0 (y 0) (y 1)) := by
  have h : (Gen.kernelRun0_A (F := Ideal) c i arg2 harg2 arg3 harg3 arg4 harg4 arg5 harg5 arg6 harg6 arg7 harg7 arg8 harg8 arg9 harg9 arg10 harg10
      arg11 harg11 arg12 harg12 arg13 harg13 arg14 harg14 arg15 harg15 arg16 harg16 x0 x1 x2 x3 x4 x5 x6 x7 x8 x9).2.2.2.1
      = [(⟨Rect.unit (s := S512x2048) ![0, 0] S512x2048.size inb_S512x2048_S512x2048_0_0,
          truncf (F := Ideal) .bf16 (shapeCast S512x2048 (View.readAt (Elt Ideal) arg11.view
            (Rect.unit (s := S1x512x2048) ![0, 0, 0] S1x512x2048.size inb_S1x512x2048_S1x512x2048_0_0_0).toLoadRect (harg11.unread x9))
            shapeCasts_S1x512x2048_S512x2048) bitsLt_bf16_f32⟩ : View.Piece (Elt Ideal) S512x2048 .bf16)] := by sl_kernel_rfl
  unfold Gen.out0_A_13
  rw [h, View.read_writes_full, View.readAt_full, harg11.read_unread]
  funext y
  idx_vars y
  pointwise

end Point

theorem index11 (t : Fin cfg0.N) : (win0_11.index t (0 : Fin 2) = t.val ∧ win0_11.index t (1 : Fin 2) = 0)
    ∧ (win0_7.index t (0 : Fin 3) = 0 ∧ win0_7.index t (1 : Fin 3) = t.val ∧ win0_7.index t (2 : Fin 3) = 0) := by
  revert t; exact (by decide +kernel : ∀ t : Fin grid0.N, (win0_11.index t (0 : Fin 2) = t.val ∧ win0_11.index t (1 : Fin 2) = 0)
    ∧ (win0_7.index t (0 : Fin 3) = 0 ∧ win0_7.index t (1 : Fin 3) = t.val ∧ win0_7.index t (2 : Fin 3) = 0))

theorem copied11 (i : Fin 2048) (j : Fin 2048) : ((Gen.dats m 0 c).arrAt 11 cfg0.N : Vec Ideal S2048x2048 .bf16) (ix2 i j)
    = (m ((c : Thread nD τ).loc main_arg7) : Vec Ideal S2x2048x2048 .f32) (ix3 0 i j) := by
  obtain ⟨t, ht⟩ : ∃ t : Fin cfg0.N, t.val = i.val / 128 := ⟨⟨i.val / 128, by have : cfg0.N = 16 := rfl; omega⟩, rfl⟩
  obtain ⟨⟨e0, e1⟩, f0, f1, f2⟩ := index11 t
  have hb := congrFun (Value.blocks11 m c t ((by decide +kernel : ∀ t : Fin cfg0.N, (cfg0.win 11).flush t = true) _))
    (ix2 ⟨i.val % 128, Nat.mod_lt _ (by decide)⟩ j)
  rw [Value.flushed11_A, copy11] at hb
  refine Eq.trans ?_ (hb.trans ?_)
  · refine congrArg ((Gen.dats m 0 c).arrAt 11 cfg0.N) (funext fun a => Fin.ext ?_)
    match a with
    | ⟨0, _⟩ => show i.val = win0_11.index t (0 : Fin 2) * 128 + 1 * (i.val % 128); omega
    | ⟨1, _⟩ => show j.val = win0_11.index t (1 : Fin 2) * 2048 + 1 * j.val; omega
  · show Gen.V m c main_arg7 (((cfg0.win 7).blk t).view.emb (ix3 0 ⟨i.val % 128, Nat.mod_lt _ (by decide)⟩ j)) = _
    rw [Gen.V_main_arg7]
    refine congrArg (m ((c : Thread nD τ).loc main_arg7)) (funext fun a => Fin.ext ?_)
    match a with
    | ⟨0, _⟩ => show win0_7.index t (0 : Fin 3) * 1 + 1 * 0 = 0; omega
    | ⟨1, _⟩ => show win0_7.index t (1 : Fin 3) * 128 + 1 * (i.val % 128) = i.val; omega
    | ⟨2, _⟩ => show win0_7.index t (2 : Fin 3) * 2048 + 1 * j.val = j.val; omega

theorem index12 (t : Fin cfg0.N) : (win0_12.index t (0 : Fin 2) = 0 ∧ win0_12.index t (1 : Fin 2) = t.val)
    ∧ (win0_8.index t (0 : Fin 3) = 0 ∧ win0_8.index t (1 : Fin 3) = 0 ∧ win0_8.index t (2 : Fin 3) = t.val) := by
  revert t; exact (by decide +kernel : ∀ t : Fin grid0.N, (win0_12.index t (0 : Fin 2) = 0 ∧ win0_12.index t (1 : Fin 2) = t.val)
    ∧ (win0_8.index t (0 : Fin 3) = 0 ∧ win0_8.index t (1 : Fin 3) = 0 ∧ win0_8.index t (2 : Fin 3) = t.val))

theorem copied12 (i : Fin 2048) (j : Fin 8192) : ((Gen.dats m 0 c).arrAt 12 cfg0.N : Vec Ideal S2048x8192 .bf16) (ix2 i j)
    = (m ((c : Thread nD τ).loc main_arg8) : Vec Ideal S2x2048x8192 .f32) (ix3 0 i j) := by
  obtain ⟨t, ht⟩ : ∃ t : Fin cfg0.N, t.val = j.val / 512 := ⟨⟨j.val / 512, by have : cfg0.N = 16 := rfl; omega⟩, rfl⟩
  obtain ⟨⟨e0, e1⟩, f0, f1, f2⟩ := index12 t
  have hb := congrFun (Value.blocks12 m c t ((by decide +kernel : ∀ t : Fin cfg0.N, (cfg0.win 12).flush t = true) _))
    (ix2 i ⟨j.val % 512, Nat.mod_lt _ (by decide)⟩)
  rw [Value.flushed12_A, copy12] at hb
  refine Eq.trans ?_ (hb.trans ?_)
  · refine congrArg ((Gen.dats m 0 c).arrAt 12 cfg0.N) (funext fun a => Fin.ext ?_)
    match a with
    | ⟨0, _⟩ => show i.val = win0_12.index t (0 : Fin 2) * 2048 + 1 * i.val; omega
    | ⟨1, _⟩ => show j.val = win0_12.index t (1 : Fin 2) * 512 + 1 * (j.val % 512); omega
  · show Gen.V m c main_arg8 (((cfg0.win 8).blk t).view.emb (ix3 0 i ⟨j.val % 512, Nat.mod_lt _ (by decide)⟩)) = _
    rw [Gen.V_main_arg8]
    refine congrArg (m ((c : Thread nD τ).loc main_arg8)) (funext fun a => Fin.ext ?_)
    match a with
    | ⟨0, _⟩ => show win0_8.index t (0 : Fin 3) * 1 + 1 * 0 = 0; omega
    | ⟨1, _⟩ => show win0_8.index t (1 : Fin 3) * 2048 + 1 * i.val = i.val; omega
    | ⟨2, _⟩ => show win0_8.index t (2 : Fin 3) * 512 + 1 * (j.val % 512) = j.val; omega

theorem index13 (t : Fin cfg0.N) : (win0_13.index t (0 : Fin 2) = t.val ∧ win0_13.index t (1 : Fin 2) = 0)
    ∧ (win0_9.index t (0 : Fin 3) = 0 ∧ win0_9.index t (1 : Fin 3) = t.val ∧ win0_9.index t (2 : Fin 3) = 0) := by
  revert t; exact (by decide +kernel : ∀ t : Fin grid0.N, (win0_13.index t (0 : Fin 2) = t.val ∧ win0_13.index t (1 : Fin 2) = 0)
    ∧ (win0_9.index t (0 : Fin 3) = 0 ∧ win0_9.index t (1 : Fin 3) = t.val ∧ win0_9.index t (2 : Fin 3) = 0))

theorem copied13 (i : Fin 8192) (j : Fin 2048) : ((Gen.dats m 0 c).arrAt 13 cfg0.N : Vec Ideal S8192x2048 .bf16) (ix2 i j)
    = (m ((c : Thread nD τ).loc main_arg9) : Vec Ideal S2x8192x2048 .f32) (ix3 0 i j) := by
  obtain ⟨t, ht⟩ : ∃ t : Fin cfg0.N, t.val = i.val / 512 := ⟨⟨i.val / 512, by have : cfg0.N = 16 := rfl; omega⟩, rfl⟩
  obtain ⟨⟨e0, e1⟩, f0, f1, f2⟩ := index13 t
  have hb := congrFun (Value.blocks13 m c t ((by decide +kernel : ∀ t : Fin cfg0.N, (cfg0.win 13).flush t = true) _))
    (ix2 ⟨i.val % 512, Nat.mod_lt _ (by decide)⟩ j)
  rw [Value.flushed13_A, copy13] at hb
  refine Eq.trans ?_ (hb.trans ?_)
  · refine congrArg ((Gen.dats m 0 c).arrAt 13 cfg0.N) (funext fun a => Fin.ext ?_)
    match a with
    | ⟨0, _⟩ => show i.val = win0_13.index t (0 : Fin 2) * 512 + 1 * (i.val % 512); omega
    | ⟨1, _⟩ => show j.val = win0_13.index t (1 : Fin 2) * 2048 + 1 * j.val; omega
  · show Gen.V m c main_arg9 (((cfg0.win 9).blk t).view.emb (ix3 0 ⟨i.val % 512, Nat.mod_lt _ (by decide)⟩ j)) = _
    rw [Gen.V_main_arg9]
    refine congrArg (m ((c : Thread nD τ).loc main_arg9)) (funext fun a => Fin.ext ?_)
    match a with
    | ⟨0, _⟩ => show win0_9.index t (0 : Fin 3) * 1 + 1 * 0 = 0; omega
    | ⟨1, _⟩ => show win0_9.index t (1 : Fin 3) * 512 + 1 * (i.val % 512) = i.val; omega
    | ⟨2, _⟩ => show win0_9.index t (2 : Fin 3) * 2048 + 1 * j.val = j.val; omega

end Cert.NA
-- ==== Proof.Finite.lean ====
module

public import proofs.«01_k».proof.Defs
public import proofs.«01_k».proof.Proof.Array

/-!
The precondition's meaning: the arguments it names are real numbers, so no score is +∞ and no context score −∞.
-/

@[expose] public section

set_option maxRecDepth 65536

namespace Cert.NA

open Idealize.ShloMosaic Cert.KernelIdeal

theorem preFacts : Cert.Pre_finite.Facts := ⟨by decide, by decide, by decide⟩

/-- A real number. -/
def IsReal (x : EReal) : Prop := x ≠ ⊤ ∧ x ≠ ⊥

/-- A number that compares between −∞ and +∞. -/
theorem real_of_cmp {x lo hi : EReal} (hlo : lo = ⊥) (hhi : hi = ⊤)
    (h : IntOp.andi (FloatOps.cmpf (F := Ideal) (φ := .f32) .ogt x lo) (FloatOps.cmpf (F := Ideal) (φ := .f32) .olt x hi) = 1#1) :
    IsReal x := by
  subst hlo hhi
  constructor
  · rintro rfl
    revert h
    simp [IntOp.andi, FloatOps.cmpf, Idealize.ShloMosaic.Ideal.cmp]
  · rintro rfl
    revert h
    simp [IntOp.andi, FloatOps.cmpf, Idealize.ShloMosaic.Ideal.cmp]

theorem negInf16 : (Ideal.ofBits .bf16 0xFF80#16 : EReal) = ⊥ := by simp [Ideal.ofBits, Ideal.ieee]
theorem posInf16 : (Ideal.ofBits .bf16 0x7F80#16 : EReal) = ⊤ := by simp [Ideal.ofBits, Ideal.ieee]
theorem posInf : (Ideal.ofBits .f32 0x7F800000#32 : EReal) = ⊤ := by simp [Ideal.ofBits, Ideal.ieee]

theorem real_sum {n : ℕ} (f g : Fin n → EReal) (hf : ∀ e, IsReal (f e)) (hg : ∀ e, IsReal (g e)) :
    ∃ r : ℝ, ∑ e, f e * g e = (r : EReal) := by
  refine ⟨∑ e, (f e).toReal * (g e).toReal, ?_⟩
  rw [← coe_sum]
  refine Finset.sum_congr rfl fun e _ => ?_
  rw [EReal.coe_mul, EReal.coe_toReal (hf e).1 (hf e).2, EReal.coe_toReal (hg e).1 (hg e).2]

section

variable {q qr k : Vec Ideal S8192x1024 .bf16} {kc : Vec Ideal S512x1024 .bf16} {rpb : Vec Ideal S2x8x15x31 .f32}

theorem score_ne_top (hq : ∀ i, IsReal (q i)) (hqr : ∀ i, IsReal (qr i))
    (hk : ∀ i, IsReal (k i)) (hkc : ∀ i, IsReal (kc i))
    (hr : ∀ i, IsReal (rpb i)) (b : Fin 2) (h : Fin 8) (n : Fin 4096) (p : Pos) :
    fullS (biasAt rpb h) (headOf q b h) (headOf qr b h) (headOf k b h) (ctxOf kc b h) n p ≠ ⊤ := by
  rcases p with p | p
  · simp only [fullS]
    cases rowOff (row n) (row p) with
    | none => simp
    | some dr =>
      obtain ⟨s, hs⟩ := real_sum (fun e : Fin 128 => headOf qr b h (ix2 n e)) (fun e => headOf k b h (ix2 p e)) (fun e => hqr _) (fun e => hk _)
      simp only [hs]
      unfold biasAt
      split
      · obtain ⟨h1, h2⟩ := hr (ix4 0 h ⟨min dr 14, by omega⟩ (offCol (col n) (col p)))
        exact fun hh => (EReal.add_ne_top (EReal.coe_ne_top s) h1) hh
      · rw [EReal.add_bot]; simp
  · obtain ⟨s, hs⟩ := real_sum (fun e : Fin 128 => headOf q b h (ix2 n e)) (fun e => ctxOf kc b h (ix2 p e)) (fun e => hq _) (fun e => hkc _)
    simp only [fullS, hs]
    exact EReal.coe_ne_top s

theorem ctx_ne_bot (hq : ∀ i, IsReal (q i)) (hkc : ∀ i, IsReal (kc i))
    (b : Fin 2) (h : Fin 8) (n : Fin 4096) (p : Fin 256) :
    fullS (biasAt rpb h) (headOf q b h) (headOf qr b h) (headOf k b h) (ctxOf kc b h) n (.inr p) ≠ ⊥ := by
  obtain ⟨s, hs⟩ := real_sum (fun e : Fin 128 => headOf q b h (ix2 n e)) (fun e => ctxOf kc b h (ix2 p e)) (fun e => hq _) (fun e => hkc _)
  simp only [fullS, hs]
  exact EReal.coe_ne_bot s

end

section

variable (m : (ℓ : Loc nD τ sig) → Buf (Elt Ideal) ℓ)

theorem pre_apply [hF : Cert.Pre_finite.Facts] (h : Cert.Pre_KernelIdeal_finite m) (c : Dev nD) :
    (∀ i : S8192x1024.Idx, IsReal (m ((c.tc : Thread nD τ).loc main_arg0) i))
    ∧ (∀ i : S8192x1024.Idx, IsReal (m ((c.tc : Thread nD τ).loc main_arg1) i))
    ∧ (∀ i : S8192x1024.Idx, IsReal (m ((c.tc : Thread nD τ).loc main_arg2) i))
    ∧ (∀ i : S512x1024.Idx, IsReal (m ((c.tc : Thread nD τ).loc main_arg4) i))
    ∧ (∀ i : S2x8x15x31.Idx, IsReal (m ((c.tc : Thread nD τ).loc main_arg6) i)) := by
  obtain ⟨h0, h1, h2, h4, h6⟩ := h c
  exact ⟨fun i => real_of_cmp negInf16 posInf16 (congrFun h0 i), fun i => real_of_cmp negInf16 posInf16 (congrFun h1 i),
    fun i => real_of_cmp negInf16 posInf16 (congrFun h2 i), fun i => real_of_cmp negInf16 posInf16 (congrFun h4 i),
    fun i => real_of_cmp negInf posInf (congrFun h6 i)⟩

end

end Cert.NA
-- ==== Proof.MlpCases.lean ====
module

public import proofs.«01_k».proof.Proof.Gen.Kernel2Ideal.Launch
public import proofs.«01_k».proof.Proof.Gen.Kernel2Ideal.Skeleton
public import proofs.«01_k».proof.Proof.Gen.Kernel2Ideal.Points
public import proofs.«01_k».proof.Proof.Gen.Kernel2Ideal.Frame
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

/-!
The multilayer perceptron's body, run from its buffers in each of the five kinds of grid point: the first of a row
block (normalise the rows, first tile of the hidden layer), the second (first product into the output, second tile),
the even and odd ones between (add a product, next tile), and the last (last product, residual, normalise).
-/

@[expose] public section

set_option maxRecDepth 65536

noncomputable section

namespace Cert.Kernel2Ideal.Mlp

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The buffers the body is called with: the rows, the modulation, the first weight's tile and bias, the second's tile
and bias, the gain and bias of the closing normalisation, the output, and the kernel's three scratch buffers. -/
structure Mems where
  x : Memref sig .tc .vmem S1024x2048 .f32
  hx : x.IsWhole
  mod : Memref sig .tc .vmem S1x1x6x2048 .f32
  hmod : mod.IsWhole
  w1 : Memref sig .tc .vmem S2048x512 .bf16
  hw1 : w1.IsWhole
  b1 : Memref sig .tc .vmem S1x1x512 .f32
  hb1 : b1.IsWhole
  w2 : Memref sig .tc .vmem S512x2048 .bf16
  hw2 : w2.IsWhole
  b2 : Memref sig .tc .vmem S1x1x2048 .f32
  hb2 : b2.IsWhole
  g : Memref sig .tc .vmem S1x1x2048 .f32
  hg : g.IsWhole
  b : Memref sig .tc .vmem S1x1x2048 .f32
  hb : b.IsWhole
  o : Memref sig .tc .vmem S1024x2048 .f32
  ho : o.IsWhole
  v : Memref sig .tc .vmem S1024x2048 .bf16
  hv : v.IsWhole
  h0 : Memref sig .tc .vmem S1024x512 .bf16
  hh0 : h0.IsWhole
  h1 : Memref sig .tc .vmem S1024x512 .bf16
  hh1 : h1.IsWhole

/-- The body on these buffers. -/
abbrev Mems.body (M : Mems) (i : grid0.Coords) : Prog (TpuEff nD τ sig (Elt F) Λ₀ .tc) PUnit :=
  cc0_mlp_residual i M.x M.hx M.mod M.hmod M.w1 M.hw1 M.b1 M.hb1 M.w2 M.hw2 M.b2 M.hb2 M.g M.hg M.b M.hb M.o M.ho M.v M.hv
    M.h0 M.hh0 M.h1 M.hh1

/-- What the input buffers hold. -/
structure Ins (F : FTy → Type) [FloatOps F] where
  x : Vec F S1024x2048 .f32
  mod : Vec F S1x1x6x2048 .f32
  w1 : Vec F S2048x512 .bf16
  b1 : Vec F S1x1x512 .f32
  w2 : Vec F S512x2048 .bf16
  b2 : Vec F S1x1x2048 .f32
  g : Vec F S1x1x2048 .f32
  b : Vec F S1x1x2048 .f32

/-- The first point of a row block. -/
abbrev isA (i : grid0.Coords) : Prop :=
  Scalar.cmpi .ne (Scalar.extui (Scalar.cmpi .eq (BitVec.ofNat 32 (i 1).val) 0#32)) 0#32 = 1#1
/-- The second. -/
abbrev isB (i : grid0.Coords) : Prop := k0_cond2 i = 1#1
/-- An even one between. -/
abbrev isC (i : grid0.Coords) : Prop := k0_cond3 i = 1#1
/-- An odd one between. -/
abbrev isD (i : grid0.Coords) : Prop := k0_cond4 i = 1#1
/-- The last. -/
abbrev isE (i : grid0.Coords) : Prop := k0_cond5 i = 1#1

/-- The point is the first point of a row block. -/
abbrev caseA (i : grid0.Coords) : Prop :=
  isA i ∧ ¬ isB i ∧ ¬ isC i ∧ ¬ isD i ∧ ¬ isE i
/-- The point is the second. -/
abbrev caseB (i : grid0.Coords) : Prop :=
  ¬ isA i ∧ isB i ∧ ¬ isC i ∧ ¬ isD i ∧ ¬ isE i
/-- The point is an even one between. -/
abbrev caseC (i : grid0.Coords) : Prop :=
  ¬ isA i ∧ ¬ isB i ∧ isC i ∧ ¬ isD i ∧ ¬ isE i
/-- The point is an odd one between. -/
abbrev caseD (i : grid0.Coords) : Prop :=
  ¬ isA i ∧ ¬ isB i ∧ ¬ isC i ∧ isD i ∧ ¬ isE i
/-- The point is the last. -/
abbrev caseE (i : grid0.Coords) : Prop :=
  ¬ isA i ∧ ¬ isB i ∧ ¬ isC i ∧ ¬ isD i ∧ isE i

variable (c : Dev nD) (i : grid0.Coords) (M : Mems) (X : Ins F)

set_option maxHeartbeats 4000000 in
/-- The first point of a row block fills the normalised rows and the first tile of the hidden layer. -/
def runA (hc : caseA i)  :
    Σ' (Lv : List (View.Piece (Elt F) S1024x2048 .bf16)), { Lh0 : List (View.Piece (Elt F) S1024x512 .bf16) //
      ∀ (E : Set ℕ) (K : PUnit → sProp 𝕄),
        iprop(owns (c : Thread nD τ) M.x fullShare X.x ∗ owns (c : Thread nD τ) M.mod fullShare X.mod ∗ owns (c : Thread nD τ) M.w1 fullShare X.w1 ∗ owns (c : Thread nD τ) M.b1 fullShare X.b1 ∗ (∃ d, owns (c : Thread nD τ) M.v fullShare d) ∗ (∃ d, owns (c : Thread nD τ) M.h0 fullShare d)
            ∗ (iprop(owns (c : Thread nD τ) M.x fullShare X.x ∗ owns (c : Thread nD τ) M.mod fullShare X.mod ∗ owns (c : Thread nD τ) M.w1 fullShare X.w1 ∗ owns (c : Thread nD τ) M.b1 fullShare X.b1 ∗ (∃ f, M.v.view.loc (c : Thread nD τ) ↦[M.v.view.set]{fullShare} M.v.view.writes (Elt F) f Lv) ∗ (∃ f, M.h0.view.loc (c : Thread nD τ) ↦[M.h0.view.set]{fullShare} M.h0.view.writes (Elt F) f Lh0)) -∗ K ⟨⟩))
          ⊢ wp frame (wpE (defs₀ (F := F)) Variants.none c none) E (M.body i) K } := by
  refine ⟨?_, ?_, fun E K => ?run⟩
  case run =>
    obtain ⟨hA, hB, hC, hD, hE⟩ := hc
    simp only [Mems.body, cc0_mlp_residual_eq_skeleton]; unfold cc0_mlp_residual_skel
    simp only [k0_part17_eq_skeleton, k0_part1_eq_skeleton, k0_part2_eq_skeleton, k0_part3_eq_skeleton, k0_part4_eq_skeleton, k0_part5_eq_skeleton, k0_part6_eq_skeleton]
    unfold owns
    iintro ⟨⟨%fx, %ex, Hx⟩, ⟨%fmod, %emod, Hmod⟩, ⟨%fw1, %ew1, Hw1⟩, ⟨%fb1, %eb1, Hb1⟩, ⟨%yv, %fv, -, Hv⟩, ⟨%yh0, %fh0, -, Hh0⟩, Hk⟩
    obtain rfl := M.hx.eq_unread ex
    obtain rfl := M.hmod.eq_unread emod
    obtain rfl := M.hw1.eq_unread ew1
    obtain rfl := M.hb1.eq_unread eb1
    sl_exec (disch := first | sl_exact hA | sl_exact hB | sl_exact hC | sl_exact hD | sl_exact hE)
    sl_step
    iapply Hk
    isplitl [Hx]
    · iexists _; isplitr; · ipureintro; exact M.hx.read_unread _
      iexact Hx
    isplitl [Hmod]
    · iexists _; isplitr; · ipureintro; exact M.hmod.read_unread _
      iexact Hmod
    isplitl [Hw1]
    · iexists _; isplitr; · ipureintro; exact M.hw1.read_unread _
      iexact Hw1
    isplitl [Hb1]
    · iexists _; isplitr; · ipureintro; exact M.hb1.read_unread _
      iexact Hb1
    isplitl [Hv]; · iexists _; iexact Hv
    iexists _; iexact Hh0

set_option maxHeartbeats 4000000 in
/-- The second point writes the first product over the output and the second tile of the hidden layer. -/
def runB (hc : caseB i) (v : Vec F S1024x2048 .bf16) (h0 : Vec F S1024x512 .bf16) :
    Σ' (Lo : List (View.Piece (Elt F) S1024x2048 .f32)), { Lh1 : List (View.Piece (Elt F) S1024x512 .bf16) //
      ∀ (E : Set ℕ) (K : PUnit → sProp 𝕄),
        iprop(owns (c : Thread nD τ) M.w1 fullShare X.w1 ∗ owns (c : Thread nD τ) M.b1 fullShare X.b1 ∗ owns (c : Thread nD τ) M.w2 fullShare X.w2 ∗ owns (c : Thread nD τ) M.v fullShare v ∗ owns (c : Thread nD τ) M.h0 fullShare h0 ∗ (∃ d, owns (c : Thread nD τ) M.o fullShare d) ∗ (∃ d, owns (c : Thread nD τ) M.h1 fullShare d)
            ∗ (iprop(owns (c : Thread nD τ) M.w1 fullShare X.w1 ∗ owns (c : Thread nD τ) M.b1 fullShare X.b1 ∗ owns (c : Thread nD τ) M.w2 fullShare X.w2 ∗ owns (c : Thread nD τ) M.v fullShare v ∗ owns (c : Thread nD τ) M.h0 fullShare h0 ∗ (∃ f, M.o.view.loc (c : Thread nD τ) ↦[M.o.view.set]{fullShare} M.o.view.writes (Elt F) f Lo) ∗ (∃ f, M.h1.view.loc (c : Thread nD τ) ↦[M.h1.view.set]{fullShare} M.h1.view.writes (Elt F) f Lh1)) -∗ K ⟨⟩))
          ⊢ wp frame (wpE (defs₀ (F := F)) Variants.none c none) E (M.body i) K } := by
  refine ⟨?_, ?_, fun E K => ?run⟩
  case run =>
    obtain ⟨hA, hB, hC, hD, hE⟩ := hc
    simp only [Mems.body, cc0_mlp_residual_eq_skeleton]; unfold cc0_mlp_residual_skel
    simp only [k0_part17_eq_skeleton, k0_part7_eq_skeleton]
    unfold owns
    iintro ⟨⟨%fw1, %ew1, Hw1⟩, ⟨%fb1, %eb1, Hb1⟩, ⟨%fw2, %ew2, Hw2⟩, ⟨%fv, %ev, Hv⟩, ⟨%fh0, %eh0, Hh0⟩, ⟨%yo, %fo, -, Ho⟩, ⟨%yh1, %fh1, -, Hh1⟩, Hk⟩
    obtain rfl := M.hw1.eq_unread ew1
    obtain rfl := M.hb1.eq_unread eb1
    obtain rfl := M.hw2.eq_unread ew2
    obtain rfl := M.hv.eq_unread ev
    obtain rfl := M.hh0.eq_unread eh0
    sl_exec (disch := first | sl_exact hA | sl_exact hB | sl_exact hC | sl_exact hD | sl_exact hE)
    sl_step
    iapply Hk
    isplitl [Hw1]
    · iexists _; isplitr; · ipureintro; exact M.hw1.read_unread _
      iexact Hw1
    isplitl [Hb1]
    · iexists _; isplitr; · ipureintro; exact M.hb1.read_unread _
      iexact Hb1
    isplitl [Hw2]
    · iexists _; isplitr; · ipureintro; exact M.hw2.read_unread _
      iexact Hw2
    isplitl [Hv]
    · iexists _; isplitr; · ipureintro; exact M.hv.read_unread _
      iexact Hv
    isplitl [Hh0]
    · iexists _; isplitr; · ipureintro; exact M.hh0.read_unread _
      iexact Hh0
    isplitl [Ho]; · iexists _; iexact Ho
    iexists _; iexact Hh1

set_option maxHeartbeats 4000000 in
/-- An even point between adds a product to the output and writes the next tile. -/
def runC (hc : caseC i) (v : Vec F S1024x2048 .bf16) (h1 : Vec F S1024x512 .bf16) (o : Vec F S1024x2048 .f32) :
    Σ' (Lo : List (View.Piece (Elt F) S1024x2048 .f32)), { Lh0 : List (View.Piece (Elt F) S1024x512 .bf16) //
      ∀ (E : Set ℕ) (K : PUnit → sProp 𝕄),
        iprop(owns (c : Thread nD τ) M.w1 fullShare X.w1 ∗ owns (c : Thread nD τ) M.b1 fullShare X.b1 ∗ owns (c : Thread nD τ) M.w2 fullShare X.w2 ∗ owns (c : Thread nD τ) M.v fullShare v ∗ owns (c : Thread nD τ) M.h1 fullShare h1 ∗ owns (c : Thread nD τ) M.o fullShare o ∗ (∃ d, owns (c : Thread nD τ) M.h0 fullShare d)
            ∗ (iprop(owns (c : Thread nD τ) M.w1 fullShare X.w1 ∗ owns (c : Thread nD τ) M.b1 fullShare X.b1 ∗ owns (c : Thread nD τ) M.w2 fullShare X.w2 ∗ owns (c : Thread nD τ) M.v fullShare v ∗ owns (c : Thread nD τ) M.h1 fullShare h1 ∗ (∃ f, M.o.view.loc (c : Thread nD τ) ↦[M.o.view.set]{fullShare} M.o.view.writes (Elt F) f Lo) ∗ (∃ f, M.h0.view.loc (c : Thread nD τ) ↦[M.h0.view.set]{fullShare} M.h0.view.writes (Elt F) f Lh0)) -∗ K ⟨⟩))
          ⊢ wp frame (wpE (defs₀ (F := F)) Variants.none c none) E (M.body i) K } := by
  refine ⟨?_, ?_, fun E K => ?run⟩
  case run =>
    obtain ⟨hA, hB, hC, hD, hE⟩ := hc
    simp only [Mems.body, cc0_mlp_residual_eq_skeleton]; unfold cc0_mlp_residual_skel
    simp only [k0_part17_eq_skeleton, k0_part8_eq_skeleton]
    unfold owns
    iintro ⟨⟨%fw1, %ew1, Hw1⟩, ⟨%fb1, %eb1, Hb1⟩, ⟨%fw2, %ew2, Hw2⟩, ⟨%fv, %ev, Hv⟩, ⟨%fh1, %eh1, Hh1⟩, ⟨%fo, %eo, Ho⟩, ⟨%yh0, %fh0, -, Hh0⟩, Hk⟩
    obtain rfl := M.hw1.eq_unread ew1
    obtain rfl := M.hb1.eq_unread eb1
    obtain rfl := M.hw2.eq_unread ew2
    obtain rfl := M.hv.eq_unread ev
    obtain rfl := M.hh1.eq_unread eh1
    obtain rfl := M.ho.eq_unread eo
    sl_exec (disch := first | sl_exact hA | sl_exact hB | sl_exact hC | sl_exact hD | sl_exact hE)
    sl_step
    iapply Hk
    isplitl [Hw1]
    · iexists _; isplitr; · ipureintro; exact M.hw1.read_unread _
      iexact Hw1
    isplitl [Hb1]
    · iexists _; isplitr; · ipureintro; exact M.hb1.read_unread _
      iexact Hb1
    isplitl [Hw2]
    · iexists _; isplitr; · ipureintro; exact M.hw2.read_unread _
      iexact Hw2
    isplitl [Hv]
    · iexists _; isplitr; · ipureintro; exact M.hv.read_unread _
      iexact Hv
    isplitl [Hh1]
    · iexists _; isplitr; · ipureintro; exact M.hh1.read_unread _
      iexact Hh1
    isplitl [Ho]; · iexists _; iexact Ho
    iexists _; iexact Hh0

set_option maxHeartbeats 4000000 in
/-- An odd point between does so with the two hidden tiles exchanged. -/
def runD (hc : caseD i) (v : Vec F S1024x2048 .bf16) (h0 : Vec F S1024x512 .bf16) (o : Vec F S1024x2048 .f32) :
    Σ' (Lo : List (View.Piece (Elt F) S1024x2048 .f32)), { Lh1 : List (View.Piece (Elt F) S1024x512 .bf16) //
      ∀ (E : Set ℕ) (K : PUnit → sProp 𝕄),
        iprop(owns (c : Thread nD τ) M.w1 fullShare X.w1 ∗ owns (c : Thread nD τ) M.b1 fullShare X.b1 ∗ owns (c : Thread nD τ) M.w2 fullShare X.w2 ∗ owns (c : Thread nD τ) M.v fullShare v ∗ owns (c : Thread nD τ) M.h0 fullShare h0 ∗ owns (c : Thread nD τ) M.o fullShare o ∗ (∃ d, owns (c : Thread nD τ) M.h1 fullShare d)
            ∗ (iprop(owns (c : Thread nD τ) M.w1 fullShare X.w1 ∗ owns (c : Thread nD τ) M.b1 fullShare X.b1 ∗ owns (c : Thread nD τ) M.w2 fullShare X.w2 ∗ owns (c : Thread nD τ) M.v fullShare v ∗ owns (c : Thread nD τ) M.h0 fullShare h0 ∗ (∃ f, M.o.view.loc (c : Thread nD τ) ↦[M.o.view.set]{fullShare} M.o.view.writes (Elt F) f Lo) ∗ (∃ f, M.h1.view.loc (c : Thread nD τ) ↦[M.h1.view.set]{fullShare} M.h1.view.writes (Elt F) f Lh1)) -∗ K ⟨⟩))
          ⊢ wp frame (wpE (defs₀ (F := F)) Variants.none c none) E (M.body i) K } := by
  refine ⟨?_, ?_, fun E K => ?run⟩
  case run =>
    obtain ⟨hA, hB, hC, hD, hE⟩ := hc
    simp only [Mems.body, cc0_mlp_residual_eq_skeleton]; unfold cc0_mlp_residual_skel
    simp only [k0_part17_eq_skeleton, k0_part9_eq_skeleton]
    unfold owns
    iintro ⟨⟨%fw1, %ew1, Hw1⟩, ⟨%fb1, %eb1, Hb1⟩, ⟨%fw2, %ew2, Hw2⟩, ⟨%fv, %ev, Hv⟩, ⟨%fh0, %eh0, Hh0⟩, ⟨%fo, %eo, Ho⟩, ⟨%yh1, %fh1, -, Hh1⟩, Hk⟩
    obtain rfl := M.hw1.eq_unread ew1
    obtain rfl := M.hb1.eq_unread eb1
    obtain rfl := M.hw2.eq_unread ew2
    obtain rfl := M.hv.eq_unread ev
    obtain rfl := M.hh0.eq_unread eh0
    obtain rfl := M.ho.eq_unread eo
    sl_exec (disch := first | sl_exact hA | sl_exact hB | sl_exact hC | sl_exact hD | sl_exact hE)
    sl_step
    iapply Hk
    isplitl [Hw1]
    · iexists _; isplitr; · ipureintro; exact M.hw1.read_unread _
      iexact Hw1
    isplitl [Hb1]
    · iexists _; isplitr; · ipureintro; exact M.hb1.read_unread _
      iexact Hb1
    isplitl [Hw2]
    · iexists _; isplitr; · ipureintro; exact M.hw2.read_unread _
      iexact Hw2
    isplitl [Hv]
    · iexists _; isplitr; · ipureintro; exact M.hv.read_unread _
      iexact Hv
    isplitl [Hh0]
    · iexists _; isplitr; · ipureintro; exact M.hh0.read_unread _
      iexact Hh0
    isplitl [Ho]; · iexists _; iexact Ho
    iexists _; iexact Hh1

set_option maxHeartbeats 4000000 in
/-- The last point adds the last product and the bias, then the residual, and normalises. -/
def runE (hc : caseE i) (h1 : Vec F S1024x512 .bf16) (o : Vec F S1024x2048 .f32) :
    { Lo : List (View.Piece (Elt F) S1024x2048 .f32) //
      ∀ (E : Set ℕ) (K : PUnit → sProp 𝕄),
        iprop(owns (c : Thread nD τ) M.x fullShare X.x ∗ owns (c : Thread nD τ) M.mod fullShare X.mod ∗ owns (c : Thread nD τ) M.w2 fullShare X.w2 ∗ owns (c : Thread nD τ) M.b2 fullShare X.b2 ∗ owns (c : Thread nD τ) M.g fullShare X.g ∗ owns (c : Thread nD τ) M.b fullShare X.b ∗ owns (c : Thread nD τ) M.h1 fullShare h1 ∗ owns (c : Thread nD τ) M.o fullShare o
            ∗ (iprop(owns (c : Thread nD τ) M.x fullShare X.x ∗ owns (c : Thread nD τ) M.mod fullShare X.mod ∗ owns (c : Thread nD τ) M.w2 fullShare X.w2 ∗ owns (c : Thread nD τ) M.b2 fullShare X.b2 ∗ owns (c : Thread nD τ) M.g fullShare X.g ∗ owns (c : Thread nD τ) M.b fullShare X.b ∗ owns (c : Thread nD τ) M.h1 fullShare h1 ∗ (∃ f, M.o.view.loc (c : Thread nD τ) ↦[M.o.view.set]{fullShare} M.o.view.writes (Elt F) f Lo)) -∗ K ⟨⟩))
          ⊢ wp frame (wpE (defs₀ (F := F)) Variants.none c none) E (M.body i) K } := by
  refine ⟨?_, fun E K => ?run⟩
  case run =>
    obtain ⟨hA, hB, hC, hD, hE⟩ := hc
    simp only [Mems.body, cc0_mlp_residual_eq_skeleton]; unfold cc0_mlp_residual_skel
    simp only [k0_part17_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%fx, %ex, Hx⟩, ⟨%fmod, %emod, Hmod⟩, ⟨%fw2, %ew2, Hw2⟩, ⟨%fb2, %eb2, Hb2⟩, ⟨%fg, %eg, Hg⟩, ⟨%fb, %eb, Hb⟩, ⟨%fh1, %eh1, Hh1⟩, ⟨%fo, %eo, Ho⟩, Hk⟩
    obtain rfl := M.hx.eq_unread ex
    obtain rfl := M.hmod.eq_unread emod
    obtain rfl := M.hw2.eq_unread ew2
    obtain rfl := M.hb2.eq_unread eb2
    obtain rfl := M.hg.eq_unread eg
    obtain rfl := M.hb.eq_unread eb
    obtain rfl := M.hh1.eq_unread eh1
    obtain rfl := M.ho.eq_unread eo
    sl_exec (disch := first | sl_exact hA | sl_exact hB | sl_exact hC | sl_exact hD | sl_exact hE)
    sl_step
    iapply Hk
    isplitl [Hx]
    · iexists _; isplitr; · ipureintro; exact M.hx.read_unread _
      iexact Hx
    isplitl [Hmod]
    · iexists _; isplitr; · ipureintro; exact M.hmod.read_unread _
      iexact Hmod
    isplitl [Hw2]
    · iexists _; isplitr; · ipureintro; exact M.hw2.read_unread _
      iexact Hw2
    isplitl [Hb2]
    · iexists _; isplitr; · ipureintro; exact M.hb2.read_unread _
      iexact Hb2
    isplitl [Hg]
    · iexists _; isplitr; · ipureintro; exact M.hg.read_unread _
      iexact Hg
    isplitl [Hb]
    · iexists _; isplitr; · ipureintro; exact M.hb.read_unread _
      iexact Hb
    isplitl [Hh1]
    · iexists _; isplitr; · ipureintro; exact M.hh1.read_unread _
      iexact Hh1
    iexists _; iexact Ho

end Cert.Kernel2Ideal.Mlp

end
-- ==== Proof.MlpFrame.lean ====
module

public import proofs.«01_k».proof.Proof.MlpCases

/-!
The multilayer perceptron's frame: what the output and the scratch buffers hold after each grid point, the pipeline's
proof from it, and the arguments unchanged at the end.
-/

@[expose] public section

set_option maxRecDepth 65536

noncomputable section

namespace Cert.Kernel2Ideal.Mlp

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the output buffer and the three scratch buffers hold. -/
structure St (F : FTy → Type) [FloatOps F] where
  o : Vec F S1024x2048 .f32
  v : Vec F S1024x2048 .bf16
  h0 : Vec F S1024x512 .bf16
  h1 : Vec F S1024x512 .bf16

/-- A list of pieces read back, through one buffer of each shape. -/
abbrev VO : View sig .tc .vmem S1024x2048 .f32 := (Memref.whole cc0_stg8_0 : Memref sig .tc .vmem S1024x2048 .f32).view
abbrev VV : View sig .tc .vmem S1024x2048 .bf16 := (Memref.whole cc0_scratch0 : Memref sig .tc .vmem S1024x2048 .bf16).view
abbrev VH : View sig .tc .vmem S1024x512 .bf16 := (Memref.whole cc0_scratch1 : Memref sig .tc .vmem S1024x512 .bf16).view

def canonO (L : List (View.Piece (Elt F) S1024x2048 .f32)) : Vec F S1024x2048 .f32 := VO.read (Elt F) (VO.writes (Elt F) VO.junk L)
def canonV (L : List (View.Piece (Elt F) S1024x2048 .bf16)) : Vec F S1024x2048 .bf16 := VV.read (Elt F) (VV.writes (Elt F) VV.junk L)
def canonH (L : List (View.Piece (Elt F) S1024x512 .bf16)) : Vec F S1024x512 .bf16 := VH.read (Elt F) (VH.writes (Elt F) VH.junk L)

section Next

variable (c : Dev nD) (i : grid0.Coords) (M : Mems) (X : Ins F) (S : St F)

/-- What each kind of point makes of what the buffers hold. -/
def nextA (h : caseA i) : St F := ⟨S.o, canonV (runA c i M X h).1, canonH (runA c i M X h).2.1, S.h1⟩
def nextB (h : caseB i) : St F := ⟨canonO (runB c i M X h S.v S.h0).1, S.v, S.h0, canonH (runB c i M X h S.v S.h0).2.1⟩
def nextC (h : caseC i) : St F := ⟨canonO (runC c i M X h S.v S.h1 S.o).1, S.v, canonH (runC c i M X h S.v S.h1 S.o).2.1, S.h1⟩
def nextD (h : caseD i) : St F := ⟨canonO (runD c i M X h S.v S.h0 S.o).1, S.v, S.h0, canonH (runD c i M X h S.v S.h0 S.o).2.1⟩
def nextE (h : caseE i) : St F := ⟨canonO (runE c i M X h S.h1 S.o).1, S.v, S.h0, S.h1⟩

/-! The pieces of every run tile what they are written over. -/

theorem tilesA_v (h : caseA i) (y : S1024x2048.Idx) : ∃ pc ∈ (runA c i M X h).1, y ∈ pc.1.set :=
  View.cover_of_tiledL (runA c i M X h).1 S128x2048.size (by sl_kernel_rfl) y
theorem tilesA_h (h : caseA i) (y : S1024x512.Idx) : ∃ pc ∈ (runA c i M X h).2.1, y ∈ pc.1.set :=
  View.cover_of_tiledL (runA c i M X h).2.1 S256x512.size (by sl_kernel_rfl) y
theorem tilesB_o (h : caseB i) (v h0) (y : S1024x2048.Idx) : ∃ pc ∈ (runB c i M X h v h0).1, y ∈ pc.1.set :=
  View.cover_of_tiledL (runB c i M X h v h0).1 S1024x512.size (by sl_kernel_rfl) y
theorem tilesB_h (h : caseB i) (v h0) (y : S1024x512.Idx) : ∃ pc ∈ (runB c i M X h v h0).2.1, y ∈ pc.1.set :=
  View.cover_of_tiledL (runB c i M X h v h0).2.1 S1024x512.size (by sl_kernel_rfl) y
theorem tilesC_o (h : caseC i) (v h1 o) (y : S1024x2048.Idx) : ∃ pc ∈ (runC c i M X h v h1 o).1, y ∈ pc.1.set :=
  View.cover_of_tiledL (runC c i M X h v h1 o).1 S1024x512.size (by sl_kernel_rfl) y
theorem tilesC_h (h : caseC i) (v h1 o) (y : S1024x512.Idx) : ∃ pc ∈ (runC c i M X h v h1 o).2.1, y ∈ pc.1.set :=
  View.cover_of_tiledL (runC c i M X h v h1 o).2.1 S1024x512.size (by sl_kernel_rfl) y
theorem tilesD_o (h : caseD i) (v h0 o) (y : S1024x2048.Idx) : ∃ pc ∈ (runD c i M X h v h0 o).1, y ∈ pc.1.set :=
  View.cover_of_tiledL (runD c i M X h v h0 o).1 S1024x512.size (by sl_kernel_rfl) y
theorem tilesD_h (h : caseD i) (v h0 o) (y : S1024x512.Idx) : ∃ pc ∈ (runD c i M X h v h0 o).2.1, y ∈ pc.1.set :=
  View.cover_of_tiledL (runD c i M X h v h0 o).2.1 S1024x512.size (by sl_kernel_rfl) y
theorem tilesE_o (h : caseE i) (h1 o) (y : S1024x2048.Idx) : ∃ pc ∈ (runE c i M X h h1 o).1, y ∈ pc.1.set :=
  View.cover_of_tiledL (runE c i M X h h1 o).1 S128x2048.size (by sl_kernel_rfl) y

end Next

/-! The kinds of point, by the position in the row block. -/

theorem atA : ∀ t : Fin grid0.N, t.val % 17 = 0 → caseA (grid0.coords t) := by decide +kernel
theorem atB : ∀ t : Fin grid0.N, t.val % 17 = 1 → caseB (grid0.coords t) := by decide +kernel
theorem atC : ∀ t : Fin grid0.N, t.val % 17 ≠ 0 → t.val % 17 ≠ 16 → t.val % 17 % 2 = 0 → caseC (grid0.coords t) := by decide +kernel
theorem atD : ∀ t : Fin grid0.N, t.val % 17 ≠ 1 → t.val % 17 % 2 ≠ 0 → caseD (grid0.coords t) := by decide +kernel
theorem atE : ∀ t : Fin grid0.N, t.val % 17 = 16 → caseE (grid0.coords t) := by decide +kernel

theorem idleA : ∀ t : Fin cfg0.N, t.val % 17 = 0 → cfg0.idle 8 (grid0.coords t) = true := by decide +kernel
theorem noFlushA : ∀ t : Fin cfg0.N, t.val % 17 = 0 → (cfg0.win 8).flush t = false := by decide +kernel
theorem liveRest : ∀ t : Fin cfg0.N, t.val % 17 ≠ 0 → cfg0.idle 8 (grid0.coords t) = false := by decide +kernel

/-- Whether the output's buffer still holds nothing of the row block: up to its second point. -/
def freshAt (n : ℕ) : Bool := n % 17 == 0 || n % 17 == 1
theorem freshAt_step : ∀ t : Fin cfg0.N,
    freshAt (t.val + 1) = ((cfg0.win 8).flush t || (cfg0.idle 8 (cfg0.grid.coords t) && freshAt t.val)) := by decide +kernel
theorem fresh_eq (t : Fin cfg0.N) : cfg0.fresh 8 t.val = freshAt t.val :=
  Pipeline.Cfg.fresh_tab cfg0 8 freshAt rfl freshAt_step t.val (Nat.le_of_lt t.isLt)

variable (m : (ℓ : Loc nD τ sig) → Buf (Elt F) ℓ) (ρ : Dev nD → PrngReg)

/-- The buffers at point `t`. -/
@[reducible] def memsAt (t : Fin cfg0.N) : Mems where
  x := win0_0.stage (cfg0.slots t 0)
  hx := hstage0_0 ((cfg0.slots t 0).cast nbuf0_0)
  mod := win0_1.stage (cfg0.slots t 1)
  hmod := hstage0_1 ((cfg0.slots t 1).cast nbuf0_1)
  w1 := win0_2.stage (cfg0.slots t 2)
  hw1 := hstage0_2 ((cfg0.slots t 2).cast nbuf0_2)
  b1 := win0_3.stage (cfg0.slots t 3)
  hb1 := hstage0_3 ((cfg0.slots t 3).cast nbuf0_3)
  w2 := win0_4.stage (cfg0.slots t 4)
  hw2 := hstage0_4 ((cfg0.slots t 4).cast nbuf0_4)
  b2 := win0_5.stage (cfg0.slots t 5)
  hb2 := hstage0_5 ((cfg0.slots t 5).cast nbuf0_5)
  g := win0_6.stage (cfg0.slots t 6)
  hg := hstage0_6 ((cfg0.slots t 6).cast nbuf0_6)
  b := win0_7.stage (cfg0.slots t 7)
  hb := hstage0_7 ((cfg0.slots t 7).cast nbuf0_7)
  o := win0_8.stage (cfg0.slots t 8)
  ho := hstage0_8 ((cfg0.slots t 8).cast nbuf0_8)
  v := Memref.whole cc0_scratch0
  hv := Memref.isWhole_whole _
  h0 := Memref.whole cc0_scratch1
  hh0 := Memref.isWhole_whole _
  h1 := Memref.whole cc0_scratch2
  hh1 := Memref.isWhole_whole _

/-- The operand blocks at point `t`. -/
@[reducible] def insAt (c : Dev nD) (t : Fin cfg0.N) : Ins F where
  x := iblk m c 0 t
  mod := iblk m c 1 t
  w1 := iblk m c 2 t
  b1 := iblk m c 3 t
  w2 := iblk m c 4 t
  b2 := iblk m c 5 t
  g := iblk m c 6 t
  b := iblk m c 7 t

/-- One point of the grid. -/
def step (c : Dev nD) (t : Fin cfg0.N) (S : St F) : St F :=
  if hA : t.val % 17 = 0 then nextA c (grid0.coords t) (memsAt t) (insAt m c t) S (atA t hA)
  else if hB : t.val % 17 = 1 then nextB c (grid0.coords t) (memsAt t) (insAt m c t) S (atB t hB)
  else if hE : t.val % 17 = 16 then nextE c (grid0.coords t) (memsAt t) (insAt m c t) S (atE t hE)
  else if hC : t.val % 17 % 2 = 0 then nextC c (grid0.coords t) (memsAt t) (insAt m c t) S (atC t hA hE hC)
  else nextD c (grid0.coords t) (memsAt t) (insAt m c t) S (atD t hB hC)

/-- What the buffers hold after point `n`. -/
def stAt (c : Dev nD) : (n : ℕ) → n < cfg0.N → St F
  | 0, h => step m c ⟨0, h⟩ ⟨canonO [], canonV [], canonH [], canonH []⟩
  | n + 1, h => step m c ⟨n + 1, h⟩ (stAt c n (Nat.lt_of_succ_lt h))

theorem stAt_pos (c : Dev nD) (t : Fin cfg0.N) (h : t.val ≠ 0) :
    stAt m c t.val t.isLt = step m c t (stAt m c (t.val - 1) (Nat.lt_of_le_of_lt (Nat.sub_le _ _) t.isLt)) := by
  obtain ⟨n, hn⟩ := t
  cases n with
  | zero => exact absurd rfl h
  | succ n => rfl

theorem stAt_first (c : Dev nD) (t : Fin cfg0.N) (hA : t.val % 17 = 0) :
    ∃ S, stAt m c t.val t.isLt = nextA c (grid0.coords t) (memsAt t) (insAt m c t) S (atA t hA)
      ∧ (t.val ≠ 0 → S = stAt m c (t.val - 1) (Nat.lt_of_le_of_lt (Nat.sub_le _ _) t.isLt)) := by
  obtain ⟨n, hn⟩ := t
  cases n with
  | zero => exact ⟨⟨canonO [], canonV [], canonH [], canonH []⟩, by
      change step m c ⟨0, hn⟩ _ = _; unfold step; exact dif_pos hA, fun h => absurd rfl h⟩
  | succ n => exact ⟨stAt m c n (Nat.lt_of_succ_lt hn), dif_pos hA, fun _ => rfl⟩

/-- What the scratch buffers are known to hold before point `n`: nothing before the first; the second hidden tile is not
known after the first point of a row block. -/
def Phi (c : Dev nD) : (n : ℕ) → n ≤ cfg0.N → sProp 𝕄
  | 0, _ => Pipeline.ΦA spec0 c
  | n + 1, h => iprop(iprop(owns (c : Thread nD τ) (Memref.whole cc0_scratch0 : Memref sig .tc .vmem S1024x2048 .bf16) fullShare (stAt m c n h).v
      ∗ owns (c : Thread nD τ) (Memref.whole cc0_scratch1 : Memref sig .tc .vmem S1024x512 .bf16) fullShare (stAt m c n h).h0
      ∗ (∃ d, iprop(⌜n % 17 ≠ 0 → d = (stAt m c n h).h1⌝ ∗ owns (c : Thread nD τ) (Memref.whole cc0_scratch2 : Memref sig .tc .vmem S1024x512 .bf16) fullShare d)))
      ∗ (∃ r, prngReg c r))

theorem Phi_pos (c : Dev nD) (n : ℕ) (h : n ≤ cfg0.N) (hz : n ≠ 0) :
    Phi m c n h = iprop(iprop(owns (c : Thread nD τ) (Memref.whole cc0_scratch0 : Memref sig .tc .vmem S1024x2048 .bf16) fullShare (stAt m c (n - 1) (by omega)).v
      ∗ owns (c : Thread nD τ) (Memref.whole cc0_scratch1 : Memref sig .tc .vmem S1024x512 .bf16) fullShare (stAt m c (n - 1) (by omega)).h0
      ∗ (∃ d, iprop(⌜(n - 1) % 17 ≠ 0 → d = (stAt m c (n - 1) (by omega)).h1⌝ ∗ owns (c : Thread nD τ) (Memref.whole cc0_scratch2 : Memref sig .tc .vmem S1024x512 .bf16) fullShare d)))
      ∗ (∃ r, prngReg c r)) := by
  cases n with
  | zero => exact absurd rfl hz
  | succ n => rfl

/-- The scratch buffers at any contents. -/
abbrev anyScratch (c : Dev nD) : sProp 𝕄 :=
  iprop(iprop((∃ d, owns (c : Thread nD τ) (Memref.whole cc0_scratch0 : Memref sig .tc .vmem S1024x2048 .bf16) fullShare d)
    ∗ (∃ d, owns (c : Thread nD τ) (Memref.whole cc0_scratch1 : Memref sig .tc .vmem S1024x512 .bf16) fullShare d)
    ∗ (∃ d, owns (c : Thread nD τ) (Memref.whole cc0_scratch2 : Memref sig .tc .vmem S1024x512 .bf16) fullShare d)) ∗ (∃ r, prngReg c r))

theorem anyScratch_eq (c : Dev nD) : (Pipeline.ΦA spec0 c : sProp 𝕄) = anyScratch c := by
  unfold Pipeline.ΦA; rw [scopedRest0_eq]; simp only [anyScratch, owns_whole]; try rfl

theorem Phi_any (c : Dev nD) (n : ℕ) (h : n ≤ cfg0.N) : Phi m c n h ⊢ anyScratch c := by
  by_cases hz : n = 0
  · subst hz
    rw [show Phi m c 0 h = Pipeline.ΦA spec0 c from rfl, anyScratch_eq]
  · rw [Phi_pos m c n h hz]
    unfold anyScratch
    iintro ⟨⟨Hv, Hh0, ⟨%d, %e, Hh1⟩⟩, Hg⟩
    isplitl [Hv Hh0 Hh1]
    · isplitl [Hv]; · iexists _; iexact Hv
      isplitl [Hh0]; · iexists _; iexact Hh0
      iexists _; iexact Hh1
    iexact Hg

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (stAt m c t.val t.isLt).o
  Φ t := Phi m c t.val (Nat.le_of_lt_succ t.isLt)
  q _ := fullShare
  owed _ := 0

theorem dats_A (c : Dev nD) (w : Fin cfg0.W) : (dats m 0 c).A w = V m c (Pipeline.arrRef spec0 w) := by
  dsimp only [dats]

theorem after_o (c : Dev nD) (t : Fin cfg0.N) : (dats m 0 c).after 8 t = (stAt m c t.val t.isLt).o := by
  dsimp only [dats]

theorem carry_o (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t hz hi _
  have hA : t.val % 17 = 0 := by
    by_contra h
    rw [liveRest t h] at hi
    exact Bool.false_ne_true hi
  obtain ⟨S, hS, hS'⟩ := stAt_first m c t hA
  rw [after_o, after_o, hS]
  dsimp only [nextA]
  rw [hS' hz]

theorem before_o (c : Dev nD) (t : Fin cfg0.N) (h0 : t.val % 17 ≠ 0) (h1 : t.val % 17 ≠ 1) (d) :
    (dats m 0 c).before 8 t d = (stAt m c (t.val - 1) (Nat.lt_of_le_of_lt (Nat.sub_le _ _) t.isLt)).o := by
  rw [Dat.before_out_traj _ 8 rfl (fun _ _ => rfl) (carry_o m c) t.val t rfl d,
    if_neg (by rw [fresh_eq]; simp [freshAt, h0, h1])]
  dsimp only [dats]

theorem before_0 (c : Dev nD) (t : Fin cfg0.N) (d) : (dats m 0 c).before 0 t d = iblk m c 0 t :=
  before0_0_of m (dats m 0 c) (dats_A m c 0) (fun t => by dsimp only [dats]) t d
theorem before_1 (c : Dev nD) (t : Fin cfg0.N) (d) : (dats m 0 c).before 1 t d = iblk m c 1 t :=
  before0_1_of m (dats m 0 c) (dats_A m c 1) (fun t => by dsimp only [dats]) t d
theorem before_2 (c : Dev nD) (t : Fin cfg0.N) (d) : (dats m 0 c).before 2 t d = iblk m c 2 t :=
  before0_2_of m (dats m 0 c) (dats_A m c 2) (fun t => by dsimp only [dats]) t d
theorem before_3 (c : Dev nD) (t : Fin cfg0.N) (d) : (dats m 0 c).before 3 t d = iblk m c 3 t :=
  before0_3_of m (dats m 0 c) (dats_A m c 3) (fun t => by dsimp only [dats]) t d
theorem before_4 (c : Dev nD) (t : Fin cfg0.N) (d) : (dats m 0 c).before 4 t d = iblk m c 4 t :=
  before0_4_of m (dats m 0 c) (dats_A m c 4) (fun t => by dsimp only [dats]) t d
theorem before_5 (c : Dev nD) (t : Fin cfg0.N) (d) : (dats m 0 c).before 5 t d = iblk m c 5 t :=
  before0_5_of m (dats m 0 c) (dats_A m c 5) (fun t => by dsimp only [dats]) t d
theorem before_6 (c : Dev nD) (t : Fin cfg0.N) (d) : (dats m 0 c).before 6 t d = iblk m c 6 t :=
  before0_6_of m (dats m 0 c) (dats_A m c 6) (fun t => by dsimp only [dats]) t d
theorem before_7 (c : Dev nD) (t : Fin cfg0.N) (d) : (dats m 0 c).before 7 t d = iblk m c 7 t :=
  before0_7_of m (dats m 0 c) (dats_A m c 7) (fun t => by dsimp only [dats]) t d

/-- What the body is given at point `t`, and what it gives back. -/
def bodyPre (c : Dev nD) (t : Fin cfg0.N) : sProp 𝕄 :=
  iprop((dats m 0 c).Φ t.castSucc ∗ (dats m 0 c).owesAt () t.castSucc
    ∗ (∃ d, owns (c : Thread nD τ) (memsAt t).x fullShare ((dats m 0 c).before 0 t d))
    ∗ (∃ d, owns (c : Thread nD τ) (memsAt t).mod fullShare ((dats m 0 c).before 1 t d))
    ∗ (∃ d, owns (c : Thread nD τ) (memsAt t).w1 fullShare ((dats m 0 c).before 2 t d))
    ∗ (∃ d, owns (c : Thread nD τ) (memsAt t).b1 fullShare ((dats m 0 c).before 3 t d))
    ∗ (∃ d, owns (c : Thread nD τ) (memsAt t).w2 fullShare ((dats m 0 c).before 4 t d))
    ∗ (∃ d, owns (c : Thread nD τ) (memsAt t).b2 fullShare ((dats m 0 c).before 5 t d))
    ∗ (∃ d, owns (c : Thread nD τ) (memsAt t).g fullShare ((dats m 0 c).before 6 t d))
    ∗ (∃ d, owns (c : Thread nD τ) (memsAt t).b fullShare ((dats m 0 c).before 7 t d))
    ∗ (∃ d, owns (c : Thread nD τ) (memsAt t).o fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves_0 (c : Dev nD) (t : Fin cfg0.N) :
    (dats m 0 c).leavesExact 0 t = owns (c : Thread nD τ) (memsAt t).x fullShare (iblk m c 0 t) := by
  unfold Dat.leavesExact; rw [show cfg0.idle 0 (cfg0.grid.coords t) = false from rfl]; dsimp only [dats]; try rfl
theorem leaves_1 (c : Dev nD) (t : Fin cfg0.N) :
    (dats m 0 c).leavesExact 1 t = owns (c : Thread nD τ) (memsAt t).mod fullShare (iblk m c 1 t) := by
  unfold Dat.leavesExact; rw [show cfg0.idle 1 (cfg0.grid.coords t) = false from rfl]; dsimp only [dats]; try rfl
theorem leaves_2 (c : Dev nD) (t : Fin cfg0.N) :
    (dats m 0 c).leavesExact 2 t = owns (c : Thread nD τ) (memsAt t).w1 fullShare (iblk m c 2 t) := by
  unfold Dat.leavesExact; rw [show cfg0.idle 2 (cfg0.grid.coords t) = false from rfl]; dsimp only [dats]; try rfl
theorem leaves_3 (c : Dev nD) (t : Fin cfg0.N) :
    (dats m 0 c).leavesExact 3 t = owns (c : Thread nD τ) (memsAt t).b1 fullShare (iblk m c 3 t) := by
  unfold Dat.leavesExact; rw [show cfg0.idle 3 (cfg0.grid.coords t) = false from rfl]; dsimp only [dats]; try rfl
theorem leaves_4 (c : Dev nD) (t : Fin cfg0.N) :
    (dats m 0 c).leavesExact 4 t = owns (c : Thread nD τ) (memsAt t).w2 fullShare (iblk m c 4 t) := by
  unfold Dat.leavesExact; rw [show cfg0.idle 4 (cfg0.grid.coords t) = false from rfl]; dsimp only [dats]; try rfl
theorem leaves_5 (c : Dev nD) (t : Fin cfg0.N) :
    (dats m 0 c).leavesExact 5 t = owns (c : Thread nD τ) (memsAt t).b2 fullShare (iblk m c 5 t) := by
  unfold Dat.leavesExact; rw [show cfg0.idle 5 (cfg0.grid.coords t) = false from rfl]; dsimp only [dats]; try rfl
theorem leaves_6 (c : Dev nD) (t : Fin cfg0.N) :
    (dats m 0 c).leavesExact 6 t = owns (c : Thread nD τ) (memsAt t).g fullShare (iblk m c 6 t) := by
  unfold Dat.leavesExact; rw [show cfg0.idle 6 (cfg0.grid.coords t) = false from rfl]; dsimp only [dats]; try rfl
theorem leaves_7 (c : Dev nD) (t : Fin cfg0.N) :
    (dats m 0 c).leavesExact 7 t = owns (c : Thread nD τ) (memsAt t).b fullShare (iblk m c 7 t) := by
  unfold Dat.leavesExact; rw [show cfg0.idle 7 (cfg0.grid.coords t) = false from rfl]; dsimp only [dats]; try rfl
theorem leaves_o (c : Dev nD) (t : Fin cfg0.N) (h : t.val % 17 ≠ 0) :
    (dats m 0 c).leavesExact 8 t = owns (c : Thread nD τ) (memsAt t).o fullShare (stAt m c t.val t.isLt).o := by
  unfold Dat.leavesExact; rw [show cfg0.idle 8 (cfg0.grid.coords t) = false from liveRest t h]; dsimp only [dats]; try rfl

theorem Phi_succ (c : Dev nD) (t : Fin cfg0.N) : (dats m 0 c).Φ t.succ =
    iprop(iprop(owns (c : Thread nD τ) (Memref.whole cc0_scratch0 : Memref sig .tc .vmem S1024x2048 .bf16) fullShare (stAt m c t.val t.isLt).v
      ∗ owns (c : Thread nD τ) (Memref.whole cc0_scratch1 : Memref sig .tc .vmem S1024x512 .bf16) fullShare (stAt m c t.val t.isLt).h0
      ∗ (∃ d, iprop(⌜t.val % 17 ≠ 0 → d = (stAt m c t.val t.isLt).h1⌝ ∗ owns (c : Thread nD τ) (Memref.whole cc0_scratch2 : Memref sig .tc .vmem S1024x512 .bf16) fullShare d)))
      ∗ (∃ r, prngReg c r)) := rfl

theorem Phi_cast (c : Dev nD) (t : Fin cfg0.N) : (dats m 0 c).Φ t.castSucc = Phi m c t.val (Nat.le_of_lt t.isLt) := by
  dsimp only [dats]; exact Pipeline.Dat.Φ_castSucc (Phi m c) t

set_option maxHeartbeats 8000000 in
/-- The first point of a row block. -/
theorem soundA (c : Dev nD) (t : Fin cfg0.N) (hA : t.val % 17 = 0) :
    bodyPre m c t ⊢ wp frame (wpE (defs₀ (F := F)) Variants.none c none) Set.univ (bodyAt0 t) (fun _ => bodyPost m c t) := by
  obtain ⟨S, hS, -⟩ := stAt_first m c t hA
  unfold bodyPre bodyPost
  simp only [before_0, before_1, before_2, before_3, before_4, before_5, before_6, before_7]
  rw [show (dats m 0 c).owesAt () t.succ = (dats m 0 c).owesAt () t.castSucc from rfl, Phi_succ, Phi_cast, leaves_0, leaves_1, leaves_2, leaves_3, leaves_4, leaves_5, leaves_6, leaves_7,
    Dat.leavesExact_idle (dats m 0 c) 8 t (idleA t hA) (noFlushA t hA)]
  refine (show _ ⊢ iprop(anyScratch c ∗ _) from BIClass.sep_mono (Phi_any m c t.val _) (Idealize.SL.BI.Entails.refl _)).trans ?_
  unfold anyScratch
  rw [hS]
  dsimp only [nextA]
  iintro ⟨⟨⟨⟨%dv, Hv⟩, ⟨%dh0, Hh0⟩, ⟨%dh1, Hh1⟩⟩, Hr⟩, Hw, ⟨%d0, Hx⟩, ⟨%d1, Hmod⟩, ⟨%d2, Hw1⟩, ⟨%d3, Hb1⟩, ⟨%d4, Hw2⟩, ⟨%d5, Hb2⟩, ⟨%d6, Hg⟩, ⟨%d7, Hb⟩, ⟨%d8, Ho⟩⟩
  iapply ((runA c (grid0.coords t) (memsAt t) (insAt m c t) (atA t hA)).2.2 Set.univ _)
  isplitl [Hx]; · iexact Hx
  isplitl [Hmod]; · iexact Hmod
  isplitl [Hw1]; · iexact Hw1
  isplitl [Hb1]; · iexact Hb1
  isplitl [Hv]; · iexists _; iexact Hv
  isplitl [Hh0]; · iexists _; iexact Hh0
  iintro ⟨Hx, Hmod, Hw1, Hb1, ⟨%ev, Hv⟩, ⟨%eh0, Hh0⟩⟩
  isplitl [Hv Hh0 Hh1 Hr]
  · isplitl [Hv Hh0 Hh1]
    · isplitl [Hv]
      · unfold owns; iexists _; isplitr
        swap; · iexact Hv
        ipureintro; exact View.read_writes_of_cover _ _ _ _ _ (tilesA_v c _ _ _ _)
      isplitl [Hh0]
      · unfold owns; iexists _; isplitr
        swap; · iexact Hh0
        ipureintro; exact View.read_writes_of_cover _ _ _ _ _ (tilesA_h c _ _ _ _)
      iexists dh1; isplitr; · ipureintro; intro h; exact absurd hA h
      iexact Hh1
    iexact Hr
  isplitl [Hw]; · iexact Hw
  isplitl [Hx]; · iexact Hx
  isplitl [Hmod]; · iexact Hmod
  isplitl [Hw1]; · iexact Hw1
  isplitl [Hb1]; · iexact Hb1
  isplitl [Hw2]; · iexact Hw2
  isplitl [Hb2]; · iexact Hb2
  isplitl [Hg]; · iexact Hg
  isplitl [Hb]; · iexact Hb
  iexists _; iexact Ho

set_option maxHeartbeats 8000000 in
/-- The second point. -/
theorem soundB (c : Dev nD) (t : Fin cfg0.N) (hB : t.val % 17 = 1) :
    bodyPre m c t ⊢ wp frame (wpE (defs₀ (F := F)) Variants.none c none) Set.univ (bodyAt0 t) (fun _ => bodyPost m c t) := by
  have hz : t.val ≠ 0 := by omega
  have hA' : t.val % 17 ≠ 0 := by omega
  have hS : stAt m c t.val t.isLt = nextB c (grid0.coords t) (memsAt t) (insAt m c t) (stAt m c (t.val - 1) (Nat.lt_of_le_of_lt (Nat.sub_le _ _) t.isLt)) (atB t hB) := by
    rw [stAt_pos m c t hz]; unfold step
    rw [dif_neg hA', dif_pos hB]
  unfold bodyPre bodyPost
  simp only [before_0, before_1, before_2, before_3, before_4, before_5, before_6, before_7]
  rw [show (dats m 0 c).owesAt () t.succ = (dats m 0 c).owesAt () t.castSucc from rfl, Phi_succ, Phi_cast, leaves_0, leaves_1, leaves_2, leaves_3, leaves_4, leaves_5, leaves_6, leaves_7,
    leaves_o m c t hA', Phi_pos m c t.val _ hz]
  rw [hS]
  generalize stAt m c (t.val - 1) (Nat.lt_of_le_of_lt (Nat.sub_le _ _) t.isLt) = S
  dsimp only [nextB]
  iintro ⟨⟨⟨Hv, Hh0, ⟨%dh1, %eh1, Hh1⟩⟩, Hr⟩, Hw, ⟨%d0, Hx⟩, ⟨%d1, Hmod⟩, ⟨%d2, Hw1⟩, ⟨%d3, Hb1⟩, ⟨%d4, Hw2⟩, ⟨%d5, Hb2⟩, ⟨%d6, Hg⟩, ⟨%d7, Hb⟩, ⟨%d8, Ho⟩⟩
  iapply ((runB c (grid0.coords t) (memsAt t) (insAt m c t) (atB t hB) S.v S.h0).2.2 Set.univ _)
  isplitl [Hw1]; · iexact Hw1
  isplitl [Hb1]; · iexact Hb1
  isplitl [Hw2]; · iexact Hw2
  isplitl [Hv]; · iexact Hv
  isplitl [Hh0]; · iexact Hh0
  isplitl [Ho]; · iexists _; iexact Ho
  isplitl [Hh1]; · iexists _; iexact Hh1
  iintro ⟨Hw1, Hb1, Hw2, Hv, Hh0, ⟨%eo, Ho⟩, ⟨%eh1, Hh1⟩⟩
  isplitl [Hv Hh0 Hh1 Hr]
  · isplitl [Hv Hh0 Hh1]
    · isplitl [Hv]
      · iexact Hv
      isplitl [Hh0]
      · iexact Hh0
      iexists _; isplitr
      · ipureintro; intro _; rfl
      unfold owns; iexists _; isplitr
      swap; · iexact Hh1
      ipureintro; exact View.read_writes_of_cover _ _ _ _ _ (tilesB_h c _ _ _ _ _ _)
    iexact Hr
  isplitl [Hw]; · iexact Hw
  isplitl [Hx]; · iexact Hx
  isplitl [Hmod]; · iexact Hmod
  isplitl [Hw1]; · iexact Hw1
  isplitl [Hb1]; · iexact Hb1
  isplitl [Hw2]; · iexact Hw2
  isplitl [Hb2]; · iexact Hb2
  isplitl [Hg]; · iexact Hg
  isplitl [Hb]; · iexact Hb
  unfold owns; iexists _; isplitr
  swap; · iexact Ho
  ipureintro; exact View.read_writes_of_cover _ _ _ _ _ (tilesB_o c _ _ _ _ _ _)

set_option maxHeartbeats 8000000 in
/-- An even point between. -/
theorem soundC (c : Dev nD) (t : Fin cfg0.N) (hA : t.val % 17 ≠ 0) (hE : t.val % 17 ≠ 16) (hC : t.val % 17 % 2 = 0) :
    bodyPre m c t ⊢ wp frame (wpE (defs₀ (F := F)) Variants.none c none) Set.univ (bodyAt0 t) (fun _ => bodyPost m c t) := by
  have hz : t.val ≠ 0 := by omega
  have hA' : t.val % 17 ≠ 0 := by omega
  have hS : stAt m c t.val t.isLt = nextC c (grid0.coords t) (memsAt t) (insAt m c t) (stAt m c (t.val - 1) (Nat.lt_of_le_of_lt (Nat.sub_le _ _) t.isLt)) (atC t hA hE hC) := by
    rw [stAt_pos m c t hz]; unfold step
    rw [dif_neg hA, dif_neg (by omega), dif_neg hE, dif_pos hC]
  unfold bodyPre bodyPost
  simp only [before_0, before_1, before_2, before_3, before_4, before_5, before_6, before_7, before_o m c t hA' (by omega)]
  rw [show (dats m 0 c).owesAt () t.succ = (dats m 0 c).owesAt () t.castSucc from rfl, Phi_succ, Phi_cast, leaves_0, leaves_1, leaves_2, leaves_3, leaves_4, leaves_5, leaves_6, leaves_7,
    leaves_o m c t hA', Phi_pos m c t.val _ hz]
  rw [hS]
  generalize stAt m c (t.val - 1) (Nat.lt_of_le_of_lt (Nat.sub_le _ _) t.isLt) = S
  dsimp only [nextC]
  iintro ⟨⟨⟨Hv, Hh0, ⟨%dh1, %eh1, Hh1⟩⟩, Hr⟩, Hw, ⟨%d0, Hx⟩, ⟨%d1, Hmod⟩, ⟨%d2, Hw1⟩, ⟨%d3, Hb1⟩, ⟨%d4, Hw2⟩, ⟨%d5, Hb2⟩, ⟨%d6, Hg⟩, ⟨%d7, Hb⟩, ⟨%d8, Ho⟩⟩
  obtain rfl := eh1 (by omega)
  iapply ((runC c (grid0.coords t) (memsAt t) (insAt m c t) (atC t hA hE hC) S.v S.h1 S.o).2.2 Set.univ _)
  isplitl [Hw1]; · iexact Hw1
  isplitl [Hb1]; · iexact Hb1
  isplitl [Hw2]; · iexact Hw2
  isplitl [Hv]; · iexact Hv
  isplitl [Hh1]; · iexact Hh1
  isplitl [Ho]; · iexact Ho
  isplitl [Hh0]; · iexists _; iexact Hh0
  iintro ⟨Hw1, Hb1, Hw2, Hv, Hh1, ⟨%eo, Ho⟩, ⟨%eh0, Hh0⟩⟩
  isplitl [Hv Hh0 Hh1 Hr]
  · isplitl [Hv Hh0 Hh1]
    · isplitl [Hv]
      · iexact Hv
      isplitl [Hh0]
      · unfold owns; iexists _; isplitr
        swap; · iexact Hh0
        ipureintro; exact View.read_writes_of_cover _ _ _ _ _ (tilesC_h c _ _ _ _ _ _ _)
      iexists _; isplitr
      · ipureintro; intro _; rfl
      iexact Hh1
    iexact Hr
  isplitl [Hw]; · iexact Hw
  isplitl [Hx]; · iexact Hx
  isplitl [Hmod]; · iexact Hmod
  isplitl [Hw1]; · iexact Hw1
  isplitl [Hb1]; · iexact Hb1
  isplitl [Hw2]; · iexact Hw2
  isplitl [Hb2]; · iexact Hb2
  isplitl [Hg]; · iexact Hg
  isplitl [Hb]; · iexact Hb
  unfold owns; iexists _; isplitr
  swap; · iexact Ho
  ipureintro; exact View.read_writes_of_cover _ _ _ _ _ (tilesC_o c _ _ _ _ _ _ _)

set_option maxHeartbeats 8000000 in
/-- An odd point between. -/
theorem soundD (c : Dev nD) (t : Fin cfg0.N) (hB : t.val % 17 ≠ 1) (hC : t.val % 17 % 2 ≠ 0) :
    bodyPre m c t ⊢ wp frame (wpE (defs₀ (F := F)) Variants.none c none) Set.univ (bodyAt0 t) (fun _ => bodyPost m c t) := by
  have hz : t.val ≠ 0 := by omega
  have hA' : t.val % 17 ≠ 0 := by omega
  have hS : stAt m c t.val t.isLt = nextD c (grid0.coords t) (memsAt t) (insAt m c t) (stAt m c (t.val - 1) (Nat.lt_of_le_of_lt (Nat.sub_le _ _) t.isLt)) (atD t hB hC) := by
    rw [stAt_pos m c t hz]; unfold step
    rw [dif_neg hA', dif_neg hB, dif_neg (by omega), dif_neg hC]
  unfold bodyPre bodyPost
  simp only [before_0, before_1, before_2, before_3, before_4, before_5, before_6, before_7, before_o m c t hA' (by omega)]
  rw [show (dats m 0 c).owesAt () t.succ = (dats m 0 c).owesAt () t.castSucc from rfl, Phi_succ, Phi_cast, leaves_0, leaves_1, leaves_2, leaves_3, leaves_4, leaves_5, leaves_6, leaves_7,
    leaves_o m c t hA', Phi_pos m c t.val _ hz]
  rw [hS]
  generalize stAt m c (t.val - 1) (Nat.lt_of_le_of_lt (Nat.sub_le _ _) t.isLt) = S
  dsimp only [nextD]
  iintro ⟨⟨⟨Hv, Hh0, ⟨%dh1, %eh1, Hh1⟩⟩, Hr⟩, Hw, ⟨%d0, Hx⟩, ⟨%d1, Hmod⟩, ⟨%d2, Hw1⟩, ⟨%d3, Hb1⟩, ⟨%d4, Hw2⟩, ⟨%d5, Hb2⟩, ⟨%d6, Hg⟩, ⟨%d7, Hb⟩, ⟨%d8, Ho⟩⟩
  obtain rfl := eh1 (by omega)
  iapply ((runD c (grid0.coords t) (memsAt t) (insAt m c t) (atD t hB hC) S.v S.h0 S.o).2.2 Set.univ _)
  isplitl [Hw1]; · iexact Hw1
  isplitl [Hb1]; · iexact Hb1
  isplitl [Hw2]; · iexact Hw2
  isplitl [Hv]; · iexact Hv
  isplitl [Hh0]; · iexact Hh0
  isplitl [Ho]; · iexact Ho
  isplitl [Hh1]; · iexists _; iexact Hh1
  iintro ⟨Hw1, Hb1, Hw2, Hv, Hh0, ⟨%eo, Ho⟩, ⟨%eh1, Hh1⟩⟩
  isplitl [Hv Hh0 Hh1 Hr]
  · isplitl [Hv Hh0 Hh1]
    · isplitl [Hv]
      · iexact Hv
      isplitl [Hh0]
      · iexact Hh0
      iexists _; isplitr
      · ipureintro; intro _; rfl
      unfold owns; iexists _; isplitr
      swap; · iexact Hh1
      ipureintro; exact View.read_writes_of_cover _ _ _ _ _ (tilesD_h c _ _ _ _ _ _ _)
    iexact Hr
  isplitl [Hw]; · iexact Hw
  isplitl [Hx]; · iexact Hx
  isplitl [Hmod]; · iexact Hmod
  isplitl [Hw1]; · iexact Hw1
  isplitl [Hb1]; · iexact Hb1
  isplitl [Hw2]; · iexact Hw2
  isplitl [Hb2]; · iexact Hb2
  isplitl [Hg]; · iexact Hg
  isplitl [Hb]; · iexact Hb
  unfold owns; iexists _; isplitr
  swap; · iexact Ho
  ipureintro; exact View.read_writes_of_cover _ _ _ _ _ (tilesD_o c _ _ _ _ _ _ _)

set_option maxHeartbeats 8000000 in
/-- The last point. -/
theorem soundE (c : Dev nD) (t : Fin cfg0.N) (hE : t.val % 17 = 16) :
    bodyPre m c t ⊢ wp frame (wpE (defs₀ (F := F)) Variants.none c none) Set.univ (bodyAt0 t) (fun _ => bodyPost m c t) := by
  have hz : t.val ≠ 0 := by omega
  have hA' : t.val % 17 ≠ 0 := by omega
  have hS : stAt m c t.val t.isLt = nextE c (grid0.coords t) (memsAt t) (insAt m c t) (stAt m c (t.val - 1) (Nat.lt_of_le_of_lt (Nat.sub_le _ _) t.isLt)) (atE t hE) := by
    rw [stAt_pos m c t hz]; unfold step
    rw [dif_neg hA', dif_neg (by omega), dif_pos hE]
  unfold bodyPre bodyPost
  simp only [before_0, before_1, before_2, before_3, before_4, before_5, before_6, before_7, before_o m c t hA' (by omega)]
  rw [show (dats m 0 c).owesAt () t.succ = (dats m 0 c).owesAt () t.castSucc from rfl, Phi_succ, Phi_cast, leaves_0, leaves_1, leaves_2, leaves_3, leaves_4, leaves_5, leaves_6, leaves_7,
    leaves_o m c t hA', Phi_pos m c t.val _ hz]
  rw [hS]
  generalize stAt m c (t.val - 1) (Nat.lt_of_le_of_lt (Nat.sub_le _ _) t.isLt) = S
  dsimp only [nextE]
  iintro ⟨⟨⟨Hv, Hh0, ⟨%dh1, %eh1, Hh1⟩⟩, Hr⟩, Hw, ⟨%d0, Hx⟩, ⟨%d1, Hmod⟩, ⟨%d2, Hw1⟩, ⟨%d3, Hb1⟩, ⟨%d4, Hw2⟩, ⟨%d5, Hb2⟩, ⟨%d6, Hg⟩, ⟨%d7, Hb⟩, ⟨%d8, Ho⟩⟩
  obtain rfl := eh1 (by omega)
  iapply ((runE c (grid0.coords t) (memsAt t) (insAt m c t) (atE t hE) S.h1 S.o).2 Set.univ _)
  isplitl [Hx]; · iexact Hx
  isplitl [Hmod]; · iexact Hmod
  isplitl [Hw2]; · iexact Hw2
  isplitl [Hb2]; · iexact Hb2
  isplitl [Hg]; · iexact Hg
  isplitl [Hb]; · iexact Hb
  isplitl [Hh1]; · iexact Hh1
  isplitl [Ho]; · iexact Ho
  iintro ⟨Hx, Hmod, Hw2, Hb2, Hg, Hb, Hh1, ⟨%eo, Ho⟩⟩
  isplitl [Hv Hh0 Hh1 Hr]
  · isplitl [Hv Hh0 Hh1]
    · isplitl [Hv]
      · iexact Hv
      isplitl [Hh0]
      · iexact Hh0
      iexists _; isplitr
      · ipureintro; intro _; rfl
      iexact Hh1
    iexact Hr
  isplitl [Hw]; · iexact Hw
  isplitl [Hx]; · iexact Hx
  isplitl [Hmod]; · iexact Hmod
  isplitl [Hw1]; · iexact Hw1
  isplitl [Hb1]; · iexact Hb1
  isplitl [Hw2]; · iexact Hw2
  isplitl [Hb2]; · iexact Hb2
  isplitl [Hg]; · iexact Hg
  isplitl [Hb]; · iexact Hb
  unfold owns; iexists _; isplitr
  swap; · iexact Ho
  ipureintro; exact View.read_writes_of_cover _ _ _ _ _ (tilesE_o c _ _ _ _ _ _)

theorem sound (c : Dev nD) (t : Fin cfg0.N) :
    bodyPre m c t ⊢ wp frame (wpE (defs₀ (F := F)) Variants.none c none) Set.univ (bodyAt0 t) (fun _ => bodyPost m c t) := by
  by_cases hA : t.val % 17 = 0
  · exact soundA m c t hA
  by_cases hB : t.val % 17 = 1
  · exact soundB m c t hB
  by_cases hE : t.val % 17 = 16
  · exact soundE m c t hE
  by_cases hC : t.val % 17 % 2 = 0
  · exact soundC m c t hA hE hC
  · exact soundD m c t hB hC

theorem body_ok (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (sound m c t) rfl .rfl fun _ => .rfl

theorem Phi_in (c : Dev nD) : Pipeline.ΦA spec0 c ⊢ (dats m 0 c).Φ 0 := by
  rw [show (dats m 0 c).Φ 0 = Pipeline.ΦA spec0 c from rfl]

theorem Phi_end (c : Dev nD) : (dats m 0 c).Φ (Fin.last cfg0.N) ⊢ Pipeline.ΦA spec0 c := by
  rw [show (dats m 0 c).Φ (Fin.last cfg0.N) = Phi m c cfg0.N le_rfl from rfl, anyScratch_eq]
  exact Phi_any m c _ _

set_option backward.isDefEq.respectTransparency.types false in
/-- Every execution ends, with the arrays as the proof data says and no semaphore raised. -/
theorem run_all : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_ok m c).loose) (hshare := fun c => (dats m 0 c).share_full fun _ => rfl)
    (howed := fun _ _ => rfl) (V := V m) (hmain := hmain m Variants.none) (hA := dats_A m) (hin := Phi_in m) (hout := Phi_end m)

theorem run_post : θ_run defs (onTc (τ := τ) (main (F := F))) (s₀ m ρ) (Pipeline.FramePost cfgs (dats m) 0 (V m)) :=
  (θ_run defs _ _).mono (fun _ h => h.1) (run_all m ρ)

end Cert.Kernel2Ideal.Mlp

end
-- ==== Proof.MlpPieces.lean ====
module

public import proofs.«01_k».proof.Proof.MlpFrame

/-!
What each kind of grid point of the multilayer perceptron stores, as blocks of rows or columns: the normalised rows in
blocks of 128, the hidden tile, the running product in blocks of 512 columns, and the closing normalisation in blocks
of 128 rows.
-/

@[expose] public section

set_option maxRecDepth 65536

noncomputable section

namespace Cert.Kernel2Ideal.Mlp

open Cert.Kernel2Ideal.Gen
open Idealize.ShloMosaic Idealize.ShloMosaic.TcCoe

theorem inb_rows (b : Fin 8) : ∀ a, ![128 * b.val, 0] a + S128x2048.size a ≤ S1024x2048.size a := by
  revert b; decide
theorem inb_rows2 (b : Fin 4) : ∀ a, ![256 * b.val, 0] a + S256x2048.size a ≤ S1024x2048.size a := by
  revert b; decide
theorem inb_hid (b : Fin 4) : ∀ a, ![256 * b.val, 0] a + S256x512.size a ≤ S1024x512.size a := by
  revert b; decide
theorem inb_cols (b : Fin 4) : ∀ a, ![0, 512 * b.val] a + S1024x512.size a ≤ S1024x2048.size a := by
  revert b; decide
theorem inb_w2 (b : Fin 4) : ∀ a, ![0, 512 * b.val] a + S512x512.size a ≤ S512x2048.size a := by
  revert b; decide
theorem inb_mod (k : Fin 6) : ∀ a, ![0, 0, k.val, 0] a + S1x1x1x2048.size a ≤ S1x1x6x2048.size a := by
  revert k; decide
theorem half_slices (b : Fin 2) : S256x2048.Slices ![128 * b.val, 0] S128x2048 := by
  revert b; decide

variable {F : FTy → Type} [FloatOps F]

/-- Rows divided by their spread, once their mean is taken off. -/
def norm (x : FVec F S128x2048 .f32) : FVec F S128x2048 .f32 :=
  have mu : FVec F S128x1 .f32 := divf (shapeCast S128x1 (multiReduction .add [1] S128 x 0x00000000#32 reduces_S128x2048_S128 (.inl rfl) rfl)
    shapeCasts_S128_S128x1) (broadcast S128x1 (Scalar.ofBits .f32 0x45000000#32))
  have xc : FVec F S128x2048 .f32 := subf x (broadcastTo S128x2048 mu broadcasts_S128x1_S128x2048)
  have vr : FVec F S128x1 .f32 := divf (shapeCast S128x1 (multiReduction .add [1] S128 (mulf xc xc) 0x00000000#32 reduces_S128x2048_S128 (.inl rfl) rfl)
    shapeCasts_S128_S128x1) (broadcast S128x1 (Scalar.ofBits .f32 0x45000000#32))
  mulf xc (broadcastTo S128x2048 (rsqrt (addf vr (broadcast S128x1 (Scalar.ofBits .f32 0x3727C5AC#32)))) broadcasts_S128x1_S128x2048)

/-- Normalised rows with a gain and a shift for each column. -/
def affine (x : FVec F S128x2048 .f32) (g s : FVec F S1x2048 .f32) : FVec F S128x2048 .f32 :=
  addf (mulf (norm x) (broadcastTo S128x2048 g broadcasts_S1x2048_S128x2048)) (broadcastTo S128x2048 s broadcasts_S1x2048_S128x2048)

/-- A block of the hidden layer's input. -/
def modulated (sh sc : Vec F S1x1x1x2048 .f32) (x : Vec F S128x2048 .f32) : FVec F S128x2048 .bf16 :=
  shapeCast S128x2048 (truncf .bf16 (affine x (k0_pay5 sc) (k0_pay4 sh)) bitsLt_bf16_f32) shapeCasts_S128x2048_S128x2048

/-- A block of the residual sum, the first or second half of 256 rows of the product. -/
def resid (hf : Fin 2) (gate : Vec F S1x1x1x2048 .f32) (o : Vec F S256x2048 .f32) (h : Vec F S256x512 .bf16) (w : Vec F S512x2048 .bf16)
    (b2 : Vec F S1x1x2048 .f32) (x : Vec F S128x2048 .f32) : FVec F S128x2048 .f32 :=
  addf (mulf (broadcast S128x2048 (Scalar.ofBits .f32 0x3FB504F3#32)) x)
    (mulf (broadcastTo S128x2048 (k0_pay35 gate) broadcasts_S1x2048_S128x2048)
      (extractStridedSlice S128x2048 ![128 * hf.val, 0] (k0_pay36 o h w b2) (half_slices hf)))

variable (c : Dev nD) (i : grid0.Coords) (M : Mems) (X : Ins F)

/-- Block `b` of the normalised rows. -/
def vBlock (b : Fin 8) : FVec F S128x2048 .bf16 :=
  modulated (View.readAt (Elt F) M.mod.view (Rect.unit (s := S1x1x6x2048) ![0, 0, 3, 0] S1x1x1x2048.size (inb_mod 3)).toLoadRect (M.hmod.unread X.mod))
    (View.readAt (Elt F) M.mod.view (Rect.unit (s := S1x1x6x2048) ![0, 0, 4, 0] S1x1x1x2048.size (inb_mod 4)).toLoadRect (M.hmod.unread X.mod))
    (View.readAt (Elt F) M.x.view (Rect.unit (s := S1024x2048) ![128 * b.val, 0] S128x2048.size (inb_rows b)).toLoadRect (M.hx.unread X.x))

def vPiece (b : Fin 8) : View.Piece (Elt F) S1024x2048 .bf16 :=
  ⟨Rect.unit (s := S1024x2048) ![128 * b.val, 0] S128x2048.size (inb_rows b), vBlock M X b⟩

/-- The blocks written when the hidden tile's block `b` is computed, newest first. -/
def vUpTo (b : Fin 4) : List (View.Piece (Elt F) S1024x2048 .bf16) :=
  List.ofFn fun k : Fin (2 * (b.val + 1)) => vPiece M X ⟨2 * b.val + 1 - k.val, by omega⟩

set_option maxHeartbeats 4000000 in
theorem piecesA_v (h : caseA i) : (runA c i M X h).1 = List.ofFn fun b : Fin 8 => vPiece M X b.rev := by
  sl_kernel_rfl

def hBlock (b : Fin 4) : FVec F S256x512 .bf16 :=
  k0_pay9 (M.v.view.readCov (vUpTo M X b) (Rect.unit (s := S1024x2048) ![256 * b.val, 0] S256x2048.size (inb_rows2 b)).toLoadRect)
    (View.readAt (Elt F) M.w1.view (Rect.unit (s := S2048x512) ![0, 0] S2048x512.size inb_S2048x512_S2048x512_0_0).toLoadRect (M.hw1.unread X.w1))
    (View.readAt (Elt F) M.b1.view (Rect.unit (s := S1x1x512) ![0, 0, 0] S1x1x512.size inb_S1x1x512_S1x1x512_0_0_0).toLoadRect (M.hb1.unread X.b1))

set_option maxHeartbeats 4000000 in
theorem piecesA_h (h : caseA i) : (runA c i M X h).2.1 = List.ofFn fun b : Fin 4 =>
    (⟨Rect.unit (s := S1024x512) ![256 * b.rev.val, 0] S256x512.size (inb_hid b.rev), hBlock M X b.rev⟩ : View.Piece (Elt F) S1024x512 .bf16) := by
  sl_kernel_rfl

/-- The whole hidden tile from the normalised rows. -/
def hTile (v : Vec F S1024x2048 .bf16) : FVec F S1024x512 .bf16 :=
  k0_pay2 (View.readAt (Elt F) M.v.view (Rect.unit (s := S1024x2048) ![0, 0] S1024x2048.size inb_S1024x2048_S1024x2048_0_0).toLoadRect (M.hv.unread v))
    (View.readAt (Elt F) M.w1.view (Rect.unit (s := S2048x512) ![0, 0] S2048x512.size inb_S2048x512_S2048x512_0_0).toLoadRect (M.hw1.unread X.w1))
    (View.readAt (Elt F) M.b1.view (Rect.unit (s := S1x1x512) ![0, 0, 0] S1x1x512.size inb_S1x1x512_S1x1x512_0_0_0).toLoadRect (M.hb1.unread X.b1))

def hPiece (v : Vec F S1024x2048 .bf16) : List (View.Piece (Elt F) S1024x512 .bf16) :=
  [⟨Rect.unit (s := S1024x512) ![0, 0] S1024x512.size inb_S1024x512_S1024x512_0_0, hTile M X v⟩]

/-- The product of a hidden tile (in either of its buffers) with columns of the second weight's tile. -/
def prod (H : Memref sig .tc .vmem S1024x512 .bf16) (hH : H.IsWhole) (h : Vec F S1024x512 .bf16) (b : Fin 4) : FVec F S1024x512 .f32 :=
  k0_pay30 (View.readAt (Elt F) H.view (Rect.unit (s := S1024x512) ![0, 0] S1024x512.size inb_S1024x512_S1024x512_0_0).toLoadRect (hH.unread h))
    (View.readAt (Elt F) M.w2.view (Rect.unit (s := S512x2048) ![0, 512 * b.val] S512x512.size (inb_w2 b)).toLoadRect (M.hw2.unread X.w2))

/-- What the output held in those columns, with the product added. -/
def added (H : Memref sig .tc .vmem S1024x512 .bf16) (hH : H.IsWhole) (h : Vec F S1024x512 .bf16) (o : Vec F S1024x2048 .f32) (b : Fin 4) :
    FVec F S1024x512 .f32 :=
  addf (shapeCast S1024x512 (View.readAt (Elt F) M.o.view (Rect.unit (s := S1024x2048) ![0, 512 * b.val] S1024x512.size (inb_cols b)).toLoadRect
    (M.ho.unread o)) shapeCasts_S1024x512_S1024x512) (prod M X H hH h b)

def colPieces (f : Fin 4 → FVec F S1024x512 .f32) : List (View.Piece (Elt F) S1024x2048 .f32) :=
  List.ofFn fun b : Fin 4 => ⟨Rect.unit (s := S1024x2048) ![0, 512 * b.rev.val] S1024x512.size (inb_cols b.rev), f b.rev⟩

set_option maxHeartbeats 4000000 in
theorem piecesB_o (h : caseB i) (v h0) : (runB c i M X h v h0).1
    = colPieces fun b => prod M X M.h0 M.hh0 h0 b := by
  sl_kernel_rfl
set_option maxHeartbeats 4000000 in
theorem piecesB_h (h : caseB i) (v h0) : (runB c i M X h v h0).2.1 = hPiece M X v := by
  sl_kernel_rfl
set_option maxHeartbeats 4000000 in
theorem piecesC_o (h : caseC i) (v h1 o) : (runC c i M X h v h1 o).1 = colPieces (added M X M.h1 M.hh1 h1 o) := by
  sl_kernel_rfl
set_option maxHeartbeats 4000000 in
theorem piecesC_h (h : caseC i) (v h1 o) : (runC c i M X h v h1 o).2.1 = hPiece M X v := by
  sl_kernel_rfl
set_option maxHeartbeats 4000000 in
theorem piecesD_o (h : caseD i) (v h0 o) : (runD c i M X h v h0 o).1 = colPieces (added M X M.h0 M.hh0 h0 o) := by
  sl_kernel_rfl
set_option maxHeartbeats 4000000 in
theorem piecesD_h (h : caseD i) (v h0 o) : (runD c i M X h v h0 o).2.1 = hPiece M X v := by
  sl_kernel_rfl

/-- Block `b` of the result: its 128 rows lie in block `b / 2` of 256. -/
def endBlock (h1 : Vec F S1024x512 .bf16) (o : Vec F S1024x2048 .f32) (q : Fin 4) (hf : Fin 2) : FVec F S128x2048 .f32 :=
  affine (resid hf
    (View.readAt (Elt F) M.mod.view (Rect.unit (s := S1x1x6x2048) ![0, 0, 5, 0] S1x1x1x2048.size (inb_mod 5)).toLoadRect (M.hmod.unread X.mod))
    (View.readAt (Elt F) M.o.view (Rect.unit (s := S1024x2048) ![256 * q.val, 0] S256x2048.size (inb_rows2 q)).toLoadRect (M.ho.unread o))
    (View.readAt (Elt F) M.h1.view (Rect.unit (s := S1024x512) ![256 * q.val, 0] S256x512.size (inb_hid q)).toLoadRect (M.hh1.unread h1))
    (View.readAt (Elt F) M.w2.view (Rect.unit (s := S512x2048) ![0, 0] S512x2048.size inb_S512x2048_S512x2048_0_0).toLoadRect (M.hw2.unread X.w2))
    (View.readAt (Elt F) M.b2.view (Rect.unit (s := S1x1x2048) ![0, 0, 0] S1x1x2048.size inb_S1x1x2048_S1x1x2048_0_0_0).toLoadRect (M.hb2.unread X.b2))
    (View.readAt (Elt F) M.x.view (Rect.unit (s := S1024x2048) ![128 * (2 * q.val + hf.val), 0] S128x2048.size
      (inb_rows ⟨2 * q.val + hf.val, by omega⟩)).toLoadRect (M.hx.unread X.x)))
    (k0_pay37 (View.readAt (Elt F) M.g.view (Rect.unit (s := S1x1x2048) ![0, 0, 0] S1x1x2048.size inb_S1x1x2048_S1x1x2048_0_0_0).toLoadRect (M.hg.unread X.g)))
    (k0_pay38 (View.readAt (Elt F) M.b.view (Rect.unit (s := S1x1x2048) ![0, 0, 0] S1x1x2048.size inb_S1x1x2048_S1x1x2048_0_0_0).toLoadRect (M.hb.unread X.b)))

set_option maxHeartbeats 4000000 in
theorem piecesE_o (h : caseE i) (h1 o) : (runE c i M X h h1 o).1 = List.ofFn fun b : Fin 8 =>
    (⟨Rect.unit (s := S1024x2048) ![128 * b.rev.val, 0] S128x2048.size (inb_rows b.rev),
      endBlock M X h1 o ⟨b.rev.val / 2, by omega⟩ ⟨b.rev.val % 2, by omega⟩⟩ : View.Piece (Elt F) S1024x2048 .f32) := by
  sl_kernel_rfl

end Cert.Kernel2Ideal.Mlp

end
-- ==== Proof.MlpSpec.lean ====
module

public import Idealize.ShloMosaic.PureOps.Ideal
public import Idealize.ShloMosaic.Lib.Pointwise

/-!
The multilayer perceptron over the extended reals, row by row, with no program in sight.
-/

@[expose] public section

noncomputable section

namespace Cert.Mlp

open Idealize.ShloMosaic

/-- The literals of both programs: the row length, the normalisation's small constant, the residual's weight and 1. -/
abbrev len : EReal := Ideal.ofBits .f32 0x45000000#32
abbrev eps : EReal := Ideal.ofBits .f32 0x3727C5AC#32
abbrev alpha : EReal := Ideal.ofBits .f32 0x3FB504F3#32
abbrev one : EReal := Ideal.ofBits .f32 0x3F800000#32

/-- The mean of a row. -/
def mean (f : Fin 2048 → EReal) : EReal := Ideal.div (∑ j, f j) len

/-- A row with its mean taken off and divided by its spread. -/
def ln (f : Fin 2048 → EReal) (k : Fin 2048) : EReal :=
  (f k - mean f) * Ideal.rsqrt (Ideal.div (∑ j, (f j - mean f) * (f j - mean f)) len + eps)

/-- The activation: the positive part, squared. -/
def act (a : EReal) : EReal := max a 0 * max a 0

/-- The hidden layer's input at column `k`. -/
def pre (x sh sc : Fin 2048 → EReal) (k : Fin 2048) : EReal := ln x k * (one + sc k) + sh k

/-- One unit of the hidden layer, from its column of the first weight and its bias. -/
def unit (u w : Fin 2048 → EReal) (b : EReal) : EReal := act (∑ k, u k * w k + b)

/-- The residual sum at column `k`, from the second product. -/
def res (x gate b2 y : Fin 2048 → EReal) (k : Fin 2048) : EReal := alpha * x k + gate k * (y k + b2 k)

/-- The result at column `k`. -/
def out (x gate b2 g b y : Fin 2048 → EReal) (k : Fin 2048) : EReal := ln (res x gate b2 y) k * g k + b k

/-- The place of unit `e` of tile `i` among the 8192 hidden units. -/
def at512 (i : ℕ) (e : Fin 512) : Fin 8192 := ⟨(512 * i + e.val) % 8192, Nat.mod_lt _ (by decide)⟩

/-- The part of an 8192-term sum that tile `i` of 512 terms gives. -/
def tile (f : Fin 8192 → EReal) (i : ℕ) : EReal := ∑ e : Fin 512, f (at512 i e)

theorem sum_tiles (f : Fin 8192 → EReal) : ∑ i ∈ Finset.range 16, tile f i = ∑ e, f e := by
  rw [← Fin.sum_univ_eq_sum_range (fun i => tile f i) 16]
  unfold tile
  rw [← Fintype.sum_prod_type' (f := fun (i : Fin 16) (e : Fin 512) => f (at512 i.val e))]
  refine Fintype.sum_equiv (finProdFinEquiv (m := 16) (n := 512)) _ f fun k => congrArg f (Fin.ext ?_)
  have h1 := k.1.isLt
  have h2 := k.2.isLt
  show (512 * k.1.val + k.2.val) % 8192 = k.2.val + 512 * k.1.val
  omega

/-- The operands, by name: of the arrays with two layers, layer 1; of the modulation, rows 3, 4 and 5 of either batch element. -/
structure Args where
  x : Fin 8192 → Fin 2048 → EReal
  sh : Fin 2 → Fin 2048 → EReal
  sc : Fin 2 → Fin 2048 → EReal
  gate : Fin 2 → Fin 2048 → EReal
  w1 : Fin 2048 → Fin 8192 → EReal
  b1 : Fin 8192 → EReal
  w2 : Fin 8192 → Fin 2048 → EReal
  b2 : Fin 2048 → EReal
  g : Fin 2048 → EReal
  b : Fin 2048 → EReal

/-- The operands out of the programs' eight arguments. -/
def argsOf (x0 : Vec Ideal ⟨2, ![8192, 2048]⟩ .f32) (x1 : Vec Ideal ⟨4, ![1, 8, 6, 2048]⟩ .f32) (x2 : Vec Ideal ⟨2, ![2048, 8192]⟩ .bf16)
    (x3 : Vec Ideal ⟨3, ![2, 1, 8192]⟩ .f32) (x4 : Vec Ideal ⟨2, ![8192, 2048]⟩ .bf16) (x5 x6 x7 : Vec Ideal ⟨3, ![2, 1, 2048]⟩ .f32) : Args where
  x i k := x0 (ix2 i k)
  sh q k := x1 (ix4 0 ⟨q.val, by omega⟩ 3 k)
  sc q k := x1 (ix4 0 ⟨q.val, by omega⟩ 4 k)
  gate q k := x1 (ix4 0 ⟨q.val, by omega⟩ 5 k)
  w1 k e := x2 (ix2 k e)
  b1 e := x3 (ix3 1 0 e)
  w2 e k := x4 (ix2 e k)
  b2 k := x5 (ix3 1 0 k)
  g k := x6 (ix3 1 0 k)
  b k := x7 (ix3 1 0 k)

/-- The batch element of a row. -/
def bat (i : Fin 8192) : Fin 2 := ⟨i.val / 4096, by omega⟩

variable (A : Args)

def Args.u (i : Fin 8192) : Fin 2048 → EReal := pre (A.x i) (A.sh (bat i)) (A.sc (bat i))

def Args.hid (i e : Fin 8192) : EReal := unit (A.u i) (fun k => A.w1 k e) (A.b1 e)

/-- The result at row `i`, column `n`. -/
def Args.val (i : Fin 8192) (n : Fin 2048) : EReal :=
  out (A.x i) (A.gate (bat i)) A.b2 A.g A.b (fun k => ∑ e, A.hid i e * A.w2 e k) n

end Cert.Mlp

end
-- ==== Proof.MlpValue.lean ====
module

public import proofs.«01_k».proof.Proof.MlpPieces
public import proofs.«01_k».proof.Proof.MlpSpec
public import Idealize.ShloMosaic.Lib.Pointwise
public import Idealize.ShloMosaic.Lib.Pipeline.Value

/-!
What each kind of grid point of the multilayer perceptron leaves, read over the extended reals at an index.
-/

@[expose] public section

set_option maxRecDepth 65536

noncomputable section

namespace Cert.Kernel2Ideal.Mlp

open Cert.Kernel2Ideal.Gen Cert.Mlp
open Idealize.ShloMosaic Idealize.ShloMosaic.TcCoe

theorem rowMean_apply (x : FVec Ideal S128x2048 .f32) (p : Fin 128) :
    (divf (shapeCast S128x1 (multiReduction .add [1] S128 x 0x00000000#32 reduces_S128x2048_S128 (.inl rfl) rfl)
    shapeCasts_S128_S128x1) (broadcast S128x1 (Scalar.ofBits (F := Ideal) .f32 0x45000000#32)) : FVec Ideal S128x1 .f32) (ix2 p 0)
      = Ideal.div (∑ j : Fin 2048, x (ix2 p j)) len := by
  pointwise

theorem norm_apply (x : FVec Ideal S128x2048 .f32) (p : Fin 128) (k : Fin 2048) :
    norm x (ix2 p k) = ln (fun j => x (ix2 p j)) k := by
  unfold norm ln mean
  pointwise

theorem affine_apply (x : FVec Ideal S128x2048 .f32) (g s : FVec Ideal S1x2048 .f32) (p : Fin 128) (k : Fin 2048) :
    affine x g s (ix2 p k) = ln (fun j => x (ix2 p j)) k * g (ix2 0 k) + s (ix2 0 k) := by
  rw [← norm_apply]
  unfold affine
  pointwise

theorem modulated_apply (sh sc : Vec Ideal S1x1x1x2048 .f32) (x : Vec Ideal S128x2048 .f32) (p : Fin 128) (k : Fin 2048) :
    modulated sh sc x (ix2 p k) = pre (fun j => x (ix2 p j)) (fun j => sh (ix4 0 0 0 j)) (fun j => sc (ix4 0 0 0 j)) k := by
  have h : modulated sh sc x (ix2 p k) = affine x (k0_pay5 sc) (k0_pay4 sh) (ix2 p k) := by
    unfold modulated
    pointwise
  have h5 : k0_pay5 sc (ix2 0 k) = one + sc (ix4 0 0 0 k) := by unfold k0_pay5; pointwise
  have h4 : k0_pay4 sh (ix2 0 k) = sh (ix4 0 0 0 k) := by unfold k0_pay4; pointwise
  rw [h, affine_apply, h5, h4]
  rfl

theorem hidden_apply (v : Vec Ideal S1024x2048 .bf16) (w : Vec Ideal S2048x512 .bf16) (b : Vec Ideal S1x1x512 .f32) (r : Fin 1024) (e : Fin 512) :
    k0_pay2 v w b (ix2 r e) = unit (fun k => v (ix2 r k)) (fun k => w (ix2 k e)) (b (ix3 0 0 e)) := by
  unfold k0_pay2 unit act
  pointwise

theorem hidden0_apply (v : Vec Ideal S256x2048 .bf16) (w : Vec Ideal S2048x512 .bf16) (b : Vec Ideal S1x1x512 .f32) (r : Fin 256) (e : Fin 512) :
    k0_pay9 v w b (ix2 r e) = unit (fun k => v (ix2 r k)) (fun k => w (ix2 k e)) (b (ix3 0 0 e)) := by
  unfold k0_pay9 unit act
  pointwise

theorem product_apply (h : Vec Ideal S1024x512 .bf16) (w : Vec Ideal S512x512 .bf16) (r : Fin 1024) (n : Fin 512) :
    k0_pay30 h w (ix2 r n) = ∑ e : Fin 512, h (ix2 r e) * w (ix2 e n) := by
  unfold k0_pay30
  pointwise

theorem last_apply (o : Vec Ideal S256x2048 .f32) (h : Vec Ideal S256x512 .bf16) (w : Vec Ideal S512x2048 .bf16) (b2 : Vec Ideal S1x1x2048 .f32)
    (r : Fin 256) (n : Fin 2048) : k0_pay36 o h w b2 (ix2 r n) = o (ix2 r n) + (∑ e : Fin 512, h (ix2 r e) * w (ix2 e n)) + b2 (ix3 0 0 n) := by
  unfold k0_pay36
  pointwise

theorem resid_apply (hf : Fin 2) (gate : Vec Ideal S1x1x1x2048 .f32) (o : Vec Ideal S256x2048 .f32) (h : Vec Ideal S256x512 .bf16)
    (w : Vec Ideal S512x2048 .bf16) (b2 : Vec Ideal S1x1x2048 .f32) (x : Vec Ideal S128x2048 .f32) (p : Fin 128) (r : Fin 256)
    (hr : r.val = 128 * hf.val + p.val) (k : Fin 2048) :
    resid hf gate o h w b2 x (ix2 p k) = res (fun j => x (ix2 p j)) (fun j => gate (ix4 0 0 0 j)) (fun j => b2 (ix3 0 0 j))
      (fun j => o (ix2 r j) + ∑ e : Fin 512, h (ix2 r e) * w (ix2 e j)) k := by
  have he : extractStridedSlice S128x2048 ![128 * hf.val, 0] (k0_pay36 o h w b2) (half_slices hf) (ix2 p k) = k0_pay36 o h w b2 (ix2 r k) := by
    refine extractStridedSlice_apply _ _ _ _ _ ?_
    intro a
    fin_cases a
    · exact hr
    · exact (Nat.zero_add _).symm
  have h35 : k0_pay35 gate (ix2 0 k) = gate (ix4 0 0 0 k) := by unfold k0_pay35; pointwise
  unfold resid res
  beta_reduce
  rw [← last_apply, ← he, ← h35]
  generalize extractStridedSlice S128x2048 ![128 * hf.val, 0] (k0_pay36 o h w b2) (half_slices hf) = y
  generalize k0_pay35 gate = z
  pointwise

theorem gain_apply (w : Vec Ideal S1x1x2048 .f32) (k : Fin 2048) : k0_pay37 w (ix2 0 k) = w (ix3 0 0 k) := by unfold k0_pay37; pointwise
theorem shift_apply (w : Vec Ideal S1x1x2048 .f32) (k : Fin 2048) : k0_pay38 w (ix2 0 k) = w (ix3 0 0 k) := by unfold k0_pay38; pointwise

theorem end_apply (hf : Fin 2) (gate : Vec Ideal S1x1x1x2048 .f32) (o : Vec Ideal S256x2048 .f32) (h : Vec Ideal S256x512 .bf16)
    (w : Vec Ideal S512x2048 .bf16) (b2 g b : Vec Ideal S1x1x2048 .f32) (x : Vec Ideal S128x2048 .f32) (p : Fin 128) (r : Fin 256)
    (hr : r.val = 128 * hf.val + p.val) (k : Fin 2048) :
    affine (resid hf gate o h w b2 x) (k0_pay37 g) (k0_pay38 b) (ix2 p k)
      = out (fun j => x (ix2 p j)) (fun j => gate (ix4 0 0 0 j)) (fun j => b2 (ix3 0 0 j)) (fun j => g (ix3 0 0 j)) (fun j => b (ix3 0 0 j))
        (fun j => o (ix2 r j) + ∑ e : Fin 512, h (ix2 r e) * w (ix2 e j)) k := by
  have e : (fun j => resid hf gate o h w b2 x (ix2 p j)) = res (fun j => x (ix2 p j)) (fun j => gate (ix4 0 0 0 j)) (fun j => b2 (ix3 0 0 j))
      (fun j => o (ix2 r j) + ∑ e : Fin 512, h (ix2 r e) * w (ix2 e j)) := funext fun j => resid_apply hf gate o h w b2 x p r hr j
  rw [affine_apply, e, gain_apply, shift_apply]
  rfl

end Cert.Kernel2Ideal.Mlp

end
-- ==== Proof.MlpPoint.lean ====
module

public import proofs.«01_k».proof.Proof.MlpValue

/-!
What a grid point of the multilayer perceptron leaves in the output and scratch buffers, at every index, in terms of the
operand blocks and of what the buffers held before.
-/

@[expose] public section

set_option maxRecDepth 65536

noncomputable section

namespace Cert.Kernel2Ideal.Mlp

open Cert.Kernel2Ideal.Gen Cert.Mlp
open Idealize.ShloMosaic Idealize.ShloMosaic.TcCoe

attribute [local irreducible] runA runB runC runD runE k0_pay37 k0_pay38

/-! ### Loads and pieces -/

theorem load {s : Shape} {e : EltTy} (M : Memref sig .tc .vmem s e) (hM : M.IsWhole) (x : Vec Ideal s e) (off size : Fin s.rank → ℕ)
    (inb : ∀ a, off a + size a ≤ s.size a) (y : (⟨s.rank, size⟩ : Shape).Idx) (z : s.Idx) (hz : ∀ a, (z a).val = off a + (y a).val) :
    View.readAt (Elt Ideal) M.view (Rect.unit (s := s) off size inb).toLoadRect (hM.unread x) y = x z := by
  rw [View.readAt_apply, hM.read_unread]
  refine congrArg x (funext fun a => Fin.ext ?_)
  show off a + 1 * (y a).val = (z a).val
  rw [hz, one_mul]

theorem idx2 {A B : ℕ} (y : (⟨2, ![A, B]⟩ : Shape).Idx) : y = ix2 (y 0) (y 1) := by
  funext a; fin_cases a <;> rfl

theorem canonO_apply (L : List (View.Piece (Elt Ideal) S1024x2048 .f32)) (G : Fin 1024 → Fin 2048 → EReal)
    (hc : ∀ y : S1024x2048.Idx, ∃ p ∈ L, y ∈ p.1.set) (hp : ∀ p ∈ L, ∀ y : p.1.shape.Idx, p.2 y = G (p.1.emb y 0) (p.1.emb y 1))
    (r : Fin 1024) (k : Fin 2048) : canonO L (ix2 r k) = G r k := by
  unfold canonO
  rw [View.read_writes_eq_canon _ _ _ hc]
  exact View.canon_apply_of_pieces (Val := Elt Ideal) (S := S1024x2048) (e := .f32) (fun y => G (y 0) (y 1)) L hp (ix2 r k) (hc _)

theorem canonV_apply (L : List (View.Piece (Elt Ideal) S1024x2048 .bf16)) (G : Fin 1024 → Fin 2048 → EReal)
    (hc : ∀ y : S1024x2048.Idx, ∃ p ∈ L, y ∈ p.1.set) (hp : ∀ p ∈ L, ∀ y : p.1.shape.Idx, p.2 y = G (p.1.emb y 0) (p.1.emb y 1))
    (r : Fin 1024) (k : Fin 2048) : canonV L (ix2 r k) = G r k := by
  unfold canonV
  rw [View.read_writes_eq_canon _ _ _ hc]
  exact View.canon_apply_of_pieces (Val := Elt Ideal) (S := S1024x2048) (e := .bf16) (fun y => G (y 0) (y 1)) L hp (ix2 r k) (hc _)

theorem canonH_apply (L : List (View.Piece (Elt Ideal) S1024x512 .bf16)) (G : Fin 1024 → Fin 512 → EReal)
    (hc : ∀ y : S1024x512.Idx, ∃ p ∈ L, y ∈ p.1.set) (hp : ∀ p ∈ L, ∀ y : p.1.shape.Idx, p.2 y = G (p.1.emb y 0) (p.1.emb y 1))
    (r : Fin 1024) (k : Fin 512) : canonH L (ix2 r k) = G r k := by
  unfold canonH
  rw [View.read_writes_eq_canon _ _ _ hc]
  exact View.canon_apply_of_pieces (Val := Elt Ideal) (S := S1024x512) (e := .bf16) (fun y => G (y 0) (y 1)) L hp (ix2 r k) (hc _)

variable (c : Dev nD) (i : grid0.Coords) (M : Mems) (X : Ins Ideal)

/-! ### The first point: the hidden layer's input and its first tile -/

def rowV (r : Fin 1024) (k : Fin 2048) : EReal :=
  pre (fun j => X.x (ix2 r j)) (fun j => X.mod (ix4 0 0 3 j)) (fun j => X.mod (ix4 0 0 4 j)) k

def tileH (u : Fin 2048 → EReal) (e : Fin 512) : EReal := unit u (fun k => X.w1 (ix2 k e)) (X.b1 (ix3 0 0 e))

theorem load_w1 (k : Fin 2048) (e : Fin 512) :
    View.readAt (Elt Ideal) M.w1.view (Rect.unit (s := S2048x512) ![0, 0] S2048x512.size inb_S2048x512_S2048x512_0_0).toLoadRect (M.hw1.unread X.w1) (ix2 k e)
      = X.w1 (ix2 k e) := by
  refine load M.w1 M.hw1 X.w1 _ _ _ _ _ fun a => ?_
  fin_cases a <;> exact (Nat.zero_add _).symm

theorem load_b1 (e : Fin 512) :
    View.readAt (Elt Ideal) M.b1.view (Rect.unit (s := S1x1x512) ![0, 0, 0] S1x1x512.size inb_S1x1x512_S1x1x512_0_0_0).toLoadRect (M.hb1.unread X.b1) (ix3 0 0 e)
      = X.b1 (ix3 0 0 e) := by
  refine load M.b1 M.hb1 X.b1 _ _ _ _ _ fun a => ?_
  fin_cases a <;> exact (Nat.zero_add _).symm

theorem load_mod (q : Fin 6) (k : Fin 2048) :
    View.readAt (Elt Ideal) M.mod.view (Rect.unit (s := S1x1x6x2048) ![0, 0, q.val, 0] S1x1x1x2048.size (inb_mod q)).toLoadRect (M.hmod.unread X.mod) (ix4 0 0 0 k)
      = X.mod (ix4 0 0 q k) := by
  refine load M.mod M.hmod X.mod _ _ _ _ _ fun a => ?_
  fin_cases a
  · rfl
  · rfl
  · rfl
  · exact (Nat.zero_add _).symm

theorem load_x (b : Fin 8) (p : Fin 128) (r : Fin 1024) (hr : r.val = 128 * b.val + p.val) (k : Fin 2048) :
    View.readAt (Elt Ideal) M.x.view (Rect.unit (s := S1024x2048) ![128 * b.val, 0] S128x2048.size (inb_rows b)).toLoadRect (M.hx.unread X.x) (ix2 p k)
      = X.x (ix2 r k) := by
  refine load M.x M.hx X.x _ _ _ _ _ fun a => ?_
  fin_cases a
  · exact hr
  · exact (Nat.zero_add _).symm

theorem vBlock_apply (b : Fin 8) (p : Fin 128) (r : Fin 1024) (hr : r.val = 128 * b.val + p.val) (k : Fin 2048) :
    vBlock M X b (ix2 p k) = rowV X r k := by
  unfold vBlock rowV
  rw [modulated_apply]
  congr 1
  · exact funext fun j => load_x M X b p r hr j
  · exact funext fun j => load_mod M X 3 j
  · exact funext fun j => load_mod M X 4 j

theorem vPiece_apply (b : Fin 8) (y : (vPiece M X b).1.shape.Idx) :
    (vPiece M X b).2 y = rowV X ((vPiece M X b).1.emb y 0) ((vPiece M X b).1.emb y 1) := by
  have hy : y = ix2 (n0 := 128) (n1 := 2048) (y 0) (y 1) := idx2 (A := 128) (B := 2048) y
  have h0 : (y 0).val < 128 := (y 0).isLt
  refine (congrArg (vPiece M X b).2 hy).trans ((vBlock_apply M X b (y 0) ⟨128 * b.val + (y 0).val, by omega⟩ rfl (y 1)).trans ?_)
  refine congrArg₂ (rowV X) (Fin.ext ?_) (Fin.ext ?_)
  · show 128 * b.val + (y 0).val = 128 * b.val + 1 * (y 0).val; omega
  · show (y 1).val = 0 + 1 * (y 1).val; omega

theorem firstV_apply (h : caseA i) (r : Fin 1024) (k : Fin 2048) : canonV (runA c i M X h).1 (ix2 r k) = rowV X r k := by
  refine canonV_apply _ _ (tilesA_v c i M X h) ?_ r k
  rw [piecesA_v]
  intro p hp y
  rw [List.mem_ofFn'] at hp
  obtain ⟨b, rfl⟩ := hp
  exact vPiece_apply M X b.rev y

theorem vUpTo_apply (b : Fin 4) (p : Fin 256) (r : Fin 1024) (hr : r.val = 256 * b.val + p.val) (k : Fin 2048) :
    M.v.view.readCov (vUpTo M X b) (Rect.unit (s := S1024x2048) ![256 * b.val, 0] S256x2048.size (inb_rows2 b)).toLoadRect (ix2 p k)
      = rowV X r k := by
  rw [View.readCov_eq_canon']
  have e : (Rect.unit (s := S1024x2048) ![256 * b.val, 0] S256x2048.size (inb_rows2 b)).toLoadRect.idx (ix2 p k) = (ix2 r k : S1024x2048.Idx) := by
    funext a
    apply Fin.ext
    fin_cases a
    · show 256 * b.val + 1 * p.val = r.val; omega
    · show 0 + 1 * k.val = k.val; omega
  show View.canon _ _ = _
  rw [e]
  refine View.canon_apply_of_pieces (Val := Elt Ideal) (S := S1024x2048) (e := .bf16) (fun y => rowV X (y 0) (y 1)) _ ?_ (ix2 r k) ?_
  · intro pc hpc y
    rw [vUpTo, List.mem_ofFn'] at hpc
    obtain ⟨q, rfl⟩ := hpc
    exact vPiece_apply M X _ y
  · have hq : 2 * b.val + 1 - r.val / 128 < 2 * (b.val + 1) := by omega
    refine ⟨_, (List.mem_ofFn' _ _).2 ⟨(⟨2 * b.val + 1 - r.val / 128, hq⟩ : Fin (2 * (b.val + 1))), rfl⟩, ?_⟩
    refine (Rect.mem_set_unit (inb := inb_rows _)).2 fun a => ?_
    fin_cases a
    · refine ⟨?_, ?_⟩
      · show 128 * (2 * b.val + 1 - (2 * b.val + 1 - r.val / 128)) ≤ r.val; omega
      · show r.val < 128 * (2 * b.val + 1 - (2 * b.val + 1 - r.val / 128)) + 128; omega
    · exact ⟨Nat.zero_le _, by show k.val < 0 + 2048; omega⟩

theorem hBlock_apply (b : Fin 4) (p : Fin 256) (r : Fin 1024) (hr : r.val = 256 * b.val + p.val) (e : Fin 512) :
    hBlock M X b (ix2 p e) = tileH X (rowV X r) e := by
  unfold hBlock tileH
  rw [hidden0_apply]
  congr 1
  · exact funext fun k => vUpTo_apply M X b p r hr k
  · exact funext fun k => load_w1 M X k e
  · exact load_b1 M X e

theorem firstH_apply (h : caseA i) (r : Fin 1024) (e : Fin 512) : canonH (runA c i M X h).2.1 (ix2 r e) = tileH X (rowV X r) e := by
  refine canonH_apply _ (fun r e => tileH X (rowV X r) e) (tilesA_h c i M X h) ?_ r e
  rw [piecesA_h]
  intro pc hpc y
  rw [List.mem_ofFn'] at hpc
  obtain ⟨b, rfl⟩ := hpc
  have hy : y = ix2 (n0 := 256) (n1 := 512) (y 0) (y 1) := idx2 (A := 256) (B := 512) y
  have h0 : (y 0).val < 256 := (y 0).isLt
  refine (congrArg (hBlock M X b.rev) hy).trans ((hBlock_apply M X b.rev (y 0) ⟨256 * b.rev.val + (y 0).val, by omega⟩ rfl (y 1)).trans ?_)
  refine congrArg₂ (fun r e => tileH X (rowV X r) e) (Fin.ext ?_) (Fin.ext ?_)
  · show 256 * b.rev.val + (y 0).val = 256 * b.rev.val + 1 * (y 0).val; omega
  · show (y 1).val = 0 + 1 * (y 1).val; omega

/-! ### The later points: the next tile, and the product of the tile before -/

theorem hTile_apply (v : Vec Ideal S1024x2048 .bf16) (r : Fin 1024) (e : Fin 512) :
    hTile M X v (ix2 r e) = tileH X (fun k => v (ix2 r k)) e := by
  unfold hTile tileH
  rw [hidden_apply]
  congr 1
  · refine funext fun k => load M.v M.hv v _ _ _ _ _ fun a => ?_
    fin_cases a <;> exact (Nat.zero_add _).symm
  · exact funext fun k => load_w1 M X k e
  · exact load_b1 M X e

theorem nextH_apply (v : Vec Ideal S1024x2048 .bf16) (L : List (View.Piece (Elt Ideal) S1024x512 .bf16)) (hL : L = hPiece M X v)
    (hc : ∀ y : S1024x512.Idx, ∃ p ∈ L, y ∈ p.1.set) (r : Fin 1024) (e : Fin 512) :
    canonH L (ix2 r e) = tileH X (fun k => v (ix2 r k)) e := by
  subst hL
  refine canonH_apply _ (fun r e => tileH X (fun k => v (ix2 r k)) e) hc ?_ r e
  intro pc hpc y
  obtain rfl := List.mem_singleton.1 hpc
  have hy : y = ix2 (n0 := 1024) (n1 := 512) (y 0) (y 1) := idx2 (A := 1024) (B := 512) y
  refine (congrArg (hTile M X v) hy).trans ((hTile_apply M X v (y 0) (y 1)).trans ?_)
  refine congrArg₂ (fun (r : Fin 1024) e => tileH X (fun k => v (ix2 r k)) e) (Fin.ext ?_) (Fin.ext ?_)
  · show (y 0).val = 0 + 1 * (y 0).val; omega
  · show (y 1).val = 0 + 1 * (y 1).val; omega

theorem prod_apply (H : Memref sig .tc .vmem S1024x512 .bf16) (hH : H.IsWhole) (h : Vec Ideal S1024x512 .bf16) (b : Fin 4) (r : Fin 1024)
    (p : Fin 512) (n : Fin 2048) (hn : n.val = 512 * b.val + p.val) :
    prod M X H hH h b (ix2 r p) = ∑ e : Fin 512, h (ix2 r e) * X.w2 (ix2 e n) := by
  unfold prod
  rw [product_apply]
  refine Finset.sum_congr rfl fun e _ => congrArg₂ (· * ·) ?_ ?_
  · refine load H hH h _ _ _ _ _ fun a => ?_
    fin_cases a <;> exact (Nat.zero_add _).symm
  · refine load M.w2 M.hw2 X.w2 _ _ _ _ _ fun a => ?_
    fin_cases a
    · exact (Nat.zero_add _).symm
    · exact hn

theorem added_apply (H : Memref sig .tc .vmem S1024x512 .bf16) (hH : H.IsWhole) (h : Vec Ideal S1024x512 .bf16) (o : Vec Ideal S1024x2048 .f32)
    (b : Fin 4) (r : Fin 1024) (p : Fin 512) (n : Fin 2048) (hn : n.val = 512 * b.val + p.val) :
    added M X H hH h o b (ix2 r p) = o (ix2 r n) + ∑ e : Fin 512, h (ix2 r e) * X.w2 (ix2 e n) := by
  rw [← prod_apply M X H hH h b r p n hn, ← load M.o M.ho o ![0, 512 * b.val] S1024x512.size (inb_cols b) (ix2 r p) (ix2 r n)
    (fun a => by fin_cases a; exacts [(Nat.zero_add _).symm, hn])]
  unfold added
  generalize prod M X H hH h b = z
  generalize View.readAt (Elt Ideal) M.o.view (Rect.unit (s := S1024x2048) ![0, 512 * b.val] S1024x512.size (inb_cols b)).toLoadRect (M.ho.unread o) = w
  pointwise

theorem cols_apply (f : Fin 4 → FVec Ideal S1024x512 .f32) (G : Fin 1024 → Fin 2048 → EReal)
    (hf : ∀ b r (p : Fin 512) (n : Fin 2048), n.val = 512 * b.val + p.val → f b (ix2 r p) = G r n)
    (L : List (View.Piece (Elt Ideal) S1024x2048 .f32)) (hL : L = colPieces f)
    (hc : ∀ y : S1024x2048.Idx, ∃ p ∈ L, y ∈ p.1.set) (r : Fin 1024) (k : Fin 2048) : canonO L (ix2 r k) = G r k := by
  subst hL
  refine canonO_apply _ _ hc ?_ r k
  intro pc hpc y
  rw [colPieces, List.mem_ofFn'] at hpc
  obtain ⟨b, rfl⟩ := hpc
  have hy : y = ix2 (n0 := 1024) (n1 := 512) (y 0) (y 1) := idx2 (A := 1024) (B := 512) y
  have h1 : (y 1).val < 512 := (y 1).isLt
  refine (congrArg (f b.rev) hy).trans ((hf b.rev (y 0) (y 1) ⟨512 * b.rev.val + (y 1).val, by omega⟩ rfl).trans ?_)
  refine congrArg₂ G (Fin.ext ?_) (Fin.ext ?_)
  · show (y 0).val = 0 + 1 * (y 0).val; omega
  · show 512 * b.rev.val + (y 1).val = 512 * b.rev.val + 1 * (y 1).val; omega

variable (S : St Ideal)

theorem nextA_v (h : caseA i) (r : Fin 1024) (k : Fin 2048) : (nextA c i M X S h).v (ix2 r k) = rowV X r k := firstV_apply c i M X h r k
theorem nextA_h0 (h : caseA i) (r : Fin 1024) (e : Fin 512) : (nextA c i M X S h).h0 (ix2 r e) = tileH X (rowV X r) e := firstH_apply c i M X h r e

theorem nextB_o (h : caseB i) (r : Fin 1024) (n : Fin 2048) :
    (nextB c i M X S h).o (ix2 r n) = ∑ e : Fin 512, S.h0 (ix2 r e) * X.w2 (ix2 e n) := by
  exact cols_apply _ (fun r n => ∑ e : Fin 512, S.h0 (ix2 r e) * X.w2 (ix2 e n))
    (fun b r p n hn => prod_apply M X _ _ _ b r p n hn)
    _ (piecesB_o c i M X h S.v S.h0) (tilesB_o c i M X h S.v S.h0) r n
theorem nextB_h1 (h : caseB i) (r : Fin 1024) (e : Fin 512) : (nextB c i M X S h).h1 (ix2 r e) = tileH X (fun k => S.v (ix2 r k)) e := by
  exact nextH_apply M X S.v _ (piecesB_h c i M X h S.v S.h0) (tilesB_h c i M X h S.v S.h0) r e

theorem nextC_o (h : caseC i) (r : Fin 1024) (n : Fin 2048) :
    (nextC c i M X S h).o (ix2 r n) = S.o (ix2 r n) + ∑ e : Fin 512, S.h1 (ix2 r e) * X.w2 (ix2 e n) := by
  exact cols_apply _ (fun r n => S.o (ix2 r n) + ∑ e : Fin 512, S.h1 (ix2 r e) * X.w2 (ix2 e n))
    (fun b r p n hn => added_apply M X _ _ _ _ b r p n hn)
    _ (piecesC_o c i M X h S.v S.h1 S.o) (tilesC_o c i M X h S.v S.h1 S.o) r n
theorem nextC_h0 (h : caseC i) (r : Fin 1024) (e : Fin 512) : (nextC c i M X S h).h0 (ix2 r e) = tileH X (fun k => S.v (ix2 r k)) e := by
  exact nextH_apply M X S.v _ (piecesC_h c i M X h S.v S.h1 S.o) (tilesC_h c i M X h S.v S.h1 S.o) r e

theorem nextD_o (h : caseD i) (r : Fin 1024) (n : Fin 2048) :
    (nextD c i M X S h).o (ix2 r n) = S.o (ix2 r n) + ∑ e : Fin 512, S.h0 (ix2 r e) * X.w2 (ix2 e n) := by
  exact cols_apply _ (fun r n => S.o (ix2 r n) + ∑ e : Fin 512, S.h0 (ix2 r e) * X.w2 (ix2 e n))
    (fun b r p n hn => added_apply M X _ _ _ _ b r p n hn)
    _ (piecesD_o c i M X h S.v S.h0 S.o) (tilesD_o c i M X h S.v S.h0 S.o) r n
theorem nextD_h1 (h : caseD i) (r : Fin 1024) (e : Fin 512) : (nextD c i M X S h).h1 (ix2 r e) = tileH X (fun k => S.v (ix2 r k)) e := by
  exact nextH_apply M X S.v _ (piecesD_h c i M X h S.v S.h0 S.o) (tilesD_h c i M X h S.v S.h0 S.o) r e

/-! ### The last point -/

/-- The result's row `r`, from the sums so far and the last hidden tile. -/
def rowOut (h1 : Vec Ideal S1024x512 .bf16) (o : Vec Ideal S1024x2048 .f32) (r : Fin 1024) (k : Fin 2048) : EReal :=
  out (fun j => X.x (ix2 r j)) (fun j => X.mod (ix4 0 0 5 j)) (fun j => X.b2 (ix3 0 0 j)) (fun j => X.g (ix3 0 0 j)) (fun j => X.b (ix3 0 0 j))
    (fun j => o (ix2 r j) + ∑ e : Fin 512, h1 (ix2 r e) * X.w2 (ix2 e j)) k

theorem load_row (B : Memref sig .tc .vmem S1x1x2048 .f32) (hB : B.IsWhole) (x : Vec Ideal S1x1x2048 .f32) (k : Fin 2048) :
    View.readAt (Elt Ideal) B.view (Rect.unit (s := S1x1x2048) ![0, 0, 0] S1x1x2048.size inb_S1x1x2048_S1x1x2048_0_0_0).toLoadRect (hB.unread x) (ix3 0 0 k)
      = x (ix3 0 0 k) := by
  refine load B hB x _ _ _ _ _ fun a => ?_
  fin_cases a <;> exact (Nat.zero_add _).symm

theorem endBlock_apply (h1 : Vec Ideal S1024x512 .bf16) (o : Vec Ideal S1024x2048 .f32) (q : Fin 4) (hf : Fin 2) (p : Fin 128) (r : Fin 1024)
    (hr : r.val = 128 * (2 * q.val + hf.val) + p.val) (k : Fin 2048) : endBlock M X h1 o q hf (ix2 p k) = rowOut X h1 o r k := by
  have hp : 128 * hf.val + p.val < 256 := by omega
  have hq : r.val = 256 * q.val + (128 * hf.val + p.val) := by omega
  unfold endBlock rowOut
  refine (end_apply hf _ _ _ _ _ _ _ _ p ⟨128 * hf.val + p.val, hp⟩ rfl k).trans ?_
  congr 1
  · exact funext fun j => load_x M X ⟨2 * q.val + hf.val, by omega⟩ p r hr j
  · exact funext fun j => load_mod M X 5 j
  · exact funext fun j => load_row M.b2 M.hb2 X.b2 j
  · exact funext fun j => load_row M.g M.hg X.g j
  · exact funext fun j => load_row M.b M.hb X.b j
  · refine funext fun j => congrArg₂ (· + ·) ?_ (Finset.sum_congr rfl fun e _ => congrArg₂ (· * ·) ?_ ?_)
    · refine load M.o M.ho o _ _ _ _ _ fun a => ?_
      fin_cases a
      · exact hq
      · exact (Nat.zero_add _).symm
    · refine load M.h1 M.hh1 h1 _ _ _ _ _ fun a => ?_
      fin_cases a
      · exact hq
      · exact (Nat.zero_add _).symm
    · refine load M.w2 M.hw2 X.w2 _ _ _ _ _ fun a => ?_
      fin_cases a <;> exact (Nat.zero_add _).symm

theorem nextE_o (h : caseE i) (r : Fin 1024) (k : Fin 2048) : (nextE c i M X S h).o (ix2 r k) = rowOut X S.h1 S.o r k := by
  refine canonO_apply _ _ (tilesE_o c i M X h S.h1 S.o) ?_ r k
  rw [piecesE_o]
  intro pc hpc y
  rw [List.mem_ofFn'] at hpc
  obtain ⟨b, rfl⟩ := hpc
  have hy : y = ix2 (n0 := 128) (n1 := 2048) (y 0) (y 1) := idx2 (A := 128) (B := 2048) y
  have h0 : (y 0).val < 128 := (y 0).isLt
  refine (congrArg (endBlock M X S.h1 S.o ⟨b.rev.val / 2, by omega⟩ ⟨b.rev.val % 2, by omega⟩) hy).trans
    ((endBlock_apply M X S.h1 S.o _ _ (y 0) ⟨128 * b.rev.val + (y 0).val, by omega⟩
      (by show 128 * b.rev.val + (y 0).val = 128 * (2 * (b.rev.val / 2) + b.rev.val % 2) + (y 0).val; omega) (y 1)).trans ?_)
  refine congrArg₂ (rowOut X S.h1 S.o) (Fin.ext ?_) (Fin.ext ?_)
  · show 128 * b.rev.val + (y 0).val = 128 * b.rev.val + 1 * (y 0).val; omega
  · show (y 1).val = 0 + 1 * (y 1).val; omega

end Cert.Kernel2Ideal.Mlp

end
-- ==== Proof.MlpArray.lean ====
module

public import proofs.«01_k».proof.Proof.MlpPoint

/-!
The multilayer perceptron over its whole grid: what the buffers hold after every point, and the result array at an index.
-/

@[expose] public section

set_option maxRecDepth 65536

noncomputable section

namespace Cert.Kernel2Ideal.Mlp

open Cert.Kernel2Ideal.Gen Cert.Mlp
open Idealize.ShloMosaic Idealize.ShloMosaic.TcCoe
open Idealize.ShloMosaic.Pipeline (Dat)

/-! ### The operand blocks -/

theorem index_x : ∀ t : Fin cfg0.N, win0_0.index t (0 : Fin 2) = t.val / 17 ∧ win0_0.index t (1 : Fin 2) = 0 := by decide +kernel
theorem index_mod : ∀ t : Fin cfg0.N, win0_1.index t (0 : Fin 4) = 0 ∧ win0_1.index t (1 : Fin 4) = t.val / 17 / 4 ∧ win0_1.index t (2 : Fin 4) = 0 ∧ win0_1.index t (3 : Fin 4) = 0 := by decide +kernel
theorem index_w1 : ∀ t : Fin cfg0.N, win0_2.index t (0 : Fin 2) = 0 ∧ win0_2.index t (1 : Fin 2) = min (t.val % 17) 15 := by decide +kernel
theorem index_b1 : ∀ t : Fin cfg0.N, win0_3.index t (0 : Fin 3) = 1 ∧ win0_3.index t (1 : Fin 3) = 0 ∧ win0_3.index t (2 : Fin 3) = min (t.val % 17) 15 := by decide +kernel
theorem index_w2 : ∀ t : Fin cfg0.N, win0_4.index t (0 : Fin 2) = t.val % 17 - 1 ∧ win0_4.index t (1 : Fin 2) = 0 := by decide +kernel
theorem index_b2 : ∀ t : Fin cfg0.N, win0_5.index t (0 : Fin 3) = 1 ∧ win0_5.index t (1 : Fin 3) = 0 ∧ win0_5.index t (2 : Fin 3) = 0 := by decide +kernel
theorem index_g : ∀ t : Fin cfg0.N, win0_6.index t (0 : Fin 3) = 1 ∧ win0_6.index t (1 : Fin 3) = 0 ∧ win0_6.index t (2 : Fin 3) = 0 := by decide +kernel
theorem index_b : ∀ t : Fin cfg0.N, win0_7.index t (0 : Fin 3) = 1 ∧ win0_7.index t (1 : Fin 3) = 0 ∧ win0_7.index t (2 : Fin 3) = 0 := by decide +kernel
theorem index_o : ∀ t : Fin cfg0.N, win0_8.index t (0 : Fin 2) = t.val / 17 ∧ win0_8.index t (1 : Fin 2) = 0 := by decide +kernel

variable (m : (ℓ : Loc nD τ sig) → Buf (Elt Ideal) ℓ) (c : Dev nD) (t : Fin cfg0.N)

theorem block_x (r : Fin 1024) (k : Fin 2048) (i : Fin 8192) (hi : i.val = 1024 * (t.val / 17) + r.val) :
    (iblk m c 0 t : Vec Ideal S1024x2048 .f32) (ix2 r k) = m ((c : Thread nD τ).loc main_arg0) (ix2 i k) := by
  obtain ⟨e0, e1⟩ := index_x t
  show V m c main_arg0 (((cfg0.win 0).blk t).view.emb _) = _
  rw [V_main_arg0]
  refine congrArg (m ((c : Thread nD τ).loc main_arg0)) (funext fun a => Fin.ext ?_)
  match a with
  | ⟨0, _⟩ => show win0_0.index t (0 : Fin 2) * 1024 + 1 * r.val = i.val; omega
  | ⟨1, _⟩ => show win0_0.index t (1 : Fin 2) * 2048 + 1 * k.val = k.val; omega

theorem block_mod (q : Fin 6) (k : Fin 2048) (b : Fin 8) (hb : b.val = t.val / 17 / 4) :
    (iblk m c 1 t : Vec Ideal S1x1x6x2048 .f32) (ix4 0 0 q k) = m ((c : Thread nD τ).loc main_arg1) (ix4 0 b q k) := by
  obtain ⟨e0, e1, e2, e3⟩ := index_mod t
  show V m c main_arg1 (((cfg0.win 1).blk t).view.emb _) = _
  rw [V_main_arg1]
  refine congrArg (m ((c : Thread nD τ).loc main_arg1)) (funext fun a => Fin.ext ?_)
  match a with
  | ⟨0, _⟩ => show win0_1.index t (0 : Fin 4) * 1 + 1 * 0 = 0; omega
  | ⟨1, _⟩ => show win0_1.index t (1 : Fin 4) * 1 + 1 * 0 = b.val; omega
  | ⟨2, _⟩ => show win0_1.index t (2 : Fin 4) * 6 + 1 * q.val = q.val; omega
  | ⟨3, _⟩ => show win0_1.index t (3 : Fin 4) * 2048 + 1 * k.val = k.val; omega

theorem block_w1 (k : Fin 2048) (e : Fin 512) (n : Fin 8192) (hn : n.val = 512 * min (t.val % 17) 15 + e.val) :
    (iblk m c 2 t : Vec Ideal S2048x512 .bf16) (ix2 k e) = m ((c : Thread nD τ).loc main_arg2) (ix2 k n) := by
  obtain ⟨e0, e1⟩ := index_w1 t
  show V m c main_arg2 (((cfg0.win 2).blk t).view.emb _) = _
  rw [V_main_arg2]
  refine congrArg (m ((c : Thread nD τ).loc main_arg2)) (funext fun a => Fin.ext ?_)
  match a with
  | ⟨0, _⟩ => show win0_2.index t (0 : Fin 2) * 2048 + 1 * k.val = k.val; omega
  | ⟨1, _⟩ => show win0_2.index t (1 : Fin 2) * 512 + 1 * e.val = n.val; omega

theorem block_b1 (e : Fin 512) (n : Fin 8192) (hn : n.val = 512 * min (t.val % 17) 15 + e.val) :
    (iblk m c 3 t : Vec Ideal S1x1x512 .f32) (ix3 0 0 e) = m ((c : Thread nD τ).loc main_arg3) (ix3 1 0 n) := by
  obtain ⟨e0, e1, e2⟩ := index_b1 t
  show V m c main_arg3 (((cfg0.win 3).blk t).view.emb _) = _
  rw [V_main_arg3]
  refine congrArg (m ((c : Thread nD τ).loc main_arg3)) (funext fun a => Fin.ext ?_)
  match a with
  | ⟨0, _⟩ => show win0_3.index t (0 : Fin 3) * 1 + 1 * 0 = 1; omega
  | ⟨1, _⟩ => show win0_3.index t (1 : Fin 3) * 1 + 1 * 0 = 0; omega
  | ⟨2, _⟩ => show win0_3.index t (2 : Fin 3) * 512 + 1 * e.val = n.val; omega

theorem block_w2 (e : Fin 512) (k : Fin 2048) (n : Fin 8192) (hn : n.val = 512 * (t.val % 17 - 1) + e.val) :
    (iblk m c 4 t : Vec Ideal S512x2048 .bf16) (ix2 e k) = m ((c : Thread nD τ).loc main_arg4) (ix2 n k) := by
  obtain ⟨e0, e1⟩ := index_w2 t
  show V m c main_arg4 (((cfg0.win 4).blk t).view.emb _) = _
  rw [V_main_arg4]
  refine congrArg (m ((c : Thread nD τ).loc main_arg4)) (funext fun a => Fin.ext ?_)
  match a with
  | ⟨0, _⟩ => show win0_4.index t (0 : Fin 2) * 512 + 1 * e.val = n.val; omega
  | ⟨1, _⟩ => show win0_4.index t (1 : Fin 2) * 2048 + 1 * k.val = k.val; omega

theorem block_b2 (k : Fin 2048) :
    (iblk m c 5 t : Vec Ideal S1x1x2048 .f32) (ix3 0 0 k) = m ((c : Thread nD τ).loc main_arg5) (ix3 1 0 k) := by
  obtain ⟨e0, e1, e2⟩ := index_b2 t
  show V m c main_arg5 (((cfg0.win 5).blk t).view.emb _) = _
  rw [V_main_arg5]
  refine congrArg (m ((c : Thread nD τ).loc main_arg5)) (funext fun a => Fin.ext ?_)
  match a with
  | ⟨0, _⟩ => show win0_5.index t (0 : Fin 3) * 1 + 1 * 0 = 1; omega
  | ⟨1, _⟩ => show win0_5.index t (1 : Fin 3) * 1 + 1 * 0 = 0; omega
  | ⟨2, _⟩ => show win0_5.index t (2 : Fin 3) * 2048 + 1 * k.val = k.val; omega

theorem block_g (k : Fin 2048) :
    (iblk m c 6 t : Vec Ideal S1x1x2048 .f32) (ix3 0 0 k) = m ((c : Thread nD τ).loc main_arg6) (ix3 1 0 k) := by
  obtain ⟨e0, e1, e2⟩ := index_g t
  show V m c main_arg6 (((cfg0.win 6).blk t).view.emb _) = _
  rw [V_main_arg6]
  refine congrArg (m ((c : Thread nD τ).loc main_arg6)) (funext fun a => Fin.ext ?_)
  match a with
  | ⟨0, _⟩ => show win0_6.index t (0 : Fin 3) * 1 + 1 * 0 = 1; omega
  | ⟨1, _⟩ => show win0_6.index t (1 : Fin 3) * 1 + 1 * 0 = 0; omega
  | ⟨2, _⟩ => show win0_6.index t (2 : Fin 3) * 2048 + 1 * k.val = k.val; omega

theorem block_b (k : Fin 2048) :
    (iblk m c 7 t : Vec Ideal S1x1x2048 .f32) (ix3 0 0 k) = m ((c : Thread nD τ).loc main_arg7) (ix3 1 0 k) := by
  obtain ⟨e0, e1, e2⟩ := index_b t
  show V m c main_arg7 (((cfg0.win 7).blk t).view.emb _) = _
  rw [V_main_arg7]
  refine congrArg (m ((c : Thread nD τ).loc main_arg7)) (funext fun a => Fin.ext ?_)
  match a with
  | ⟨0, _⟩ => show win0_7.index t (0 : Fin 3) * 1 + 1 * 0 = 1; omega
  | ⟨1, _⟩ => show win0_7.index t (1 : Fin 3) * 1 + 1 * 0 = 0; omega
  | ⟨2, _⟩ => show win0_7.index t (2 : Fin 3) * 2048 + 1 * k.val = k.val; omega

/-- The operands of the call. -/
def args : Args := argsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7))

/-- Row `r` of row block `q`. -/
def rowOf (q : Fin 8) (r : Fin 1024) : Fin 8192 := ⟨1024 * q.val + r.val, by omega⟩

theorem insAt_row (q : Fin 8) (hq : t.val / 17 = q.val) (r : Fin 1024) : rowV (insAt m c t) r = (args m c).u (rowOf q r) := by
  funext k
  have hb : (bat (rowOf q r)).val = t.val / 17 / 4 := by show (1024 * q.val + r.val) / 4096 = _; omega
  unfold rowV Args.u
  congr 1
  · exact funext fun j => block_x m c t r j (rowOf q r) (by show 1024 * q.val + r.val = _; omega)
  · exact funext fun j => block_mod m c t 3 j ⟨(bat (rowOf q r)).val, by omega⟩ hb
  · exact funext fun j => block_mod m c t 4 j ⟨(bat (rowOf q r)).val, by omega⟩ hb

theorem insAt_tile (ht : t.val % 17 ≤ 15) (i : Fin 8192) (e : Fin 512) :
    tileH (insAt m c t) ((args m c).u i) e = (args m c).hid i (at512 (t.val % 17) e) := by
  have hn : (at512 (t.val % 17) e).val = 512 * min (t.val % 17) 15 + e.val := by show (512 * (t.val % 17) + e.val) % 8192 = _; omega
  unfold tileH Args.hid
  congr 1
  · exact funext fun k => block_w1 m c t k e _ hn
  · exact block_b1 m c t e _ hn

theorem insAt_w2 (e : Fin 512) (k : Fin 2048) : (insAt m c t).w2 (ix2 e k) = (args m c).w2 (at512 (t.val % 17 - 1) e) k :=
  block_w2 m c t e k _ (by show (512 * (t.val % 17 - 1) + e.val) % 8192 = _; omega)

/-- One tile's share of the second product. -/
def part (i : Fin 8192) (n : Fin 2048) (j : ℕ) : EReal := tile (fun e => (args m c).hid i e * (args m c).w2 e n) j

/-! ### The grid -/

/-- What the buffers hold after point `j` of row block `q`: the hidden layer's input, the newest tile, and the sum of the
tiles before it. -/
structure Good (q : Fin 8) (j : ℕ) (S : St Ideal) : Prop where
  v : ∀ r k, S.v (ix2 r k) = (args m c).u (rowOf q r) k
  h0 : j % 2 = 0 → ∀ r e, S.h0 (ix2 r e) = (args m c).hid (rowOf q r) (at512 j e)
  h1 : j % 2 = 1 → ∀ r e, S.h1 (ix2 r e) = (args m c).hid (rowOf q r) (at512 j e)
  o : 1 ≤ j → ∀ r n, S.o (ix2 r n) = ∑ i ∈ Finset.range j, part m c (rowOf q r) n i

theorem next_tile {q : Fin 8} {j : ℕ} {S : St Ideal} (hS : Good m c q j S) (ht : t.val % 17 = j + 1) (hj : j + 1 ≤ 15) (r : Fin 1024) (e : Fin 512) :
    tileH (insAt m c t) (fun k => S.v (ix2 r k)) e = (args m c).hid (rowOf q r) (at512 (j + 1) e) := by
  rw [show (fun k => S.v (ix2 r k)) = (args m c).u (rowOf q r) from funext (hS.v r), insAt_tile m c t (by omega), ht]

theorem next_part (q : Fin 8) {j : ℕ} (h : Vec Ideal S1024x512 .bf16) (hh : ∀ r e, h (ix2 r e) = (args m c).hid (rowOf q r) (at512 j e))
    (ht : t.val % 17 = j + 1) (r : Fin 1024) (n : Fin 2048) :
    ∑ e : Fin 512, h (ix2 r e) * (insAt m c t).w2 (ix2 e n) = part m c (rowOf q r) n j := by
  unfold part tile
  refine Finset.sum_congr rfl fun e _ => ?_
  rw [hh, insAt_w2, ht, Nat.add_sub_cancel]

theorem good (q : Fin 8) : ∀ j, j ≤ 15 → ∀ t : Fin cfg0.N, t.val = 17 * q.val + j → Good m c q j (stAt m c t.val t.isLt)
  | 0, _, t, ht => by
    obtain ⟨S, hS, -⟩ := stAt_first m c t (by omega)
    rw [hS]
    have h17 : t.val % 17 = 0 := by omega
    refine ⟨fun r k => ?_, fun _ r e => ?_, fun h => absurd h (by decide), fun h => absurd h (by decide)⟩
    · rw [nextA_v, insAt_row m c t q (by omega)]
    · rw [nextA_h0, insAt_row m c t q (by omega), insAt_tile m c t (by omega), h17]
  | 1, _, t, ht => by
    have ih := good q 0 (by omega) ⟨t.val - 1, Nat.lt_of_le_of_lt (Nat.sub_le _ _) t.isLt⟩ (by show t.val - 1 = _; omega)
    rw [stAt_pos m c t (by omega)]
    unfold step
    rw [dif_neg (by omega), dif_pos (by omega)]
    refine ⟨ih.v, fun h => absurd h (by decide), fun _ r e => ?_, fun _ r n => ?_⟩
    · rw [nextB_h1]
      exact next_tile m c t ih (by omega) (by omega) r e
    · rw [nextB_o, Finset.sum_range_one]
      exact next_part m c t q _ (ih.h0 rfl) (by omega) r n
  | j + 2, hj, t, ht => by
    have ih := good q (j + 1) (by omega) ⟨t.val - 1, Nat.lt_of_le_of_lt (Nat.sub_le _ _) t.isLt⟩ (by show t.val - 1 = _; omega)
    have h17 : t.val % 17 = j + 1 + 1 := by omega
    rw [stAt_pos m c t (by omega)]
    unfold step
    rw [dif_neg (by omega), dif_neg (by omega), dif_neg (by omega)]
    by_cases hp : t.val % 17 % 2 = 0
    · rw [dif_pos hp]
      refine ⟨ih.v, fun _ r e => ?_, fun h => absurd h (by omega), fun _ r n => ?_⟩
      · rw [nextC_h0]
        exact next_tile m c t ih h17 (by omega) r e
      · rw [nextC_o, Finset.sum_range_succ]
        exact congrArg₂ (· + ·) (ih.o (by omega) r n) (next_part m c t q _ (ih.h1 (by omega)) h17 r n)
    · rw [dif_neg hp]
      refine ⟨ih.v, fun h => absurd h (by omega), fun _ r e => ?_, fun _ r n => ?_⟩
      · rw [nextD_h1]
        exact next_tile m c t ih h17 (by omega) r e
      · rw [nextD_o, Finset.sum_range_succ]
        exact congrArg₂ (· + ·) (ih.o (by omega) r n) (next_part m c t q _ (ih.h0 (by omega)) h17 r n)

/-- The last point of a row block leaves its rows of the result. -/
theorem last_o (q : Fin 8) (ht : t.val = 17 * q.val + 16) (r : Fin 1024) (k : Fin 2048) :
    (stAt m c t.val t.isLt).o (ix2 r k) = (args m c).val (rowOf q r) k := by
  have ih := good m c q 15 (le_refl _) ⟨t.val - 1, Nat.lt_of_le_of_lt (Nat.sub_le _ _) t.isLt⟩ (by show t.val - 1 = _; omega)
  have hb : (bat (rowOf q r)).val = t.val / 17 / 4 := by show (1024 * q.val + r.val) / 4096 = _; omega
  rw [stAt_pos m c t (by omega)]
  unfold step
  rw [dif_neg (by omega), dif_neg (by omega), dif_pos (by omega), nextE_o]
  unfold rowOut Args.val
  congr 1
  · exact funext fun j => block_x m c t r j (rowOf q r) (by show 1024 * q.val + r.val = _; omega)
  · exact funext fun j => block_mod m c t 5 j ⟨(bat (rowOf q r)).val, by omega⟩ hb
  · exact funext fun j => block_b2 m c t j
  · exact funext fun j => block_g m c t j
  · exact funext fun j => block_b m c t j
  · funext n
    rw [← sum_tiles, Finset.sum_range_succ]
    exact congrArg₂ (· + ·) (ih.o (by decide) r n) (next_part m c t q _ (ih.h1 rfl) (by omega) r n)

/-! ### The result array -/

theorem disjoint_o : ∀ t t' : Fin cfg0.N, (cfg0.win 8).flush t = true → (cfg0.win 8).flush t' = true → t ≠ t' →
    Disjoint ((cfg0.win 8).blk t).view.set ((cfg0.win 8).blk t').view.set :=
  fun t t' h h' hne => (cfg0.win 8).disjoint_blk fun e => hne
    ((by decide +kernel : ∀ t t' : Fin grid0.N, (cfg0.win 8).flush t = true → (cfg0.win 8).flush t' = true → win0_8.index t = win0_8.index t' → t = t')
      t t' h h' e)

theorem flush_last : ∀ t : Fin cfg0.N, t.val % 17 = 16 → (cfg0.win 8).flush t = true := by decide +kernel

theorem result_apply (i : Fin 8192) (k : Fin 2048) :
    ((dats m 0 c).arrAt 8 cfg0.N : Vec Ideal S8192x2048 .f32) (ix2 i k) = (args m c).val i k := by
  have hN : cfg0.N = 136 := rfl
  obtain ⟨q, hq⟩ : ∃ q : Fin 8, q.val = i.val / 1024 := ⟨⟨i.val / 1024, by omega⟩, rfl⟩
  obtain ⟨r, hr⟩ : ∃ r : Fin 1024, r.val = i.val % 1024 := ⟨⟨i.val % 1024, by omega⟩, rfl⟩
  obtain ⟨t, ht⟩ : ∃ t : Fin cfg0.N, t.val = 17 * q.val + 16 := ⟨⟨17 * q.val + 16, by omega⟩, rfl⟩
  obtain ⟨e0, e1⟩ := index_o t
  have hi : rowOf q r = i := Fin.ext (by show 1024 * q.val + r.val = i.val; omega)
  have hb := congrFun ((dats m 0 c).read_blk_arrAt_eq_flushed 8 disjoint_o cfg0.N t t.isLt (flush_last t (by omega))) (ix2 r k)
  refine Eq.trans ?_ (hb.trans ?_)
  · refine congrArg ((dats m 0 c).arrAt 8 cfg0.N) (funext fun a => Fin.ext ?_)
    match a with
    | ⟨0, _⟩ => show i.val = win0_8.index t (0 : Fin 2) * 1024 + 1 * r.val; omega
    | ⟨1, _⟩ => show k.val = win0_8.index t (1 : Fin 2) * 2048 + 1 * k.val; omega
  · rw [← hi, ← last_o m c t q ht r k, ← after_o]
    rfl

end Cert.Kernel2Ideal.Mlp

end
-- ==== Proof.MlpRef.lean ====
module

public import proofs.«01_k».proof.Proof.Gen.Reference2Ideal.Read
public import proofs.«01_k».proof.Proof.MlpSpec

/-!
The multilayer perceptron's reference, read at an index.
-/

@[expose] public section

set_option maxRecDepth 65536

noncomputable section

namespace Cert.Reference2Ideal.Mlp

open Idealize.ShloMosaic Cert.Reference2Ideal Cert.Reference2Ideal.Read Cert.Mlp

/-- Position `l` of batch element `b` among all rows. -/
def rowOf (b : Fin 2) (l : Fin 4096) : Fin 8192 := ⟨4096 * b.val + l.val, by omega⟩

theorem bat_rowOf (b : Fin 2) (l : Fin 4096) : bat (rowOf b l) = b := by
  apply Fin.ext; show (4096 * b.val + l.val) / 4096 = b.val; omega

variable (x0 : Vec Ideal S8192x2048 .f32) (x1 : Vec Ideal S1x8x6x2048 .f32) (x2 : Vec Ideal S2048x8192 .bf16) (x3 : Vec Ideal S2x1x8192 .f32)
  (x4 : Vec Ideal S8192x2048 .bf16) (x5 x6 x7 : Vec Ideal S2x1x2048 .f32) (b : Fin 2) (l : Fin 4096)

/-! ### The operands -/

theorem x_apply (k : Fin 2048) : val_main_v0 (F := Ideal) x0 (ix3 b l k) = x0 (ix2 (rowOf b l) k) := by
  rw [val_main_v0_apply]
  refine congrArg x0 (funext fun a => Fin.ext ?_)
  match a with
  | ⟨0, _⟩ => show ((b.val * 4096 + l.val) * 2048 + k.val) / 2048 = 4096 * b.val + l.val; omega
  | ⟨1, _⟩ => show ((b.val * 4096 + l.val) * 2048 + k.val) % 2048 = k.val; omega

theorem sh_apply (k : Fin 2048) : val_main_v3 (F := Ideal) x1 (ix3 b 0 k) = x1 (ix4 0 ⟨b.val, by omega⟩ 3 k) := by
  rw [val_main_v3_apply, val_main_v2_apply, val_main_v1_apply]
  refine congrArg x1 (funext fun a => Fin.ext ?_)
  match a with
  | ⟨0, _⟩ => rfl
  | ⟨1, _⟩ => show (b.val * 2048 + k.val) / 2048 % 2 = b.val; omega
  | ⟨2, _⟩ => rfl
  | ⟨3, _⟩ => show (b.val * 2048 + k.val) % 2048 = k.val; omega

theorem sc_apply (k : Fin 2048) : val_main_v6 (F := Ideal) x1 (ix3 b 0 k) = x1 (ix4 0 ⟨b.val, by omega⟩ 4 k) := by
  rw [val_main_v6_apply, val_main_v5_apply, val_main_v4_apply]
  refine congrArg x1 (funext fun a => Fin.ext ?_)
  match a with
  | ⟨0, _⟩ => rfl
  | ⟨1, _⟩ => show (b.val * 2048 + k.val) / 2048 % 2 = b.val; omega
  | ⟨2, _⟩ => rfl
  | ⟨3, _⟩ => show (b.val * 2048 + k.val) % 2048 = k.val; omega

theorem gate_apply (k : Fin 2048) : val_main_v9 (F := Ideal) x1 (ix3 b 0 k) = x1 (ix4 0 ⟨b.val, by omega⟩ 5 k) := by
  rw [val_main_v9_apply, val_main_v8_apply, val_main_v7_apply]
  refine congrArg x1 (funext fun a => Fin.ext ?_)
  match a with
  | ⟨0, _⟩ => rfl
  | ⟨1, _⟩ => show (b.val * 2048 + k.val) / 2048 % 2 = b.val; omega
  | ⟨2, _⟩ => rfl
  | ⟨3, _⟩ => show (b.val * 2048 + k.val) % 2048 = k.val; omega

theorem b1_apply (k : Fin 8192) : val_main_v39 (F := Ideal) x3 (ix3 b l k) = x3 (ix3 1 0 k) := by
  rw [val_main_v39_apply, val_main_v38_apply, val_main_v37_apply, val_main_v36_apply]
  refine congrArg x3 (funext fun a => Fin.ext ?_)
  match a with
  | ⟨0, _⟩ => rfl
  | ⟨1, _⟩ => rfl
  | ⟨2, _⟩ => show (0 * 8192 + k.val) % 8192 = k.val; omega

theorem b2_apply (k : Fin 2048) : val_main_v48 (F := Ideal) x5 (ix3 b l k) = x5 (ix3 1 0 k) := by
  rw [val_main_v48_apply, val_main_v47_apply, val_main_v46_apply, val_main_v45_apply]
  refine congrArg x5 (funext fun a => Fin.ext ?_)
  match a with
  | ⟨0, _⟩ => rfl
  | ⟨1, _⟩ => rfl
  | ⟨2, _⟩ => show (0 * 2048 + k.val) % 2048 = k.val; omega

theorem g_apply (k : Fin 2048) : val_main_v76 (F := Ideal) x6 (ix3 b l k) = x6 (ix3 1 0 k) := by
  rw [val_main_v76_apply, val_main_v75_apply, val_main_v74_apply, val_main_v73_apply]
  refine congrArg x6 (funext fun a => Fin.ext ?_)
  match a with
  | ⟨0, _⟩ => rfl
  | ⟨1, _⟩ => rfl
  | ⟨2, _⟩ => show (0 * 2048 + k.val) % 2048 = k.val; omega

theorem b_apply (k : Fin 2048) : val_main_v81 (F := Ideal) x7 (ix3 b l k) = x7 (ix3 1 0 k) := by
  rw [val_main_v81_apply, val_main_v80_apply, val_main_v79_apply, val_main_v78_apply]
  refine congrArg x7 (funext fun a => Fin.ext ?_)
  match a with
  | ⟨0, _⟩ => rfl
  | ⟨1, _⟩ => rfl
  | ⟨2, _⟩ => show (0 * 2048 + k.val) % 2048 = k.val; omega

/-! ### The hidden layer -/

theorem mean_apply : val_main_v13 (F := Ideal) x0 (ix3 b l 0) = mean (fun j => x0 (ix2 (rowOf b l) j)) := by
  have h0 : val_main_cst (F := Ideal) (Shape.Idx.first Gen.h_S_) = (0 : EReal) := Ideal.ofBits_zero .f32
  rw [val_main_v13_apply, val_main_v11_apply, val_main_v12_apply, val_main_v10_apply, h0, zero_add]
  refine congrArg (fun s => Ideal.div s len) (Finset.sum_congr rfl fun k _ => ?_)
  have e : idx_main_v10 (idx_main_v11 (ix3 b l 0)) k = ix3 b l k := by funext a; fin_cases a <;> rfl
  rw [e]
  exact x_apply x0 b l k

theorem off_apply (k : Fin 2048) : val_main_v15 (F := Ideal) x0 (ix3 b l k) = (fun j => x0 (ix2 (rowOf b l) j)) k - mean (fun j => x0 (ix2 (rowOf b l) j)) := by
  have e : idx_main_v14 (ix3 b l k) = ix3 b l 0 := by funext a; fin_cases a <;> rfl
  rw [val_main_v15_apply, val_main_v14_apply, e, mean_apply, x_apply]
  rfl

theorem spread_apply : val_main_v25 (F := Ideal) x0 (ix3 b l 0)
    = Ideal.rsqrt (Ideal.div (∑ j, ((fun j => x0 (ix2 (rowOf b l) j)) j - mean (fun j => x0 (ix2 (rowOf b l) j))) * ((fun j => x0 (ix2 (rowOf b l) j)) j - mean (fun j => x0 (ix2 (rowOf b l) j)))) len + eps) := by
  have h0 : val_main_cst_1 (F := Ideal) (Shape.Idx.first Gen.h_S_) = (0 : EReal) := Ideal.ofBits_zero .f32
  rw [val_main_v25_apply, val_main_v24_apply, val_main_v20_apply, val_main_v18_apply, val_main_v19_apply,
    val_main_v23_apply, val_main_v17_apply, h0, zero_add]
  refine congrArg (fun s => Ideal.rsqrt (Ideal.div s len + eps)) (Finset.sum_congr rfl fun k _ => ?_)
  have e : idx_main_v17 (idx_main_v18 (ix3 b l 0)) k = ix3 b l k := by funext a; fin_cases a <;> rfl
  rw [e, val_main_v16_apply, off_apply]
  rfl

theorem ln_apply (k : Fin 2048) : val_main_v27 (F := Ideal) x0 (ix3 b l k) = ln (fun j => x0 (ix2 (rowOf b l) j)) k := by
  have e : idx_main_v26 (ix3 b l k) = ix3 b l 0 := by funext a; fin_cases a <;> rfl
  have e' : idx_main_v21 (ix3 b l k) = ix3 b l 0 := by funext a; fin_cases a <;> rfl
  rw [val_main_v27_apply, val_main_v26_apply, e, spread_apply, val_main_v22_apply, val_main_v21_apply, e', mean_apply, x_apply]
  rfl

theorem u_apply (k : Fin 2048) : val_main_v33 (F := Ideal) x0 x1 (ix3 b l k) = (argsOf x0 x1 x2 x3 x4 x5 x6 x7).u (rowOf b l) k := by
  have e : idx_main_v30 (ix3 b l k) = ix3 b 0 k := by funext a; fin_cases a <;> rfl
  have e' : idx_main_v32 (ix3 b l k) = ix3 b 0 k := by funext a; fin_cases a <;> rfl
  rw [val_main_v33_apply, val_main_v31_apply, val_main_v30_apply, e, val_main_v29_apply, val_main_v28_apply, val_main_v32_apply, e', ln_apply,
    sh_apply, sc_apply]
  unfold Args.u
  rw [bat_rowOf]
  rfl

theorem hid_apply (n : Fin 8192) : val_main_v42 (F := Ideal) x0 x1 x2 x3 (ix3 b l n) = (argsOf x0 x1 x2 x3 x4 x5 x6 x7).hid (rowOf b l) n := by
  have h0 : ∀ i, val_main_call0_v0 (F := Ideal) i = (0 : EReal) := fun i => by rw [val_main_call0_v0_apply]; exact Ideal.ofBits_zero .f32
  have hs : val_main_v35 (F := Ideal) x0 x1 x2 (ix3 b l n) = ∑ k, (argsOf x0 x1 x2 x3 x4 x5 x6 x7).u (rowOf b l) k * x2 (ix2 k n) := by
    rw [val_main_v35_apply]
    refine Finset.sum_congr rfl fun k _ => congrArg₂ (· * ·) ?_ ?_
    · rw [← u_apply x0 x1 x2 x3 x4 x5 x6 x7]
      refine congrArg _ (funext fun a => ?_)
      fin_cases a <;> rfl
    · rw [val_main_v34_apply]
      refine congrArg x2 (funext fun a => ?_)
      fin_cases a <;> rfl
  rw [val_main_v42_apply, val_main_v41_apply, h0, val_main_v40_apply, hs, b1_apply]
  rfl

/-! ### The residual sum and the result -/

/-- The residual sum's row. -/
def resid : Fin 2048 → EReal :=
  let A := argsOf x0 x1 x2 x3 x4 x5 x6 x7
  res (A.x (rowOf b l)) (A.gate b) A.b2 (fun k => ∑ e, A.hid (rowOf b l) e * A.w2 e k)

theorem resid_apply (k : Fin 2048) : val_main_v54 (F := Ideal) x0 x1 x2 x3 x4 x5 (ix3 b l k) = resid x0 x1 x2 x3 x4 x5 x6 x7 b l k := by
  have e : idx_main_v52 (ix3 b l k) = ix3 b 0 k := by funext a; fin_cases a <;> rfl
  have hs : val_main_v44 (F := Ideal) x0 x1 x2 x3 x4 (ix3 b l k)
      = ∑ n, (argsOf x0 x1 x2 x3 x4 x5 x6 x7).hid (rowOf b l) n * x4 (ix2 n k) := by
    rw [val_main_v44_apply]
    refine Finset.sum_congr rfl fun n _ => congrArg₂ (· * ·) ?_ ?_
    · rw [← hid_apply x0 x1 x2 x3 x4 x5 x6 x7]
      refine congrArg _ (funext fun a => ?_)
      fin_cases a <;> rfl
    · rw [val_main_v43_apply]
      refine congrArg x4 (funext fun a => ?_)
      fin_cases a <;> rfl
  rw [val_main_v54_apply, val_main_v51_apply, val_main_v50_apply, x_apply, val_main_v53_apply, val_main_v52_apply, e, gate_apply, val_main_v49_apply, hs,
    b2_apply]
  rfl

theorem mean2_apply : val_main_v58 (F := Ideal) x0 x1 x2 x3 x4 x5 (ix3 b l 0) = mean (resid x0 x1 x2 x3 x4 x5 x6 x7 b l) := by
  have h0 : val_main_cst_6 (F := Ideal) (Shape.Idx.first Gen.h_S_) = (0 : EReal) := Ideal.ofBits_zero .f32
  rw [val_main_v58_apply, val_main_v56_apply, val_main_v57_apply, val_main_v55_apply, h0, zero_add]
  refine congrArg (fun s => Ideal.div s len) (Finset.sum_congr rfl fun k _ => ?_)
  have e : idx_main_v55 (idx_main_v56 (ix3 b l 0)) k = ix3 b l k := by funext a; fin_cases a <;> rfl
  rw [e]
  exact resid_apply x0 x1 x2 x3 x4 x5 x6 x7 b l k

theorem off2_apply (k : Fin 2048) : val_main_v60 (F := Ideal) x0 x1 x2 x3 x4 x5 (ix3 b l k) = (resid x0 x1 x2 x3 x4 x5 x6 x7 b l) k - mean (resid x0 x1 x2 x3 x4 x5 x6 x7 b l) := by
  have e : idx_main_v59 (ix3 b l k) = ix3 b l 0 := by funext a; fin_cases a <;> rfl
  rw [val_main_v60_apply, val_main_v59_apply, e, mean2_apply x0 x1 x2 x3 x4 x5 x6 x7, resid_apply x0 x1 x2 x3 x4 x5 x6 x7]
  rfl

theorem spread2_apply : val_main_v70 (F := Ideal) x0 x1 x2 x3 x4 x5 (ix3 b l 0)
    = Ideal.rsqrt (Ideal.div (∑ j, ((resid x0 x1 x2 x3 x4 x5 x6 x7 b l) j - mean (resid x0 x1 x2 x3 x4 x5 x6 x7 b l)) * ((resid x0 x1 x2 x3 x4 x5 x6 x7 b l) j - mean (resid x0 x1 x2 x3 x4 x5 x6 x7 b l))) len + eps) := by
  have h0 : val_main_cst_8 (F := Ideal) (Shape.Idx.first Gen.h_S_) = (0 : EReal) := Ideal.ofBits_zero .f32
  rw [val_main_v70_apply, val_main_v69_apply, val_main_v65_apply, val_main_v63_apply, val_main_v64_apply,
    val_main_v68_apply, val_main_v62_apply, h0, zero_add]
  refine congrArg (fun s => Ideal.rsqrt (Ideal.div s len + eps)) (Finset.sum_congr rfl fun k _ => ?_)
  have e : idx_main_v62 (idx_main_v63 (ix3 b l 0)) k = ix3 b l k := by funext a; fin_cases a <;> rfl
  rw [e, val_main_v61_apply, off2_apply x0 x1 x2 x3 x4 x5 x6 x7]
  rfl

theorem ln2_apply (k : Fin 2048) : val_main_v72 (F := Ideal) x0 x1 x2 x3 x4 x5 (ix3 b l k) = ln (resid x0 x1 x2 x3 x4 x5 x6 x7 b l) k := by
  have e : idx_main_v71 (ix3 b l k) = ix3 b l 0 := by funext a; fin_cases a <;> rfl
  have e' : idx_main_v66 (ix3 b l k) = ix3 b l 0 := by funext a; fin_cases a <;> rfl
  rw [val_main_v72_apply, val_main_v71_apply, e, spread2_apply x0 x1 x2 x3 x4 x5 x6 x7, val_main_v67_apply, val_main_v66_apply, e', mean2_apply x0 x1 x2 x3 x4 x5 x6 x7, resid_apply x0 x1 x2 x3 x4 x5 x6 x7]
  rfl

theorem result_apply (i : Fin 8192) (k : Fin 2048) :
    val_main_v83 (F := Ideal) x0 x1 x2 x3 x4 x5 x6 x7 (ix2 i k) = (argsOf x0 x1 x2 x3 x4 x5 x6 x7).val i k := by
  obtain ⟨b, hb⟩ : ∃ b : Fin 2, b.val = i.val / 4096 := ⟨⟨i.val / 4096, by omega⟩, rfl⟩
  obtain ⟨l, hl⟩ : ∃ l : Fin 4096, l.val = i.val % 4096 := ⟨⟨i.val % 4096, by omega⟩, rfl⟩
  obtain rfl : rowOf b l = i := Fin.ext (by show 4096 * b.val + l.val = i.val; omega)
  have e : idx_main_v83 (ix2 (rowOf b l) k) = ix3 b l k := by
    funext a
    apply Fin.ext
    match a with
    | ⟨0, _⟩ => show ((4096 * b.val + l.val) * 2048 + k.val) / 8388608 = b.val; omega
    | ⟨1, _⟩ => show ((4096 * b.val + l.val) * 2048 + k.val) / 2048 % 4096 = l.val; omega
    | ⟨2, _⟩ => show ((4096 * b.val + l.val) * 2048 + k.val) % 2048 = k.val; omega
  rw [val_main_v83_apply, e, val_main_v82_apply, val_main_v77_apply, ln2_apply x0 x1 x2 x3 x4 x5 x6 x7, g_apply, b_apply]
  unfold Args.val
  rw [bat_rowOf]
  rfl

end Cert.Reference2Ideal.Mlp

end
-- ==== Proof.OutprojSpec.lean ====
module

public import proofs.«01_k».proof.Proof.MlpSpec

/-!
The output projection over the extended reals, row by row, with no program in sight.
-/

@[expose] public section

noncomputable section

namespace Cert.Outproj

open Idealize.ShloMosaic Cert.Mlp

/-- A row of the attention's heads, a row of the recurrence and a row of the filter, side by side. -/
def joined (na : Fin 1024 → EReal) (lru f : Fin 512 → EReal) (k : Fin 2048) : EReal :=
  if h : k.val < 1024 then na ⟨k.val, h⟩
  else if h' : k.val < 1536 then lru ⟨k.val - 1024, by omega⟩
  else f ⟨k.val - 1536, by omega⟩

/-- A joined row times a column is the sum of its three parts times theirs. -/
theorem sum_joined (na : Fin 1024 → EReal) (lru f : Fin 512 → EReal) (w : Fin 2048 → EReal) :
    ∑ k, joined na lru f k * w k
      = ∑ j : Fin 1024, na j * w ⟨j.val, by omega⟩ + ∑ j : Fin 512, lru j * w ⟨1024 + j.val, by omega⟩
        + ∑ j : Fin 512, f j * w ⟨1536 + j.val, by omega⟩ := by
  refine (Fin.sum_univ_add (a := 1536) (b := 512) (fun k : Fin 2048 => joined na lru f k * w k)).trans ?_
  refine congrArg₂ (· + ·) ?_ (Finset.sum_congr rfl fun j _ => congrArg₂ (· * ·) ?_ rfl)
  · refine (Fin.sum_univ_add (a := 1024) (b := 512)
      (fun k : Fin 1536 => joined na lru f ⟨k.val, by omega⟩ * w ⟨k.val, by omega⟩)).trans ?_
    refine congrArg₂ (· + ·) (Finset.sum_congr rfl fun j _ => congrArg₂ (· * ·) ?_ rfl)
      (Finset.sum_congr rfl fun j _ => congrArg₂ (· * ·) ?_ rfl)
    · exact dif_pos j.isLt
    · refine (dif_neg (by show ¬ 1024 + j.val < 1024; omega)).trans ((dif_pos (by show 1024 + j.val < 1536; omega)).trans ?_)
      exact congrArg lru (Fin.ext (by show 1024 + j.val - 1024 = j.val; omega))
  · refine (dif_neg (by show ¬ 1536 + j.val < 1024; omega)).trans ((dif_neg (by show ¬ 1536 + j.val < 1536; omega)).trans ?_)
    exact congrArg f (Fin.ext (by show 1536 + j.val - 1536 = j.val; omega))

/-- The residual sum at column `k`, from the product. -/
def add (x gate y : Fin 2048 → EReal) (k : Fin 2048) : EReal := alpha * x k + gate k * y k

/-- The result at column `k`. -/
def row (x gate g b y : Fin 2048 → EReal) (k : Fin 2048) : EReal := ln (add x gate y) k * g k + b k

/-- The operands, by name: of the gain and the shift, layer 1; of the modulation, row 2 of either batch element. -/
structure Args where
  na : Fin 8192 → Fin 1024 → EReal
  lru : Fin 8192 → Fin 512 → EReal
  f : Fin 8192 → Fin 512 → EReal
  x : Fin 8192 → Fin 2048 → EReal
  gate : Fin 2 → Fin 2048 → EReal
  w : Fin 2048 → Fin 2048 → EReal
  g : Fin 2048 → EReal
  b : Fin 2048 → EReal

/-- The operands out of the programs' eight arguments. -/
def argsOf (x0 : Vec Ideal ⟨2, ![8192, 1024]⟩ .bf16) (x1 x2 : Vec Ideal ⟨2, ![8192, 512]⟩ .bf16) (x3 : Vec Ideal ⟨2, ![8192, 2048]⟩ .f32)
    (x4 : Vec Ideal ⟨4, ![1, 8, 6, 2048]⟩ .f32) (x5 : Vec Ideal ⟨2, ![2048, 2048]⟩ .bf16) (x6 x7 : Vec Ideal ⟨3, ![2, 1, 2048]⟩ .f32) : Args where
  na i k := x0 (ix2 i k)
  lru i k := x1 (ix2 i k)
  f i k := x2 (ix2 i k)
  x i k := x3 (ix2 i k)
  gate q k := x4 (ix4 0 ⟨q.val, by omega⟩ 2 k)
  w k n := x5 (ix2 k n)
  g k := x6 (ix3 1 0 k)
  b k := x7 (ix3 1 0 k)

variable (A : Args)

/-- The product of row `i` with column `n` of the weight. -/
def Args.prod (i : Fin 8192) (n : Fin 2048) : EReal := ∑ k, joined (A.na i) (A.lru i) (A.f i) k * A.w k n

/-- The result at row `i`, column `n`. -/
def Args.val (i : Fin 8192) (n : Fin 2048) : EReal := row (A.x i) (A.gate (bat i)) A.g A.b (A.prod i) n

end Cert.Outproj

end
-- ==== Proof.OutprojArray.lean ====
module

public import proofs.«01_k».proof.Proof.MlpValue
public import proofs.«01_k».proof.Proof.OutprojSpec
public import proofs.«01_k».proof.Proof.Gen.Kernel3Ideal.Value

/-!
What each grid point of the output projection leaves, and the result array, read over the extended reals at an index.
-/

@[expose] public section

set_option maxRecDepth 65536

noncomputable section

namespace Cert.Kernel3Ideal.Outproj

open Cert.Kernel3Ideal Cert.Kernel3Ideal.Gen Cert.Outproj
open Idealize.ShloMosaic Idealize.ShloMosaic.TcCoe Idealize.SL.Sem
open Cert.Mlp (bat ln)
open Cert.Kernel2Ideal.Mlp (affine affine_apply)

theorem inb_na (q : Fin 2) : ∀ a, ![256 * q.val, 0] a + S256x1024.size a ≤ S512x1024.size a := by
  revert q; decide
theorem inb_mix (q : Fin 2) : ∀ a, ![256 * q.val, 0] a + S256x512.size a ≤ S512x512.size a := by
  revert q; decide
theorem inb_x (q hf : Fin 2) : ∀ a, ![256 * q.val + 128 * hf.val, 0] a + S128x2048.size a ≤ S512x2048.size a := by
  revert q hf; decide
theorem half_slices (hf : Fin 2) : S256x2048.Slices ![128 * hf.val, 0] S128x2048 := by
  revert hf; decide

/-! ### A block of 128 rows -/

/-- The residual sum of a block of rows, the first or second half of 256 rows of the product. -/
def sums (hf : Fin 2) (z : FVec Ideal S1x2048 .f32) (y : FVec Ideal S256x2048 .f32) (x : Vec Ideal S128x2048 .f32) : FVec Ideal S128x2048 .f32 :=
  addf (mulf (broadcast S128x2048 (Scalar.ofBits .f32 0x3FB504F3#32)) x)
    (mulf (broadcastTo S128x2048 z broadcasts_S1x2048_S128x2048) (extractStridedSlice S128x2048 ![128 * hf.val, 0] y (half_slices hf)))

theorem sums_apply (hf : Fin 2) (z : FVec Ideal S1x2048 .f32) (y : FVec Ideal S256x2048 .f32) (x : Vec Ideal S128x2048 .f32) (p : Fin 128)
    (r : Fin 256) (hr : r.val = 128 * hf.val + p.val) (k : Fin 2048) :
    sums hf z y x (ix2 p k) = add (fun j => x (ix2 p j)) (fun j => z (ix2 0 j)) (fun j => y (ix2 r j)) k := by
  have he : extractStridedSlice S128x2048 ![128 * hf.val, 0] y (half_slices hf) (ix2 p k) = y (ix2 r k) := by
    refine extractStridedSlice_apply _ _ _ _ _ ?_
    intro a
    fin_cases a
    · exact hr
    · exact (Nat.zero_add _).symm
  unfold sums add
  beta_reduce
  rw [← he]
  generalize extractStridedSlice S128x2048 ![128 * hf.val, 0] y (half_slices hf) = u
  pointwise

theorem product_apply (a : Vec Ideal S256x1024 .bf16) (wa : Vec Ideal S1024x2048 .bf16) (b : Vec Ideal S256x512 .bf16) (wb : Vec Ideal S512x2048 .bf16)
    (f : Vec Ideal S256x512 .bf16) (wf : Vec Ideal S512x2048 .bf16) (r : Fin 256) (n : Fin 2048) :
    k0_pay4 a wa b wb f wf (ix2 r n) = ∑ j : Fin 1024, a (ix2 r j) * wa (ix2 j n) + ∑ j : Fin 512, b (ix2 r j) * wb (ix2 j n)
      + ∑ j : Fin 512, f (ix2 r j) * wf (ix2 j n) := by
  unfold k0_pay4
  pointwise

theorem gate_apply (v : Vec Ideal S1x1x1x2048 .f32) (k : Fin 2048) : k0_pay3 v (ix2 0 k) = v (ix4 0 0 0 k) := by unfold k0_pay3; pointwise
theorem gain_apply (v : Vec Ideal S1x1x2048 .f32) (k : Fin 2048) : k0_pay5 v (ix2 0 k) = v (ix3 0 0 k) := by unfold k0_pay5; pointwise
theorem shift_apply (v : Vec Ideal S1x1x2048 .f32) (k : Fin 2048) : k0_pay6 v (ix2 0 k) = v (ix3 0 0 k) := by unfold k0_pay6; pointwise

/-! ### A grid point -/

section Point

variable (x0 : Vec Ideal S512x1024 .bf16) (x1 x2 : Vec Ideal S512x512 .bf16) (x3 : Vec Ideal S512x2048 .f32) (x4 : Vec Ideal S1x1x6x2048 .f32)
  (x5 : Vec Ideal S2048x2048 .bf16) (x6 x7 : Vec Ideal S1x1x2048 .f32)

/-- The result of a grid point at row `r` of its block. -/
def pointRow (r : Fin 512) : Fin 2048 → EReal :=
  row (fun j => x3 (ix2 r j)) (fun j => x4 (ix4 0 0 2 j)) (fun j => x6 (ix3 0 0 j)) (fun j => x7 (ix3 0 0 j))
    (fun n => ∑ k, joined (fun j => x0 (ix2 r j)) (fun j => x1 (ix2 r j)) (fun j => x2 (ix2 r j)) k * x5 (ix2 k n))

/-- The product of 256 rows, as the kernel loads them. -/
def prodBlock (q : Fin 2) : FVec Ideal S256x2048 .f32 :=
  k0_pay4 (View.ld x0 (Rect.unit (s := S512x1024) ![256 * q.val, 0] S256x1024.size (inb_na q))) (View.ld x5 r0_2)
    (View.ld x1 (Rect.unit (s := S512x512) ![256 * q.val, 0] S256x512.size (inb_mix q))) (View.ld x5 r0_4)
    (View.ld x2 (Rect.unit (s := S512x512) ![256 * q.val, 0] S256x512.size (inb_mix q))) (View.ld x5 r0_5)

theorem prodBlock_apply (q : Fin 2) (s : Fin 256) (r : Fin 512) (hr : r.val = 256 * q.val + s.val) (n : Fin 2048) :
    prodBlock x0 x1 x2 x5 q (ix2 s n)
      = ∑ k, joined (fun j => x0 (ix2 r j)) (fun j => x1 (ix2 r j)) (fun j => x2 (ix2 r j)) k * x5 (ix2 k n) := by
  unfold prodBlock
  rw [product_apply, sum_joined]
  have row_eq : ∀ {w : ℕ} (j : Fin w), (256 * q.val + 1 * s.val = r.val) ∧ (0 + 1 * j.val = j.val) := fun j => by omega
  refine congrArg₂ (· + ·) (congrArg₂ (· + ·) ?_ ?_) ?_
  · refine Finset.sum_congr rfl fun j _ => congrArg₂ (· * ·) (congrArg x0 (funext fun a => Fin.ext ?_)) (congrArg x5 (funext fun a => Fin.ext ?_))
    · match a with
      | ⟨0, _⟩ => exact (row_eq j).1
      | ⟨1, _⟩ => exact (row_eq j).2
    · match a with
      | ⟨0, _⟩ => show 0 + 1 * j.val = j.val; omega
      | ⟨1, _⟩ => show 0 + 1 * n.val = n.val; omega
  · refine Finset.sum_congr rfl fun j _ => congrArg₂ (· * ·) (congrArg x1 (funext fun a => Fin.ext ?_)) (congrArg x5 (funext fun a => Fin.ext ?_))
    · match a with
      | ⟨0, _⟩ => exact (row_eq j).1
      | ⟨1, _⟩ => exact (row_eq j).2
    · match a with
      | ⟨0, _⟩ => show 1024 + 1 * j.val = 1024 + j.val; omega
      | ⟨1, _⟩ => show 0 + 1 * n.val = n.val; omega
  · refine Finset.sum_congr rfl fun j _ => congrArg₂ (· * ·) (congrArg x2 (funext fun a => Fin.ext ?_)) (congrArg x5 (funext fun a => Fin.ext ?_))
    · match a with
      | ⟨0, _⟩ => exact (row_eq j).1
      | ⟨1, _⟩ => exact (row_eq j).2
    · match a with
      | ⟨0, _⟩ => show 1536 + 1 * j.val = 1536 + j.val; omega
      | ⟨1, _⟩ => show 0 + 1 * n.val = n.val; omega

/-- The block of 128 rows that one store writes. -/
def piece (q hf : Fin 2) : FVec Ideal S128x2048 .f32 :=
  affine (sums hf (k0_pay3 (View.ld x4 r0_0)) (prodBlock x0 x1 x2 x5 q)
    (View.ld x3 (Rect.unit (s := S512x2048) ![256 * q.val + 128 * hf.val, 0] S128x2048.size (inb_x q hf))))
    (k0_pay5 (View.ld x6 r0_6)) (k0_pay6 (View.ld x7 r0_6))

theorem piece_apply (q hf : Fin 2) (p : Fin 128) (k : Fin 2048) (r : Fin 512) (hr : r.val = 256 * q.val + 128 * hf.val + p.val) :
    piece x0 x1 x2 x3 x4 x5 x6 x7 q hf (ix2 p k) = pointRow x0 x1 x2 x3 x4 x5 x6 x7 r k := by
  obtain ⟨s, hs⟩ : ∃ s : Fin 256, s.val = 128 * hf.val + p.val := ⟨⟨128 * hf.val + p.val, by omega⟩, rfl⟩
  unfold piece pointRow row
  rw [affine_apply, gain_apply, shift_apply, funext fun j => sums_apply hf _ _ _ p s hs j,
    funext fun j => prodBlock_apply x0 x1 x2 x5 q s r (by omega) j, funext fun j => gate_apply (View.ld x4 r0_0) j]
  refine congrArg₂ (· + ·) (congrArg₂ (· * ·) (congrArg (fun h => ln h k) (congrArg₂ (fun u v => add u v _) (funext fun j => ?_) (funext fun j => ?_))) ?_) ?_
  · refine congrArg x3 (funext fun a => Fin.ext ?_)
    match a with
    | ⟨0, _⟩ => show 256 * q.val + 128 * hf.val + 1 * p.val = r.val; omega
    | ⟨1, _⟩ => show 0 + 1 * j.val = j.val; omega
  · refine congrArg x4 (funext fun a => Fin.ext ?_)
    match a with
    | ⟨0, _⟩ => rfl
    | ⟨1, _⟩ => rfl
    | ⟨2, _⟩ => rfl
    | ⟨3, _⟩ => show 0 + 1 * j.val = j.val; omega
  · refine congrArg x6 (funext fun a => Fin.ext ?_)
    match a with
    | ⟨0, _⟩ => rfl
    | ⟨1, _⟩ => rfl
    | ⟨2, _⟩ => show 0 + 1 * k.val = k.val; omega
  · refine congrArg x7 (funext fun a => Fin.ext ?_)
    match a with
    | ⟨0, _⟩ => rfl
    | ⟨1, _⟩ => rfl
    | ⟨2, _⟩ => show 0 + 1 * k.val = k.val; omega

theorem out_pieces : out0_8 x0 x1 x2 x3 x4 x5 x6 x7
    = View.canon [⟨r0_12, piece x0 x1 x2 x3 x4 x5 x6 x7 1 1⟩, ⟨r0_11, piece x0 x1 x2 x3 x4 x5 x6 x7 1 0⟩,
      ⟨r0_8, piece x0 x1 x2 x3 x4 x5 x6 x7 0 1⟩, ⟨r0_7, piece x0 x1 x2 x3 x4 x5 x6 x7 0 0⟩] := rfl

theorem point_apply (r : Fin 512) (k : Fin 2048) :
    out0_8 x0 x1 x2 x3 x4 x5 x6 x7 (ix2 r k) = pointRow x0 x1 x2 x3 x4 x5 x6 x7 r k := by
  rw [out_pieces]
  refine View.canon_apply_of_pieces (Val := Elt Ideal) (fun y : S512x2048.Idx => pointRow x0 x1 x2 x3 x4 x5 x6 x7 (y 0) (y 1)) _ ?_ (ix2 r k) (cover0_8 _ _ _ _ _)
  have hp : ∀ (q hf : Fin 2) (y : S128x2048.Idx), piece x0 x1 x2 x3 x4 x5 x6 x7 q hf y
      = pointRow x0 x1 x2 x3 x4 x5 x6 x7 ((Rect.unit (s := S512x2048) ![256 * q.val + 128 * hf.val, 0] S128x2048.size (inb_x q hf)).emb y 0)
        ((Rect.unit (s := S512x2048) ![256 * q.val + 128 * hf.val, 0] S128x2048.size (inb_x q hf)).emb y 1) := by
    intro q hf y
    obtain ⟨p, n, rfl⟩ : ∃ (p : Fin 128) (n : Fin 2048), y = ix2 p n := ⟨y 0, y 1, by funext a; fin_cases a <;> rfl⟩
    refine (piece_apply x0 x1 x2 x3 x4 x5 x6 x7 q hf p n _ ?_).trans (congrArg _ (Fin.ext ?_))
    · show 256 * q.val + 128 * hf.val + 1 * p.val = _; omega
    · show n.val = 0 + 1 * n.val; omega
  intro pc hpc y
  simp only [List.mem_cons, List.not_mem_nil, or_false] at hpc
  rcases hpc with rfl | rfl | rfl | rfl
  · exact hp 1 1 y
  · exact hp 1 0 y
  · exact hp 0 1 y
  · exact hp 0 0 y

end Point

/-! ### The blocks of the arrays -/

theorem index_rows : ∀ t : Fin cfg0.N,
    (win0_0.index t (0 : Fin 2) = t.val ∧ win0_0.index t (1 : Fin 2) = 0) ∧ (win0_1.index t (0 : Fin 2) = t.val ∧ win0_1.index t (1 : Fin 2) = 0)
      ∧ (win0_2.index t (0 : Fin 2) = t.val ∧ win0_2.index t (1 : Fin 2) = 0) ∧ (win0_3.index t (0 : Fin 2) = t.val ∧ win0_3.index t (1 : Fin 2) = 0)
      ∧ win0_8.index t (0 : Fin 2) = t.val ∧ win0_8.index t (1 : Fin 2) = 0 := by decide +kernel
theorem index_mod : ∀ t : Fin cfg0.N, win0_4.index t (0 : Fin 4) = 0 ∧ win0_4.index t (1 : Fin 4) = t.val / 8 ∧ win0_4.index t (2 : Fin 4) = 0
    ∧ win0_4.index t (3 : Fin 4) = 0 := by decide +kernel
theorem index_w : ∀ t : Fin cfg0.N, win0_5.index t (0 : Fin 2) = 0 ∧ win0_5.index t (1 : Fin 2) = 0 := by decide +kernel
theorem index_g : ∀ t : Fin cfg0.N, win0_6.index t (0 : Fin 3) = 1 ∧ win0_6.index t (1 : Fin 3) = 0 ∧ win0_6.index t (2 : Fin 3) = 0 := by decide +kernel
theorem index_b : ∀ t : Fin cfg0.N, win0_7.index t (0 : Fin 3) = 1 ∧ win0_7.index t (1 : Fin 3) = 0 ∧ win0_7.index t (2 : Fin 3) = 0 := by decide +kernel

variable (m : (ℓ : Loc nD τ sig) → Buf (Elt Ideal) ℓ) (c : Dev nD) (t : Fin cfg0.N)

theorem block_na (r : Fin 512) (k : Fin 1024) (i : Fin 8192) (hi : i.val = 512 * t.val + r.val) :
    (iblk m c 0 t : Vec Ideal S512x1024 .bf16) (ix2 r k) = m ((c : Thread nD τ).loc main_arg0) (ix2 i k) := by
  obtain ⟨⟨e0, e1⟩, _⟩ := index_rows t
  show V m c main_arg0 (((cfg0.win 0).blk t).view.emb _) = _
  rw [V_main_arg0]
  refine congrArg (m ((c : Thread nD τ).loc main_arg0)) (funext fun a => Fin.ext ?_)
  match a with
  | ⟨0, _⟩ => show win0_0.index t (0 : Fin 2) * 512 + 1 * r.val = i.val; omega
  | ⟨1, _⟩ => show win0_0.index t (1 : Fin 2) * 1024 + 1 * k.val = k.val; omega

theorem block_lru (r k : Fin 512) (i : Fin 8192) (hi : i.val = 512 * t.val + r.val) :
    (iblk m c 1 t : Vec Ideal S512x512 .bf16) (ix2 r k) = m ((c : Thread nD τ).loc main_arg1) (ix2 i k) := by
  obtain ⟨_, ⟨e0, e1⟩, _⟩ := index_rows t
  show V m c main_arg1 (((cfg0.win 1).blk t).view.emb _) = _
  rw [V_main_arg1]
  refine congrArg (m ((c : Thread nD τ).loc main_arg1)) (funext fun a => Fin.ext ?_)
  match a with
  | ⟨0, _⟩ => show win0_1.index t (0 : Fin 2) * 512 + 1 * r.val = i.val; omega
  | ⟨1, _⟩ => show win0_1.index t (1 : Fin 2) * 512 + 1 * k.val = k.val; omega

theorem block_f (r k : Fin 512) (i : Fin 8192) (hi : i.val = 512 * t.val + r.val) :
    (iblk m c 2 t : Vec Ideal S512x512 .bf16) (ix2 r k) = m ((c : Thread nD τ).loc main_arg2) (ix2 i k) := by
  obtain ⟨_, _, ⟨e0, e1⟩, _⟩ := index_rows t
  show V m c main_arg2 (((cfg0.win 2).blk t).view.emb _) = _
  rw [V_main_arg2]
  refine congrArg (m ((c : Thread nD τ).loc main_arg2)) (funext fun a => Fin.ext ?_)
  match a with
  | ⟨0, _⟩ => show win0_2.index t (0 : Fin 2) * 512 + 1 * r.val = i.val; omega
  | ⟨1, _⟩ => show win0_2.index t (1 : Fin 2) * 512 + 1 * k.val = k.val; omega

theorem block_x (r : Fin 512) (k : Fin 2048) (i : Fin 8192) (hi : i.val = 512 * t.val + r.val) :
    (iblk m c 3 t : Vec Ideal S512x2048 .f32) (ix2 r k) = m ((c : Thread nD τ).loc main_arg3) (ix2 i k) := by
  obtain ⟨_, _, _, ⟨e0, e1⟩, _⟩ := index_rows t
  show V m c main_arg3 (((cfg0.win 3).blk t).view.emb _) = _
  rw [V_main_arg3]
  refine congrArg (m ((c : Thread nD τ).loc main_arg3)) (funext fun a => Fin.ext ?_)
  match a with
  | ⟨0, _⟩ => show win0_3.index t (0 : Fin 2) * 512 + 1 * r.val = i.val; omega
  | ⟨1, _⟩ => show win0_3.index t (1 : Fin 2) * 2048 + 1 * k.val = k.val; omega

theorem block_gate (k : Fin 2048) (b : Fin 8) (hb : b.val = t.val / 8) :
    (iblk m c 4 t : Vec Ideal S1x1x6x2048 .f32) (ix4 0 0 2 k) = m ((c : Thread nD τ).loc main_arg4) (ix4 0 b 2 k) := by
  obtain ⟨e0, e1, e2, e3⟩ := index_mod t
  show V m c main_arg4 (((cfg0.win 4).blk t).view.emb _) = _
  rw [V_main_arg4]
  refine congrArg (m ((c : Thread nD τ).loc main_arg4)) (funext fun a => Fin.ext ?_)
  match a with
  | ⟨0, _⟩ => show win0_4.index t (0 : Fin 4) * 1 + 1 * 0 = 0; omega
  | ⟨1, _⟩ => show win0_4.index t (1 : Fin 4) * 1 + 1 * 0 = b.val; omega
  | ⟨2, _⟩ => show win0_4.index t (2 : Fin 4) * 6 + 1 * 2 = 2; omega
  | ⟨3, _⟩ => show win0_4.index t (3 : Fin 4) * 2048 + 1 * k.val = k.val; omega

theorem block_w (k n : Fin 2048) :
    (iblk m c 5 t : Vec Ideal S2048x2048 .bf16) (ix2 k n) = m ((c : Thread nD τ).loc main_arg5) (ix2 k n) := by
  obtain ⟨e0, e1⟩ := index_w t
  show V m c main_arg5 (((cfg0.win 5).blk t).view.emb _) = _
  rw [V_main_arg5]
  refine congrArg (m ((c : Thread nD τ).loc main_arg5)) (funext fun a => Fin.ext ?_)
  match a with
  | ⟨0, _⟩ => show win0_5.index t (0 : Fin 2) * 2048 + 1 * k.val = k.val; omega
  | ⟨1, _⟩ => show win0_5.index t (1 : Fin 2) * 2048 + 1 * n.val = n.val; omega

theorem block_g (k : Fin 2048) :
    (iblk m c 6 t : Vec Ideal S1x1x2048 .f32) (ix3 0 0 k) = m ((c : Thread nD τ).loc main_arg6) (ix3 1 0 k) := by
  obtain ⟨e0, e1, e2⟩ := index_g t
  show V m c main_arg6 (((cfg0.win 6).blk t).view.emb _) = _
  rw [V_main_arg6]
  refine congrArg (m ((c : Thread nD τ).loc main_arg6)) (funext fun a => Fin.ext ?_)
  match a with
  | ⟨0, _⟩ => show win0_6.index t (0 : Fin 3) * 1 + 1 * 0 = 1; omega
  | ⟨1, _⟩ => show win0_6.index t (1 : Fin 3) * 1 + 1 * 0 = 0; omega
  | ⟨2, _⟩ => show win0_6.index t (2 : Fin 3) * 2048 + 1 * k.val = k.val; omega

theorem block_b (k : Fin 2048) :
    (iblk m c 7 t : Vec Ideal S1x1x2048 .f32) (ix3 0 0 k) = m ((c : Thread nD τ).loc main_arg7) (ix3 1 0 k) := by
  obtain ⟨e0, e1, e2⟩ := index_b t
  show V m c main_arg7 (((cfg0.win 7).blk t).view.emb _) = _
  rw [V_main_arg7]
  refine congrArg (m ((c : Thread nD τ).loc main_arg7)) (funext fun a => Fin.ext ?_)
  match a with
  | ⟨0, _⟩ => show win0_7.index t (0 : Fin 3) * 1 + 1 * 0 = 1; omega
  | ⟨1, _⟩ => show win0_7.index t (1 : Fin 3) * 1 + 1 * 0 = 0; omega
  | ⟨2, _⟩ => show win0_7.index t (2 : Fin 3) * 2048 + 1 * k.val = k.val; omega

/-- The operands of the call. -/
def args : Args := argsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7))

theorem pointRow_eq (r : Fin 512) (k : Fin 2048) (i : Fin 8192) (hi : i.val = 512 * t.val + r.val) :
    pointRow (iblk m c 0 t) (iblk m c 1 t) (iblk m c 2 t) (iblk m c 3 t) (iblk m c 4 t) (iblk m c 5 t) (iblk m c 6 t) (iblk m c 7 t) r k
      = (args m c).val i k := by
  have hN : t.val < 16 := t.isLt
  have hb : (bat i).val = t.val / 8 := by show i.val / 4096 = _; omega
  unfold pointRow Cert.Outproj.Args.val
  congr 1
  · exact funext fun j => block_x m c t r j i hi
  · exact funext fun j => block_gate m c t j ⟨(bat i).val, by omega⟩ hb
  · exact funext fun j => block_g m c t j
  · exact funext fun j => block_b m c t j
  · funext n
    unfold Cert.Outproj.Args.prod
    refine Finset.sum_congr rfl fun j _ => congrArg₂ (· * ·) ?_ (block_w m c t j n)
    congr 1
    · exact funext fun e => block_na m c t r e i hi
    · exact funext fun e => block_lru m c t r e i hi
    · exact funext fun e => block_f m c t r e i hi

theorem flush_all : ∀ t : Fin cfg0.N, (cfg0.win 8).flush t = true := by decide +kernel

theorem result_apply (i : Fin 8192) (k : Fin 2048) :
    ((dats m 0 c).arrAt 8 cfg0.N : Vec Ideal S8192x2048 .f32) (ix2 i k) = (args m c).val i k := by
  have hN : cfg0.N = 16 := rfl
  obtain ⟨t, ht⟩ : ∃ t : Fin cfg0.N, t.val = i.val / 512 := ⟨⟨i.val / 512, by omega⟩, rfl⟩
  obtain ⟨r, hr⟩ : ∃ r : Fin 512, r.val = i.val % 512 := ⟨⟨i.val % 512, by omega⟩, rfl⟩
  obtain ⟨_, _, _, _, e0, e1⟩ := index_rows t
  have hb := congrFun (Value.blocks8 m c t (flush_all t)) (ix2 r k)
  rw [Value.flushed8] at hb
  refine Eq.trans ?_ (hb.trans ?_)
  · refine congrArg ((dats m 0 c).arrAt 8 cfg0.N) (funext fun a => Fin.ext ?_)
    match a with
    | ⟨0, _⟩ => show i.val = win0_8.index t (0 : Fin 2) * 512 + 1 * r.val; omega
    | ⟨1, _⟩ => show k.val = win0_8.index t (1 : Fin 2) * 2048 + 1 * k.val; omega
  · exact (point_apply _ _ _ _ _ _ _ _ r k).trans (pointRow_eq m c t r k i (by omega))

end Cert.Kernel3Ideal.Outproj

end
-- ==== Proof.OutprojRef.lean ====
module

public import proofs.«01_k».proof.Proof.Gen.Reference3Ideal.Read
public import proofs.«01_k».proof.Proof.OutprojSpec

/-!
The output projection's reference, read at an index.
-/

@[expose] public section

set_option maxRecDepth 65536

noncomputable section

namespace Cert.Reference3Ideal.Outproj

open Idealize.ShloMosaic Cert.Reference3Ideal Cert.Reference3Ideal.Read Cert.Outproj
open Cert.Mlp (bat ln mean len eps)

/-- Position `l` of batch element `b` among all rows. -/
def rowOf (b : Fin 2) (l : Fin 4096) : Fin 8192 := ⟨4096 * b.val + l.val, by omega⟩

theorem bat_rowOf (b : Fin 2) (l : Fin 4096) : bat (rowOf b l) = b := by
  apply Fin.ext; show (4096 * b.val + l.val) / 4096 = b.val; omega

variable (x0 : Vec Ideal S8192x1024 .bf16) (x1 x2 : Vec Ideal S8192x512 .bf16) (x3 : Vec Ideal S8192x2048 .f32) (x4 : Vec Ideal S1x8x6x2048 .f32)
  (x5 : Vec Ideal S2048x2048 .bf16) (x6 x7 : Vec Ideal S2x1x2048 .f32) (b : Fin 2) (l : Fin 4096)

/-! ### The operands -/

theorem gate_apply (k : Fin 2048) : val_main_v2 (F := Ideal) x4 (ix3 b 0 k) = x4 (ix4 0 ⟨b.val, by omega⟩ 2 k) := by
  rw [val_main_v2_apply, val_main_v1_apply, val_main_v0_apply]
  refine congrArg x4 (funext fun a => Fin.ext ?_)
  match a with
  | ⟨0, _⟩ => rfl
  | ⟨1, _⟩ => show (b.val * 2048 + k.val) / 2048 % 2 = b.val; omega
  | ⟨2, _⟩ => rfl
  | ⟨3, _⟩ => show (b.val * 2048 + k.val) % 2048 = k.val; omega

theorem na_apply (k : Fin 1024) : val_main_v4 (F := Ideal) x0 (ix3 b l k) = x0 (ix2 (rowOf b l) k) := by
  rw [val_main_v4_apply, val_main_v3_apply]
  refine congrArg x0 (funext fun a => Fin.ext ?_)
  match a with
  | ⟨0, _⟩ => show ((b.val * 4096 + l.val) * 1024 + k.val) / 1024 = 4096 * b.val + l.val; omega
  | ⟨1, _⟩ => show ((b.val * 4096 + l.val) * 1024 + k.val) % 1024 = k.val; omega

theorem lru_apply (k : Fin 512) : val_main_v6 (F := Ideal) x1 (ix3 b l k) = x1 (ix2 (rowOf b l) k) := by
  rw [val_main_v6_apply, val_main_v5_apply]
  refine congrArg x1 (funext fun a => Fin.ext ?_)
  match a with
  | ⟨0, _⟩ => show ((b.val * 4096 + l.val) * 512 + k.val) / 512 = 4096 * b.val + l.val; omega
  | ⟨1, _⟩ => show ((b.val * 4096 + l.val) * 512 + k.val) % 512 = k.val; omega

theorem f_apply (k : Fin 512) : val_main_v8 (F := Ideal) x2 (ix3 b l k) = x2 (ix2 (rowOf b l) k) := by
  rw [val_main_v8_apply, val_main_v7_apply]
  refine congrArg x2 (funext fun a => Fin.ext ?_)
  match a with
  | ⟨0, _⟩ => show ((b.val * 4096 + l.val) * 512 + k.val) / 512 = 4096 * b.val + l.val; omega
  | ⟨1, _⟩ => show ((b.val * 4096 + l.val) * 512 + k.val) % 512 = k.val; omega

theorem x_apply (k : Fin 2048) : val_main_v12 (F := Ideal) x3 (ix3 b l k) = x3 (ix2 (rowOf b l) k) := by
  rw [val_main_v12_apply]
  refine congrArg x3 (funext fun a => Fin.ext ?_)
  match a with
  | ⟨0, _⟩ => show ((b.val * 4096 + l.val) * 2048 + k.val) / 2048 = 4096 * b.val + l.val; omega
  | ⟨1, _⟩ => show ((b.val * 4096 + l.val) * 2048 + k.val) % 2048 = k.val; omega

theorem g_apply (k : Fin 2048) : val_main_v39 (F := Ideal) x6 (ix3 b l k) = x6 (ix3 1 0 k) := by
  rw [val_main_v39_apply, val_main_v38_apply, val_main_v37_apply, val_main_v36_apply]
  refine congrArg x6 (funext fun a => Fin.ext ?_)
  match a with
  | ⟨0, _⟩ => rfl
  | ⟨1, _⟩ => rfl
  | ⟨2, _⟩ => show (0 * 2048 + k.val) % 2048 = k.val; omega

theorem b_apply (k : Fin 2048) : val_main_v44 (F := Ideal) x7 (ix3 b l k) = x7 (ix3 1 0 k) := by
  rw [val_main_v44_apply, val_main_v43_apply, val_main_v42_apply, val_main_v41_apply]
  refine congrArg x7 (funext fun a => Fin.ext ?_)
  match a with
  | ⟨0, _⟩ => rfl
  | ⟨1, _⟩ => rfl
  | ⟨2, _⟩ => show (0 * 2048 + k.val) % 2048 = k.val; omega

/-! ### The joined rows and their product -/

theorem joined_apply (k : Fin 2048) : val_main_v9 (F := Ideal) x0 x1 x2 (ix3 b l k)
    = joined (fun j => x0 (ix2 (rowOf b l) j)) (fun j => x1 (ix2 (rowOf b l) j)) (fun j => x2 (ix2 (rowOf b l) j)) k := by
  unfold val_main_v9 joined
  split
  · rename_i h
    refine Eq.trans ?_ (na_apply x0 b l ⟨k.val, h⟩)
    refine concatenate_apply_piece (t := S2x4096x2048) 2 _ _ (ix3 b l k) 0 (by show 0 < 3; omega) S2x4096x1024 _ rfl rfl 0 rfl (ix3 b l ⟨k.val, h⟩) (fun a ha => ?_) (by show 0 + k.val = k.val; omega)
    match a, ha with
    | ⟨0, _⟩, _ => rfl
    | ⟨1, _⟩, _ => rfl
    | ⟨2, _⟩, ha => exact absurd rfl ha
  · rename_i h
    split
    · rename_i h'
      refine Eq.trans ?_ (lru_apply x1 b l ⟨k.val - 1024, by omega⟩)
      refine concatenate_apply_piece (t := S2x4096x2048) 2 _ _ (ix3 b l k) 1 (by show 1 < 3; omega) S2x4096x512 _ rfl rfl 1024 rfl (ix3 b l ⟨k.val - 1024, by omega⟩) (fun a ha => ?_)
        (by show 1024 + (k.val - 1024) = k.val; omega)
      match a, ha with
      | ⟨0, _⟩, _ => rfl
      | ⟨1, _⟩, _ => rfl
      | ⟨2, _⟩, ha => exact absurd rfl ha
    · rename_i h'
      refine Eq.trans ?_ (f_apply x2 b l ⟨k.val - 1536, by omega⟩)
      refine concatenate_apply_piece (t := S2x4096x2048) 2 _ _ (ix3 b l k) 2 (by show 2 < 3; omega) S2x4096x512 _ rfl rfl 1536 rfl (ix3 b l ⟨k.val - 1536, by omega⟩) (fun a ha => ?_)
        (by show 1536 + (k.val - 1536) = k.val; omega)
      match a, ha with
      | ⟨0, _⟩, _ => rfl
      | ⟨1, _⟩, _ => rfl
      | ⟨2, _⟩, ha => exact absurd rfl ha

theorem prod_apply (k : Fin 2048) : val_main_v11 (F := Ideal) x0 x1 x2 x5 (ix3 b l k) = (argsOf x0 x1 x2 x3 x4 x5 x6 x7).prod (rowOf b l) k := by
  rw [val_main_v11_apply]
  refine Finset.sum_congr rfl fun n _ => congrArg₂ (· * ·) ?_ ?_
  · have e : lidx_main_v11 (ix3 b l k) n = ix3 b l n := by funext a; fin_cases a <;> rfl
    rw [e, joined_apply]
    rfl
  · rw [val_main_v10_apply]
    refine congrArg x5 (funext fun a => ?_)
    fin_cases a <;> rfl

/-! ### The residual sum and the result -/

/-- The residual sum's row. -/
def resid : Fin 2048 → EReal :=
  let A := argsOf x0 x1 x2 x3 x4 x5 x6 x7
  add (A.x (rowOf b l)) (A.gate b) (A.prod (rowOf b l))

theorem resid_apply (k : Fin 2048) : val_main_v17 (F := Ideal) x0 x1 x2 x3 x4 x5 (ix3 b l k) = resid x0 x1 x2 x3 x4 x5 x6 x7 b l k := by
  have e : idx_main_v15 (ix3 b l k) = ix3 b 0 k := by funext a; fin_cases a <;> rfl
  rw [val_main_v17_apply, val_main_v14_apply, val_main_v13_apply, x_apply, val_main_v16_apply, val_main_v15_apply, e, gate_apply,
    prod_apply x0 x1 x2 x3 x4 x5 x6 x7]
  rfl

theorem mean_apply : val_main_v21 (F := Ideal) x0 x1 x2 x3 x4 x5 (ix3 b l 0) = mean (resid x0 x1 x2 x3 x4 x5 x6 x7 b l) := by
  have h0 : val_main_cst_0 (F := Ideal) (Shape.Idx.first Gen.h_S_) = (0 : EReal) := Ideal.ofBits_zero .f32
  rw [val_main_v21_apply, val_main_v19_apply, val_main_v20_apply, val_main_v18_apply, h0, zero_add]
  refine congrArg (fun s => Ideal.div s len) (Finset.sum_congr rfl fun k _ => ?_)
  have e : idx_main_v18 (idx_main_v19 (ix3 b l 0)) k = ix3 b l k := by funext a; fin_cases a <;> rfl
  rw [e]
  exact resid_apply x0 x1 x2 x3 x4 x5 x6 x7 b l k

theorem off_apply (k : Fin 2048) : val_main_v23 (F := Ideal) x0 x1 x2 x3 x4 x5 (ix3 b l k)
    = resid x0 x1 x2 x3 x4 x5 x6 x7 b l k - mean (resid x0 x1 x2 x3 x4 x5 x6 x7 b l) := by
  have e : idx_main_v22 (ix3 b l k) = ix3 b l 0 := by funext a; fin_cases a <;> rfl
  rw [val_main_v23_apply, val_main_v22_apply, e, mean_apply x0 x1 x2 x3 x4 x5 x6 x7, resid_apply x0 x1 x2 x3 x4 x5 x6 x7]
  rfl

theorem spread_apply : val_main_v33 (F := Ideal) x0 x1 x2 x3 x4 x5 (ix3 b l 0)
    = Ideal.rsqrt (Ideal.div (∑ j, (resid x0 x1 x2 x3 x4 x5 x6 x7 b l j - mean (resid x0 x1 x2 x3 x4 x5 x6 x7 b l))
      * (resid x0 x1 x2 x3 x4 x5 x6 x7 b l j - mean (resid x0 x1 x2 x3 x4 x5 x6 x7 b l))) len + eps) := by
  have h0 : val_main_cst_2 (F := Ideal) (Shape.Idx.first Gen.h_S_) = (0 : EReal) := Ideal.ofBits_zero .f32
  rw [val_main_v33_apply, val_main_v32_apply, val_main_v28_apply, val_main_v26_apply, val_main_v27_apply,
    val_main_v31_apply, val_main_v25_apply, h0, zero_add]
  refine congrArg (fun s => Ideal.rsqrt (Ideal.div s len + eps)) (Finset.sum_congr rfl fun k _ => ?_)
  have e : idx_main_v25 (idx_main_v26 (ix3 b l 0)) k = ix3 b l k := by funext a; fin_cases a <;> rfl
  rw [e, val_main_v24_apply, off_apply x0 x1 x2 x3 x4 x5 x6 x7]
  rfl

theorem ln_apply (k : Fin 2048) : val_main_v35 (F := Ideal) x0 x1 x2 x3 x4 x5 (ix3 b l k) = ln (resid x0 x1 x2 x3 x4 x5 x6 x7 b l) k := by
  have e : idx_main_v34 (ix3 b l k) = ix3 b l 0 := by funext a; fin_cases a <;> rfl
  have e' : idx_main_v29 (ix3 b l k) = ix3 b l 0 := by funext a; fin_cases a <;> rfl
  rw [val_main_v35_apply, val_main_v34_apply, e, spread_apply x0 x1 x2 x3 x4 x5 x6 x7, val_main_v30_apply, val_main_v29_apply, e',
    mean_apply x0 x1 x2 x3 x4 x5 x6 x7, resid_apply x0 x1 x2 x3 x4 x5 x6 x7]
  rfl

theorem result_apply (i : Fin 8192) (k : Fin 2048) :
    val_main_v46 (F := Ideal) x0 x1 x2 x3 x4 x5 x6 x7 (ix2 i k) = (argsOf x0 x1 x2 x3 x4 x5 x6 x7).val i k := by
  obtain ⟨b, hb⟩ : ∃ b : Fin 2, b.val = i.val / 4096 := ⟨⟨i.val / 4096, by omega⟩, rfl⟩
  obtain ⟨l, hl⟩ : ∃ l : Fin 4096, l.val = i.val % 4096 := ⟨⟨i.val % 4096, by omega⟩, rfl⟩
  obtain rfl : rowOf b l = i := Fin.ext (by show 4096 * b.val + l.val = i.val; omega)
  have e : idx_main_v46 (ix2 (rowOf b l) k) = ix3 b l k := by
    funext a
    apply Fin.ext
    match a with
    | ⟨0, _⟩ => show ((4096 * b.val + l.val) * 2048 + k.val) / 8388608 = b.val; omega
    | ⟨1, _⟩ => show ((4096 * b.val + l.val) * 2048 + k.val) / 2048 % 4096 = l.val; omega
    | ⟨2, _⟩ => show ((4096 * b.val + l.val) * 2048 + k.val) % 2048 = k.val; omega
  rw [val_main_v46_apply, e, val_main_v45_apply, val_main_v40_apply, ln_apply x0 x1 x2 x3 x4 x5 x6 x7, g_apply, b_apply]
  unfold Cert.Outproj.Args.val
  rw [bat_rowOf]
  rfl

end Cert.Reference3Ideal.Outproj

end
-- ==== Proof.InprojPieces.lean ====
module

public import proofs.«01_k».proof.Proof.MlpPieces
public import proofs.«01_k».proof.Proof.Gen.Kernel4Ideal.Frame

/-!
What a grid point of the input projection stores, as blocks: the modulated rows in blocks of 128, and the product in
blocks of 256 rows and 512 columns, from which each result takes whole blocks or, where heads are rotated, blocks of 128
columns.
-/

@[expose] public section

set_option maxRecDepth 65536

noncomputable section

namespace Cert.Kernel4Ideal.Inproj

open Cert.Kernel4Ideal Cert.Kernel4Ideal.Gen
open Idealize.ShloMosaic Idealize.ShloMosaic.TcCoe
open Cert.Kernel2Ideal.Mlp (modulated)

theorem inb_x (q hf : Fin 2) : ∀ a, ![256 * q.val + 128 * hf.val, 0] a + S128x2048.size a ≤ S512x2048.size a := by
  revert q hf; decide
theorem inb_mod (k : Fin 6) : ∀ a, ![0, 0, k.val, 0] a + S1x1x1x2048.size a ≤ S1x1x6x2048.size a := by
  revert k; decide
theorem inb_u (q : Fin 2) : ∀ a, ![256 * q.val, 0] a + S256x2048.size a ≤ S512x2048.size a := by
  revert q; decide
theorem inb_w (n : Fin 9) : ∀ a, ![0, 512 * n.val] a + S2048x512.size a ≤ S2048x4608.size a := by
  revert n; decide
theorem inb_t (q : Fin 2) : ∀ a, ![256 * q.val, 0] a + S256x128.size a ≤ S512x128.size a := by
  revert q; decide
theorem inb_wide (q n : Fin 2) : ∀ a, ![256 * q.val, 512 * n.val] a + S256x512.size a ≤ S512x1024.size a := by
  revert q n; decide
theorem inb_head (q n : Fin 2) (h : Fin 4) : ∀ a, ![256 * q.val, 512 * n.val + 128 * h.val] a + S256x128.size a ≤ S512x1024.size a := by
  revert q n h; decide
theorem inb_narrow (q : Fin 2) : ∀ a, ![256 * q.val, 0] a + S256x512.size a ≤ S512x512.size a := by
  revert q; decide
theorem head_slices (h : Fin 4) : S256x512.Slices ![0, 128 * h.val] S256x128 := by
  revert h; decide

variable {F : FTy → Type} [FloatOps F]

/-- The buffers of a grid point: the five operands, the seven results, and the modulated rows. -/
structure Mems where
  x : Memref sig .tc .vmem S512x2048 .f32
  hx : x.IsWhole
  md : Memref sig .tc .vmem S1x1x6x2048 .f32
  hmd : md.IsWhole
  w : Memref sig .tc .vmem S2048x4608 .bf16
  hw : w.IsWhole
  cs : Memref sig .tc .vmem S512x128 .f32
  hcs : cs.IsWhole
  sn : Memref sig .tc .vmem S512x128 .f32
  hsn : sn.IsWhole
  q : Memref sig .tc .vmem S512x1024 .bf16
  hq : q.IsWhole
  qr : Memref sig .tc .vmem S512x1024 .bf16
  hqr : qr.IsWhole
  k : Memref sig .tc .vmem S512x1024 .bf16
  hk : k.IsWhole
  v : Memref sig .tc .vmem S512x1024 .bf16
  hv : v.IsWhole
  xo : Memref sig .tc .vmem S512x512 .f32
  hxo : xo.IsWhole
  go : Memref sig .tc .vmem S512x512 .f32
  hgo : go.IsWhole
  f : Memref sig .tc .vmem S512x512 .bf16
  hf : f.IsWhole
  u : Memref sig .tc .vmem S512x2048 .bf16
  hu : u.IsWhole

/-- The operand blocks of a grid point. -/
structure Ins (F : FTy → Type) [FloatOps F] where
  x : Vec F S512x2048 .f32
  md : Vec F S1x1x6x2048 .f32
  w : Vec F S2048x4608 .bf16
  cs : Vec F S512x128 .f32
  sn : Vec F S512x128 .f32

variable (c : Dev nD) (i : grid0.Coords) (M : Mems) (X : Ins F)

abbrev run := kernelRun0_A c i M.x M.hx M.md M.hmd M.w M.hw M.cs M.hcs M.sn M.hsn M.q M.hq M.qr M.hqr M.k M.hk M.v M.hv M.xo M.hxo M.go M.hgo M.f M.hf
  M.u M.hu X.x X.md X.w X.cs X.sn

/-! ### The modulated rows and their product -/

def uBlock (q hf : Fin 2) : FVec F S128x2048 .bf16 :=
  modulated (View.readAt (Elt F) M.md.view (Rect.unit (s := S1x1x6x2048) ![0, 0, 0, 0] S1x1x1x2048.size (inb_mod 0)).toLoadRect (M.hmd.unread X.md))
    (View.readAt (Elt F) M.md.view (Rect.unit (s := S1x1x6x2048) ![0, 0, 1, 0] S1x1x1x2048.size (inb_mod 1)).toLoadRect (M.hmd.unread X.md))
    (View.readAt (Elt F) M.x.view (Rect.unit (s := S512x2048) ![256 * q.val + 128 * hf.val, 0] S128x2048.size (inb_x q hf)).toLoadRect (M.hx.unread X.x))

def uPiece (q hf : Fin 2) : View.Piece (Elt F) S512x2048 .bf16 :=
  ⟨Rect.unit (s := S512x2048) ![256 * q.val + 128 * hf.val, 0] S128x2048.size (inb_x q hf), uBlock M X q hf⟩

/-- The blocks of rows written when the rows `q` are read, newest first. -/
def uUpTo (q : Fin 2) : List (View.Piece (Elt F) S512x2048 .bf16) :=
  List.ofFn fun k : Fin (2 * (q.val + 1)) => uPiece M X ⟨(2 * q.val + 1 - k.val) / 2, by omega⟩ ⟨(2 * q.val + 1 - k.val) % 2, by omega⟩

/-- Column block `n` of the product of the rows `q`. -/
def acc (q : Fin 2) (n : Fin 9) : FVec F S256x512 .f32 :=
  k0_pay7 (M.u.view.readCov (uUpTo M X q) (Rect.unit (s := S512x2048) ![256 * q.val, 0] S256x2048.size (inb_u q)).toLoadRect)
    (View.readAt (Elt F) M.w.view (Rect.unit (s := S2048x4608) ![0, 512 * n.val] S2048x512.size (inb_w n)).toLoadRect (M.hw.unread X.w))

/-! ### The rotation of a head -/

/-- One at the lanes in the first half of their 64. -/
def inFirst : IVec S256x128 1 :=
  have r : IVec S256x128 32 := remsi (iota .tc S256x128 32 [1] iota_S256x128_d1_w32) (broadcast S256x128 64#32)
  cmpi .slt (select (andi (xori (cmpi .slt r (broadcast S256x128 0#32)) (broadcastTo S256x128 (broadcast S256x128 (Scalar.cmpi .slt 64#32 0#32))
    broadcasts_S256x128_S256x128)) (cmpi .ne r (broadcast S256x128 0#32))) (addi r (broadcast S256x128 64#32)) r) (broadcast S256x128 32#32)

/-- A head's lanes rotated by a table of cosines and one of signed sines. -/
def turned (a cs sn : FVec F S256x128 .f32) : FVec F S256x128 .f32 :=
  addf (mulf a cs) (mulf (select inFirst (dynamicRotate 1 96#32 none a rotates_S256x128_d1) (dynamicRotate 1 32#32 none a rotates_S256x128_d1)) sn)

/-- Head `h` of a column block, rotated. -/
def head (q : Fin 2) (n : Fin 9) (h : Fin 4) : FVec F S256x128 .f32 :=
  turned (extractStridedSlice S256x128 ![0, 128 * h.val] (acc M X q n) (head_slices h))
    (shapeCast S256x128 (View.readAt (Elt F) M.cs.view (Rect.unit (s := S512x128) ![256 * q.val, 0] S256x128.size (inb_t q)).toLoadRect (M.hcs.unread X.cs))
      shapeCasts_S256x128_S256x128)
    (shapeCast S256x128 (View.readAt (Elt F) M.sn.view (Rect.unit (s := S512x128) ![256 * q.val, 0] S256x128.size (inb_t q)).toLoadRect (M.hsn.unread X.sn))
      shapeCasts_S256x128_S256x128)

/-! ### The stores -/

/-- Blocks of 512 columns of a result of 1024, newest first. -/
def wide (f : Fin 2 → Fin 2 → FVec F S256x512 .bf16) : List (View.Piece (Elt F) S512x1024 .bf16) :=
  List.ofFn fun j : Fin 4 => ⟨Rect.unit (s := S512x1024) ![256 * (j.rev.val / 2), 512 * (j.rev.val % 2)] S256x512.size
    (inb_wide ⟨j.rev.val / 2, by omega⟩ ⟨j.rev.val % 2, by omega⟩), f ⟨j.rev.val / 2, by omega⟩ ⟨j.rev.val % 2, by omega⟩⟩

/-- Blocks of one head of a result of 1024 columns, newest first. -/
def heads (f : Fin 2 → Fin 2 → Fin 4 → FVec F S256x128 .bf16) : List (View.Piece (Elt F) S512x1024 .bf16) :=
  List.ofFn fun j : Fin 16 => ⟨Rect.unit (s := S512x1024) ![256 * (j.rev.val / 8), 512 * (j.rev.val / 4 % 2) + 128 * (j.rev.val % 4)] S256x128.size
    (inb_head ⟨j.rev.val / 8, by omega⟩ ⟨j.rev.val / 4 % 2, by omega⟩ ⟨j.rev.val % 4, by omega⟩),
    f ⟨j.rev.val / 8, by omega⟩ ⟨j.rev.val / 4 % 2, by omega⟩ ⟨j.rev.val % 4, by omega⟩⟩

/-- Blocks of a result of 512 columns, newest first. -/
def narrow {e : EltTy} (f : Fin 2 → Vec F S256x512 e) : List (View.Piece (Elt F) S512x512 e) :=
  List.ofFn fun j : Fin 2 => ⟨Rect.unit (s := S512x512) ![256 * j.rev.val, 0] S256x512.size (inb_narrow j.rev), f j.rev⟩

def scaled (a : FVec F S256x512 .f32) : FVec F S256x512 .bf16 :=
  truncf .bf16 (mulf a (broadcast S256x512 (Scalar.ofBits .f32 0x3DB504F3#32))) bitsLt_bf16_f32

def scaledHead (a : FVec F S256x128 .f32) : FVec F S256x128 .bf16 :=
  truncf .bf16 (mulf a (broadcast S256x128 (Scalar.ofBits .f32 0x3DB504F3#32))) bitsLt_bf16_f32

def activated (a : FVec F S256x512 .f32) : FVec F S256x512 .f32 :=
  mulf (mulf (broadcast S256x512 (Scalar.ofBits .f32 0x3F000000#32)) a)
    (addf (broadcast S256x512 (Scalar.ofBits .f32 0x3F800000#32)) (tanh (mulf (broadcast S256x512 (Scalar.ofBits .f32 0x3F4C422A#32))
      (addf a (mulf (broadcast S256x512 (Scalar.ofBits .f32 0x3D372713#32)) (mulf (mulf a a) a))))))

set_option maxHeartbeats 4000000 in
theorem pieces_q : (run c i M X).1 = wide fun q n => scaled (acc M X q ⟨n.val, by omega⟩) := by
  sl_kernel_rfl

set_option maxHeartbeats 4000000 in
theorem pieces_qr : (run c i M X).2.1 = heads fun q n h => scaledHead (head M X q ⟨n.val, by omega⟩ h) := by
  sl_kernel_rfl

set_option maxHeartbeats 4000000 in
theorem pieces_k : (run c i M X).2.2.1 = heads fun q n h => truncf .bf16 (head M X q ⟨2 + n.val, by omega⟩ h) bitsLt_bf16_f32 := by
  sl_kernel_rfl

set_option maxHeartbeats 4000000 in
theorem pieces_v : (run c i M X).2.2.2.1 = wide fun q n => truncf .bf16 (acc M X q ⟨4 + n.val, by omega⟩) bitsLt_bf16_f32 := by
  sl_kernel_rfl

set_option maxHeartbeats 4000000 in
theorem pieces_xo : (run c i M X).2.2.2.2.1 = narrow (e := .f32) fun q => acc M X q 6 := by
  sl_kernel_rfl

set_option maxHeartbeats 4000000 in
theorem pieces_go : (run c i M X).2.2.2.2.2.1 = narrow (e := .f32) fun q => activated (acc M X q 7) := by
  sl_kernel_rfl

set_option maxHeartbeats 4000000 in
theorem pieces_f : (run c i M X).2.2.2.2.2.2.1 = narrow (e := .bf16) fun q => truncf .bf16 (acc M X q 8) bitsLt_bf16_f32 := by
  sl_kernel_rfl

end Cert.Kernel4Ideal.Inproj

end
-- ==== Proof.InprojSpec.lean ====
module

public import proofs.«01_k».proof.Proof.MlpSpec

/-!
The input projection over the extended reals, row by row, with no program in sight: the product of the modulated rows
with the weight, the rotation of a head's lanes by a row's two coordinates, and the activation of the gate.
-/

@[expose] public section

noncomputable section

namespace Cert.Inproj

open Idealize.ShloMosaic
open Cert.Mlp (bat pre one)

/-- The literals of both programs: the weight on the queries, and the activation's three. -/
abbrev scale : EReal := Ideal.ofBits .f32 0x3DB504F3#32
abbrev half : EReal := Ideal.ofBits .f32 0x3F000000#32
abbrev outer : EReal := Ideal.ofBits .f32 0x3F4C422A#32
abbrev cubic : EReal := Ideal.ofBits .f32 0x3D372713#32

/-- The gate's activation. -/
def gelu (a : EReal) : EReal := half * a * (one + Ideal.tanh (outer * (a + cubic * (a * a * a))))

/-- The lane a lane is rotated with: the other half of its 64 lanes. -/
def partner (d : Fin 128) : Fin 128 := ⟨d.val / 64 * 64 + (d.val + 32) % 64, by omega⟩

/-- A lane rotated, from a head's 128 lanes and the cosine and sine of that lane's angle. -/
def rot (a : Fin 128 → EReal) (c s : EReal) (d : Fin 128) : EReal :=
  if d.val % 64 < 32 then a d * c - a (partner d) * s else a (partner d) * s + a d * c

/-- The place of lane `d` among the angles of a coordinate. -/
def freq (d : Fin 128) : Fin 32 := ⟨d.val % 32, by omega⟩

/-- The coordinate lane `d` of row `i` is rotated by: the row on the grid for the first 64 lanes, the column for the others. -/
def coord (i : Fin 8192) (d : Fin 128) : Fin 64 := ⟨if d.val < 64 then i.val / 64 % 64 else i.val % 64, by split <;> omega⟩

/-- Column `n` of the block of columns that starts at `off`. -/
def col {N : ℕ} (off : ℕ) (n : Fin N) (h : off + N ≤ 4608) : Fin 4608 := ⟨off + n.val, by omega⟩

/-- Lane `d` of the head that column `n` of 1024 lies in, as a column. -/
def lane (n : Fin 1024) (d : Fin 128) : Fin 1024 := ⟨n.val / 128 * 128 + d.val, by omega⟩

def laneOf (n : Fin 1024) : Fin 128 := ⟨n.val % 128, by omega⟩

/-- The operands, by name; of the modulation, rows 0 and 1 of either batch element. -/
structure Args where
  x : Fin 8192 → Fin 2048 → EReal
  sh : Fin 2 → Fin 2048 → EReal
  sc : Fin 2 → Fin 2048 → EReal
  w : Fin 2048 → Fin 4608 → EReal
  cs : Fin 64 → Fin 32 → EReal
  sn : Fin 64 → Fin 32 → EReal

/-- The operands out of the programs' five arguments. -/
def argsOf (x0 : Vec Ideal ⟨2, ![8192, 2048]⟩ .f32) (x1 : Vec Ideal ⟨4, ![1, 8, 6, 2048]⟩ .f32) (x2 : Vec Ideal ⟨2, ![2048, 4608]⟩ .bf16)
    (x3 x4 : Vec Ideal ⟨2, ![64, 32]⟩ .f32) : Args where
  x i k := x0 (ix2 i k)
  sh q k := x1 (ix4 0 ⟨q.val, by omega⟩ 0 k)
  sc q k := x1 (ix4 0 ⟨q.val, by omega⟩ 1 k)
  w k n := x2 (ix2 k n)
  cs p f := x3 (ix2 p f)
  sn p f := x4 (ix2 p f)

variable (A : Args)

def Args.u (i : Fin 8192) : Fin 2048 → EReal := pre (A.x i) (A.sh (bat i)) (A.sc (bat i))

/-- The product at row `i`, column `n`. -/
def Args.prod (i : Fin 8192) (n : Fin 4608) : EReal := ∑ k, A.u i k * A.w k n

/-- Column `n` of a block of eight heads, rotated. -/
def Args.rotated (off : ℕ) (h : off + 1024 ≤ 4608) (i : Fin 8192) (n : Fin 1024) : EReal :=
  rot (fun d => A.prod i (col off (lane n d) h)) (A.cs (coord i (laneOf n)) (freq (laneOf n))) (A.sn (coord i (laneOf n)) (freq (laneOf n))) (laneOf n)

/-- The seven results. -/
def Args.q (i : Fin 8192) (n : Fin 1024) : EReal := A.prod i (col 0 n (by omega)) * scale
def Args.qr (i : Fin 8192) (n : Fin 1024) : EReal := A.rotated 0 (by omega) i n * scale
def Args.k (i : Fin 8192) (n : Fin 1024) : EReal := A.rotated 1024 (by omega) i n
def Args.v (i : Fin 8192) (n : Fin 1024) : EReal := A.prod i (col 2048 n (by omega))
def Args.xo (i : Fin 8192) (n : Fin 512) : EReal := A.prod i (col 3072 n (by omega))
def Args.go (i : Fin 8192) (n : Fin 512) : EReal := gelu (A.prod i (col 3584 n (by omega)))
def Args.f (i : Fin 8192) (n : Fin 512) : EReal := A.prod i (col 4096 n (by omega))

end Cert.Inproj

end
-- ==== Proof.InprojPoint.lean ====
module

public import proofs.«01_k».proof.Proof.MlpPoint
public import proofs.«01_k».proof.Proof.InprojPieces
public import proofs.«01_k».proof.Proof.InprojSpec
public import Idealize.ShloMosaic.Lib.KernelVsHost

/-!
What a grid point of the input projection leaves in its seven results, at every index, in terms of the operand blocks.
-/

@[expose] public section

set_option maxRecDepth 65536

noncomputable section

namespace Cert.Kernel4Ideal.Inproj

open Cert.Kernel4Ideal Cert.Kernel4Ideal.Gen
open Idealize.ShloMosaic Idealize.ShloMosaic.TcCoe
open Cert.Mlp (pre)
open Cert.Inproj (partner scale gelu)
open Cert.Kernel2Ideal.Mlp (modulated_apply idx2)

theorem load {s : Shape} {e : EltTy} (M : Memref sig .tc .vmem s e) (hM : M.IsWhole) (x : Vec Ideal s e) (off size : Fin s.rank → ℕ)
    (inb : ∀ a, off a + size a ≤ s.size a) (y : (⟨s.rank, size⟩ : Shape).Idx) (z : s.Idx) (hz : ∀ a, (z a).val = off a + (y a).val) :
    View.readAt (Elt Ideal) M.view (Rect.unit (s := s) off size inb).toLoadRect (hM.unread x) y = x z := by
  rw [View.readAt_apply, hM.read_unread]
  refine congrArg x (funext fun a => Fin.ext ?_)
  show off a + 1 * (y a).val = (z a).val
  rw [hz, one_mul]

/-! ### The operations at an index -/

theorem inFirst_apply (r : Fin 256) (d : Fin 128) : inFirst (ix2 r d) = if d.val % 64 < 32 then 1#1 else 0#1 := by
  have h : ∀ d : Fin 128, inFirst (ix2 (0 : Fin 256) d) = if d.val % 64 < 32 then 1#1 else 0#1 := by decide +kernel
  exact (rfl : inFirst (ix2 r d) = inFirst (ix2 (0 : Fin 256) d)).trans (h d)

theorem turned_apply (a cs sn : FVec Ideal S256x128 .f32) (r : Fin 256) (d : Fin 128) :
    turned a cs sn (ix2 r d) = a (ix2 r d) * cs (ix2 r d) + a (ix2 r (partner d)) * sn (ix2 r d) := by
  have e : (select inFirst (dynamicRotate 1 96#32 none a rotates_S256x128_d1) (dynamicRotate 1 32#32 none a rotates_S256x128_d1) : FVec Ideal S256x128 .f32) (ix2 r d)
      = a (ix2 r (partner d)) := by
    show Scalar.select (inFirst (ix2 r d)) (dynamicRotate 1 96#32 none a rotates_S256x128_d1 (ix2 r d)) (dynamicRotate 1 32#32 none a rotates_S256x128_d1 (ix2 r d)) = _
    rw [inFirst_apply]
    by_cases h : d.val % 64 < 32
    · rw [if_pos h]
      refine dynamicRotate_apply (s := S256x128) 1 96#32 a rotates_S256x128_d1 (ix2 r d) (ix2 r (partner d)) fun b => ?_
      match b with
      | ⟨0, _⟩ => rfl
      | ⟨1, _⟩ => show d.val / 64 * 64 + (d.val + 32) % 64 = (d.val + 128 - 96 % 128) % 128; omega
    · rw [if_neg h]
      refine dynamicRotate_apply (s := S256x128) 1 32#32 a rotates_S256x128_d1 (ix2 r d) (ix2 r (partner d)) fun b => ?_
      match b with
      | ⟨0, _⟩ => rfl
      | ⟨1, _⟩ => show d.val / 64 * 64 + (d.val + 32) % 64 = (d.val + 128 - 32 % 128) % 128; omega
  exact congrArg (fun z => a (ix2 r d) * cs (ix2 r d) + z * sn (ix2 r d)) e

theorem scaled_apply (a : FVec Ideal S256x512 .f32) (r : Fin 256) (e : Fin 512) : scaled a (ix2 r e) = a (ix2 r e) * scale := rfl
theorem scaledHead_apply (a : FVec Ideal S256x128 .f32) (r : Fin 256) (e : Fin 128) : scaledHead a (ix2 r e) = a (ix2 r e) * scale := rfl
theorem activated_apply (a : FVec Ideal S256x512 .f32) (r : Fin 256) (e : Fin 512) : activated a (ix2 r e) = gelu (a (ix2 r e)) := rfl

theorem product_apply (u : Vec Ideal S256x2048 .bf16) (w : Vec Ideal S2048x512 .bf16) (r : Fin 256) (e : Fin 512) :
    k0_pay7 u w (ix2 r e) = ∑ k : Fin 2048, u (ix2 r k) * w (ix2 k e) := by
  unfold k0_pay7
  pointwise

/-! ### The modulated rows and their product -/

variable (c : Dev nD) (i : grid0.Coords) (M : Mems) (X : Ins Ideal)

/-- The modulated row `r` of the block. -/
def rowU (r : Fin 512) (k : Fin 2048) : EReal :=
  pre (fun j => X.x (ix2 r j)) (fun j => X.md (ix4 0 0 0 j)) (fun j => X.md (ix4 0 0 1 j)) k

/-- Its product with column `n` of the weight. -/
def prodAt (r : Fin 512) (n : Fin 4608) : EReal := ∑ k, rowU X r k * X.w (ix2 k n)

theorem load_mod (q : Fin 6) (k : Fin 2048) :
    View.readAt (Elt Ideal) M.md.view (Rect.unit (s := S1x1x6x2048) ![0, 0, q.val, 0] S1x1x1x2048.size (inb_mod q)).toLoadRect (M.hmd.unread X.md) (ix4 0 0 0 k)
      = X.md (ix4 0 0 q k) := by
  refine load M.md M.hmd X.md _ _ _ _ _ fun a => ?_
  match a with
  | ⟨0, _⟩ => rfl
  | ⟨1, _⟩ => rfl
  | ⟨2, _⟩ => rfl
  | ⟨3, _⟩ => exact (Nat.zero_add _).symm

theorem uBlock_apply (q hf : Fin 2) (p : Fin 128) (r : Fin 512) (hr : r.val = 256 * q.val + 128 * hf.val + p.val) (k : Fin 2048) :
    uBlock M X q hf (ix2 p k) = rowU X r k := by
  unfold uBlock rowU
  refine (modulated_apply _ _ _ p k).trans ?_
  congr 1
  · refine funext fun j => load M.x M.hx X.x _ _ _ _ _ fun a => ?_
    match a with
    | ⟨0, _⟩ => exact hr
    | ⟨1, _⟩ => exact (Nat.zero_add _).symm
  · exact funext fun j => load_mod M X 0 j
  · exact funext fun j => load_mod M X 1 j

theorem uPiece_apply (q hf : Fin 2) (y : (uPiece M X q hf).1.shape.Idx) :
    (uPiece M X q hf).2 y = rowU X ((uPiece M X q hf).1.emb y 0) ((uPiece M X q hf).1.emb y 1) := by
  have hy : y = ix2 (n0 := 128) (n1 := 2048) (y 0) (y 1) := idx2 (A := 128) (B := 2048) y
  have h0 : (y 0).val < 128 := (y 0).isLt
  refine (congrArg (uPiece M X q hf).2 hy).trans ((uBlock_apply M X q hf (y 0) ⟨256 * q.val + 128 * hf.val + (y 0).val, by omega⟩ rfl (y 1)).trans ?_)
  refine congrArg₂ (rowU X) (Fin.ext ?_) (Fin.ext ?_)
  · show 256 * q.val + 128 * hf.val + (y 0).val = 256 * q.val + 128 * hf.val + 1 * (y 0).val; omega
  · show (y 1).val = 0 + 1 * (y 1).val; omega

theorem uUpTo_apply (q : Fin 2) (p : Fin 256) (r : Fin 512) (hr : r.val = 256 * q.val + p.val) (k : Fin 2048) :
    M.u.view.readCov (uUpTo M X q) (Rect.unit (s := S512x2048) ![256 * q.val, 0] S256x2048.size (inb_u q)).toLoadRect (ix2 p k) = rowU X r k := by
  rw [View.readCov_eq_canon']
  have e : (Rect.unit (s := S512x2048) ![256 * q.val, 0] S256x2048.size (inb_u q)).toLoadRect.idx (ix2 p k) = (ix2 r k : S512x2048.Idx) := by
    funext a
    apply Fin.ext
    match a with
    | ⟨0, _⟩ => show 256 * q.val + 1 * p.val = r.val; omega
    | ⟨1, _⟩ => show 0 + 1 * k.val = k.val; omega
  show View.canon _ _ = _
  rw [e]
  refine View.canon_apply_of_pieces (Val := Elt Ideal) (S := S512x2048) (e := .bf16) (fun y => rowU X (y 0) (y 1)) _ ?_ (ix2 r k) ?_
  · intro pc hpc y
    rw [uUpTo, List.mem_ofFn'] at hpc
    obtain ⟨j, rfl⟩ := hpc
    exact uPiece_apply M X _ _ y
  · have hj : 2 * q.val + 1 - r.val / 128 < 2 * (q.val + 1) := by omega
    refine ⟨_, (List.mem_ofFn' _ _).2 ⟨(⟨2 * q.val + 1 - r.val / 128, hj⟩ : Fin (2 * (q.val + 1))), rfl⟩, ?_⟩
    refine (Rect.mem_set_unit (inb := inb_x _ _)).2 fun a => ?_
    match a with
    | ⟨0, _⟩ =>
      refine ⟨?_, ?_⟩
      · show 256 * ((2 * q.val + 1 - (2 * q.val + 1 - r.val / 128)) / 2) + 128 * ((2 * q.val + 1 - (2 * q.val + 1 - r.val / 128)) % 2) ≤ r.val; omega
      · show r.val < 256 * ((2 * q.val + 1 - (2 * q.val + 1 - r.val / 128)) / 2) + 128 * ((2 * q.val + 1 - (2 * q.val + 1 - r.val / 128)) % 2) + 128; omega
    | ⟨1, _⟩ => exact ⟨Nat.zero_le _, by show k.val < 0 + 2048; omega⟩

theorem acc_apply (q : Fin 2) (n : Fin 9) (p : Fin 256) (e : Fin 512) (r : Fin 512) (hr : r.val = 256 * q.val + p.val) (z : Fin 4608)
    (hz : z.val = 512 * n.val + e.val) : acc M X q n (ix2 p e) = prodAt X r z := by
  unfold acc prodAt
  rw [product_apply]
  refine Finset.sum_congr rfl fun k _ => congrArg₂ (· * ·) (uUpTo_apply M X q p r hr k) ?_
  refine load M.w M.hw X.w _ _ _ _ _ fun a => ?_
  match a with
  | ⟨0, _⟩ => exact (Nat.zero_add _).symm
  | ⟨1, _⟩ => exact hz

/-- A head's lane rotated, from the tables' blocks. -/
def rotAt (r : Fin 512) (z z' : Fin 4608) (d : Fin 128) : EReal := prodAt X r z * X.cs (ix2 r d) + prodAt X r z' * X.sn (ix2 r d)

theorem head_apply (q : Fin 2) (n : Fin 9) (h : Fin 4) (p : Fin 256) (e d : Fin 128) (he : d = e) (r : Fin 512) (hr : r.val = 256 * q.val + p.val)
    (z z' : Fin 4608) (hz : z.val = 512 * n.val + 128 * h.val + d.val) (hz' : z'.val = 512 * n.val + 128 * h.val + (partner d).val) :
    head M X q n h (ix2 p e) = rotAt X r z z' d := by
  subst he
  have hs : ∀ (d : Fin 128) (z : Fin 4608), z.val = 512 * n.val + 128 * h.val + d.val →
      extractStridedSlice S256x128 ![0, 128 * h.val] (acc M X q n) (head_slices h) (ix2 p d) = prodAt X r z := by
    intro d z hz
    refine (extractStridedSlice_apply _ _ _ _ (ix2 p (⟨128 * h.val + d.val, by omega⟩ : Fin 512)) fun a => ?_).trans
      (acc_apply M X q n p _ r hr z (by show z.val = 512 * n.val + (128 * h.val + d.val); omega))
    match a with
    | ⟨0, _⟩ => exact (Nat.zero_add _).symm
    | ⟨1, _⟩ => rfl
  have same : ∀ (y : Vec Ideal S256x128 .f32), shapeCast S256x128 y shapeCasts_S256x128_S256x128 (ix2 p d) = y (ix2 p d) := fun y => by pointwise
  unfold head rotAt
  rw [turned_apply, hs d z hz, hs (partner d) z' hz', same, same]
  refine congrArg₂ (· + ·) (congrArg _ ?_) (congrArg _ ?_)
  · refine load M.cs M.hcs X.cs _ _ _ _ _ fun a => ?_
    match a with
    | ⟨0, _⟩ => exact hr
    | ⟨1, _⟩ => exact (Nat.zero_add _).symm
  · refine load M.sn M.hsn X.sn _ _ _ _ _ fun a => ?_
    match a with
    | ⟨0, _⟩ => exact hr
    | ⟨1, _⟩ => exact (Nat.zero_add _).symm

/-! ### A result's blocks -/

theorem wide_apply (f : Fin 2 → Fin 2 → FVec Ideal S256x512 .bf16) (G : Fin 512 → Fin 1024 → EReal)
    (hf : ∀ (q n : Fin 2) (p : Fin 256) (e : Fin 512), f q n (ix2 p e) = G ⟨256 * q.val + p.val, by omega⟩ ⟨512 * n.val + e.val, by omega⟩)
    (hc : ∀ y : S512x1024.Idx, ∃ p ∈ wide f, y ∈ p.1.set) (r : Fin 512) (k : Fin 1024) : View.canon (wide f) (ix2 r k) = G r k := by
  refine View.canon_apply_of_pieces (Val := Elt Ideal) (S := S512x1024) (e := .bf16) (fun y => G (y 0) (y 1)) _ ?_ (ix2 r k) (hc _)
  intro pc hpc y
  rw [wide, List.mem_ofFn'] at hpc
  obtain ⟨j, rfl⟩ := hpc
  have hj : j.rev.val < 4 := j.rev.isLt
  have hy : y = ix2 (n0 := 256) (n1 := 512) (y 0) (y 1) := idx2 (A := 256) (B := 512) y
  refine (congrArg (f ⟨j.rev.val / 2, by omega⟩ ⟨j.rev.val % 2, by omega⟩) hy).trans ((hf _ _ (y 0) (y 1)).trans ?_)
  refine congrArg₂ G (Fin.ext ?_) (Fin.ext ?_)
  · show 256 * (j.rev.val / 2) + (y 0).val = 256 * (j.rev.val / 2) + 1 * (y 0).val; omega
  · show 512 * (j.rev.val % 2) + (y 1).val = 512 * (j.rev.val % 2) + 1 * (y 1).val; omega

theorem heads_apply (f : Fin 2 → Fin 2 → Fin 4 → FVec Ideal S256x128 .bf16) (G : Fin 512 → Fin 1024 → EReal)
    (hf : ∀ (q n : Fin 2) (h : Fin 4) (p : Fin 256) (e : Fin 128),
      f q n h (ix2 p e) = G ⟨256 * q.val + p.val, by omega⟩ ⟨512 * n.val + 128 * h.val + e.val, by omega⟩)
    (hc : ∀ y : S512x1024.Idx, ∃ p ∈ heads f, y ∈ p.1.set) (r : Fin 512) (k : Fin 1024) : View.canon (heads f) (ix2 r k) = G r k := by
  refine View.canon_apply_of_pieces (Val := Elt Ideal) (S := S512x1024) (e := .bf16) (fun y => G (y 0) (y 1)) _ ?_ (ix2 r k) (hc _)
  intro pc hpc y
  rw [heads, List.mem_ofFn'] at hpc
  obtain ⟨j, rfl⟩ := hpc
  have hj : j.rev.val < 16 := j.rev.isLt
  have hy : y = ix2 (n0 := 256) (n1 := 128) (y 0) (y 1) := idx2 (A := 256) (B := 128) y
  refine (congrArg (f ⟨j.rev.val / 8, by omega⟩ ⟨j.rev.val / 4 % 2, by omega⟩ ⟨j.rev.val % 4, by omega⟩) hy).trans ((hf _ _ _ (y 0) (y 1)).trans ?_)
  refine congrArg₂ G (Fin.ext ?_) (Fin.ext ?_)
  · show 256 * (j.rev.val / 8) + (y 0).val = 256 * (j.rev.val / 8) + 1 * (y 0).val; omega
  · show 512 * (j.rev.val / 4 % 2) + 128 * (j.rev.val % 4) + (y 1).val = 512 * (j.rev.val / 4 % 2) + 128 * (j.rev.val % 4) + 1 * (y 1).val; omega

theorem narrow_apply {t : EltTy} (f : Fin 2 → Vec Ideal S256x512 t) (G : Fin 512 → Fin 512 → Elt Ideal t)
    (hf : ∀ (q : Fin 2) (p : Fin 256) (e : Fin 512), f q (ix2 p e) = G ⟨256 * q.val + p.val, by omega⟩ e)
    (hc : ∀ y : S512x512.Idx, ∃ p ∈ narrow f, y ∈ p.1.set) (r : Fin 512) (k : Fin 512) : View.canon (narrow f) (ix2 r k) = G r k := by
  refine View.canon_apply_of_pieces (Val := Elt Ideal) (S := S512x512) (e := t) (fun y => G (y 0) (y 1)) _ ?_ (ix2 r k) (hc _)
  intro pc hpc y
  rw [narrow, List.mem_ofFn'] at hpc
  obtain ⟨j, rfl⟩ := hpc
  have hy : y = ix2 (n0 := 256) (n1 := 512) (y 0) (y 1) := idx2 (A := 256) (B := 512) y
  refine (congrArg (f j.rev) hy).trans ((hf _ (y 0) (y 1)).trans ?_)
  refine congrArg₂ G (Fin.ext ?_) (Fin.ext ?_)
  · show 256 * j.rev.val + (y 0).val = 256 * j.rev.val + 1 * (y 0).val; omega
  · show (y 1).val = 0 + 1 * (y 1).val; omega

/-! ### The seven results -/

def outQ : Vec Ideal S512x1024 .bf16 := out0_A_5 c i M.x M.hx M.md M.hmd M.w M.hw M.cs M.hcs M.sn M.hsn M.q M.hq M.qr M.hqr M.k M.hk M.v M.hv M.xo M.hxo
  M.go M.hgo M.f M.hf M.u M.hu X.x X.md X.w X.cs X.sn
def outQr : Vec Ideal S512x1024 .bf16 := out0_A_6 c i M.x M.hx M.md M.hmd M.w M.hw M.cs M.hcs M.sn M.hsn M.q M.hq M.qr M.hqr M.k M.hk M.v M.hv M.xo M.hxo
  M.go M.hgo M.f M.hf M.u M.hu X.x X.md X.w X.cs X.sn
def outK : Vec Ideal S512x1024 .bf16 := out0_A_7 c i M.x M.hx M.md M.hmd M.w M.hw M.cs M.hcs M.sn M.hsn M.q M.hq M.qr M.hqr M.k M.hk M.v M.hv M.xo M.hxo
  M.go M.hgo M.f M.hf M.u M.hu X.x X.md X.w X.cs X.sn
def outV : Vec Ideal S512x1024 .bf16 := out0_A_8 c i M.x M.hx M.md M.hmd M.w M.hw M.cs M.hcs M.sn M.hsn M.q M.hq M.qr M.hqr M.k M.hk M.v M.hv M.xo M.hxo
  M.go M.hgo M.f M.hf M.u M.hu X.x X.md X.w X.cs X.sn
def outXo : Vec Ideal S512x512 .f32 := out0_A_9 c i M.x M.hx M.md M.hmd M.w M.hw M.cs M.hcs M.sn M.hsn M.q M.hq M.qr M.hqr M.k M.hk M.v M.hv M.xo M.hxo
  M.go M.hgo M.f M.hf M.u M.hu X.x X.md X.w X.cs X.sn
def outGo : Vec Ideal S512x512 .f32 := out0_A_10 c i M.x M.hx M.md M.hmd M.w M.hw M.cs M.hcs M.sn M.hsn M.q M.hq M.qr M.hqr M.k M.hk M.v M.hv M.xo M.hxo
  M.go M.hgo M.f M.hf M.u M.hu X.x X.md X.w X.cs X.sn
def outF : Vec Ideal S512x512 .bf16 := out0_A_11 c i M.x M.hx M.md M.hmd M.w M.hw M.cs M.hcs M.sn M.hsn M.q M.hq M.qr M.hqr M.k M.hk M.v M.hv M.xo M.hxo
  M.go M.hgo M.f M.hf M.u M.hu X.x X.md X.w X.cs X.sn

variable (r : Fin 512)

theorem outQ_apply (n : Fin 1024) : outQ c i M X (ix2 r n) = prodAt X r ⟨n.val, by omega⟩ * scale := by
  have hc := cover0_A_5 c i M.x M.hx M.md M.hmd M.w M.hw M.cs M.hcs M.sn M.hsn M.q M.hq M.qr M.hqr M.k M.hk M.v M.hv M.xo M.hxo M.go M.hgo M.f M.hf M.u M.hu
    X.x X.md X.w X.cs X.sn
  unfold outQ out0_A_5
  rw [View.read_writes_eq_canon _ _ _ hc]
  change View.canon (run c i M X).1 (ix2 r n) = _
  change ∀ y, ∃ p ∈ (run c i M X).1, y ∈ p.1.set at hc
  rw [pieces_q] at hc ⊢
  refine wide_apply _ (fun r n => prodAt X r ⟨n.val, by omega⟩ * scale) (fun q n p e => ?_) hc r n
  rw [scaled_apply, acc_apply M X q ⟨n.val, by omega⟩ p e ⟨256 * q.val + p.val, by omega⟩ rfl ⟨512 * n.val + e.val, by omega⟩ rfl]

theorem outQr_apply (n : Fin 1024) : outQr c i M X (ix2 r n)
    = rotAt X r ⟨n.val, by omega⟩ ⟨n.val / 128 * 128 + (partner ⟨n.val % 128, by omega⟩).val, by omega⟩ ⟨n.val % 128, by omega⟩ * scale := by
  have hc := cover0_A_6 c i M.x M.hx M.md M.hmd M.w M.hw M.cs M.hcs M.sn M.hsn M.q M.hq M.qr M.hqr M.k M.hk M.v M.hv M.xo M.hxo M.go M.hgo M.f M.hf M.u M.hu
    X.x X.md X.w X.cs X.sn
  unfold outQr out0_A_6
  rw [View.read_writes_eq_canon _ _ _ hc]
  change View.canon (run c i M X).2.1 (ix2 r n) = _
  change ∀ y, ∃ p ∈ (run c i M X).2.1, y ∈ p.1.set at hc
  rw [pieces_qr] at hc ⊢
  refine heads_apply _ (fun r n => rotAt X r ⟨n.val, by omega⟩ ⟨n.val / 128 * 128 + (partner ⟨n.val % 128, by omega⟩).val, by omega⟩ ⟨n.val % 128, by omega⟩ * scale)
    (fun q n h p e => ?_) hc r n
  have hd : (⟨(512 * n.val + 128 * h.val + e.val) % 128, by omega⟩ : Fin 128) = e := Fin.ext (by show (512 * n.val + 128 * h.val + e.val) % 128 = e.val; omega)
  refine congrArg (· * scale) (head_apply M X q ⟨n.val, by omega⟩ h p e _ hd ⟨256 * q.val + p.val, by omega⟩ rfl _ _ ?_ ?_)
  · show 512 * n.val + 128 * h.val + e.val = 512 * n.val + 128 * h.val + (512 * n.val + 128 * h.val + e.val) % 128; omega
  · exact (by intro p; omega : ∀ p, (512 * n.val + 128 * h.val + e.val) / 128 * 128 + p = 512 * n.val + 128 * h.val + p) _

theorem outK_apply (n : Fin 1024) : outK c i M X (ix2 r n)
    = rotAt X r ⟨1024 + n.val, by omega⟩ ⟨1024 + (n.val / 128 * 128 + (partner ⟨n.val % 128, by omega⟩).val), by omega⟩ ⟨n.val % 128, by omega⟩ := by
  have hc := cover0_A_7 c i M.x M.hx M.md M.hmd M.w M.hw M.cs M.hcs M.sn M.hsn M.q M.hq M.qr M.hqr M.k M.hk M.v M.hv M.xo M.hxo M.go M.hgo M.f M.hf M.u M.hu
    X.x X.md X.w X.cs X.sn
  unfold outK out0_A_7
  rw [View.read_writes_eq_canon _ _ _ hc]
  change View.canon (run c i M X).2.2.1 (ix2 r n) = _
  change ∀ y, ∃ p ∈ (run c i M X).2.2.1, y ∈ p.1.set at hc
  rw [pieces_k] at hc ⊢
  refine heads_apply _ (fun r n => rotAt X r ⟨1024 + n.val, by omega⟩ ⟨1024 + (n.val / 128 * 128 + (partner ⟨n.val % 128, by omega⟩).val), by omega⟩
    ⟨n.val % 128, by omega⟩) (fun q n h p e => ?_) hc r n
  have hd : (⟨(512 * n.val + 128 * h.val + e.val) % 128, by omega⟩ : Fin 128) = e := Fin.ext (by show (512 * n.val + 128 * h.val + e.val) % 128 = e.val; omega)
  refine head_apply M X q ⟨2 + n.val, by omega⟩ h p e _ hd ⟨256 * q.val + p.val, by omega⟩ rfl _ _ ?_ ?_
  · show 1024 + (512 * n.val + 128 * h.val + e.val) = 512 * (2 + n.val) + 128 * h.val + (512 * n.val + 128 * h.val + e.val) % 128; omega
  · exact (by intro p; omega : ∀ p, 1024 + ((512 * n.val + 128 * h.val + e.val) / 128 * 128 + p) = 512 * (2 + n.val) + 128 * h.val + p) _

theorem outV_apply (n : Fin 1024) : outV c i M X (ix2 r n) = prodAt X r ⟨2048 + n.val, by omega⟩ := by
  have hc := cover0_A_8 c i M.x M.hx M.md M.hmd M.w M.hw M.cs M.hcs M.sn M.hsn M.q M.hq M.qr M.hqr M.k M.hk M.v M.hv M.xo M.hxo M.go M.hgo M.f M.hf M.u M.hu
    X.x X.md X.w X.cs X.sn
  unfold outV out0_A_8
  rw [View.read_writes_eq_canon _ _ _ hc]
  change View.canon (run c i M X).2.2.2.1 (ix2 r n) = _
  change ∀ y, ∃ p ∈ (run c i M X).2.2.2.1, y ∈ p.1.set at hc
  rw [pieces_v] at hc ⊢
  refine wide_apply _ (fun r n => prodAt X r ⟨2048 + n.val, by omega⟩) (fun q n p e => ?_) hc r n
  exact acc_apply M X q ⟨4 + n.val, by omega⟩ p e ⟨256 * q.val + p.val, by omega⟩ rfl _ (by show 2048 + (512 * n.val + e.val) = 512 * (4 + n.val) + e.val; omega)

theorem outXo_apply (n : Fin 512) : outXo c i M X (ix2 r n) = prodAt X r ⟨3072 + n.val, by omega⟩ := by
  have hc := cover0_A_9 c i M.x M.hx M.md M.hmd M.w M.hw M.cs M.hcs M.sn M.hsn M.q M.hq M.qr M.hqr M.k M.hk M.v M.hv M.xo M.hxo M.go M.hgo M.f M.hf M.u M.hu
    X.x X.md X.w X.cs X.sn
  unfold outXo out0_A_9
  rw [View.read_writes_eq_canon _ _ _ hc]
  change View.canon (run c i M X).2.2.2.2.1 (ix2 r n) = _
  change ∀ y, ∃ p ∈ (run c i M X).2.2.2.2.1, y ∈ p.1.set at hc
  rw [pieces_xo] at hc ⊢
  exact narrow_apply (t := .f32) _ (fun r n => prodAt X r ⟨3072 + n.val, by omega⟩) (fun q p e => acc_apply M X q 6 p e ⟨256 * q.val + p.val, by omega⟩ rfl ⟨3072 + e.val, by omega⟩ rfl) hc r n

theorem outGo_apply (n : Fin 512) : outGo c i M X (ix2 r n) = gelu (prodAt X r ⟨3584 + n.val, by omega⟩) := by
  have hc := cover0_A_10 c i M.x M.hx M.md M.hmd M.w M.hw M.cs M.hcs M.sn M.hsn M.q M.hq M.qr M.hqr M.k M.hk M.v M.hv M.xo M.hxo M.go M.hgo M.f M.hf M.u M.hu
    X.x X.md X.w X.cs X.sn
  unfold outGo out0_A_10
  rw [View.read_writes_eq_canon _ _ _ hc]
  change View.canon (run c i M X).2.2.2.2.2.1 (ix2 r n) = _
  change ∀ y, ∃ p ∈ (run c i M X).2.2.2.2.2.1, y ∈ p.1.set at hc
  rw [pieces_go] at hc ⊢
  exact narrow_apply (t := .f32) _ (fun r n => gelu (prodAt X r ⟨3584 + n.val, by omega⟩))
    (fun q p e => (activated_apply _ p e).trans (congrArg gelu (acc_apply M X q 7 p e ⟨256 * q.val + p.val, by omega⟩ rfl ⟨3584 + e.val, by omega⟩ rfl))) hc r n

theorem outF_apply (n : Fin 512) : outF c i M X (ix2 r n) = prodAt X r ⟨4096 + n.val, by omega⟩ := by
  have hc := cover0_A_11 c i M.x M.hx M.md M.hmd M.w M.hw M.cs M.hcs M.sn M.hsn M.q M.hq M.qr M.hqr M.k M.hk M.v M.hv M.xo M.hxo M.go M.hgo M.f M.hf M.u M.hu
    X.x X.md X.w X.cs X.sn
  unfold outF out0_A_11
  rw [View.read_writes_eq_canon _ _ _ hc]
  change View.canon (run c i M X).2.2.2.2.2.2.1 (ix2 r n) = _
  change ∀ y, ∃ p ∈ (run c i M X).2.2.2.2.2.2.1, y ∈ p.1.set at hc
  rw [pieces_f] at hc ⊢
  exact narrow_apply (t := .bf16) _ (fun r n => prodAt X r ⟨4096 + n.val, by omega⟩) (fun q p e => acc_apply M X q 8 p e ⟨256 * q.val + p.val, by omega⟩ rfl ⟨4096 + e.val, by omega⟩ rfl) hc r n

end Cert.Kernel4Ideal.Inproj

end
-- ==== Proof.InprojTables.lean ====
module

public import proofs.«01_k».proof.Proof.Gen.Kernel4Ideal.Frame
public import proofs.«01_k».proof.Proof.InprojSpec
public import Idealize.ShloMosaic.Lib.StableHlo.RunRead

/-!
The input projection's tables of cosines and signed sines, as the program lays them out for every row before the grid
starts.
-/

@[expose] public section

set_option maxRecDepth 65536

noncomputable section

namespace Cert.Kernel4Ideal.Inproj

open Cert.Kernel4Ideal Cert.Kernel4Ideal.Gen
open Idealize.ShloMosaic Idealize.ShloMosaic.TcCoe
open Cert.Inproj (freq)

section Layout

variable {F : FTy → Type} [FloatOps F]

/-- A table of 64 coordinates laid out for the 4096 positions of a grid: by the position's row, and by its column. -/
def byRow (y : FVec F S64x32 .f32) : FVec F S4096x32 .f32 :=
  shapeCast S4096x32 (broadcastInDim S64x64x32 ![0, 1, 2] bcast_S64x1x32_S64x64x32_0_1_2 (broadcastInDim S64x1x32 ![0, 2] bcast_S64x32_S64x1x32_0_2 y))
    shapeCasts_S64x64x32_S4096x32
def byCol (y : FVec F S64x32 .f32) : FVec F S4096x32 .f32 :=
  shapeCast S4096x32 (broadcastInDim S64x64x32 ![0, 1, 2] bcast_S1x64x32_S64x64x32_0_1_2 (broadcastInDim S1x64x32 ![1, 2] bcast_S64x32_S1x64x32_1_2 y))
    shapeCasts_S64x64x32_S4096x32

def lanes (a b d e : FVec F S4096x32 .f32) : FVec F S4096x128 .f32 :=
  concatenate S4096x128 1 [⟨S4096x32, a⟩, ⟨S4096x32, b⟩, ⟨S4096x32, d⟩, ⟨S4096x32, e⟩] concatenates_S4096x32_S4096x32_S4096x32_S4096x32_S4096x128_d1

def cosTable (y : FVec F S64x32 .f32) : FVec F S4096x128 .f32 := lanes (byRow y) (byRow y) (byCol y) (byCol y)
def sinTable (y : FVec F S64x32 .f32) : FVec F S4096x128 .f32 := lanes (Host.negf (byRow y)) (byRow y) (Host.negf (byCol y)) (byCol y)

theorem after_cos (W : Valuation τ sig (Elt F)) : StableHlo.after hostOps0 W (Proc.devRef .tc main_v12) = cosTable (W (Proc.devRef .tc main_arg3)) := by
  after_reads_simp
  rfl

theorem after_sin (W : Valuation τ sig (Elt F)) : StableHlo.after hostOps0 W (Proc.devRef .tc main_v27) = sinTable (W (Proc.devRef .tc main_arg4)) := by
  after_reads_simp
  rfl

variable (m : (ℓ : Loc nD τ sig) → Buf (Elt F) ℓ) (c : Dev nD)

theorem cos_read : V m c main_v12 = cosTable (m ((c : Thread nD τ).loc main_arg3)) := after_cos fun b => m (c, b)
theorem sin_read : V m c main_v27 = sinTable (m ((c : Thread nD τ).loc main_arg4)) := after_sin fun b => m (c, b)

end Layout

/-! ### The tables at an index -/

variable (y : FVec Ideal S64x32 .f32) (l : Fin 4096) (f : Fin 32)

theorem byRow_apply : byRow y (ix2 l f) = y (ix2 ⟨l.val / 64, by omega⟩ f) := by
  unfold byRow
  refine (shapeCast_apply _ shapeCasts_S64x64x32_S4096x32 (ix2 l f) (ix3 (⟨l.val / 64, by omega⟩ : Fin 64) (⟨l.val % 64, by omega⟩ : Fin 64) f) ?_).trans ?_
  · rewrite [Shape.rowMajor_val_three, Shape.rowMajor_val_two]
    show (l.val / 64 * 64 + l.val % 64) * 32 + f.val = l.val * 32 + f.val
    omega
  · pointwise

theorem byCol_apply : byCol y (ix2 l f) = y (ix2 ⟨l.val % 64, by omega⟩ f) := by
  unfold byCol
  refine (shapeCast_apply _ shapeCasts_S64x64x32_S4096x32 (ix2 l f) (ix3 (⟨l.val / 64, by omega⟩ : Fin 64) (⟨l.val % 64, by omega⟩ : Fin 64) f) ?_).trans ?_
  · rewrite [Shape.rowMajor_val_three, Shape.rowMajor_val_two]
    show (l.val / 64 * 64 + l.val % 64) * 32 + f.val = l.val * 32 + f.val
    omega
  · pointwise

theorem lanes_apply (z : Fin 4 → FVec Ideal S4096x32 .f32) (q : Fin 4) (d : Fin 128) (hd : d.val = 32 * q.val + f.val) :
    lanes (z 0) (z 1) (z 2) (z 3) (ix2 l d) = z q (ix2 l f) := by
  refine concatenate_apply_piece (t := S4096x128) 1 _ _ _ q.val (by show q.val < 4; omega) S4096x32 (z q) ?_ rfl (32 * q.val) ?_ (ix2 l f) (fun a ha => ?_) hd.symm
  · fin_cases q <;> rfl
  · fin_cases q <;> rfl
  · match a, ha with
    | ⟨0, _⟩, _ => rfl
    | ⟨1, _⟩, ha => exact absurd rfl ha

/-- The coordinate a lane is rotated by. -/
def place (d : Fin 128) : Fin 64 := ⟨if d.val < 64 then l.val / 64 else l.val % 64, by split <;> omega⟩

theorem quarter_cases (d : Fin 128) : ∃ q : Fin 4, d.val = 32 * q.val + (freq d).val :=
  ⟨⟨d.val / 32, by omega⟩, by show d.val = 32 * (d.val / 32) + d.val % 32; omega⟩

theorem place_row (d : Fin 128) (h : d.val < 64) : place l d = ⟨l.val / 64, by omega⟩ := Fin.ext (if_pos h)
theorem place_col (d : Fin 128) (h : ¬d.val < 64) : place l d = ⟨l.val % 64, by omega⟩ := Fin.ext (if_neg h)

theorem cosTable_apply (d : Fin 128) : cosTable y (ix2 l d) = y (ix2 (place l d) (freq d)) := by
  obtain ⟨q, hq⟩ := quarter_cases d
  have hf : (freq d).val < 32 := (freq d).isLt
  refine (lanes_apply l (freq d) ![byRow y, byRow y, byCol y, byCol y] q d hq).trans ?_
  match q, hq with
  | ⟨0, _⟩, hq => have hq : d.val = 32 * 0 + (freq d).val := hq; rw [place_row l d (by omega)]; exact byRow_apply y l (freq d)
  | ⟨1, _⟩, hq => have hq : d.val = 32 * 1 + (freq d).val := hq; rw [place_row l d (by omega)]; exact byRow_apply y l (freq d)
  | ⟨2, _⟩, hq => have hq : d.val = 32 * 2 + (freq d).val := hq; rw [place_col l d (by omega)]; exact byCol_apply y l (freq d)
  | ⟨3, _⟩, hq => have hq : d.val = 32 * 3 + (freq d).val := hq; rw [place_col l d (by omega)]; exact byCol_apply y l (freq d)

theorem sinTable_apply (d : Fin 128) :
    sinTable y (ix2 l d) = if d.val % 64 < 32 then -y (ix2 (place l d) (freq d)) else y (ix2 (place l d) (freq d)) := by
  obtain ⟨q, hq⟩ := quarter_cases d
  have hf : (freq d).val < 32 := (freq d).isLt
  refine (lanes_apply l (freq d) ![Host.negf (byRow y), byRow y, Host.negf (byCol y), byCol y] q d hq).trans ?_
  match q, hq with
  | ⟨0, _⟩, hq =>
    have hq : d.val = 32 * 0 + (freq d).val := hq
    rw [place_row l d (by omega), if_pos (by omega)]; exact congrArg Neg.neg (byRow_apply y l (freq d))
  | ⟨1, _⟩, hq =>
    have hq : d.val = 32 * 1 + (freq d).val := hq
    rw [place_row l d (by omega), if_neg (by omega)]; exact byRow_apply y l (freq d)
  | ⟨2, _⟩, hq =>
    have hq : d.val = 32 * 2 + (freq d).val := hq
    rw [place_col l d (by omega), if_pos (by omega)]; exact congrArg Neg.neg (byCol_apply y l (freq d))
  | ⟨3, _⟩, hq =>
    have hq : d.val = 32 * 3 + (freq d).val := hq
    rw [place_col l d (by omega), if_neg (by omega)]; exact byCol_apply y l (freq d)

end Cert.Kernel4Ideal.Inproj

end
-- ==== Proof.InprojArray.lean ====
module

public import proofs.«01_k».proof.Proof.InprojPoint
public import proofs.«01_k».proof.Proof.InprojTables
public import proofs.«01_k».proof.Proof.Gen.Kernel4Ideal.Value
public import Idealize.ShloMosaic.Lib.Pipeline.ValueKit.Geometry

/-!
The seven result arrays of the input projection, read over the extended reals at an index.
-/

@[expose] public section

set_option maxRecDepth 65536

noncomputable section

namespace Cert.Kernel4Ideal.Inproj

open Cert.Kernel4Ideal Cert.Kernel4Ideal.Gen
open Idealize.ShloMosaic Idealize.ShloMosaic.TcCoe
open Cert.Mlp (bat pre)
open Cert.Inproj (Args argsOf partner scale gelu freq coord col lane laneOf rot)

/-! ### The blocks of the arrays -/

theorem index_x : ∀ t : Fin cfg0.N, win0_0.index t (0 : Fin 2) = t.val ∧ win0_0.index t (1 : Fin 2) = 0 := by decide +kernel
theorem index_mod : ∀ t : Fin cfg0.N, win0_1.index t (0 : Fin 4) = 0 ∧ win0_1.index t (1 : Fin 4) = t.val / 8 ∧ win0_1.index t (2 : Fin 4) = 0
    ∧ win0_1.index t (3 : Fin 4) = 0 := by decide +kernel
theorem index_w : ∀ t : Fin cfg0.N, win0_2.index t (0 : Fin 2) = 0 ∧ win0_2.index t (1 : Fin 2) = 0 := by decide +kernel
theorem index_cs : ∀ t : Fin cfg0.N, win0_3.index t (0 : Fin 2) = t.val % 8 ∧ win0_3.index t (1 : Fin 2) = 0 := by decide +kernel
theorem index_sn : ∀ t : Fin cfg0.N, win0_4.index t (0 : Fin 2) = t.val % 8 ∧ win0_4.index t (1 : Fin 2) = 0 := by decide +kernel
theorem index_out : ∀ t : Fin cfg0.N,
    (win0_5.index t (0 : Fin 2) = t.val ∧ win0_5.index t (1 : Fin 2) = 0) ∧ (win0_6.index t (0 : Fin 2) = t.val ∧ win0_6.index t (1 : Fin 2) = 0)
      ∧ (win0_7.index t (0 : Fin 2) = t.val ∧ win0_7.index t (1 : Fin 2) = 0) ∧ (win0_8.index t (0 : Fin 2) = t.val ∧ win0_8.index t (1 : Fin 2) = 0)
      ∧ (win0_9.index t (0 : Fin 2) = t.val ∧ win0_9.index t (1 : Fin 2) = 0) ∧ (win0_10.index t (0 : Fin 2) = t.val ∧ win0_10.index t (1 : Fin 2) = 0)
      ∧ win0_11.index t (0 : Fin 2) = t.val ∧ win0_11.index t (1 : Fin 2) = 0 := by decide +kernel
theorem flush_all : ∀ t : Fin cfg0.N, (cfg0.win 5).flush t = true ∧ (cfg0.win 6).flush t = true ∧ (cfg0.win 7).flush t = true
    ∧ (cfg0.win 8).flush t = true ∧ (cfg0.win 9).flush t = true ∧ (cfg0.win 10).flush t = true ∧ (cfg0.win 11).flush t = true := by decide +kernel

variable (m : (ℓ : Loc nD τ sig) → Buf (Elt Ideal) ℓ) (c : Dev nD) (t : Fin cfg0.N)

theorem block_x (r : Fin 512) (k : Fin 2048) (i : Fin 8192) (hi : i.val = 512 * t.val + r.val) :
    (iblk m c 0 t : Vec Ideal S512x2048 .f32) (ix2 r k) = m ((c : Thread nD τ).loc main_arg0) (ix2 i k) := by
  obtain ⟨e0, e1⟩ := index_x t
  show V m c main_arg0 (((cfg0.win 0).blk t).view.emb _) = _
  rw [V_main_arg0]
  refine congrArg (m ((c : Thread nD τ).loc main_arg0)) (funext fun a => Fin.ext ?_)
  match a with
  | ⟨0, _⟩ => show win0_0.index t (0 : Fin 2) * 512 + 1 * r.val = i.val; omega
  | ⟨1, _⟩ => show win0_0.index t (1 : Fin 2) * 2048 + 1 * k.val = k.val; omega

theorem block_mod (q : Fin 6) (k : Fin 2048) (b : Fin 8) (hb : b.val = t.val / 8) :
    (iblk m c 1 t : Vec Ideal S1x1x6x2048 .f32) (ix4 0 0 q k) = m ((c : Thread nD τ).loc main_arg1) (ix4 0 b q k) := by
  obtain ⟨e0, e1, e2, e3⟩ := index_mod t
  show V m c main_arg1 (((cfg0.win 1).blk t).view.emb _) = _
  rw [V_main_arg1]
  refine congrArg (m ((c : Thread nD τ).loc main_arg1)) (funext fun a => Fin.ext ?_)
  match a with
  | ⟨0, _⟩ => show win0_1.index t (0 : Fin 4) * 1 + 1 * 0 = 0; omega
  | ⟨1, _⟩ => show win0_1.index t (1 : Fin 4) * 1 + 1 * 0 = b.val; omega
  | ⟨2, _⟩ => show win0_1.index t (2 : Fin 4) * 6 + 1 * q.val = q.val; omega
  | ⟨3, _⟩ => show win0_1.index t (3 : Fin 4) * 2048 + 1 * k.val = k.val; omega

theorem block_w (k : Fin 2048) (n : Fin 4608) :
    (iblk m c 2 t : Vec Ideal S2048x4608 .bf16) (ix2 k n) = m ((c : Thread nD τ).loc main_arg2) (ix2 k n) := by
  obtain ⟨e0, e1⟩ := index_w t
  show V m c main_arg2 (((cfg0.win 2).blk t).view.emb _) = _
  rw [V_main_arg2]
  refine congrArg (m ((c : Thread nD τ).loc main_arg2)) (funext fun a => Fin.ext ?_)
  match a with
  | ⟨0, _⟩ => show win0_2.index t (0 : Fin 2) * 2048 + 1 * k.val = k.val; omega
  | ⟨1, _⟩ => show win0_2.index t (1 : Fin 2) * 4608 + 1 * n.val = n.val; omega

theorem block_cs (r : Fin 512) (d : Fin 128) (l : Fin 4096) (hl : l.val = 512 * (t.val % 8) + r.val) :
    (iblk m c 3 t : Vec Ideal S512x128 .f32) (ix2 r d) = cosTable (F := Ideal) (m ((c : Thread nD τ).loc main_arg3)) (ix2 l d) := by
  obtain ⟨e0, e1⟩ := index_cs t
  show V m c main_v12 (((cfg0.win 3).blk t).view.emb _) = _
  rw [cos_read]
  refine congrArg (cosTable (F := Ideal) (m ((c : Thread nD τ).loc main_arg3))) (funext fun a => Fin.ext ?_)
  match a with
  | ⟨0, _⟩ => show win0_3.index t (0 : Fin 2) * 512 + 1 * r.val = l.val; omega
  | ⟨1, _⟩ => show win0_3.index t (1 : Fin 2) * 128 + 1 * d.val = d.val; omega

theorem block_sn (r : Fin 512) (d : Fin 128) (l : Fin 4096) (hl : l.val = 512 * (t.val % 8) + r.val) :
    (iblk m c 4 t : Vec Ideal S512x128 .f32) (ix2 r d) = sinTable (F := Ideal) (m ((c : Thread nD τ).loc main_arg4)) (ix2 l d) := by
  obtain ⟨e0, e1⟩ := index_sn t
  show V m c main_v27 (((cfg0.win 4).blk t).view.emb _) = _
  rw [sin_read]
  refine congrArg (sinTable (F := Ideal) (m ((c : Thread nD τ).loc main_arg4))) (funext fun a => Fin.ext ?_)
  match a with
  | ⟨0, _⟩ => show win0_4.index t (0 : Fin 2) * 512 + 1 * r.val = l.val; omega
  | ⟨1, _⟩ => show win0_4.index t (1 : Fin 2) * 128 + 1 * d.val = d.val; omega

/-- The operands of the call, and their blocks at a grid point. -/
def args : Args := argsOf (m ((c : Thread nD τ).loc main_arg0)) (m ((c : Thread nD τ).loc main_arg1)) (m ((c : Thread nD τ).loc main_arg2))
  (m ((c : Thread nD τ).loc main_arg3)) (m ((c : Thread nD τ).loc main_arg4))

def blocks : Ins Ideal := ⟨iblk m c 0 t, iblk m c 1 t, iblk m c 2 t, iblk m c 3 t, iblk m c 4 t⟩

/-- The memrefs of a grid point. -/
def mems : Mems := ⟨ms0_0 t, hs0_0 t, ms0_1 t, hs0_1 t, ms0_2 t, hs0_2 t, ms0_3 t, hs0_3 t, ms0_4 t, hs0_4 t, ms0_5 t, hs0_5 t, ms0_6 t, hs0_6 t,
  ms0_7 t, hs0_7 t, ms0_8 t, hs0_8 t, ms0_9 t, hs0_9 t, ms0_10 t, hs0_10 t, ms0_11 t, hs0_11 t, scM0_0, Memref.isWhole_whole _⟩

variable (r : Fin 512) (i : Fin 8192) (hi : i.val = 512 * t.val + r.val)
include hi

theorem prodAt_eq (n : Fin 4608) : prodAt (blocks m c t) r n = (args m c).prod i n := by
  have hN : t.val < 16 := t.isLt
  have hb : (bat i).val = t.val / 8 := by show i.val / 4096 = _; omega
  unfold prodAt Cert.Inproj.Args.prod
  refine Finset.sum_congr rfl fun k _ => congrArg₂ (· * ·) ?_ (block_w m c t k n)
  unfold rowU Cert.Inproj.Args.u
  congr 1
  · exact funext fun j => block_x m c t r j i hi
  · exact funext fun j => block_mod m c t 0 j ⟨(bat i).val, by omega⟩ hb
  · exact funext fun j => block_mod m c t 1 j ⟨(bat i).val, by omega⟩ hb

theorem rotAt_eq (off : ℕ) (ho : off + 1024 ≤ 4608) (n : Fin 1024) (z z' : Fin 4608) (hz : z.val = off + n.val)
    (hz' : z'.val = off + (n.val / 128 * 128 + (partner (laneOf n)).val)) :
    rotAt (blocks m c t) r z z' (laneOf n) = (args m c).rotated off ho i n := by
  have hN : t.val < 16 := t.isLt
  obtain ⟨l, hl⟩ : ∃ l : Fin 4096, l.val = 512 * (t.val % 8) + r.val := ⟨⟨512 * (t.val % 8) + r.val, by omega⟩, rfl⟩
  have hp : place l (laneOf n) = coord i (laneOf n) := by
    refine Fin.ext ?_
    show (if (laneOf n).val < 64 then l.val / 64 else l.val % 64) = if (laneOf n).val < 64 then i.val / 64 % 64 else i.val % 64
    have h1 : l.val / 64 = i.val / 64 % 64 := by omega
    have h2 : l.val % 64 = i.val % 64 := by omega
    rw [h1, h2]
  have hcs : (blocks m c t).cs (ix2 r (laneOf n)) = (args m c).cs (coord i (laneOf n)) (freq (laneOf n)) :=
    (block_cs m c t r (laneOf n) l hl).trans ((cosTable_apply _ l (laneOf n)).trans (by rw [hp]; rfl))
  have hsn : (blocks m c t).sn (ix2 r (laneOf n)) = if (laneOf n).val % 64 < 32 then -(args m c).sn (coord i (laneOf n)) (freq (laneOf n))
      else (args m c).sn (coord i (laneOf n)) (freq (laneOf n)) :=
    (block_sn m c t r (laneOf n) l hl).trans ((sinTable_apply _ l (laneOf n)).trans (by rw [hp]; rfl))
  have ez : z = col off (lane n (laneOf n)) ho := Fin.ext (by show z.val = off + (n.val / 128 * 128 + n.val % 128); omega)
  have ez' : z' = col off (lane n (partner (laneOf n))) ho := Fin.ext hz'
  unfold rotAt Cert.Inproj.Args.rotated rot
  rw [hcs, hsn, prodAt_eq m c t r i hi z, prodAt_eq m c t r i hi z', ez, ez']
  by_cases h : (laneOf n).val % 64 < 32
  · rw [if_pos h, if_pos h, mul_neg, sub_eq_add_neg]
  · rw [if_neg h, if_neg h, add_comm]

omit hi

theorem point_of (i : Fin 8192) : ∃ (t : Fin cfg0.N) (r : Fin 512), i.val = 512 * t.val + r.val :=
  ⟨(⟨i.val / 512, by omega⟩ : Fin 16), ⟨i.val % 512, by omega⟩, by show i.val = 512 * (i.val / 512) + i.val % 512; omega⟩

/-! ### The result arrays -/

theorem flushed_q : (dats m 0 c).flushed 5 t = (cfg0.win 5).cut (grid0.coords t) (outQ c (grid0.coords t) (mems t) (blocks m c t)) :=
  Value.flushed5_A m c t
theorem flushed_qr : (dats m 0 c).flushed 6 t = (cfg0.win 6).cut (grid0.coords t) (outQr c (grid0.coords t) (mems t) (blocks m c t)) :=
  Value.flushed6_A m c t
theorem flushed_k : (dats m 0 c).flushed 7 t = (cfg0.win 7).cut (grid0.coords t) (outK c (grid0.coords t) (mems t) (blocks m c t)) :=
  Value.flushed7_A m c t
theorem flushed_v : (dats m 0 c).flushed 8 t = (cfg0.win 8).cut (grid0.coords t) (outV c (grid0.coords t) (mems t) (blocks m c t)) :=
  Value.flushed8_A m c t
theorem flushed_xo : (dats m 0 c).flushed 9 t = (cfg0.win 9).cut (grid0.coords t) (outXo c (grid0.coords t) (mems t) (blocks m c t)) :=
  Value.flushed9_A m c t
theorem flushed_go : (dats m 0 c).flushed 10 t = (cfg0.win 10).cut (grid0.coords t) (outGo c (grid0.coords t) (mems t) (blocks m c t)) :=
  Value.flushed10_A m c t
theorem flushed_f : (dats m 0 c).flushed 11 t = (cfg0.win 11).cut (grid0.coords t) (outF c (grid0.coords t) (mems t) (blocks m c t)) :=
  Value.flushed11_A m c t

attribute [local irreducible] outQ outQr outK outV outXo outGo outF

theorem q_apply (i : Fin 8192) (n : Fin 1024) : ((dats m 0 c).arrAt 5 cfg0.N : Vec Ideal S8192x1024 .bf16) (ix2 i n) = (args m c).q i n := by
  obtain ⟨t, r, hi⟩ := point_of i
  obtain ⟨e0, e1⟩ := (index_out t).1
  have hb := congrFun (Value.blocks5 m c t (flush_all t).1) (ix2 r n)
  rw [flushed_q, Pipeline.Window.cut_apply] at hb
  refine Eq.trans ?_ (hb.trans ?_)
  · refine congrArg ((dats m 0 c).arrAt 5 cfg0.N) (funext fun a => Fin.ext ?_)
    match a with
    | ⟨0, _⟩ => show i.val = win0_5.index t (0 : Fin 2) * 512 + 1 * r.val; omega
    | ⟨1, _⟩ => show n.val = win0_5.index t (1 : Fin 2) * 1024 + 1 * n.val; omega
  · refine (congrArg (outQ c (grid0.coords t) (mems t) (blocks m c t)) (funext fun a => Fin.ext ?_)).trans
      ((outQ_apply c (grid0.coords t) (mems t) (blocks m c t) r n).trans ?_)
    · match a with
      | ⟨0, _⟩ => rfl
      | ⟨1, _⟩ => rfl
    · exact congrArg (· * scale) ((congrArg (prodAt _ r) (Fin.ext (Nat.zero_add n.val).symm)).trans (prodAt_eq m c t r i hi (col 0 n (by omega))))

theorem qr_apply (i : Fin 8192) (n : Fin 1024) : ((dats m 0 c).arrAt 6 cfg0.N : Vec Ideal S8192x1024 .bf16) (ix2 i n) = (args m c).qr i n := by
  obtain ⟨t, r, hi⟩ := point_of i
  obtain ⟨e0, e1⟩ := (index_out t).2.1
  have hb := congrFun (Value.blocks6 m c t (flush_all t).2.1) (ix2 r n)
  rw [flushed_qr, Pipeline.Window.cut_apply] at hb
  refine Eq.trans ?_ (hb.trans ?_)
  · refine congrArg ((dats m 0 c).arrAt 6 cfg0.N) (funext fun a => Fin.ext ?_)
    match a with
    | ⟨0, _⟩ => show i.val = win0_6.index t (0 : Fin 2) * 512 + 1 * r.val; omega
    | ⟨1, _⟩ => show n.val = win0_6.index t (1 : Fin 2) * 1024 + 1 * n.val; omega
  · refine (congrArg (outQr c (grid0.coords t) (mems t) (blocks m c t)) (funext fun a => Fin.ext ?_)).trans
      ((outQr_apply c (grid0.coords t) (mems t) (blocks m c t) r n).trans ?_)
    · match a with
      | ⟨0, _⟩ => rfl
      | ⟨1, _⟩ => rfl
    · exact congrArg (· * scale) (rotAt_eq m c t r i hi 0 (by omega) n _ _ (Nat.zero_add n.val).symm (Nat.zero_add _).symm)

theorem k_apply (i : Fin 8192) (n : Fin 1024) : ((dats m 0 c).arrAt 7 cfg0.N : Vec Ideal S8192x1024 .bf16) (ix2 i n) = (args m c).k i n := by
  obtain ⟨t, r, hi⟩ := point_of i
  obtain ⟨e0, e1⟩ := (index_out t).2.2.1
  have hb := congrFun (Value.blocks7 m c t (flush_all t).2.2.1) (ix2 r n)
  rw [flushed_k, Pipeline.Window.cut_apply] at hb
  refine Eq.trans ?_ (hb.trans ?_)
  · refine congrArg ((dats m 0 c).arrAt 7 cfg0.N) (funext fun a => Fin.ext ?_)
    match a with
    | ⟨0, _⟩ => show i.val = win0_7.index t (0 : Fin 2) * 512 + 1 * r.val; omega
    | ⟨1, _⟩ => show n.val = win0_7.index t (1 : Fin 2) * 1024 + 1 * n.val; omega
  · refine (congrArg (outK c (grid0.coords t) (mems t) (blocks m c t)) (funext fun a => Fin.ext ?_)).trans
      ((outK_apply c (grid0.coords t) (mems t) (blocks m c t) r n).trans ?_)
    · match a with
      | ⟨0, _⟩ => rfl
      | ⟨1, _⟩ => rfl
    · exact rotAt_eq m c t r i hi 1024 (by omega) n _ _ rfl rfl

theorem v_apply (i : Fin 8192) (n : Fin 1024) : ((dats m 0 c).arrAt 8 cfg0.N : Vec Ideal S8192x1024 .bf16) (ix2 i n) = (args m c).v i n := by
  obtain ⟨t, r, hi⟩ := point_of i
  obtain ⟨e0, e1⟩ := (index_out t).2.2.2.1
  have hb := congrFun (Value.blocks8 m c t (flush_all t).2.2.2.1) (ix2 r n)
  rw [flushed_v, Pipeline.Window.cut_apply] at hb
  refine Eq.trans ?_ (hb.trans ?_)
  · refine congrArg ((dats m 0 c).arrAt 8 cfg0.N) (funext fun a => Fin.ext ?_)
    match a with
    | ⟨0, _⟩ => show i.val = win0_8.index t (0 : Fin 2) * 512 + 1 * r.val; omega
    | ⟨1, _⟩ => show n.val = win0_8.index t (1 : Fin 2) * 1024 + 1 * n.val; omega
  · refine (congrArg (outV c (grid0.coords t) (mems t) (blocks m c t)) (funext fun a => Fin.ext ?_)).trans
      ((outV_apply c (grid0.coords t) (mems t) (blocks m c t) r n).trans ?_)
    · match a with
      | ⟨0, _⟩ => rfl
      | ⟨1, _⟩ => rfl
    · exact prodAt_eq m c t r i hi (col 2048 n (by omega))

theorem xo_apply (i : Fin 8192) (n : Fin 512) : ((dats m 0 c).arrAt 9 cfg0.N : Vec Ideal S8192x512 .f32) (ix2 i n) = (args m c).xo i n := by
  obtain ⟨t, r, hi⟩ := point_of i
  obtain ⟨e0, e1⟩ := (index_out t).2.2.2.2.1
  have hb := congrFun (Value.blocks9 m c t (flush_all t).2.2.2.2.1) (ix2 r n)
  rw [flushed_xo, Pipeline.Window.cut_apply] at hb
  refine Eq.trans ?_ (hb.trans ?_)
  · refine congrArg ((dats m 0 c).arrAt 9 cfg0.N) (funext fun a => Fin.ext ?_)
    match a with
    | ⟨0, _⟩ => show i.val = win0_9.index t (0 : Fin 2) * 512 + 1 * r.val; omega
    | ⟨1, _⟩ => show n.val = win0_9.index t (1 : Fin 2) * 512 + 1 * n.val; omega
  · refine (congrArg (outXo c (grid0.coords t) (mems t) (blocks m c t)) (funext fun a => Fin.ext ?_)).trans
      ((outXo_apply c (grid0.coords t) (mems t) (blocks m c t) r n).trans ?_)
    · match a with
      | ⟨0, _⟩ => rfl
      | ⟨1, _⟩ => rfl
    · exact prodAt_eq m c t r i hi (col 3072 n (by omega))

theorem go_apply (i : Fin 8192) (n : Fin 512) : ((dats m 0 c).arrAt 10 cfg0.N : Vec Ideal S8192x512 .f32) (ix2 i n) = (args m c).go i n := by
  obtain ⟨t, r, hi⟩ := point_of i
  obtain ⟨e0, e1⟩ := (index_out t).2.2.2.2.2.1
  have hb := congrFun (Value.blocks10 m c t (flush_all t).2.2.2.2.2.1) (ix2 r n)
  rw [flushed_go, Pipeline.Window.cut_apply] at hb
  refine Eq.trans ?_ (hb.trans ?_)
  · refine congrArg ((dats m 0 c).arrAt 10 cfg0.N) (funext fun a => Fin.ext ?_)
    match a with
    | ⟨0, _⟩ => show i.val = win0_10.index t (0 : Fin 2) * 512 + 1 * r.val; omega
    | ⟨1, _⟩ => show n.val = win0_10.index t (1 : Fin 2) * 512 + 1 * n.val; omega
  · refine (congrArg (outGo c (grid0.coords t) (mems t) (blocks m c t)) (funext fun a => Fin.ext ?_)).trans
      ((outGo_apply c (grid0.coords t) (mems t) (blocks m c t) r n).trans ?_)
    · match a with
      | ⟨0, _⟩ => rfl
      | ⟨1, _⟩ => rfl
    · exact congrArg gelu (prodAt_eq m c t r i hi (col 3584 n (by omega)))

theorem f_apply (i : Fin 8192) (n : Fin 512) : ((dats m 0 c).arrAt 11 cfg0.N : Vec Ideal S8192x512 .bf16) (ix2 i n) = (args m c).f i n := by
  obtain ⟨t, r, hi⟩ := point_of i
  obtain ⟨e0, e1⟩ := (index_out t).2.2.2.2.2.2
  have hb := congrFun (Value.blocks11 m c t (flush_all t).2.2.2.2.2.2) (ix2 r n)
  rw [flushed_f, Pipeline.Window.cut_apply] at hb
  refine Eq.trans ?_ (hb.trans ?_)
  · refine congrArg ((dats m 0 c).arrAt 11 cfg0.N) (funext fun a => Fin.ext ?_)
    match a with
    | ⟨0, _⟩ => show i.val = win0_11.index t (0 : Fin 2) * 512 + 1 * r.val; omega
    | ⟨1, _⟩ => show n.val = win0_11.index t (1 : Fin 2) * 512 + 1 * n.val; omega
  · refine (congrArg (outF c (grid0.coords t) (mems t) (blocks m c t)) (funext fun a => Fin.ext ?_)).trans
      ((outF_apply c (grid0.coords t) (mems t) (blocks m c t) r n).trans ?_)
    · match a with
      | ⟨0, _⟩ => rfl
      | ⟨1, _⟩ => rfl
    · exact prodAt_eq m c t r i hi (col 4096 n (by omega))

end Cert.Kernel4Ideal.Inproj

end
-- ==== Proof.InprojRef.lean ====
module

public import proofs.«01_k».proof.Proof.Gen.Reference4Ideal.Read
public import proofs.«01_k».proof.Proof.InprojSpec

/-!
The input projection's reference, read at an index.
-/

@[expose] public section

set_option maxRecDepth 65536

noncomputable section

namespace Cert.Reference4Ideal.Inproj

open Idealize.ShloMosaic Cert.Reference4Ideal Cert.Reference4Ideal.Facts₀ Cert.Reference4Ideal.Facts Cert.Reference4Ideal.Read Cert.Inproj
open Cert.Mlp (bat ln mean len eps)

/-- Position `l` of batch element `b` among all rows. -/
def rowOf (b : Fin 2) (l : Fin 4096) : Fin 8192 := ⟨4096 * b.val + l.val, by omega⟩

theorem bat_rowOf (b : Fin 2) (l : Fin 4096) : bat (rowOf b l) = b := by
  apply Fin.ext; show (4096 * b.val + l.val) / 4096 = b.val; omega

variable (x0 : Vec Ideal S8192x2048 .f32) (x1 : Vec Ideal S1x8x6x2048 .f32) (x2 : Vec Ideal S2048x4608 .bf16) (x3 x4 : Vec Ideal S64x32 .f32)
  (b : Fin 2) (l : Fin 4096)

/-! ### The modulated rows -/

theorem x_apply (k : Fin 2048) : val_main_v0 (F := Ideal) x0 (ix3 b l k) = x0 (ix2 (rowOf b l) k) := by
  rw [val_main_v0_apply]
  refine congrArg x0 (funext fun a => Fin.ext ?_)
  match a with
  | ⟨0, _⟩ => show ((b.val * 4096 + l.val) * 2048 + k.val) / 2048 = 4096 * b.val + l.val; omega
  | ⟨1, _⟩ => show ((b.val * 4096 + l.val) * 2048 + k.val) % 2048 = k.val; omega

theorem sh_apply (k : Fin 2048) : val_main_v3 (F := Ideal) x1 (ix3 b 0 k) = x1 (ix4 0 ⟨b.val, by omega⟩ 0 k) := by
  rw [val_main_v3_apply, val_main_v2_apply, val_main_v1_apply]
  refine congrArg x1 (funext fun a => Fin.ext ?_)
  match a with
  | ⟨0, _⟩ => rfl
  | ⟨1, _⟩ => show (b.val * 2048 + k.val) / 2048 % 2 = b.val; omega
  | ⟨2, _⟩ => rfl
  | ⟨3, _⟩ => show (b.val * 2048 + k.val) % 2048 = k.val; omega

theorem sc_apply (k : Fin 2048) : val_main_v6 (F := Ideal) x1 (ix3 b 0 k) = x1 (ix4 0 ⟨b.val, by omega⟩ 1 k) := by
  rw [val_main_v6_apply, val_main_v5_apply, val_main_v4_apply]
  refine congrArg x1 (funext fun a => Fin.ext ?_)
  match a with
  | ⟨0, _⟩ => rfl
  | ⟨1, _⟩ => show (b.val * 2048 + k.val) / 2048 % 2 = b.val; omega
  | ⟨2, _⟩ => rfl
  | ⟨3, _⟩ => show (b.val * 2048 + k.val) % 2048 = k.val; omega

theorem mean_apply : val_main_v10 (F := Ideal) x0 (ix3 b l 0) = mean (fun j => x0 (ix2 (rowOf b l) j)) := by
  have h0 : val_main_cst (F := Ideal) (Shape.Idx.first Gen.h_S_) = (0 : EReal) := Ideal.ofBits_zero .f32
  rw [val_main_v10_apply, val_main_v8_apply, val_main_v9_apply, val_main_v7_apply, h0, zero_add]
  refine congrArg (fun s => Ideal.div s len) (Finset.sum_congr rfl fun k _ => ?_)
  have e : idx_main_v7 (idx_main_v8 (ix3 b l 0)) k = ix3 b l k := by funext a; fin_cases a <;> rfl
  rw [e]
  exact x_apply x0 b l k

theorem off_apply (k : Fin 2048) : val_main_v12 (F := Ideal) x0 (ix3 b l k)
    = x0 (ix2 (rowOf b l) k) - mean (fun j => x0 (ix2 (rowOf b l) j)) := by
  have e : idx_main_v11 (ix3 b l k) = ix3 b l 0 := by funext a; fin_cases a <;> rfl
  rw [val_main_v12_apply, val_main_v11_apply, e, mean_apply, x_apply]
  rfl

theorem spread_apply : val_main_v22 (F := Ideal) x0 (ix3 b l 0)
    = Ideal.rsqrt (Ideal.div (∑ j, (x0 (ix2 (rowOf b l) j) - mean (fun j => x0 (ix2 (rowOf b l) j)))
      * (x0 (ix2 (rowOf b l) j) - mean (fun j => x0 (ix2 (rowOf b l) j)))) len + eps) := by
  have h0 : val_main_cst_1 (F := Ideal) (Shape.Idx.first Gen.h_S_) = (0 : EReal) := Ideal.ofBits_zero .f32
  rw [val_main_v22_apply, val_main_v21_apply, val_main_v17_apply, val_main_v15_apply, val_main_v16_apply,
    val_main_v20_apply, val_main_v14_apply, h0, zero_add]
  refine congrArg (fun s => Ideal.rsqrt (Ideal.div s len + eps)) (Finset.sum_congr rfl fun k _ => ?_)
  have e : idx_main_v14 (idx_main_v15 (ix3 b l 0)) k = ix3 b l k := by funext a; fin_cases a <;> rfl
  rw [e, val_main_v13_apply, off_apply]
  rfl

theorem ln_apply (k : Fin 2048) : val_main_v24 (F := Ideal) x0 (ix3 b l k) = ln (fun j => x0 (ix2 (rowOf b l) j)) k := by
  have e : idx_main_v23 (ix3 b l k) = ix3 b l 0 := by funext a; fin_cases a <;> rfl
  have e' : idx_main_v18 (ix3 b l k) = ix3 b l 0 := by funext a; fin_cases a <;> rfl
  rw [val_main_v24_apply, val_main_v23_apply, e, spread_apply, val_main_v19_apply, val_main_v18_apply, e', mean_apply, x_apply]
  rfl

theorem u_apply (k : Fin 2048) : val_main_v30 (F := Ideal) x0 x1 (ix3 b l k) = (argsOf x0 x1 x2 x3 x4).u (rowOf b l) k := by
  have e : idx_main_v27 (ix3 b l k) = ix3 b 0 k := by funext a; fin_cases a <;> rfl
  have e' : idx_main_v29 (ix3 b l k) = ix3 b 0 k := by funext a; fin_cases a <;> rfl
  rw [val_main_v30_apply, val_main_v28_apply, val_main_v27_apply, e, val_main_v26_apply, val_main_v25_apply, val_main_v29_apply, e', ln_apply,
    sh_apply, sc_apply]
  unfold Cert.Inproj.Args.u
  rw [bat_rowOf]
  rfl

theorem prod_apply (n : Fin 4608) : val_main_v32 (F := Ideal) x0 x1 x2 (ix3 b l n) = (argsOf x0 x1 x2 x3 x4).prod (rowOf b l) n := by
  rw [val_main_v32_apply]
  refine Finset.sum_congr rfl fun k _ => congrArg₂ (· * ·) ?_ ?_
  · rw [← u_apply x0 x1 x2 x3 x4]
    refine congrArg _ (funext fun a => ?_)
    fin_cases a <;> rfl
  · rw [val_main_v31_apply]
    refine congrArg x2 (funext fun a => ?_)
    fin_cases a <;> rfl

/-! ### The rotation -/

/-- Two blocks of 32 lanes rotated into each other. -/
def turn (a a' c s : FVec Ideal S2x64x64x8x32 .f32) : FVec Ideal S2x64x64x8x64 .f32 :=
  concatenate S2x64x64x8x64 4 [⟨S2x64x64x8x32, subf (mulf a c) (mulf a' s)⟩, ⟨S2x64x64x8x32, addf (mulf a s) (mulf a' c)⟩]
    concatenates_S2x64x64x8x32_S2x64x64x8x32_S2x64x64x8x64_d4

theorem turn_fst (a a' c s : FVec Ideal S2x64x64x8x32 .f32) (p : Fin 64) (q : Fin 64) (h : Fin 8) (f : Fin 32) (d : Fin 64) (hd : d.val = f.val) :
    turn a a' c s (ix5 b p q h d) = a (ix5 b p q h f) * c (ix5 b p q h f) - a' (ix5 b p q h f) * s (ix5 b p q h f) := by
  refine (concatenate_apply_piece (t := S2x64x64x8x64) 4 _ _ _ 0 (by show 0 < 2; omega) S2x64x64x8x32 _ rfl rfl 0 rfl (ix5 b p q h f)
    (fun a ha => ?_) (by show 0 + f.val = d.val; omega)).trans rfl
  match a, ha with
  | ⟨0, _⟩, _ => rfl
  | ⟨1, _⟩, _ => rfl
  | ⟨2, _⟩, _ => rfl
  | ⟨3, _⟩, _ => rfl
  | ⟨4, _⟩, ha => exact absurd rfl ha

theorem turn_snd (a a' c s : FVec Ideal S2x64x64x8x32 .f32) (p : Fin 64) (q : Fin 64) (h : Fin 8) (f : Fin 32) (d : Fin 64) (hd : d.val = 32 + f.val) :
    turn a a' c s (ix5 b p q h d) = a (ix5 b p q h f) * s (ix5 b p q h f) + a' (ix5 b p q h f) * c (ix5 b p q h f) := by
  refine (concatenate_apply_piece (t := S2x64x64x8x64) 4 _ _ _ 1 (by show 1 < 2; omega) S2x64x64x8x32 _ rfl rfl 32 rfl (ix5 b p q h f)
    (fun a ha => ?_) (by show 32 + f.val = d.val; omega)).trans rfl
  match a, ha with
  | ⟨0, _⟩, _ => rfl
  | ⟨1, _⟩, _ => rfl
  | ⟨2, _⟩, _ => rfl
  | ⟨3, _⟩, _ => rfl
  | ⟨4, _⟩, ha => exact absurd rfl ha

/-- A table spread over the grid's rows, and over its columns. -/
def byRow (y : Vec Ideal S64x32 .f32) : FVec Ideal S2x64x64x8x32 .f32 := val_main_v48 (F := Ideal) y
def byCol (y : Vec Ideal S64x32 .f32) : FVec Ideal S2x64x64x8x32 .f32 := val_main_v63 (F := Ideal) y

theorem byRow_apply (y : Vec Ideal S64x32 .f32) (p q : Fin 64) (h : Fin 8) (f : Fin 32) : byRow y (ix5 b p q h f) = y (ix2 p f) := by
  unfold byRow
  rw [val_main_v48_apply, val_main_v46_apply]
  refine congrArg y (funext fun a => ?_)
  fin_cases a <;> rfl

theorem byCol_apply (y : Vec Ideal S64x32 .f32) (p q : Fin 64) (h : Fin 8) (f : Fin 32) : byCol y (ix5 b p q h f) = y (ix2 q f) := by
  unfold byCol
  rw [val_main_v63_apply, val_main_v61_apply]
  refine congrArg y (funext fun a => ?_)
  fin_cases a <;> rfl

theorem quarter_slices (z : Fin 4) : S2x64x64x8x128.Slices ![0, 0, 0, 0, 32 * z.val] S2x64x64x8x32 := by
  revert z; decide

/-- A quarter of every head's lanes. -/
def quarter (g : FVec Ideal S2x64x64x8x128 .f32) (z : Fin 4) : FVec Ideal S2x64x64x8x32 .f32 :=
  extractStridedSlice S2x64x64x8x32 ![0, 0, 0, 0, 32 * z.val] g (quarter_slices z)

theorem quarter_apply (g : FVec Ideal S2x64x64x8x128 .f32) (z : Fin 4) (p q : Fin 64) (h : Fin 8) (f : Fin 32) (d : Fin 128) (hd : d.val = 32 * z.val + f.val) :
    quarter g z (ix5 b p q h f) = g (ix5 b p q h d) := by
  refine extractStridedSlice_apply _ _ _ _ _ fun a => ?_
  match a with
  | ⟨0, _⟩ => exact (Nat.zero_add _).symm
  | ⟨1, _⟩ => exact (Nat.zero_add _).symm
  | ⟨2, _⟩ => exact (Nat.zero_add _).symm
  | ⟨3, _⟩ => exact (Nat.zero_add _).symm
  | ⟨4, _⟩ => exact hd

/-- Every head rotated: the first 64 lanes by the row on the grid, the others by the column. -/
def axial (g : FVec Ideal S2x64x64x8x128 .f32) : FVec Ideal S2x64x64x8x128 .f32 :=
  concatenate S2x64x64x8x128 4 [⟨S2x64x64x8x64, turn (quarter g 0) (quarter g 1) (byRow x3) (byRow x4)⟩,
      ⟨S2x64x64x8x64, turn (quarter g 2) (quarter g 3) (byCol x3) (byCol x4)⟩] concatenates_S2x64x64x8x64_S2x64x64x8x64_S2x64x64x8x128_d4

theorem axial_fst (g : FVec Ideal S2x64x64x8x128 .f32) (p q : Fin 64) (h : Fin 8) (e : Fin 64) (d : Fin 128) (hd : d.val = e.val) :
    axial x3 x4 g (ix5 b p q h d) = turn (quarter g 0) (quarter g 1) (byRow x3) (byRow x4) (ix5 b p q h e) := by
  refine concatenate_apply_piece (t := S2x64x64x8x128) 4 _ _ _ 0 (by show 0 < 2; omega) S2x64x64x8x64 _ rfl rfl 0 rfl (ix5 b p q h e)
    (fun a ha => ?_) (by show 0 + e.val = d.val; omega)
  match a, ha with
  | ⟨0, _⟩, _ => rfl
  | ⟨1, _⟩, _ => rfl
  | ⟨2, _⟩, _ => rfl
  | ⟨3, _⟩, _ => rfl
  | ⟨4, _⟩, ha => exact absurd rfl ha

theorem axial_snd (g : FVec Ideal S2x64x64x8x128 .f32) (p q : Fin 64) (h : Fin 8) (e : Fin 64) (d : Fin 128) (hd : d.val = 64 + e.val) :
    axial x3 x4 g (ix5 b p q h d) = turn (quarter g 2) (quarter g 3) (byCol x3) (byCol x4) (ix5 b p q h e) := by
  refine concatenate_apply_piece (t := S2x64x64x8x128) 4 _ _ _ 1 (by show 1 < 2; omega) S2x64x64x8x64 _ rfl rfl 64 rfl (ix5 b p q h e)
    (fun a ha => ?_) (by show 64 + e.val = d.val; omega)
  match a, ha with
  | ⟨0, _⟩, _ => rfl
  | ⟨1, _⟩, _ => rfl
  | ⟨2, _⟩, _ => rfl
  | ⟨3, _⟩, _ => rfl
  | ⟨4, _⟩, ha => exact absurd rfl ha

theorem axial_apply (g : FVec Ideal S2x64x64x8x128 .f32) (p q : Fin 64) (h : Fin 8) (d : Fin 128) :
    axial x3 x4 g (ix5 b p q h d) = rot (fun e => g (ix5 b p q h e)) (x3 (ix2 (if d.val < 64 then p else q) (freq d)))
      (x4 (ix2 (if d.val < 64 then p else q) (freq d))) d := by
  unfold rot
  by_cases hh : d.val < 64
  · rw [axial_fst x3 x4 b g p q h ⟨d.val, hh⟩ d rfl, if_pos hh]
    by_cases hq : d.val < 32
    · rw [turn_fst b _ _ _ _ p q h (freq d) _ (by show d.val = d.val % 32; omega), if_pos (by omega), byRow_apply, byRow_apply,
        quarter_apply b g 0 p q h (freq d) d (by show d.val = 32 * 0 + d.val % 32; omega),
        quarter_apply b g 1 p q h (freq d) (partner d) (by show d.val / 64 * 64 + (d.val + 32) % 64 = 32 * 1 + d.val % 32; omega)]
    · rw [turn_snd b _ _ _ _ p q h (freq d) _ (by show d.val = 32 + d.val % 32; omega), if_neg (by omega), byRow_apply, byRow_apply,
        quarter_apply b g 1 p q h (freq d) d (by show d.val = 32 * 1 + d.val % 32; omega),
        quarter_apply b g 0 p q h (freq d) (partner d) (by show d.val / 64 * 64 + (d.val + 32) % 64 = 32 * 0 + d.val % 32; omega)]
  · rw [axial_snd x3 x4 b g p q h ⟨d.val - 64, by omega⟩ d (by show d.val = 64 + (d.val - 64); omega), if_neg hh]
    by_cases hq : d.val < 96
    · rw [turn_fst b _ _ _ _ p q h (freq d) _ (by show d.val - 64 = d.val % 32; omega), if_pos (by omega), byCol_apply, byCol_apply,
        quarter_apply b g 2 p q h (freq d) d (by show d.val = 32 * 2 + d.val % 32; omega),
        quarter_apply b g 3 p q h (freq d) (partner d) (by show d.val / 64 * 64 + (d.val + 32) % 64 = 32 * 3 + d.val % 32; omega)]
    · rw [turn_snd b _ _ _ _ p q h (freq d) _ (by show d.val - 64 = 32 + d.val % 32; omega), if_neg (by omega), byCol_apply, byCol_apply,
        quarter_apply b g 3 p q h (freq d) d (by show d.val = 32 * 3 + d.val % 32; omega),
        quarter_apply b g 2 p q h (freq d) (partner d) (by show d.val / 64 * 64 + (d.val + 32) % 64 = 32 * 2 + d.val % 32; omega)]

theorem axial_q : val_main_v74 (F := Ideal) x0 x1 x2 x3 x4 = axial x3 x4 (val_main_v43 (F := Ideal) x0 x1 x2) := rfl
theorem axial_k : val_main_v110 (F := Ideal) x0 x1 x2 x3 x4 = axial x3 x4 (val_main_v79 (F := Ideal) x0 x1 x2) := rfl

/-! ### The results -/

theorem split_row (i : Fin 8192) : ∃ b l, i = rowOf b l :=
  ⟨⟨i.val / 4096, by omega⟩, ⟨i.val % 4096, by omega⟩, Fin.ext (by show i.val = 4096 * (i.val / 4096) + i.val % 4096; omega)⟩

/-- A position among the grid's rows and columns. -/
def gridRow (l : Fin 4096) : Fin 64 := ⟨l.val / 64, by omega⟩
def gridCol (l : Fin 4096) : Fin 64 := ⟨l.val % 64, by omega⟩

theorem coord_rowOf (d : Fin 128) : coord (rowOf b l) d = if d.val < 64 then gridRow l else gridCol l := by
  apply Fin.ext
  unfold coord
  split
  · show (4096 * b.val + l.val) / 64 % 64 = l.val / 64; omega
  · show (4096 * b.val + l.val) % 64 = l.val % 64; omega

theorem grid_q_apply (n : Fin 1024) (h : Fin 8) (hh : h.val = n.val / 128) (d : Fin 128) :
    val_main_v43 (F := Ideal) x0 x1 x2 (ix5 b (gridRow l) (gridCol l) h d)
      = (argsOf x0 x1 x2 x3 x4).prod (rowOf b l) (col 0 (lane n d) (by omega)) := by
  rw [val_main_v43_apply, val_main_v33_apply, ← prod_apply]
  refine congrArg _ (funext fun a => Fin.ext ?_)
  match a with
  | ⟨0, _⟩ => show ((((b.val * 64 + l.val / 64) * 64 + l.val % 64) * 8 + h.val) * 128 + d.val) / 4194304 = b.val; omega
  | ⟨1, _⟩ => show ((((b.val * 64 + l.val / 64) * 64 + l.val % 64) * 8 + h.val) * 128 + d.val) / 1024 % 4096 = l.val; omega
  | ⟨2, _⟩ => show ((((b.val * 64 + l.val / 64) * 64 + l.val % 64) * 8 + h.val) * 128 + d.val) % 1024 = 0 + (n.val / 128 * 128 + d.val); omega

theorem grid_k_apply (n : Fin 1024) (h : Fin 8) (hh : h.val = n.val / 128) (d : Fin 128) :
    val_main_v79 (F := Ideal) x0 x1 x2 (ix5 b (gridRow l) (gridCol l) h d)
      = (argsOf x0 x1 x2 x3 x4).prod (rowOf b l) (col 1024 (lane n d) (by omega)) := by
  rw [val_main_v79_apply, val_main_v34_apply, ← prod_apply]
  refine congrArg _ (funext fun a => Fin.ext ?_)
  match a with
  | ⟨0, _⟩ => show ((((b.val * 64 + l.val / 64) * 64 + l.val % 64) * 8 + h.val) * 128 + d.val) / 4194304 = b.val; omega
  | ⟨1, _⟩ => show ((((b.val * 64 + l.val / 64) * 64 + l.val % 64) * 8 + h.val) * 128 + d.val) / 1024 % 4096 = l.val; omega
  | ⟨2, _⟩ => show 1024 + ((((b.val * 64 + l.val / 64) * 64 + l.val % 64) * 8 + h.val) * 128 + d.val) % 1024 = 1024 + (n.val / 128 * 128 + d.val); omega

/-- The place of row `rowOf b l`, column `n` on the grid. -/
theorem place (n : Fin 1024) (f : S8192x1024.Idx → S2x64x64x8x128.Idx)
    (h0 : ∀ i, (f i 0).val = ((i 0).val * 1024 + (i 1).val) / 4194304) (h1 : ∀ i, (f i 1).val = ((i 0).val * 1024 + (i 1).val) / 65536 % 64)
    (h2 : ∀ i, (f i 2).val = ((i 0).val * 1024 + (i 1).val) / 1024 % 64) (h3 : ∀ i, (f i 3).val = ((i 0).val * 1024 + (i 1).val) / 128 % 8)
    (h4 : ∀ i, (f i 4).val = ((i 0).val * 1024 + (i 1).val) % 128) :
    f (ix2 (rowOf b l) n) = ix5 b (gridRow l) (gridCol l) ⟨n.val / 128, by omega⟩ (laneOf n) := by
  have g0 : (f (ix2 (rowOf b l) n) 0).val = ((4096 * b.val + l.val) * 1024 + n.val) / 4194304 := h0 _
  have g1 : (f (ix2 (rowOf b l) n) 1).val = ((4096 * b.val + l.val) * 1024 + n.val) / 65536 % 64 := h1 _
  have g2 : (f (ix2 (rowOf b l) n) 2).val = ((4096 * b.val + l.val) * 1024 + n.val) / 1024 % 64 := h2 _
  have g3 : (f (ix2 (rowOf b l) n) 3).val = ((4096 * b.val + l.val) * 1024 + n.val) / 128 % 8 := h3 _
  have g4 : (f (ix2 (rowOf b l) n) 4).val = ((4096 * b.val + l.val) * 1024 + n.val) % 128 := h4 _
  funext a
  apply Fin.ext
  match a with
  | ⟨0, _⟩ => refine g0.trans ?_; show _ = b.val; omega
  | ⟨1, _⟩ => refine g1.trans ?_; show _ = l.val / 64; omega
  | ⟨2, _⟩ => refine g2.trans ?_; show _ = l.val % 64; omega
  | ⟨3, _⟩ => refine g3.trans ?_; show _ = n.val / 128; omega
  | ⟨4, _⟩ => refine g4.trans ?_; show _ = n.val % 128; omega

theorem rotated_q (n : Fin 1024) : val_main_v75 (F := Ideal) x0 x1 x2 x3 x4 (ix2 (rowOf b l) n)
    = (argsOf x0 x1 x2 x3 x4).rotated 0 (by omega) (rowOf b l) n := by
  rw [val_main_v75_apply, place b l n idx_main_v75 (fun _ => rfl) (fun _ => rfl) (fun _ => rfl) (fun _ => rfl) (fun _ => rfl), axial_q, axial_apply,
    funext fun d => grid_q_apply x0 x1 x2 x3 x4 b l n _ rfl d]
  unfold Cert.Inproj.Args.rotated
  rw [coord_rowOf]
  rfl

theorem rotated_k (n : Fin 1024) : val_main_v111 (F := Ideal) x0 x1 x2 x3 x4 (ix2 (rowOf b l) n)
    = (argsOf x0 x1 x2 x3 x4).rotated 1024 (by omega) (rowOf b l) n := by
  rw [val_main_v111_apply, place b l n idx_main_v111 (fun _ => rfl) (fun _ => rfl) (fun _ => rfl) (fun _ => rfl) (fun _ => rfl), axial_k, axial_apply,
    funext fun d => grid_k_apply x0 x1 x2 x3 x4 b l n _ rfl d]
  unfold Cert.Inproj.Args.rotated
  rw [coord_rowOf]
  rfl

theorem flat1024 (n : Fin 1024) (f : S8192x1024.Idx → S2x4096x1024.Idx)
    (h0 : ∀ i, (f i 0).val = ((i 0).val * 1024 + (i 1).val) / 4194304) (h1 : ∀ i, (f i 1).val = ((i 0).val * 1024 + (i 1).val) / 1024 % 4096)
    (h2 : ∀ i, (f i 2).val = ((i 0).val * 1024 + (i 1).val) % 1024) : f (ix2 (rowOf b l) n) = ix3 b l n := by
  have g0 : (f (ix2 (rowOf b l) n) 0).val = ((4096 * b.val + l.val) * 1024 + n.val) / 4194304 := h0 _
  have g1 : (f (ix2 (rowOf b l) n) 1).val = ((4096 * b.val + l.val) * 1024 + n.val) / 1024 % 4096 := h1 _
  have g2 : (f (ix2 (rowOf b l) n) 2).val = ((4096 * b.val + l.val) * 1024 + n.val) % 1024 := h2 _
  funext a
  apply Fin.ext
  match a with
  | ⟨0, _⟩ => refine g0.trans ?_; show _ = b.val; omega
  | ⟨1, _⟩ => refine g1.trans ?_; show _ = l.val; omega
  | ⟨2, _⟩ => refine g2.trans ?_; show _ = n.val; omega

theorem flat512 (n : Fin 512) (f : S8192x512.Idx → S2x4096x512.Idx)
    (h0 : ∀ i, (f i 0).val = ((i 0).val * 512 + (i 1).val) / 2097152) (h1 : ∀ i, (f i 1).val = ((i 0).val * 512 + (i 1).val) / 512 % 4096)
    (h2 : ∀ i, (f i 2).val = ((i 0).val * 512 + (i 1).val) % 512) : f (ix2 (rowOf b l) n) = ix3 b l n := by
  have g0 : (f (ix2 (rowOf b l) n) 0).val = ((4096 * b.val + l.val) * 512 + n.val) / 2097152 := h0 _
  have g1 : (f (ix2 (rowOf b l) n) 1).val = ((4096 * b.val + l.val) * 512 + n.val) / 512 % 4096 := h1 _
  have g2 : (f (ix2 (rowOf b l) n) 2).val = ((4096 * b.val + l.val) * 512 + n.val) % 512 := h2 _
  funext a
  apply Fin.ext
  match a with
  | ⟨0, _⟩ => refine g0.trans ?_; show _ = b.val; omega
  | ⟨1, _⟩ => refine g1.trans ?_; show _ = l.val; omega
  | ⟨2, _⟩ => refine g2.trans ?_; show _ = n.val; omega

theorem q_apply (i : Fin 8192) (n : Fin 1024) : val_main_v42 (F := Ideal) x0 x1 x2 (ix2 i n) = (argsOf x0 x1 x2 x3 x4).q i n := by
  obtain ⟨b, l, rfl⟩ := split_row i
  have e : idx_main_v33 (ix3 b l n) = ix3 b l (col 0 n (by omega)) := by
    funext a; apply Fin.ext
    match a with
    | ⟨0, _⟩ => rfl
    | ⟨1, _⟩ => rfl
    | ⟨2, _⟩ => exact (Nat.zero_add _).symm
  rw [val_main_v42_apply, val_main_v41_apply, val_main_v39_apply, flat1024 b l n idx_main_v39 (fun _ => rfl) (fun _ => rfl) (fun _ => rfl),
    val_main_v33_apply, e, prod_apply x0 x1 x2 x3 x4, val_main_v40_apply]
  rfl

theorem qr_apply (i : Fin 8192) (n : Fin 1024) : val_main_v78 (F := Ideal) x0 x1 x2 x3 x4 (ix2 i n) = (argsOf x0 x1 x2 x3 x4).qr i n := by
  obtain ⟨b, l, rfl⟩ := split_row i
  rw [val_main_v78_apply, val_main_v77_apply, rotated_q, val_main_v76_apply]
  rfl

theorem k_apply (i : Fin 8192) (n : Fin 1024) : val_main_v112 (F := Ideal) x0 x1 x2 x3 x4 (ix2 i n) = (argsOf x0 x1 x2 x3 x4).k i n := by
  obtain ⟨b, l, rfl⟩ := split_row i
  rw [val_main_v112_apply, rotated_k]
  rfl

theorem v_apply (i : Fin 8192) (n : Fin 1024) : val_main_v114 (F := Ideal) x0 x1 x2 (ix2 i n) = (argsOf x0 x1 x2 x3 x4).v i n := by
  obtain ⟨b, l, rfl⟩ := split_row i
  have e : idx_main_v35 (ix3 b l n) = ix3 b l (col 2048 n (by omega)) := by funext a; fin_cases a <;> rfl
  rw [val_main_v114_apply, val_main_v113_apply, flat1024 b l n idx_main_v113 (fun _ => rfl) (fun _ => rfl) (fun _ => rfl),
    val_main_v35_apply, e, prod_apply x0 x1 x2 x3 x4]
  rfl

theorem xo_apply (i : Fin 8192) (n : Fin 512) : val_main_v115 (F := Ideal) x0 x1 x2 (ix2 i n) = (argsOf x0 x1 x2 x3 x4).xo i n := by
  obtain ⟨b, l, rfl⟩ := split_row i
  have e : idx_main_v36 (ix3 b l n) = ix3 b l (col 3072 n (by omega)) := by funext a; fin_cases a <;> rfl
  rw [val_main_v115_apply, flat512 b l n idx_main_v115 (fun _ => rfl) (fun _ => rfl) (fun _ => rfl), val_main_v36_apply, e, prod_apply x0 x1 x2 x3 x4]
  rfl

theorem gelu_comm (a : EReal) : a * (half * (Cert.Mlp.one + Ideal.tanh (outer * (a + cubic * (a * a * a))))) = gelu a := by
  unfold gelu
  rw [← mul_assoc, mul_comm a half]

theorem go_apply (i : Fin 8192) (n : Fin 512) : val_main_v129 (F := Ideal) x0 x1 x2 (ix2 i n) = (argsOf x0 x1 x2 x3 x4).go i n := by
  obtain ⟨b, l, rfl⟩ := split_row i
  have e : idx_main_v37 (ix3 b l n) = ix3 b l (col 3584 n (by omega)) := by funext a; fin_cases a <;> rfl
  rw [val_main_v129_apply, flat512 b l n idx_main_v129 (fun _ => rfl) (fun _ => rfl) (fun _ => rfl), val_main_v128_apply, val_main_v127_apply,
    val_main_v125_apply, val_main_v123_apply, val_main_v122_apply, val_main_v120_apply, val_main_v119_apply, val_main_v117_apply, val_main_v116_apply,
    val_main_v126_apply, val_main_v124_apply, val_main_v121_apply, val_main_v118_apply, val_main_v37_apply, e, prod_apply x0 x1 x2 x3 x4]
  exact gelu_comm _

theorem f_apply (i : Fin 8192) (n : Fin 512) : val_main_v131 (F := Ideal) x0 x1 x2 (ix2 i n) = (argsOf x0 x1 x2 x3 x4).f i n := by
  obtain ⟨b, l, rfl⟩ := split_row i
  have e : idx_main_v38 (ix3 b l n) = ix3 b l (col 4096 n (by omega)) := by funext a; fin_cases a <;> rfl
  rw [val_main_v131_apply, val_main_v130_apply, flat512 b l n idx_main_v130 (fun _ => rfl) (fun _ => rfl) (fun _ => rfl), val_main_v38_apply, e,
    prod_apply x0 x1 x2 x3 x4]
  rfl

end Cert.Reference4Ideal.Inproj

end
-- ==== Proof.lean ====
/-
  The neighbourhood attention, the multilayer perceptron, the output projection and the input projection: each kernel's
  frames, and its results equal to its reference's.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.RefValue
public import proofs.«01_k».proof.Proof.Riders
public import proofs.«01_k».proof.Proof.Finite
public import proofs.«01_k».proof.Proof.MlpArray
public import proofs.«01_k».proof.Proof.MlpRef
public import proofs.«01_k».proof.Proof.MlpPrintedFrame
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.OutprojArray
public import proofs.«01_k».proof.Proof.OutprojRef
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.InprojArray
public import proofs.«01_k».proof.Proof.InprojRef
public import proofs.«01_k».proof.Proof.Gen.Reference4Ideal.Run
public import proofs.«01_k».proof.Proof.Gen.Reference4Ideal.Read
public import Idealize.ShloMosaic.Adequacy
public import Idealize.ShloMosaic.Init

@[expose] public section

set_option maxRecDepth 65536

noncomputable section

namespace Cert.Proof

open Idealize.ShloMosaic Idealize.SL.Sem Cert.NA

/-- The reference runs, leaves its arguments, and declares no semaphore. -/
theorem ref_frame : Cert.quiescent_ReferenceIdeal := by
  intro m ρ _
  refine (θ_run Cert.ReferenceIdeal.defs _ _).mono (fun r h => ⟨fun c => ?_, sem_eq_zero_of_no_sems (by decide) r.2⟩)
    (Cert.ReferenceIdeal.Value.run (F := Ideal) m ρ)
  obtain ⟨-, -, -, -, ha⟩ := h c
  exact ha

section Results

variable (m : (ℓ : Loc Cert.KernelIdeal.nD Cert.KernelIdeal.τ Cert.KernelIdeal.sig) → Buf (Elt Ideal) ℓ)
  (c : Dev Cert.KernelIdeal.nD)

/-- The attention: both sides are the same weighted average at every position. -/
theorem na_eq (hpre : Cert.Pre_KernelIdeal_finite (hPre_finite := preFacts) m) :
    Cert.ReferenceIdeal.Read.val_main_v86 (F := Ideal) (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3))
      (m ((c.tc : Thread _ _).loc Cert.KernelIdeal.main_arg4)) (m ((c.tc : Thread _ _).loc Cert.KernelIdeal.main_arg5))
      (m ((c.tc : Thread _ _).loc Cert.KernelIdeal.main_arg6))
      = (Cert.KernelIdeal.Gen.dats m 0 c).arrAt 10 Cert.KernelIdeal.cfg0.N := by
  obtain ⟨hq, hqr, hk, hkc, hr⟩ := pre_apply (hF := preFacts) m hpre c
  funext x
  obtain ⟨i, j, rfl⟩ : ∃ (i : Fin 8192) (j : Fin 1024), x = ix2 i j := ⟨x 0, x 1, by funext a; fin_cases a <;> rfl⟩
  obtain ⟨b, hb⟩ : ∃ b : Fin 2, b.val = i.val / 4096 := ⟨⟨i.val / 4096, by omega⟩, rfl⟩
  obtain ⟨r, hr'⟩ : ∃ r : Fin 64, r.val = i.val / 64 % 64 := ⟨⟨i.val / 64 % 64, by omega⟩, rfl⟩
  obtain ⟨w, hw⟩ : ∃ w : Fin 64, w.val = i.val % 64 := ⟨⟨i.val % 64, by omega⟩, rfl⟩
  obtain ⟨h, hh⟩ : ∃ h : Fin 8, h.val = j.val / 128 := ⟨⟨j.val / 128, by omega⟩, rfl⟩
  obtain ⟨d, hd⟩ : ∃ d : Fin 128, d.val = j.val % 128 := ⟨⟨j.val % 128, by omega⟩, rfl⟩
  have hi : i.val = 4096 * b.val + (pos r w).val := by show i.val = 4096 * b.val + (64 * r.val + w.val); omega
  have hj : j.val = 128 * h.val + d.val := by omega
  refine (ref_apply _ _ _ _ _ _ _ b h r w d i j hi hj ?_ ?_).trans (na_apply m c b h (pos r w) d i j hi hj).symm
  · exact fun p => score_ne_top hq hqr hk hkc hr b h (pos r w) p
  · exact fun p => ctx_ne_bot hq hkc b h (pos r w) p

theorem w_out_eq : Cert.ReferenceIdeal.Read.val_main_v89 (F := Ideal) (m ((c.tc : Thread _ _).loc Cert.KernelIdeal.main_arg7))
    = (Cert.KernelIdeal.Gen.dats m 0 c).arrAt 11 Cert.KernelIdeal.cfg0.N := by
  funext x
  obtain ⟨i, j, rfl⟩ : ∃ (i : Fin 2048) (j : Fin 2048), x = ix2 i j := ⟨x 0, x 1, by funext a; fin_cases a <;> rfl⟩
  refine Eq.trans ?_ (copied11 m c i j).symm
  rw [Cert.ReferenceIdeal.Read.val_main_v89_apply, Cert.ReferenceIdeal.Read.val_main_v88_apply, Cert.ReferenceIdeal.Read.val_main_v87_apply]
  refine congrArg (m ((c.tc : Thread _ _).loc Cert.KernelIdeal.main_arg7)) (funext fun a => Fin.ext ?_)
  match a with
  | ⟨0, _⟩ => rfl
  | ⟨1, _⟩ => show (i.val * 2048 + j.val) / 2048 % 2048 = i.val; omega
  | ⟨2, _⟩ => show (i.val * 2048 + j.val) % 2048 = j.val; omega

theorem w_fc1_eq : Cert.ReferenceIdeal.Read.val_main_v92 (F := Ideal) (m ((c.tc : Thread _ _).loc Cert.KernelIdeal.main_arg8))
    = (Cert.KernelIdeal.Gen.dats m 0 c).arrAt 12 Cert.KernelIdeal.cfg0.N := by
  funext x
  obtain ⟨i, j, rfl⟩ : ∃ (i : Fin 2048) (j : Fin 8192), x = ix2 i j := ⟨x 0, x 1, by funext a; fin_cases a <;> rfl⟩
  refine Eq.trans ?_ (copied12 m c i j).symm
  rw [Cert.ReferenceIdeal.Read.val_main_v92_apply, Cert.ReferenceIdeal.Read.val_main_v91_apply, Cert.ReferenceIdeal.Read.val_main_v90_apply]
  refine congrArg (m ((c.tc : Thread _ _).loc Cert.KernelIdeal.main_arg8)) (funext fun a => Fin.ext ?_)
  match a with
  | ⟨0, _⟩ => rfl
  | ⟨1, _⟩ => show (i.val * 8192 + j.val) / 8192 % 2048 = i.val; omega
  | ⟨2, _⟩ => show (i.val * 8192 + j.val) % 8192 = j.val; omega

theorem w_fc2_eq : Cert.ReferenceIdeal.Read.val_main_v95 (F := Ideal) (m ((c.tc : Thread _ _).loc Cert.KernelIdeal.main_arg9))
    = (Cert.KernelIdeal.Gen.dats m 0 c).arrAt 13 Cert.KernelIdeal.cfg0.N := by
  funext x
  obtain ⟨i, j, rfl⟩ : ∃ (i : Fin 8192) (j : Fin 2048), x = ix2 i j := ⟨x 0, x 1, by funext a; fin_cases a <;> rfl⟩
  refine Eq.trans ?_ (copied13 m c i j).symm
  rw [Cert.ReferenceIdeal.Read.val_main_v95_apply, Cert.ReferenceIdeal.Read.val_main_v94_apply, Cert.ReferenceIdeal.Read.val_main_v93_apply]
  refine congrArg (m ((c.tc : Thread _ _).loc Cert.KernelIdeal.main_arg9)) (funext fun a => Fin.ext ?_)
  match a with
  | ⟨0, _⟩ => rfl
  | ⟨1, _⟩ => show (i.val * 2048 + j.val) / 2048 % 8192 = i.val; omega
  | ⟨2, _⟩ => show (i.val * 2048 + j.val) % 2048 = j.val; omega

end Results

theorem attention : Cert.algebraic_KernelIdeal_ReferenceIdeal_pre_finite (hPre_finite := preFacts) := by
  intro m ρ m' ρ' hpre hargs
  refine ⟨_, _, _, _, Cert.KernelIdeal.Value.run_blocks (F := Ideal) m ρ, ?_⟩
  refine (θ_run Cert.ReferenceIdeal.defs _ _).mono (fun r h c => ?_) (Cert.ReferenceIdeal.Value.run (F := Ideal) m' ρ')
  obtain ⟨h0, h1, h2, h3, ha⟩ := h c
  obtain ⟨a0, a1, a2, a3, a4, a5, a6, a7, a8, a9⟩ := hargs c
  refine ⟨h0.trans ?_, h1.trans ?_, h2.trans ?_, h3.trans ?_, ha⟩
  · rw [Cert.ReferenceIdeal.Read.val_main_v86_eq, a0, a1, a2, a3, a4, a5, a6]
    exact na_eq m c hpre
  · rw [Cert.ReferenceIdeal.Read.val_main_v89_eq, a7]
    exact w_out_eq m c
  · rw [Cert.ReferenceIdeal.Read.val_main_v92_eq, a8]
    exact w_fc1_eq m c
  · rw [Cert.ReferenceIdeal.Read.val_main_v95_eq, a9]
    exact w_fc2_eq m c

/-! ### The multilayer perceptron -/

theorem mlp_frame_printed : Cert.quiescent_Kernel2 := fun m ρ _ =>
  θ_run_and (Cert.Kernel2.Gen.frame_of m ρ (Cert.Kernel2.Mlp.dats m) (Cert.Kernel2.Mlp.dats_A m) (Cert.Kernel2.Mlp.run_post m ρ))
    ((θ_run Cert.Kernel2.defs _ _).mono (fun _ h => h.2) (Cert.Kernel2.Mlp.run_all m ρ))

theorem mlp_frame : Cert.quiescent_Kernel2Ideal := fun m ρ _ =>
  θ_run_and (Cert.Kernel2Ideal.Gen.frame_of m ρ (Cert.Kernel2Ideal.Mlp.dats m) (Cert.Kernel2Ideal.Mlp.dats_A m) (Cert.Kernel2Ideal.Mlp.run_post m ρ))
    ((θ_run Cert.Kernel2Ideal.defs _ _).mono (fun _ h => h.2) (Cert.Kernel2Ideal.Mlp.run_all m ρ))

theorem mlp_ref_frame : Cert.quiescent_Reference2Ideal := by
  intro m ρ _
  exact (θ_run Cert.Reference2Ideal.defs _ _).mono (fun r h => ⟨fun c => (h c).2, sem_eq_zero_of_no_sems (by decide) r.2⟩)
    (Cert.Reference2Ideal.Value.run (F := Ideal) m ρ)

/-- The multilayer perceptron: both sides are the same row function of the operands. -/
theorem mlp : Cert.algebraic_Kernel2Ideal_Reference2Ideal := by
  intro m ρ m' ρ' _ hargs
  refine ⟨fun c => (Cert.Kernel2Ideal.Mlp.dats m 0 c).arrAt 8 Cert.Kernel2Ideal.cfg0.N, ?_, ?_⟩
  · refine (θ_run Cert.Kernel2Ideal.defs _ _).mono (fun r h c => ⟨(h.2 c).1 8, h.1 c⟩)
      (θ_run_and (Cert.Kernel2Ideal.Gen.frame_of m ρ (Cert.Kernel2Ideal.Mlp.dats m) (Cert.Kernel2Ideal.Mlp.dats_A m)
        (Cert.Kernel2Ideal.Mlp.run_post m ρ)) (Cert.Kernel2Ideal.Mlp.run_post m ρ))
  · refine (θ_run Cert.Reference2Ideal.defs _ _).mono (fun r h c => ⟨(h c).1.trans ?_, (h c).2⟩) (Cert.Reference2Ideal.Value.run (F := Ideal) m' ρ')
    obtain ⟨a0, a1, a2, a3, a4, a5, a6, a7⟩ := hargs c
    rw [Cert.Reference2Ideal.Read.val_main_v83_eq, a0, a1, a2, a3, a4, a5, a6, a7]
    funext x
    obtain ⟨i, k, rfl⟩ : ∃ (i : Fin 8192) (k : Fin 2048), x = ix2 i k := ⟨x 0, x 1, by funext a; fin_cases a <;> rfl⟩
    exact (Cert.Reference2Ideal.Mlp.result_apply _ _ _ _ _ _ _ _ i k).trans (Cert.Kernel2Ideal.Mlp.result_apply m c i k).symm

/-! ### The output projection -/

theorem outproj_ref_frame : Cert.quiescent_Reference3Ideal := by
  intro m ρ _
  exact (θ_run Cert.Reference3Ideal.defs _ _).mono (fun r h => ⟨fun c => (h c).2, sem_eq_zero_of_no_sems (by decide) r.2⟩)
    (Cert.Reference3Ideal.Value.run (F := Ideal) m ρ)

/-- The output projection: both sides are the same row function of the operands. -/
theorem outproj : Cert.algebraic_Kernel3Ideal_Reference3Ideal := by
  intro m ρ m' ρ' _ hargs
  refine ⟨_, Cert.Kernel3Ideal.Value.run_blocks (F := Ideal) m ρ, ?_⟩
  refine (θ_run Cert.Reference3Ideal.defs _ _).mono (fun r h c => ⟨(h c).1.trans ?_, (h c).2⟩) (Cert.Reference3Ideal.Value.run (F := Ideal) m' ρ')
  obtain ⟨a0, a1, a2, a3, a4, a5, a6, a7⟩ := hargs c
  rw [Cert.Reference3Ideal.Read.val_main_v46_eq, a0, a1, a2, a3, a4, a5, a6, a7]
  funext x
  obtain ⟨i, k, rfl⟩ : ∃ (i : Fin 8192) (k : Fin 2048), x = ix2 i k := ⟨x 0, x 1, by funext a; fin_cases a <;> rfl⟩
  exact (Cert.Reference3Ideal.Outproj.result_apply _ _ _ _ _ _ _ _ i k).trans (Cert.Kernel3Ideal.Outproj.result_apply m c i k).symm

/-! ### The input projection -/

theorem inproj_ref_frame : Cert.quiescent_Reference4Ideal := by
  intro m ρ _
  exact (θ_run Cert.Reference4Ideal.defs _ _).mono (fun r h => ⟨fun c => (h c).2.2.2.2.2.2.2, sem_eq_zero_of_no_sems (by decide) r.2⟩)
    (Cert.Reference4Ideal.Value.run (F := Ideal) m ρ)

/-- The input projection: both sides have the same seven functions of the operands. -/
theorem inproj : Cert.algebraic_Kernel4Ideal_Reference4Ideal := by
  intro m ρ m' ρ' _ hargs
  refine ⟨_, _, _, _, _, _, _, Cert.Kernel4Ideal.Value.run_blocks (F := Ideal) m ρ, ?_⟩
  refine (θ_run Cert.Reference4Ideal.defs _ _).mono (fun r h c => ?_) (Cert.Reference4Ideal.Value.run (F := Ideal) m' ρ')
  obtain ⟨h0, h1, h2, h3, h4, h5, h6, ha⟩ := h c
  obtain ⟨a0, a1, a2, a3, a4⟩ := hargs c
  refine ⟨h0.trans ?_, h1.trans ?_, h2.trans ?_, h3.trans ?_, h4.trans ?_, h5.trans ?_, h6.trans ?_, ha⟩
  · rw [Cert.Reference4Ideal.Read.val_main_v42_eq, a0, a1, a2]
    funext x
    obtain ⟨i, n, rfl⟩ : ∃ (i : Fin 8192) (n : Fin 1024), x = ix2 i n := ⟨x 0, x 1, by funext a; fin_cases a <;> rfl⟩
    exact (Cert.Reference4Ideal.Inproj.q_apply _ _ _ _ _ i n).trans (Cert.Kernel4Ideal.Inproj.q_apply m c i n).symm
  · rw [Cert.Reference4Ideal.Read.val_main_v78_eq, a0, a1, a2, a3, a4]
    funext x
    obtain ⟨i, n, rfl⟩ : ∃ (i : Fin 8192) (n : Fin 1024), x = ix2 i n := ⟨x 0, x 1, by funext a; fin_cases a <;> rfl⟩
    exact (Cert.Reference4Ideal.Inproj.qr_apply _ _ _ _ _ i n).trans (Cert.Kernel4Ideal.Inproj.qr_apply m c i n).symm
  · rw [Cert.Reference4Ideal.Read.val_main_v112_eq, a0, a1, a2, a3, a4]
    funext x
    obtain ⟨i, n, rfl⟩ : ∃ (i : Fin 8192) (n : Fin 1024), x = ix2 i n := ⟨x 0, x 1, by funext a; fin_cases a <;> rfl⟩
    exact (Cert.Reference4Ideal.Inproj.k_apply _ _ _ _ _ i n).trans (Cert.Kernel4Ideal.Inproj.k_apply m c i n).symm
  · rw [Cert.Reference4Ideal.Read.val_main_v114_eq, a0, a1, a2]
    funext x
    obtain ⟨i, n, rfl⟩ : ∃ (i : Fin 8192) (n : Fin 1024), x = ix2 i n := ⟨x 0, x 1, by funext a; fin_cases a <;> rfl⟩
    exact (Cert.Reference4Ideal.Inproj.v_apply _ _ _ _ _ i n).trans (Cert.Kernel4Ideal.Inproj.v_apply m c i n).symm
  · rw [Cert.Reference4Ideal.Read.val_main_v115_eq, a0, a1, a2]
    funext x
    obtain ⟨i, n, rfl⟩ : ∃ (i : Fin 8192) (n : Fin 512), x = ix2 i n := ⟨x 0, x 1, by funext a; fin_cases a <;> rfl⟩
    exact (Cert.Reference4Ideal.Inproj.xo_apply _ _ _ _ _ i n).trans (Cert.Kernel4Ideal.Inproj.xo_apply m c i n).symm
  · rw [Cert.Reference4Ideal.Read.val_main_v129_eq, a0, a1, a2]
    funext x
    obtain ⟨i, n, rfl⟩ : ∃ (i : Fin 8192) (n : Fin 512), x = ix2 i n := ⟨x 0, x 1, by funext a; fin_cases a <;> rfl⟩
    exact (Cert.Reference4Ideal.Inproj.go_apply _ _ _ _ _ i n).trans (Cert.Kernel4Ideal.Inproj.go_apply m c i n).symm
  · rw [Cert.Reference4Ideal.Read.val_main_v131_eq, a0, a1, a2]
    funext x
    obtain ⟨i, n, rfl⟩ : ∃ (i : Fin 8192) (n : Fin 512), x = ix2 i n := ⟨x 0, x 1, by funext a; fin_cases a <;> rfl⟩
    exact (Cert.Reference4Ideal.Inproj.f_apply _ _ _ _ _ i n).trans (Cert.Kernel4Ideal.Inproj.f_apply m c i n).symm

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, preFacts,
    fun m ρ _ => Cert.Kernel.Gen.frame m ρ, fun m ρ _ => Cert.KernelIdeal.Gen.frame m ρ, fun m ρ _ => Cert.KernelIdeal.Gen.frame m ρ,
    ref_frame, fun m ρ _ => ref_frame m ρ trivial, mlp_frame_printed, mlp_frame, mlp_ref_frame,
    fun m ρ _ => Cert.Kernel3.Gen.frame m ρ, fun m ρ _ => Cert.Kernel3Ideal.Gen.frame m ρ, outproj_ref_frame,
    fun m ρ _ => Cert.Kernel4.Gen.frame m ρ, fun m ρ _ => Cert.Kernel4Ideal.Gen.frame m ρ, inproj_ref_frame,
    trivial, attention, trivial, mlp, trivial, outproj, trivial, inproj⟩

end Cert.Proof

end
